-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Pscore (m : (ℓ : Loc Cert.Pscore.nD Cert.Pscore.τ Cert.Pscore.sig) → Buf (Elt Bits) ℓ) : Prop :=
  True

def Pre_PscoreIdeal (m : (ℓ : Loc Cert.PscoreIdeal.nD Cert.PscoreIdeal.τ Cert.PscoreIdeal.sig) → Buf (Elt Ideal) ℓ) : Prop :=
  True

def Pre_PscoreRefIdeal (m : (ℓ : Loc Cert.PscoreRefIdeal.nD Cert.PscoreRefIdeal.τ Cert.PscoreRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Samproj (m : (ℓ : Loc Cert.Samproj.nD Cert.Samproj.τ Cert.Samproj.sig) → Buf (Elt Bits) ℓ) : Prop :=
  True

def Pre_SamprojIdeal (m : (ℓ : Loc Cert.SamprojIdeal.nD Cert.SamprojIdeal.τ Cert.SamprojIdeal.sig) → Buf (Elt Ideal) ℓ) : Prop :=
  True

def Pre_SamprojRefIdeal (m : (ℓ : Loc Cert.SamprojRefIdeal.nD Cert.SamprojRefIdeal.τ Cert.SamprojRefIdeal.sig) → Buf (Elt Ideal) ℓ) : Prop :=
  True

def Pre_Samout (m : (ℓ : Loc Cert.Samout.nD Cert.Samout.τ Cert.Samout.sig) → Buf (Elt Bits) ℓ) : Prop :=
  True

def Pre_SamoutIdeal (m : (ℓ : Loc Cert.SamoutIdeal.nD Cert.SamoutIdeal.τ Cert.SamoutIdeal.sig) → Buf (Elt Ideal) ℓ) : Prop :=
  True

def Pre_SamoutRefIdeal (m : (ℓ : Loc Cert.SamoutRefIdeal.nD Cert.SamoutRefIdeal.τ Cert.SamoutRefIdeal.sig) → Buf (Elt Ideal) ℓ) : Prop :=
  True

def Pre_Samscore (m : (ℓ : Loc Cert.Samscore.nD Cert.Samscore.τ Cert.Samscore.sig) → Buf (Elt Bits) ℓ) : Prop :=
  True

def Pre_SamscoreIdeal (m : (ℓ : Loc Cert.SamscoreIdeal.nD Cert.SamscoreIdeal.τ Cert.SamscoreIdeal.sig) → Buf (Elt Ideal) ℓ) : Prop :=
  True

def Pre_SamscoreRefIdeal (m : (ℓ : Loc Cert.SamscoreRefIdeal.nD Cert.SamscoreRefIdeal.τ Cert.SamscoreRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Samlast (m : (ℓ : Loc Cert.Samlast.nD Cert.Samlast.τ Cert.Samlast.sig) → Buf (Elt Bits) ℓ) : Prop :=
  True

def Pre_SamlastIdeal (m : (ℓ : Loc Cert.SamlastIdeal.nD Cert.SamlastIdeal.τ Cert.SamlastIdeal.sig) → Buf (Elt Ideal) ℓ) : Prop :=
  True

def Pre_SamlastRefIdeal (m : (ℓ : Loc Cert.SamlastRefIdeal.nD Cert.SamlastRefIdeal.τ Cert.SamlastRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_Pscore [hPscore : Cert.Pscore.Facts] : Prop :=
  ∀ (m : (ℓ : Loc Cert.Pscore.nD Cert.Pscore.τ Cert.Pscore.sig) → Buf (Elt Bits) ℓ) (g : Dev Cert.Pscore.nD → PrngReg), Pre_Pscore m →
    θ_run (Cert.Pscore.defs (F := Bits)) (onTc (τ := Cert.Pscore.τ) (Cert.Pscore.main (F := Bits))) ⟨m, fun _ => 0, g⟩ (fun r => (∀ c : Dev Cert.Pscore.nD,
      r.2.mem ((c.tc : Thread Cert.Pscore.nD Cert.Pscore.τ).loc Cert.Pscore.main_arg0) = m ((c.tc : Thread Cert.Pscore.nD Cert.Pscore.τ).loc Cert.Pscore.main_arg0)
      ∧ r.2.mem ((c.tc : Thread Cert.Pscore.nD Cert.Pscore.τ).loc Cert.Pscore.main_arg1) = m ((c.tc : Thread Cert.Pscore.nD Cert.Pscore.τ).loc Cert.Pscore.main_arg1)
      ∧ r.2.mem ((c.tc : Thread Cert.Pscore.nD Cert.Pscore.τ).loc Cert.Pscore.main_arg2) = m ((c.tc : Thread Cert.Pscore.nD Cert.Pscore.τ).loc Cert.Pscore.main_arg2))
      ∧ r.2.sem = fun _ => 0)

def quiescent_PscoreIdeal [hPscoreIdeal : Cert.PscoreIdeal.Facts] : Prop :=
  ∀ (m : (ℓ : Loc Cert.PscoreIdeal.nD Cert.PscoreIdeal.τ Cert.PscoreIdeal.sig) → Buf (Elt Ideal) ℓ) (g : Dev Cert.PscoreIdeal.nD → PrngReg), Pre_PscoreIdeal m →
    θ_run (Cert.PscoreIdeal.defs (F := Ideal)) (onTc (τ := Cert.PscoreIdeal.τ) (Cert.PscoreIdeal.main (F := Ideal))) ⟨m, fun _ => 0, g⟩ (fun r => (∀ c : Dev Cert.PscoreIdeal.nD,
      r.2.mem ((c.tc : Thread Cert.PscoreIdeal.nD Cert.PscoreIdeal.τ).loc Cert.PscoreIdeal.main_arg0) = m ((c.tc : Thread Cert.PscoreIdeal.nD Cert.PscoreIdeal.τ).loc Cert.PscoreIdeal.main_arg0)
      ∧ r.2.mem ((c.tc : Thread Cert.PscoreIdeal.nD Cert.PscoreIdeal.τ).loc Cert.PscoreIdeal.main_arg1) = m ((c.tc : Thread Cert.PscoreIdeal.nD Cert.PscoreIdeal.τ).loc Cert.PscoreIdeal.main_arg1)
      ∧ r.2.mem ((c.tc : Thread Cert.PscoreIdeal.nD Cert.PscoreIdeal.τ).loc Cert.PscoreIdeal.main_arg2) = m ((c.tc : Thread Cert.PscoreIdeal.nD Cert.PscoreIdeal.τ).loc Cert.PscoreIdeal.main_arg2))
      ∧ r.2.sem = fun _ => 0)

def quiescent_PscoreRefIdeal [hPscoreRefIdeal : Cert.PscoreRefIdeal.Facts] : Prop :=
  ∀ (m : (ℓ : Loc Cert.PscoreRefIdeal.nD Cert.PscoreRefIdeal.τ Cert.PscoreRefIdeal.sig) → Buf (Elt Ideal) ℓ) (g : Dev Cert.PscoreRefIdeal.nD → PrngReg), Pre_PscoreRefIdeal m →
    θ_run (Cert.PscoreRefIdeal.defs (F := Ideal)) (onTc (τ := Cert.PscoreRefIdeal.τ) (Cert.PscoreRefIdeal.main (F := Ideal))) ⟨m, fun _ => 0, g⟩ (fun r => (∀ c : Dev Cert.PscoreRefIdeal.nD,
      r.2.mem ((c.tc : Thread Cert.PscoreRefIdeal.nD Cert.PscoreRefIdeal.τ).loc Cert.PscoreRefIdeal.main_arg0) = m ((c.tc : Thread Cert.PscoreRefIdeal.nD Cert.PscoreRefIdeal.τ).loc Cert.PscoreRefIdeal.main_arg0)
      ∧ r.2.mem ((c.tc : Thread Cert.PscoreRefIdeal.nD Cert.PscoreRefIdeal.τ).loc Cert.PscoreRefIdeal.main_arg1) = m ((c.tc : Thread Cert.PscoreRefIdeal.nD Cert.PscoreRefIdeal.τ).loc Cert.PscoreRefIdeal.main_arg1)
      ∧ r.2.mem ((c.tc : Thread Cert.PscoreRefIdeal.nD Cert.PscoreRefIdeal.τ).loc Cert.PscoreRefIdeal.main_arg2) = m ((c.tc : Thread Cert.PscoreRefIdeal.nD Cert.PscoreRefIdeal.τ).loc Cert.PscoreRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Samproj [hSamproj : Cert.Samproj.Facts] : Prop :=
  ∀ (m : (ℓ : Loc Cert.Samproj.nD Cert.Samproj.τ Cert.Samproj.sig) → Buf (Elt Bits) ℓ) (g : Dev Cert.Samproj.nD → PrngReg), Pre_Samproj m →
    θ_run (Cert.Samproj.defs (F := Bits)) (onTc (τ := Cert.Samproj.τ) (Cert.Samproj.main (F := Bits))) ⟨m, fun _ => 0, g⟩ (fun r => (∀ c : Dev Cert.Samproj.nD,
      r.2.mem ((c.tc : Thread Cert.Samproj.nD Cert.Samproj.τ).loc Cert.Samproj.main_arg0) = m ((c.tc : Thread Cert.Samproj.nD Cert.Samproj.τ).loc Cert.Samproj.main_arg0)
      ∧ r.2.mem ((c.tc : Thread Cert.Samproj.nD Cert.Samproj.τ).loc Cert.Samproj.main_arg1) = m ((c.tc : Thread Cert.Samproj.nD Cert.Samproj.τ).loc Cert.Samproj.main_arg1)
      ∧ r.2.mem ((c.tc : Thread Cert.Samproj.nD Cert.Samproj.τ).loc Cert.Samproj.main_arg2) = m ((c.tc : Thread Cert.Samproj.nD Cert.Samproj.τ).loc Cert.Samproj.main_arg2)
      ∧ r.2.mem ((c.tc : Thread Cert.Samproj.nD Cert.Samproj.τ).loc Cert.Samproj.main_arg3) = m ((c.tc : Thread Cert.Samproj.nD Cert.Samproj.τ).loc Cert.Samproj.main_arg3)
      ∧ r.2.mem ((c.tc : Thread Cert.Samproj.nD Cert.Samproj.τ).loc Cert.Samproj.main_arg4) = m ((c.tc : Thread Cert.Samproj.nD Cert.Samproj.τ).loc Cert.Samproj.main_arg4)
      ∧ r.2.mem ((c.tc : Thread Cert.Samproj.nD Cert.Samproj.τ).loc Cert.Samproj.main_arg5) = m ((c.tc : Thread Cert.Samproj.nD Cert.Samproj.τ).loc Cert.Samproj.main_arg5)
      ∧ r.2.mem ((c.tc : Thread Cert.Samproj.nD Cert.Samproj.τ).loc Cert.Samproj.main_arg6) = m ((c.tc : Thread Cert.Samproj.nD Cert.Samproj.τ).loc Cert.Samproj.main_arg6))
      ∧ r.2.sem = fun _ => 0)

def quiescent_SamprojIdeal [hSamprojIdeal : Cert.SamprojIdeal.Facts] : Prop :=
  ∀ (m : (ℓ : Loc Cert.SamprojIdeal.nD Cert.SamprojIdeal.τ Cert.SamprojIdeal.sig) → Buf (Elt Ideal) ℓ) (g : Dev Cert.SamprojIdeal.nD → PrngReg), Pre_SamprojIdeal m →
    θ_run (Cert.SamprojIdeal.defs (F := Ideal)) (onTc (τ := Cert.SamprojIdeal.τ) (Cert.SamprojIdeal.main (F := Ideal))) ⟨m, fun _ => 0, g⟩ (fun r => (∀ c : Dev Cert.SamprojIdeal.nD,
      r.2.mem ((c.tc : Thread Cert.SamprojIdeal.nD Cert.SamprojIdeal.τ).loc Cert.SamprojIdeal.main_arg0) = m ((c.tc : Thread Cert.SamprojIdeal.nD Cert.SamprojIdeal.τ).loc Cert.SamprojIdeal.main_arg0)
      ∧ r.2.mem ((c.tc : Thread Cert.SamprojIdeal.nD Cert.SamprojIdeal.τ).loc Cert.SamprojIdeal.main_arg1) = m ((c.tc : Thread Cert.SamprojIdeal.nD Cert.SamprojIdeal.τ).loc Cert.SamprojIdeal.main_arg1)
      ∧ r.2.mem ((c.tc : Thread Cert.SamprojIdeal.nD Cert.SamprojIdeal.τ).loc Cert.SamprojIdeal.main_arg2) = m ((c.tc : Thread Cert.SamprojIdeal.nD Cert.SamprojIdeal.τ).loc Cert.SamprojIdeal.main_arg2)
      ∧ r.2.mem ((c.tc : Thread Cert.SamprojIdeal.nD Cert.SamprojIdeal.τ).loc Cert.SamprojIdeal.main_arg3) = m ((c.tc : Thread Cert.SamprojIdeal.nD Cert.SamprojIdeal.τ).loc Cert.SamprojIdeal.main_arg3)
      ∧ r.2.mem ((c.tc : Thread Cert.SamprojIdeal.nD Cert.SamprojIdeal.τ).loc Cert.SamprojIdeal.main_arg4) = m ((c.tc : Thread Cert.SamprojIdeal.nD Cert.SamprojIdeal.τ).loc Cert.SamprojIdeal.main_arg4)
      ∧ r.2.mem ((c.tc : Thread Cert.SamprojIdeal.nD Cert.SamprojIdeal.τ).loc Cert.SamprojIdeal.main_arg5) = m ((c.tc : Thread Cert.SamprojIdeal.nD Cert.SamprojIdeal.τ).loc Cert.SamprojIdeal.main_arg5)
      ∧ r.2.mem ((c.tc : Thread Cert.SamprojIdeal.nD Cert.SamprojIdeal.τ).loc Cert.SamprojIdeal.main_arg6) = m ((c.tc : Thread Cert.SamprojIdeal.nD Cert.SamprojIdeal.τ).loc Cert.SamprojIdeal.main_arg6))
      ∧ r.2.sem = fun _ => 0)

def quiescent_SamprojRefIdeal [hSamprojRefIdeal : Cert.SamprojRefIdeal.Facts] : Prop :=
  ∀ (m : (ℓ : Loc Cert.SamprojRefIdeal.nD Cert.SamprojRefIdeal.τ Cert.SamprojRefIdeal.sig) → Buf (Elt Ideal) ℓ) (g : Dev Cert.SamprojRefIdeal.nD → PrngReg), Pre_SamprojRefIdeal m →
    θ_run (Cert.SamprojRefIdeal.defs (F := Ideal)) (onTc (τ := Cert.SamprojRefIdeal.τ) (Cert.SamprojRefIdeal.main (F := Ideal))) ⟨m, fun _ => 0, g⟩ (fun r => (∀ c : Dev Cert.SamprojRefIdeal.nD,
      r.2.mem ((c.tc : Thread Cert.SamprojRefIdeal.nD Cert.SamprojRefIdeal.τ).loc Cert.SamprojRefIdeal.main_arg0) = m ((c.tc : Thread Cert.SamprojRefIdeal.nD Cert.SamprojRefIdeal.τ).loc Cert.SamprojRefIdeal.main_arg0)
      ∧ r.2.mem ((c.tc : Thread Cert.SamprojRefIdeal.nD Cert.SamprojRefIdeal.τ).loc Cert.SamprojRefIdeal.main_arg1) = m ((c.tc : Thread Cert.SamprojRefIdeal.nD Cert.SamprojRefIdeal.τ).loc Cert.SamprojRefIdeal.main_arg1)
      ∧ r.2.mem ((c.tc : Thread Cert.SamprojRefIdeal.nD Cert.SamprojRefIdeal.τ).loc Cert.SamprojRefIdeal.main_arg2) = m ((c.tc : Thread Cert.SamprojRefIdeal.nD Cert.SamprojRefIdeal.τ).loc Cert.SamprojRefIdeal.main_arg2)
      ∧ r.2.mem ((c.tc : Thread Cert.SamprojRefIdeal.nD Cert.SamprojRefIdeal.τ).loc Cert.SamprojRefIdeal.main_arg3) = m ((c.tc : Thread Cert.SamprojRefIdeal.nD Cert.SamprojRefIdeal.τ).loc Cert.SamprojRefIdeal.main_arg3)
      ∧ r.2.mem ((c.tc : Thread Cert.SamprojRefIdeal.nD Cert.SamprojRefIdeal.τ).loc Cert.SamprojRefIdeal.main_arg4) = m ((c.tc : Thread Cert.SamprojRefIdeal.nD Cert.SamprojRefIdeal.τ).loc Cert.SamprojRefIdeal.main_arg4)
      ∧ r.2.mem ((c.tc : Thread Cert.SamprojRefIdeal.nD Cert.SamprojRefIdeal.τ).loc Cert.SamprojRefIdeal.main_arg5) = m ((c.tc : Thread Cert.SamprojRefIdeal.nD Cert.SamprojRefIdeal.τ).loc Cert.SamprojRefIdeal.main_arg5)
      ∧ r.2.mem ((c.tc : Thread Cert.SamprojRefIdeal.nD Cert.SamprojRefIdeal.τ).loc Cert.SamprojRefIdeal.main_arg6) = m ((c.tc : Thread Cert.SamprojRefIdeal.nD Cert.SamprojRefIdeal.τ).loc Cert.SamprojRefIdeal.main_arg6))
      ∧ r.2.sem = fun _ => 0)

def quiescent_Samout [hSamout : Cert.Samout.Facts] : Prop :=
  ∀ (m : (ℓ : Loc Cert.Samout.nD Cert.Samout.τ Cert.Samout.sig) → Buf (Elt Bits) ℓ) (g : Dev Cert.Samout.nD → PrngReg), Pre_Samout m →
    θ_run (Cert.Samout.defs (F := Bits)) (onTc (τ := Cert.Samout.τ) (Cert.Samout.main (F := Bits))) ⟨m, fun _ => 0, g⟩ (fun r => (∀ c : Dev Cert.Samout.nD,
      r.2.mem ((c.tc : Thread Cert.Samout.nD Cert.Samout.τ).loc Cert.Samout.main_arg0) = m ((c.tc : Thread Cert.Samout.nD Cert.Samout.τ).loc Cert.Samout.main_arg0)
      ∧ r.2.mem ((c.tc : Thread Cert.Samout.nD Cert.Samout.τ).loc Cert.Samout.main_arg1) = m ((c.tc : Thread Cert.Samout.nD Cert.Samout.τ).loc Cert.Samout.main_arg1)
      ∧ r.2.mem ((c.tc : Thread Cert.Samout.nD Cert.Samout.τ).loc Cert.Samout.main_arg2) = m ((c.tc : Thread Cert.Samout.nD Cert.Samout.τ).loc Cert.Samout.main_arg2)
      ∧ r.2.mem ((c.tc : Thread Cert.Samout.nD Cert.Samout.τ).loc Cert.Samout.main_arg3) = m ((c.tc : Thread Cert.Samout.nD Cert.Samout.τ).loc Cert.Samout.main_arg3)
      ∧ r.2.mem ((c.tc : Thread Cert.Samout.nD Cert.Samout.τ).loc Cert.Samout.main_arg4) = m ((c.tc : Thread Cert.Samout.nD Cert.Samout.τ).loc Cert.Samout.main_arg4)
      ∧ r.2.mem ((c.tc : Thread Cert.Samout.nD Cert.Samout.τ).loc Cert.Samout.main_arg5) = m ((c.tc : Thread Cert.Samout.nD Cert.Samout.τ).loc Cert.Samout.main_arg5)
      ∧ r.2.mem ((c.tc : Thread Cert.Samout.nD Cert.Samout.τ).loc Cert.Samout.main_arg6) = m ((c.tc : Thread Cert.Samout.nD Cert.Samout.τ).loc Cert.Samout.main_arg6)
      ∧ r.2.mem ((c.tc : Thread Cert.Samout.nD Cert.Samout.τ).loc Cert.Samout.main_arg7) = m ((c.tc : Thread Cert.Samout.nD Cert.Samout.τ).loc Cert.Samout.main_arg7)
      ∧ r.2.mem ((c.tc : Thread Cert.Samout.nD Cert.Samout.τ).loc Cert.Samout.main_arg8) = m ((c.tc : Thread Cert.Samout.nD Cert.Samout.τ).loc Cert.Samout.main_arg8))
      ∧ r.2.sem = fun _ => 0)

def quiescent_SamoutIdeal [hSamoutIdeal : Cert.SamoutIdeal.Facts] : Prop :=
  ∀ (m : (ℓ : Loc Cert.SamoutIdeal.nD Cert.SamoutIdeal.τ Cert.SamoutIdeal.sig) → Buf (Elt Ideal) ℓ) (g : Dev Cert.SamoutIdeal.nD → PrngReg), Pre_SamoutIdeal m →
    θ_run (Cert.SamoutIdeal.defs (F := Ideal)) (onTc (τ := Cert.SamoutIdeal.τ) (Cert.SamoutIdeal.main (F := Ideal))) ⟨m, fun _ => 0, g⟩ (fun r => (∀ c : Dev Cert.SamoutIdeal.nD,
      r.2.mem ((c.tc : Thread Cert.SamoutIdeal.nD Cert.SamoutIdeal.τ).loc Cert.SamoutIdeal.main_arg0) = m ((c.tc : Thread Cert.SamoutIdeal.nD Cert.SamoutIdeal.τ).loc Cert.SamoutIdeal.main_arg0)
      ∧ r.2.mem ((c.tc : Thread Cert.SamoutIdeal.nD Cert.SamoutIdeal.τ).loc Cert.SamoutIdeal.main_arg1) = m ((c.tc : Thread Cert.SamoutIdeal.nD Cert.SamoutIdeal.τ).loc Cert.SamoutIdeal.main_arg1)
      ∧ r.2.mem ((c.tc : Thread Cert.SamoutIdeal.nD Cert.SamoutIdeal.τ).loc Cert.SamoutIdeal.main_arg2) = m ((c.tc : Thread Cert.SamoutIdeal.nD Cert.SamoutIdeal.τ).loc Cert.SamoutIdeal.main_arg2)
      ∧ r.2.mem ((c.tc : Thread Cert.SamoutIdeal.nD Cert.SamoutIdeal.τ).loc Cert.SamoutIdeal.main_arg3) = m ((c.tc : Thread Cert.SamoutIdeal.nD Cert.SamoutIdeal.τ).loc Cert.SamoutIdeal.main_arg3)
      ∧ r.2.mem ((c.tc : Thread Cert.SamoutIdeal.nD Cert.SamoutIdeal.τ).loc Cert.SamoutIdeal.main_arg4) = m ((c.tc : Thread Cert.SamoutIdeal.nD Cert.SamoutIdeal.τ).loc Cert.SamoutIdeal.main_arg4)
      ∧ r.2.mem ((c.tc : Thread Cert.SamoutIdeal.nD Cert.SamoutIdeal.τ).loc Cert.SamoutIdeal.main_arg5) = m ((c.tc : Thread Cert.SamoutIdeal.nD Cert.SamoutIdeal.τ).loc Cert.SamoutIdeal.main_arg5)
      ∧ r.2.mem ((c.tc : Thread Cert.SamoutIdeal.nD Cert.SamoutIdeal.τ).loc Cert.SamoutIdeal.main_arg6) = m ((c.tc : Thread Cert.SamoutIdeal.nD Cert.SamoutIdeal.τ).loc Cert.SamoutIdeal.main_arg6)
      ∧ r.2.mem ((c.tc : Thread Cert.SamoutIdeal.nD Cert.SamoutIdeal.τ).loc Cert.SamoutIdeal.main_arg7) = m ((c.tc : Thread Cert.SamoutIdeal.nD Cert.SamoutIdeal.τ).loc Cert.SamoutIdeal.main_arg7)
      ∧ r.2.mem ((c.tc : Thread Cert.SamoutIdeal.nD Cert.SamoutIdeal.τ).loc Cert.SamoutIdeal.main_arg8) = m ((c.tc : Thread Cert.SamoutIdeal.nD Cert.SamoutIdeal.τ).loc Cert.SamoutIdeal.main_arg8))
      ∧ r.2.sem = fun _ => 0)

def quiescent_SamoutRefIdeal [hSamoutRefIdeal : Cert.SamoutRefIdeal.Facts] : Prop :=
  ∀ (m : (ℓ : Loc Cert.SamoutRefIdeal.nD Cert.SamoutRefIdeal.τ Cert.SamoutRefIdeal.sig) → Buf (Elt Ideal) ℓ) (g : Dev Cert.SamoutRefIdeal.nD → PrngReg), Pre_SamoutRefIdeal m →
    θ_run (Cert.SamoutRefIdeal.defs (F := Ideal)) (onTc (τ := Cert.SamoutRefIdeal.τ) (Cert.SamoutRefIdeal.main (F := Ideal))) ⟨m, fun _ => 0, g⟩ (fun r => (∀ c : Dev Cert.SamoutRefIdeal.nD,
      r.2.mem ((c.tc : Thread Cert.SamoutRefIdeal.nD Cert.SamoutRefIdeal.τ).loc Cert.SamoutRefIdeal.main_arg0) = m ((c.tc : Thread Cert.SamoutRefIdeal.nD Cert.SamoutRefIdeal.τ).loc Cert.SamoutRefIdeal.main_arg0)
      ∧ r.2.mem ((c.tc : Thread Cert.SamoutRefIdeal.nD Cert.SamoutRefIdeal.τ).loc Cert.SamoutRefIdeal.main_arg1) = m ((c.tc : Thread Cert.SamoutRefIdeal.nD Cert.SamoutRefIdeal.τ).loc Cert.SamoutRefIdeal.main_arg1)
      ∧ r.2.mem ((c.tc : Thread Cert.SamoutRefIdeal.nD Cert.SamoutRefIdeal.τ).loc Cert.SamoutRefIdeal.main_arg2) = m ((c.tc : Thread Cert.SamoutRefIdeal.nD Cert.SamoutRefIdeal.τ).loc Cert.SamoutRefIdeal.main_arg2)
      ∧ r.2.mem ((c.tc : Thread Cert.SamoutRefIdeal.nD Cert.SamoutRefIdeal.τ).loc Cert.SamoutRefIdeal.main_arg3) = m ((c.tc : Thread Cert.SamoutRefIdeal.nD Cert.SamoutRefIdeal.τ).loc Cert.SamoutRefIdeal.main_arg3)
      ∧ r.2.mem ((c.tc : Thread Cert.SamoutRefIdeal.nD Cert.SamoutRefIdeal.τ).loc Cert.SamoutRefIdeal.main_arg4) = m ((c.tc : Thread Cert.SamoutRefIdeal.nD Cert.SamoutRefIdeal.τ).loc Cert.SamoutRefIdeal.main_arg4)
      ∧ r.2.mem ((c.tc : Thread Cert.SamoutRefIdeal.nD Cert.SamoutRefIdeal.τ).loc Cert.SamoutRefIdeal.main_arg5) = m ((c.tc : Thread Cert.SamoutRefIdeal.nD Cert.SamoutRefIdeal.τ).loc Cert.SamoutRefIdeal.main_arg5)
      ∧ r.2.mem ((c.tc : Thread Cert.SamoutRefIdeal.nD Cert.SamoutRefIdeal.τ).loc Cert.SamoutRefIdeal.main_arg6) = m ((c.tc : Thread Cert.SamoutRefIdeal.nD Cert.SamoutRefIdeal.τ).loc Cert.SamoutRefIdeal.main_arg6)
      ∧ r.2.mem ((c.tc : Thread Cert.SamoutRefIdeal.nD Cert.SamoutRefIdeal.τ).loc Cert.SamoutRefIdeal.main_arg7) = m ((c.tc : Thread Cert.SamoutRefIdeal.nD Cert.SamoutRefIdeal.τ).loc Cert.SamoutRefIdeal.main_arg7)
      ∧ r.2.mem ((c.tc : Thread Cert.SamoutRefIdeal.nD Cert.SamoutRefIdeal.τ).loc Cert.SamoutRefIdeal.main_arg8) = m ((c.tc : Thread Cert.SamoutRefIdeal.nD Cert.SamoutRefIdeal.τ).loc Cert.SamoutRefIdeal.main_arg8))
      ∧ r.2.sem = fun _ => 0)

def quiescent_Samscore [hSamscore : Cert.Samscore.Facts] : Prop :=
  ∀ (m : (ℓ : Loc Cert.Samscore.nD Cert.Samscore.τ Cert.Samscore.sig) → Buf (Elt Bits) ℓ) (g : Dev Cert.Samscore.nD → PrngReg), Pre_Samscore m →
    θ_run (Cert.Samscore.defs (F := Bits)) (onTc (τ := Cert.Samscore.τ) (Cert.Samscore.main (F := Bits))) ⟨m, fun _ => 0, g⟩ (fun r => (∀ c : Dev Cert.Samscore.nD,
      r.2.mem ((c.tc : Thread Cert.Samscore.nD Cert.Samscore.τ).loc Cert.Samscore.main_arg0) = m ((c.tc : Thread Cert.Samscore.nD Cert.Samscore.τ).loc Cert.Samscore.main_arg0)
      ∧ r.2.mem ((c.tc : Thread Cert.Samscore.nD Cert.Samscore.τ).loc Cert.Samscore.main_arg1) = m ((c.tc : Thread Cert.Samscore.nD Cert.Samscore.τ).loc Cert.Samscore.main_arg1)
      ∧ r.2.mem ((c.tc : Thread Cert.Samscore.nD Cert.Samscore.τ).loc Cert.Samscore.main_arg2) = m ((c.tc : Thread Cert.Samscore.nD Cert.Samscore.τ).loc Cert.Samscore.main_arg2))
      ∧ r.2.sem = fun _ => 0)

def quiescent_SamscoreIdeal [hSamscoreIdeal : Cert.SamscoreIdeal.Facts] : Prop :=
  ∀ (m : (ℓ : Loc Cert.SamscoreIdeal.nD Cert.SamscoreIdeal.τ Cert.SamscoreIdeal.sig) → Buf (Elt Ideal) ℓ) (g : Dev Cert.SamscoreIdeal.nD → PrngReg), Pre_SamscoreIdeal m →
    θ_run (Cert.SamscoreIdeal.defs (F := Ideal)) (onTc (τ := Cert.SamscoreIdeal.τ) (Cert.SamscoreIdeal.main (F := Ideal))) ⟨m, fun _ => 0, g⟩ (fun r => (∀ c : Dev Cert.SamscoreIdeal.nD,
      r.2.mem ((c.tc : Thread Cert.SamscoreIdeal.nD Cert.SamscoreIdeal.τ).loc Cert.SamscoreIdeal.main_arg0) = m ((c.tc : Thread Cert.SamscoreIdeal.nD Cert.SamscoreIdeal.τ).loc Cert.SamscoreIdeal.main_arg0)
      ∧ r.2.mem ((c.tc : Thread Cert.SamscoreIdeal.nD Cert.SamscoreIdeal.τ).loc Cert.SamscoreIdeal.main_arg1) = m ((c.tc : Thread Cert.SamscoreIdeal.nD Cert.SamscoreIdeal.τ).loc Cert.SamscoreIdeal.main_arg1)
      ∧ r.2.mem ((c.tc : Thread Cert.SamscoreIdeal.nD Cert.SamscoreIdeal.τ).loc Cert.SamscoreIdeal.main_arg2) = m ((c.tc : Thread Cert.SamscoreIdeal.nD Cert.SamscoreIdeal.τ).loc Cert.SamscoreIdeal.main_arg2))
      ∧ r.2.sem = fun _ => 0)

def quiescent_SamscoreRefIdeal [hSamscoreRefIdeal : Cert.SamscoreRefIdeal.Facts] : Prop :=
  ∀ (m : (ℓ : Loc Cert.SamscoreRefIdeal.nD Cert.SamscoreRefIdeal.τ Cert.SamscoreRefIdeal.sig) → Buf (Elt Ideal) ℓ) (g : Dev Cert.SamscoreRefIdeal.nD → PrngReg), Pre_SamscoreRefIdeal m →
    θ_run (Cert.SamscoreRefIdeal.defs (F := Ideal)) (onTc (τ := Cert.SamscoreRefIdeal.τ) (Cert.SamscoreRefIdeal.main (F := Ideal))) ⟨m, fun _ => 0, g⟩ (fun r => (∀ c : Dev Cert.SamscoreRefIdeal.nD,
      r.2.mem ((c.tc : Thread Cert.SamscoreRefIdeal.nD Cert.SamscoreRefIdeal.τ).loc Cert.SamscoreRefIdeal.main_arg0) = m ((c.tc : Thread Cert.SamscoreRefIdeal.nD Cert.SamscoreRefIdeal.τ).loc Cert.SamscoreRefIdeal.main_arg0)
      ∧ r.2.mem ((c.tc : Thread Cert.SamscoreRefIdeal.nD Cert.SamscoreRefIdeal.τ).loc Cert.SamscoreRefIdeal.main_arg1) = m ((c.tc : Thread Cert.SamscoreRefIdeal.nD Cert.SamscoreRefIdeal.τ).loc Cert.SamscoreRefIdeal.main_arg1)
      ∧ r.2.mem ((c.tc : Thread Cert.SamscoreRefIdeal.nD Cert.SamscoreRefIdeal.τ).loc Cert.SamscoreRefIdeal.main_arg2) = m ((c.tc : Thread Cert.SamscoreRefIdeal.nD Cert.SamscoreRefIdeal.τ).loc Cert.SamscoreRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_Samlast [hSamlast : Cert.Samlast.Facts] : Prop :=
  ∀ (m : (ℓ : Loc Cert.Samlast.nD Cert.Samlast.τ Cert.Samlast.sig) → Buf (Elt Bits) ℓ) (g : Dev Cert.Samlast.nD → PrngReg), Pre_Samlast m →
    θ_run (Cert.Samlast.defs (F := Bits)) (onTc (τ := Cert.Samlast.τ) (Cert.Samlast.main (F := Bits))) ⟨m, fun _ => 0, g⟩ (fun r => (∀ c : Dev Cert.Samlast.nD,
      r.2.mem ((c.tc : Thread Cert.Samlast.nD Cert.Samlast.τ).loc Cert.Samlast.main_arg0) = m ((c.tc : Thread Cert.Samlast.nD Cert.Samlast.τ).loc Cert.Samlast.main_arg0)
      ∧ r.2.mem ((c.tc : Thread Cert.Samlast.nD Cert.Samlast.τ).loc Cert.Samlast.main_arg1) = m ((c.tc : Thread Cert.Samlast.nD Cert.Samlast.τ).loc Cert.Samlast.main_arg1)
      ∧ r.2.mem ((c.tc : Thread Cert.Samlast.nD Cert.Samlast.τ).loc Cert.Samlast.main_arg2) = m ((c.tc : Thread Cert.Samlast.nD Cert.Samlast.τ).loc Cert.Samlast.main_arg2)
      ∧ r.2.mem ((c.tc : Thread Cert.Samlast.nD Cert.Samlast.τ).loc Cert.Samlast.main_arg3) = m ((c.tc : Thread Cert.Samlast.nD Cert.Samlast.τ).loc Cert.Samlast.main_arg3))
      ∧ r.2.sem = fun _ => 0)

def quiescent_SamlastIdeal [hSamlastIdeal : Cert.SamlastIdeal.Facts] : Prop :=
  ∀ (m : (ℓ : Loc Cert.SamlastIdeal.nD Cert.SamlastIdeal.τ Cert.SamlastIdeal.sig) → Buf (Elt Ideal) ℓ) (g : Dev Cert.SamlastIdeal.nD → PrngReg), Pre_SamlastIdeal m →
    θ_run (Cert.SamlastIdeal.defs (F := Ideal)) (onTc (τ := Cert.SamlastIdeal.τ) (Cert.SamlastIdeal.main (F := Ideal))) ⟨m, fun _ => 0, g⟩ (fun r => (∀ c : Dev Cert.SamlastIdeal.nD,
      r.2.mem ((c.tc : Thread Cert.SamlastIdeal.nD Cert.SamlastIdeal.τ).loc Cert.SamlastIdeal.main_arg0) = m ((c.tc : Thread Cert.SamlastIdeal.nD Cert.SamlastIdeal.τ).loc Cert.SamlastIdeal.main_arg0)
      ∧ r.2.mem ((c.tc : Thread Cert.SamlastIdeal.nD Cert.SamlastIdeal.τ).loc Cert.SamlastIdeal.main_arg1) = m ((c.tc : Thread Cert.SamlastIdeal.nD Cert.SamlastIdeal.τ).loc Cert.SamlastIdeal.main_arg1)
      ∧ r.2.mem ((c.tc : Thread Cert.SamlastIdeal.nD Cert.SamlastIdeal.τ).loc Cert.SamlastIdeal.main_arg2) = m ((c.tc : Thread Cert.SamlastIdeal.nD Cert.SamlastIdeal.τ).loc Cert.SamlastIdeal.main_arg2)
      ∧ r.2.mem ((c.tc : Thread Cert.SamlastIdeal.nD Cert.SamlastIdeal.τ).loc Cert.SamlastIdeal.main_arg3) = m ((c.tc : Thread Cert.SamlastIdeal.nD Cert.SamlastIdeal.τ).loc Cert.SamlastIdeal.main_arg3))
      ∧ r.2.sem = fun _ => 0)

def quiescent_SamlastRefIdeal [hSamlastRefIdeal : Cert.SamlastRefIdeal.Facts] : Prop :=
  ∀ (m : (ℓ : Loc Cert.SamlastRefIdeal.nD Cert.SamlastRefIdeal.τ Cert.SamlastRefIdeal.sig) → Buf (Elt Ideal) ℓ) (g : Dev Cert.SamlastRefIdeal.nD → PrngReg), Pre_SamlastRefIdeal m →
    θ_run (Cert.SamlastRefIdeal.defs (F := Ideal)) (onTc (τ := Cert.SamlastRefIdeal.τ) (Cert.SamlastRefIdeal.main (F := Ideal))) ⟨m, fun _ => 0, g⟩ (fun r => (∀ c : Dev Cert.SamlastRefIdeal.nD,
      r.2.mem ((c.tc : Thread Cert.SamlastRefIdeal.nD Cert.SamlastRefIdeal.τ).loc Cert.SamlastRefIdeal.main_arg0) = m ((c.tc : Thread Cert.SamlastRefIdeal.nD Cert.SamlastRefIdeal.τ).loc Cert.SamlastRefIdeal.main_arg0)
      ∧ r.2.mem ((c.tc : Thread Cert.SamlastRefIdeal.nD Cert.SamlastRefIdeal.τ).loc Cert.SamlastRefIdeal.main_arg1) = m ((c.tc : Thread Cert.SamlastRefIdeal.nD Cert.SamlastRefIdeal.τ).loc Cert.SamlastRefIdeal.main_arg1)
      ∧ r.2.mem ((c.tc : Thread Cert.SamlastRefIdeal.nD Cert.SamlastRefIdeal.τ).loc Cert.SamlastRefIdeal.main_arg2) = m ((c.tc : Thread Cert.SamlastRefIdeal.nD Cert.SamlastRefIdeal.τ).loc Cert.SamlastRefIdeal.main_arg2)
      ∧ r.2.mem ((c.tc : Thread Cert.SamlastRefIdeal.nD Cert.SamlastRefIdeal.τ).loc Cert.SamlastRefIdeal.main_arg3) = m ((c.tc : Thread Cert.SamlastRefIdeal.nD Cert.SamlastRefIdeal.τ).loc Cert.SamlastRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v9_0)) (v1 : (c : Dev Cert.OutprojIdeal.nD) → Buf (Elt Ideal) ((c.tc : Thread Cert.OutprojIdeal.nD Cert.OutprojIdeal.τ).loc Cert.OutprojIdeal.main_v9_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v9_0) = v0 c
          ∧ r.2.mem ((c.tc : Thread Cert.OutprojIdeal.nD Cert.OutprojIdeal.τ).loc Cert.OutprojIdeal.main_v9_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v42) = v0 c
          ∧ r.2.mem ((c.tc : Thread Cert.OutprojRefIdeal.nD Cert.OutprojRefIdeal.τ).loc Cert.OutprojRefIdeal.main_v44) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def preserves_Pscore_PscoreIdeal : Prop :=
  True

def algebraic_PscoreIdeal_PscoreRefIdeal [hPscoreIdeal : Cert.PscoreIdeal.Facts] [hPscoreRefIdeal : Cert.PscoreRefIdeal.Facts] : Prop :=
  ∀ (m : (ℓ : Loc Cert.PscoreIdeal.nD Cert.PscoreIdeal.τ Cert.PscoreIdeal.sig) → Buf (Elt Ideal) ℓ) (g : Dev Cert.PscoreIdeal.nD → PrngReg)
    (m' : (ℓ : Loc Cert.PscoreRefIdeal.nD Cert.PscoreRefIdeal.τ Cert.PscoreRefIdeal.sig) → Buf (Elt Ideal) ℓ) (g' : Dev Cert.PscoreRefIdeal.nD → PrngReg), Pre_PscoreIdeal m →
    (∀ c : Dev Cert.PscoreIdeal.nD,
      m' ((c.tc : Thread Cert.PscoreRefIdeal.nD Cert.PscoreRefIdeal.τ).loc Cert.PscoreRefIdeal.main_arg0) = m ((c.tc : Thread Cert.PscoreIdeal.nD Cert.PscoreIdeal.τ).loc Cert.PscoreIdeal.main_arg0)
      ∧ m' ((c.tc : Thread Cert.PscoreRefIdeal.nD Cert.PscoreRefIdeal.τ).loc Cert.PscoreRefIdeal.main_arg1) = m ((c.tc : Thread Cert.PscoreIdeal.nD Cert.PscoreIdeal.τ).loc Cert.PscoreIdeal.main_arg1)
      ∧ m' ((c.tc : Thread Cert.PscoreRefIdeal.nD Cert.PscoreRefIdeal.τ).loc Cert.PscoreRefIdeal.main_arg2) = m ((c.tc : Thread Cert.PscoreIdeal.nD Cert.PscoreIdeal.τ).loc Cert.PscoreIdeal.main_arg2)) →
    ∃ (v0 : (c : Dev Cert.PscoreIdeal.nD) → Buf (Elt Ideal) ((c.tc : Thread Cert.PscoreIdeal.nD Cert.PscoreIdeal.τ).loc Cert.PscoreIdeal.main_v5)),
      θ_run (Cert.PscoreIdeal.defs (F := Ideal)) (onTc (τ := Cert.PscoreIdeal.τ) (Cert.PscoreIdeal.main (F := Ideal))) ⟨m, fun _ => 0, g⟩ (fun r => ∀ c : Dev Cert.PscoreIdeal.nD,
          r.2.mem ((c.tc : Thread Cert.PscoreIdeal.nD Cert.PscoreIdeal.τ).loc Cert.PscoreIdeal.main_v5) = v0 c
          ∧ r.2.mem ((c.tc : Thread Cert.PscoreIdeal.nD Cert.PscoreIdeal.τ).loc Cert.PscoreIdeal.main_arg0) = m ((c.tc : Thread Cert.PscoreIdeal.nD Cert.PscoreIdeal.τ).loc Cert.PscoreIdeal.main_arg0)
          ∧ r.2.mem ((c.tc : Thread Cert.PscoreIdeal.nD Cert.PscoreIdeal.τ).loc Cert.PscoreIdeal.main_arg1) = m ((c.tc : Thread Cert.PscoreIdeal.nD Cert.PscoreIdeal.τ).loc Cert.PscoreIdeal.main_arg1)
          ∧ r.2.mem ((c.tc : Thread Cert.PscoreIdeal.nD Cert.PscoreIdeal.τ).loc Cert.PscoreIdeal.main_arg2) = m ((c.tc : Thread Cert.PscoreIdeal.nD Cert.PscoreIdeal.τ).loc Cert.PscoreIdeal.main_arg2))
      ∧ θ_run (Cert.PscoreRefIdeal.defs (F := Ideal)) (onTc (τ := Cert.PscoreRefIdeal.τ) (Cert.PscoreRefIdeal.main (F := Ideal))) ⟨m', fun _ => 0, g'⟩ (fun r => ∀ c : Dev Cert.PscoreRefIdeal.nD,
          r.2.mem ((c.tc : Thread Cert.PscoreRefIdeal.nD Cert.PscoreRefIdeal.τ).loc Cert.PscoreRefIdeal.main_v8) = v0 c
          ∧ r.2.mem ((c.tc : Thread Cert.PscoreRefIdeal.nD Cert.PscoreRefIdeal.τ).loc Cert.PscoreRefIdeal.main_arg0) = m' ((c.tc : Thread Cert.PscoreRefIdeal.nD Cert.PscoreRefIdeal.τ).loc Cert.PscoreRefIdeal.main_arg0)
          ∧ r.2.mem ((c.tc : Thread Cert.PscoreRefIdeal.nD Cert.PscoreRefIdeal.τ).loc Cert.PscoreRefIdeal.main_arg1) = m' ((c.tc : Thread Cert.PscoreRefIdeal.nD Cert.PscoreRefIdeal.τ).loc Cert.PscoreRefIdeal.main_arg1)
          ∧ r.2.mem ((c.tc : Thread Cert.PscoreRefIdeal.nD Cert.PscoreRefIdeal.τ).loc Cert.PscoreRefIdeal.main_arg2) = m' ((c.tc : Thread Cert.PscoreRefIdeal.nD Cert.PscoreRefIdeal.τ).loc Cert.PscoreRefIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v18_0)) (v1 : (c : Dev Cert.InprojIdeal.nD) → Buf (Elt Ideal) ((c.tc : Thread Cert.InprojIdeal.nD Cert.InprojIdeal.τ).loc Cert.InprojIdeal.main_v20)) (v2 : (c : Dev Cert.InprojIdeal.nD) → Buf (Elt Ideal) ((c.tc : Thread Cert.InprojIdeal.nD Cert.InprojIdeal.τ).loc Cert.InprojIdeal.main_v21)) (v3 : (c : Dev Cert.InprojIdeal.nD) → Buf (Elt Ideal) ((c.tc : Thread Cert.InprojIdeal.nD Cert.InprojIdeal.τ).loc Cert.InprojIdeal.main_v23)) (v4 : (c : Dev Cert.InprojIdeal.nD) → Buf (Elt Ideal) ((c.tc : Thread Cert.InprojIdeal.nD Cert.InprojIdeal.τ).loc Cert.InprojIdeal.main_v18_3)) (v5 : (c : Dev Cert.InprojIdeal.nD) → Buf (Elt Ideal) ((c.tc : Thread Cert.InprojIdeal.nD Cert.InprojIdeal.τ).loc Cert.InprojIdeal.main_v25)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18_0) = v0 c
          ∧ r.2.mem ((c.tc : Thread Cert.InprojIdeal.nD Cert.InprojIdeal.τ).loc Cert.InprojIdeal.main_v20) = v1 c
          ∧ r.2.mem ((c.tc : Thread Cert.InprojIdeal.nD Cert.InprojIdeal.τ).loc Cert.InprojIdeal.main_v21) = v2 c
          ∧ r.2.mem ((c.tc : Thread Cert.InprojIdeal.nD Cert.InprojIdeal.τ).loc Cert.InprojIdeal.main_v23) = v3 c
          ∧ r.2.mem ((c.tc : Thread Cert.InprojIdeal.nD Cert.InprojIdeal.τ).loc Cert.InprojIdeal.main_v18_3) = v4 c
          ∧ r.2.mem ((c.tc : Thread Cert.InprojIdeal.nD Cert.InprojIdeal.τ).loc Cert.InprojIdeal.main_v25) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v37) = v0 c
          ∧ r.2.mem ((c.tc : Thread Cert.InprojRefIdeal.nD Cert.InprojRefIdeal.τ).loc Cert.InprojRefIdeal.main_v38) = v1 c
          ∧ r.2.mem ((c.tc : Thread Cert.InprojRefIdeal.nD Cert.InprojRefIdeal.τ).loc Cert.InprojRefIdeal.main_v39) = v2 c
          ∧ r.2.mem ((c.tc : Thread Cert.InprojRefIdeal.nD Cert.InprojRefIdeal.τ).loc Cert.InprojRefIdeal.main_v40) = v3 c
          ∧ r.2.mem ((c.tc : Thread Cert.InprojRefIdeal.nD Cert.InprojRefIdeal.τ).loc Cert.InprojRefIdeal.main_v41) = v4 c
          ∧ r.2.mem ((c.tc : Thread Cert.InprojRefIdeal.nD Cert.InprojRefIdeal.τ).loc Cert.InprojRefIdeal.main_v43) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v9)) (v1 : (c : Dev Cert.AdaIdeal.nD) → Buf (Elt Ideal) ((c.tc : Thread Cert.AdaIdeal.nD Cert.AdaIdeal.τ).loc Cert.AdaIdeal.main_v11)) (v2 : (c : Dev Cert.AdaIdeal.nD) → Buf (Elt Ideal) ((c.tc : Thread Cert.AdaIdeal.nD Cert.AdaIdeal.τ).loc Cert.AdaIdeal.main_v13)) (v3 : (c : Dev Cert.AdaIdeal.nD) → Buf (Elt Ideal) ((c.tc : Thread Cert.AdaIdeal.nD Cert.AdaIdeal.τ).loc Cert.AdaIdeal.main_v15)) (v4 : (c : Dev Cert.AdaIdeal.nD) → Buf (Elt Ideal) ((c.tc : Thread Cert.AdaIdeal.nD Cert.AdaIdeal.τ).loc Cert.AdaIdeal.main_v17)) (v5 : (c : Dev Cert.AdaIdeal.nD) → Buf (Elt Ideal) ((c.tc : Thread Cert.AdaIdeal.nD Cert.AdaIdeal.τ).loc Cert.AdaIdeal.main_v19)) (v6 : (c : Dev Cert.AdaIdeal.nD) → Buf (Elt Ideal) ((c.tc : Thread Cert.AdaIdeal.nD Cert.AdaIdeal.τ).loc Cert.AdaIdeal.main_v23)) (v7 : (c : Dev Cert.AdaIdeal.nD) → Buf (Elt Ideal) ((c.tc : Thread Cert.AdaIdeal.nD Cert.AdaIdeal.τ).loc Cert.AdaIdeal.main_v27)) (v8 : (c : Dev Cert.AdaIdeal.nD) → Buf (Elt Ideal) ((c.tc : Thread Cert.AdaIdeal.nD Cert.AdaIdeal.τ).loc Cert.AdaIdeal.main_v31)) (v9 : (c : Dev Cert.AdaIdeal.nD) → Buf (Elt Ideal) ((c.tc : Thread Cert.AdaIdeal.nD Cert.AdaIdeal.τ).loc Cert.AdaIdeal.main_v35)) (v10 : (c : Dev Cert.AdaIdeal.nD) → Buf (Elt Ideal) ((c.tc : Thread Cert.AdaIdeal.nD Cert.AdaIdeal.τ).loc Cert.AdaIdeal.main_v39)) (v11 : (c : Dev Cert.AdaIdeal.nD) → Buf (Elt Ideal) ((c.tc : Thread Cert.AdaIdeal.nD Cert.AdaIdeal.τ).loc Cert.AdaIdeal.main_v43)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v9) = v0 c
          ∧ r.2.mem ((c.tc : Thread Cert.AdaIdeal.nD Cert.AdaIdeal.τ).loc Cert.AdaIdeal.main_v11) = v1 c
          ∧ r.2.mem ((c.tc : Thread Cert.AdaIdeal.nD Cert.AdaIdeal.τ).loc Cert.AdaIdeal.main_v13) = v2 c
          ∧ r.2.mem ((c.tc : Thread Cert.AdaIdeal.nD Cert.AdaIdeal.τ).loc Cert.AdaIdeal.main_v15) = v3 c
          ∧ r.2.mem ((c.tc : Thread Cert.AdaIdeal.nD Cert.AdaIdeal.τ).loc Cert.AdaIdeal.main_v17) = v4 c
          ∧ r.2.mem ((c.tc : Thread Cert.AdaIdeal.nD Cert.AdaIdeal.τ).loc Cert.AdaIdeal.main_v19) = v5 c
          ∧ r.2.mem ((c.tc : Thread Cert.AdaIdeal.nD Cert.AdaIdeal.τ).loc Cert.AdaIdeal.main_v23) = v6 c
          ∧ r.2.mem ((c.tc : Thread Cert.AdaIdeal.nD Cert.AdaIdeal.τ).loc Cert.AdaIdeal.main_v27) = v7 c
          ∧ r.2.mem ((c.tc : Thread Cert.AdaIdeal.nD Cert.AdaIdeal.τ).loc Cert.AdaIdeal.main_v31) = v8 c
          ∧ r.2.mem ((c.tc : Thread Cert.AdaIdeal.nD Cert.AdaIdeal.τ).loc Cert.AdaIdeal.main_v35) = v9 c
          ∧ r.2.mem ((c.tc : Thread Cert.AdaIdeal.nD Cert.AdaIdeal.τ).loc Cert.AdaIdeal.main_v39) = v10 c
          ∧ r.2.mem ((c.tc : Thread Cert.AdaIdeal.nD Cert.AdaIdeal.τ).loc Cert.AdaIdeal.main_v43) = v11 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_v9) = v1 c
          ∧ r.2.mem ((c.tc : Thread Cert.AdaRefIdeal.nD Cert.AdaRefIdeal.τ).loc Cert.AdaRefIdeal.main_v10) = v2 c
          ∧ r.2.mem ((c.tc : Thread Cert.AdaRefIdeal.nD Cert.AdaRefIdeal.τ).loc Cert.AdaRefIdeal.main_v11) = v3 c
          ∧ r.2.mem ((c.tc : Thread Cert.AdaRefIdeal.nD Cert.AdaRefIdeal.τ).loc Cert.AdaRefIdeal.main_v12) = v4 c
          ∧ r.2.mem ((c.tc : Thread Cert.AdaRefIdeal.nD Cert.AdaRefIdeal.τ).loc Cert.AdaRefIdeal.main_v13) = v5 c
          ∧ r.2.mem ((c.tc : Thread Cert.AdaRefIdeal.nD Cert.AdaRefIdeal.τ).loc Cert.AdaRefIdeal.main_v29) = v6 c
          ∧ r.2.mem ((c.tc : Thread Cert.AdaRefIdeal.nD Cert.AdaRefIdeal.τ).loc Cert.AdaRefIdeal.main_v31) = v7 c
          ∧ r.2.mem ((c.tc : Thread Cert.AdaRefIdeal.nD Cert.AdaRefIdeal.τ).loc Cert.AdaRefIdeal.main_v33) = v8 c
          ∧ r.2.mem ((c.tc : Thread Cert.AdaRefIdeal.nD Cert.AdaRefIdeal.τ).loc Cert.AdaRefIdeal.main_v35) = v9 c
          ∧ r.2.mem ((c.tc : Thread Cert.AdaRefIdeal.nD Cert.AdaRefIdeal.τ).loc Cert.AdaRefIdeal.main_v37) = v10 c
          ∧ r.2.mem ((c.tc : Thread Cert.AdaRefIdeal.nD Cert.AdaRefIdeal.τ).loc Cert.AdaRefIdeal.main_v39) = v11 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Samproj_SamprojIdeal : Prop :=
  True

def algebraic_SamprojIdeal_SamprojRefIdeal [hSamprojIdeal : Cert.SamprojIdeal.Facts] [hSamprojRefIdeal : Cert.SamprojRefIdeal.Facts] : Prop :=
  ∀ (m : (ℓ : Loc Cert.SamprojIdeal.nD Cert.SamprojIdeal.τ Cert.SamprojIdeal.sig) → Buf (Elt Ideal) ℓ) (g : Dev Cert.SamprojIdeal.nD → PrngReg)
    (m' : (ℓ : Loc Cert.SamprojRefIdeal.nD Cert.SamprojRefIdeal.τ Cert.SamprojRefIdeal.sig) → Buf (Elt Ideal) ℓ) (g' : Dev Cert.SamprojRefIdeal.nD → PrngReg), Pre_SamprojIdeal m →
    (∀ c : Dev Cert.SamprojIdeal.nD,
      m' ((c.tc : Thread Cert.SamprojRefIdeal.nD Cert.SamprojRefIdeal.τ).loc Cert.SamprojRefIdeal.main_arg0) = m ((c.tc : Thread Cert.SamprojIdeal.nD Cert.SamprojIdeal.τ).loc Cert.SamprojIdeal.main_arg0)
      ∧ m' ((c.tc : Thread Cert.SamprojRefIdeal.nD Cert.SamprojRefIdeal.τ).loc Cert.SamprojRefIdeal.main_arg1) = m ((c.tc : Thread Cert.SamprojIdeal.nD Cert.SamprojIdeal.τ).loc Cert.SamprojIdeal.main_arg1)
      ∧ m' ((c.tc : Thread Cert.SamprojRefIdeal.nD Cert.SamprojRefIdeal.τ).loc Cert.SamprojRefIdeal.main_arg2) = m ((c.tc : Thread Cert.SamprojIdeal.nD Cert.SamprojIdeal.τ).loc Cert.SamprojIdeal.main_arg2)
      ∧ m' ((c.tc : Thread Cert.SamprojRefIdeal.nD Cert.SamprojRefIdeal.τ).loc Cert.SamprojRefIdeal.main_arg3) = m ((c.tc : Thread Cert.SamprojIdeal.nD Cert.SamprojIdeal.τ).loc Cert.SamprojIdeal.main_arg3)
      ∧ m' ((c.tc : Thread Cert.SamprojRefIdeal.nD Cert.SamprojRefIdeal.τ).loc Cert.SamprojRefIdeal.main_arg4) = m ((c.tc : Thread Cert.SamprojIdeal.nD Cert.SamprojIdeal.τ).loc Cert.SamprojIdeal.main_arg4)
      ∧ m' ((c.tc : Thread Cert.SamprojRefIdeal.nD Cert.SamprojRefIdeal.τ).loc Cert.SamprojRefIdeal.main_arg5) = m ((c.tc : Thread Cert.SamprojIdeal.nD Cert.SamprojIdeal.τ).loc Cert.SamprojIdeal.main_arg5)
      ∧ m' ((c.tc : Thread Cert.SamprojRefIdeal.nD Cert.SamprojRefIdeal.τ).loc Cert.SamprojRefIdeal.main_arg6) = m ((c.tc : Thread Cert.SamprojIdeal.nD Cert.SamprojIdeal.τ).loc Cert.SamprojIdeal.main_arg6)) →
    ∃ (v0 : (c : Dev Cert.SamprojIdeal.nD) → Buf (Elt Ideal) ((c.tc : Thread Cert.SamprojIdeal.nD Cert.SamprojIdeal.τ).loc Cert.SamprojIdeal.main_v18_0)) (v1 : (c : Dev Cert.SamprojIdeal.nD) → Buf (Elt Ideal) ((c.tc : Thread Cert.SamprojIdeal.nD Cert.SamprojIdeal.τ).loc Cert.SamprojIdeal.main_v22)) (v2 : (c : Dev Cert.SamprojIdeal.nD) → Buf (Elt Ideal) ((c.tc : Thread Cert.SamprojIdeal.nD Cert.SamprojIdeal.τ).loc Cert.SamprojIdeal.main_v23)) (v3 : (c : Dev Cert.SamprojIdeal.nD) → Buf (Elt Ideal) ((c.tc : Thread Cert.SamprojIdeal.nD Cert.SamprojIdeal.τ).loc Cert.SamprojIdeal.main_v25)) (v4 : (c : Dev Cert.SamprojIdeal.nD) → Buf (Elt Ideal) ((c.tc : Thread Cert.SamprojIdeal.nD Cert.SamprojIdeal.τ).loc Cert.SamprojIdeal.main_v18_3)) (v5 : (c : Dev Cert.SamprojIdeal.nD) → Buf (Elt Ideal) ((c.tc : Thread Cert.SamprojIdeal.nD Cert.SamprojIdeal.τ).loc Cert.SamprojIdeal.main_v27)),
      θ_run (Cert.SamprojIdeal.defs (F := Ideal)) (onTc (τ := Cert.SamprojIdeal.τ) (Cert.SamprojIdeal.main (F := Ideal))) ⟨m, fun _ => 0, g⟩ (fun r => ∀ c : Dev Cert.SamprojIdeal.nD,
          r.2.mem ((c.tc : Thread Cert.SamprojIdeal.nD Cert.SamprojIdeal.τ).loc Cert.SamprojIdeal.main_v18_0) = v0 c
          ∧ r.2.mem ((c.tc : Thread Cert.SamprojIdeal.nD Cert.SamprojIdeal.τ).loc Cert.SamprojIdeal.main_v22) = v1 c
          ∧ r.2.mem ((c.tc : Thread Cert.SamprojIdeal.nD Cert.SamprojIdeal.τ).loc Cert.SamprojIdeal.main_v23) = v2 c
          ∧ r.2.mem ((c.tc : Thread Cert.SamprojIdeal.nD Cert.SamprojIdeal.τ).loc Cert.SamprojIdeal.main_v25) = v3 c
          ∧ r.2.mem ((c.tc : Thread Cert.SamprojIdeal.nD Cert.SamprojIdeal.τ).loc Cert.SamprojIdeal.main_v18_3) = v4 c
          ∧ r.2.mem ((c.tc : Thread Cert.SamprojIdeal.nD Cert.SamprojIdeal.τ).loc Cert.SamprojIdeal.main_v27) = v5 c
          ∧ r.2.mem ((c.tc : Thread Cert.SamprojIdeal.nD Cert.SamprojIdeal.τ).loc Cert.SamprojIdeal.main_arg0) = m ((c.tc : Thread Cert.SamprojIdeal.nD Cert.SamprojIdeal.τ).loc Cert.SamprojIdeal.main_arg0)
          ∧ r.2.mem ((c.tc : Thread Cert.SamprojIdeal.nD Cert.SamprojIdeal.τ).loc Cert.SamprojIdeal.main_arg1) = m ((c.tc : Thread Cert.SamprojIdeal.nD Cert.SamprojIdeal.τ).loc Cert.SamprojIdeal.main_arg1)
          ∧ r.2.mem ((c.tc : Thread Cert.SamprojIdeal.nD Cert.SamprojIdeal.τ).loc Cert.SamprojIdeal.main_arg2) = m ((c.tc : Thread Cert.SamprojIdeal.nD Cert.SamprojIdeal.τ).loc Cert.SamprojIdeal.main_arg2)
          ∧ r.2.mem ((c.tc : Thread Cert.SamprojIdeal.nD Cert.SamprojIdeal.τ).loc Cert.SamprojIdeal.main_arg3) = m ((c.tc : Thread Cert.SamprojIdeal.nD Cert.SamprojIdeal.τ).loc Cert.SamprojIdeal.main_arg3)
          ∧ r.2.mem ((c.tc : Thread Cert.SamprojIdeal.nD Cert.SamprojIdeal.τ).loc Cert.SamprojIdeal.main_arg4) = m ((c.tc : Thread Cert.SamprojIdeal.nD Cert.SamprojIdeal.τ).loc Cert.SamprojIdeal.main_arg4)
          ∧ r.2.mem ((c.tc : Thread Cert.SamprojIdeal.nD Cert.SamprojIdeal.τ).loc Cert.SamprojIdeal.main_arg5) = m ((c.tc : Thread Cert.SamprojIdeal.nD Cert.SamprojIdeal.τ).loc Cert.SamprojIdeal.main_arg5)
          ∧ r.2.mem ((c.tc : Thread Cert.SamprojIdeal.nD Cert.SamprojIdeal.τ).loc Cert.SamprojIdeal.main_arg6) = m ((c.tc : Thread Cert.SamprojIdeal.nD Cert.SamprojIdeal.τ).loc Cert.SamprojIdeal.main_arg6))
      ∧ θ_run (Cert.SamprojRefIdeal.defs (F := Ideal)) (onTc (τ := Cert.SamprojRefIdeal.τ) (Cert.SamprojRefIdeal.main (F := Ideal))) ⟨m', fun _ => 0, g'⟩ (fun r => ∀ c : Dev Cert.SamprojRefIdeal.nD,
          r.2.mem ((c.tc : Thread Cert.SamprojRefIdeal.nD Cert.SamprojRefIdeal.τ).loc Cert.SamprojRefIdeal.main_v37) = v0 c
          ∧ r.2.mem ((c.tc : Thread Cert.SamprojRefIdeal.nD Cert.SamprojRefIdeal.τ).loc Cert.SamprojRefIdeal.main_v38) = v1 c
          ∧ r.2.mem ((c.tc : Thread Cert.SamprojRefIdeal.nD Cert.SamprojRefIdeal.τ).loc Cert.SamprojRefIdeal.main_v39) = v2 c
          ∧ r.2.mem ((c.tc : Thread Cert.SamprojRefIdeal.nD Cert.SamprojRefIdeal.τ).loc Cert.SamprojRefIdeal.main_v40) = v3 c
          ∧ r.2.mem ((c.tc : Thread Cert.SamprojRefIdeal.nD Cert.SamprojRefIdeal.τ).loc Cert.SamprojRefIdeal.main_v41) = v4 c
          ∧ r.2.mem ((c.tc : Thread Cert.SamprojRefIdeal.nD Cert.SamprojRefIdeal.τ).loc Cert.SamprojRefIdeal.main_v43) = v5 c
          ∧ r.2.mem ((c.tc : Thread Cert.SamprojRefIdeal.nD Cert.SamprojRefIdeal.τ).loc Cert.SamprojRefIdeal.main_arg0) = m' ((c.tc : Thread Cert.SamprojRefIdeal.nD Cert.SamprojRefIdeal.τ).loc Cert.SamprojRefIdeal.main_arg0)
          ∧ r.2.mem ((c.tc : Thread Cert.SamprojRefIdeal.nD Cert.SamprojRefIdeal.τ).loc Cert.SamprojRefIdeal.main_arg1) = m' ((c.tc : Thread Cert.SamprojRefIdeal.nD Cert.SamprojRefIdeal.τ).loc Cert.SamprojRefIdeal.main_arg1)
          ∧ r.2.mem ((c.tc : Thread Cert.SamprojRefIdeal.nD Cert.SamprojRefIdeal.τ).loc Cert.SamprojRefIdeal.main_arg2) = m' ((c.tc : Thread Cert.SamprojRefIdeal.nD Cert.SamprojRefIdeal.τ).loc Cert.SamprojRefIdeal.main_arg2)
          ∧ r.2.mem ((c.tc : Thread Cert.SamprojRefIdeal.nD Cert.SamprojRefIdeal.τ).loc Cert.SamprojRefIdeal.main_arg3) = m' ((c.tc : Thread Cert.SamprojRefIdeal.nD Cert.SamprojRefIdeal.τ).loc Cert.SamprojRefIdeal.main_arg3)
          ∧ r.2.mem ((c.tc : Thread Cert.SamprojRefIdeal.nD Cert.SamprojRefIdeal.τ).loc Cert.SamprojRefIdeal.main_arg4) = m' ((c.tc : Thread Cert.SamprojRefIdeal.nD Cert.SamprojRefIdeal.τ).loc Cert.SamprojRefIdeal.main_arg4)
          ∧ r.2.mem ((c.tc : Thread Cert.SamprojRefIdeal.nD Cert.SamprojRefIdeal.τ).loc Cert.SamprojRefIdeal.main_arg5) = m' ((c.tc : Thread Cert.SamprojRefIdeal.nD Cert.SamprojRefIdeal.τ).loc Cert.SamprojRefIdeal.main_arg5)
          ∧ r.2.mem ((c.tc : Thread Cert.SamprojRefIdeal.nD Cert.SamprojRefIdeal.τ).loc Cert.SamprojRefIdeal.main_arg6) = m' ((c.tc : Thread Cert.SamprojRefIdeal.nD Cert.SamprojRefIdeal.τ).loc Cert.SamprojRefIdeal.main_arg6))

def preserves_Samout_SamoutIdeal : Prop :=
  True

def algebraic_SamoutIdeal_SamoutRefIdeal [hSamoutIdeal : Cert.SamoutIdeal.Facts] [hSamoutRefIdeal : Cert.SamoutRefIdeal.Facts] : Prop :=
  ∀ (m : (ℓ : Loc Cert.SamoutIdeal.nD Cert.SamoutIdeal.τ Cert.SamoutIdeal.sig) → Buf (Elt Ideal) ℓ) (g : Dev Cert.SamoutIdeal.nD → PrngReg)
    (m' : (ℓ : Loc Cert.SamoutRefIdeal.nD Cert.SamoutRefIdeal.τ Cert.SamoutRefIdeal.sig) → Buf (Elt Ideal) ℓ) (g' : Dev Cert.SamoutRefIdeal.nD → PrngReg), Pre_SamoutIdeal m →
    (∀ c : Dev Cert.SamoutIdeal.nD,
      m' ((c.tc : Thread Cert.SamoutRefIdeal.nD Cert.SamoutRefIdeal.τ).loc Cert.SamoutRefIdeal.main_arg0) = m ((c.tc : Thread Cert.SamoutIdeal.nD Cert.SamoutIdeal.τ).loc Cert.SamoutIdeal.main_arg0)
      ∧ m' ((c.tc : Thread Cert.SamoutRefIdeal.nD Cert.SamoutRefIdeal.τ).loc Cert.SamoutRefIdeal.main_arg1) = m ((c.tc : Thread Cert.SamoutIdeal.nD Cert.SamoutIdeal.τ).loc Cert.SamoutIdeal.main_arg1)
      ∧ m' ((c.tc : Thread Cert.SamoutRefIdeal.nD Cert.SamoutRefIdeal.τ).loc Cert.SamoutRefIdeal.main_arg2) = m ((c.tc : Thread Cert.SamoutIdeal.nD Cert.SamoutIdeal.τ).loc Cert.SamoutIdeal.main_arg2)
      ∧ m' ((c.tc : Thread Cert.SamoutRefIdeal.nD Cert.SamoutRefIdeal.τ).loc Cert.SamoutRefIdeal.main_arg3) = m ((c.tc : Thread Cert.SamoutIdeal.nD Cert.SamoutIdeal.τ).loc Cert.SamoutIdeal.main_arg3)
      ∧ m' ((c.tc : Thread Cert.SamoutRefIdeal.nD Cert.SamoutRefIdeal.τ).loc Cert.SamoutRefIdeal.main_arg4) = m ((c.tc : Thread Cert.SamoutIdeal.nD Cert.SamoutIdeal.τ).loc Cert.SamoutIdeal.main_arg4)
      ∧ m' ((c.tc : Thread Cert.SamoutRefIdeal.nD Cert.SamoutRefIdeal.τ).loc Cert.SamoutRefIdeal.main_arg5) = m ((c.tc : Thread Cert.SamoutIdeal.nD Cert.SamoutIdeal.τ).loc Cert.SamoutIdeal.main_arg5)
      ∧ m' ((c.tc : Thread Cert.SamoutRefIdeal.nD Cert.SamoutRefIdeal.τ).loc Cert.SamoutRefIdeal.main_arg6) = m ((c.tc : Thread Cert.SamoutIdeal.nD Cert.SamoutIdeal.τ).loc Cert.SamoutIdeal.main_arg6)
      ∧ m' ((c.tc : Thread Cert.SamoutRefIdeal.nD Cert.SamoutRefIdeal.τ).loc Cert.SamoutRefIdeal.main_arg7) = m ((c.tc : Thread Cert.SamoutIdeal.nD Cert.SamoutIdeal.τ).loc Cert.SamoutIdeal.main_arg7)
      ∧ m' ((c.tc : Thread Cert.SamoutRefIdeal.nD Cert.SamoutRefIdeal.τ).loc Cert.SamoutRefIdeal.main_arg8) = m ((c.tc : Thread Cert.SamoutIdeal.nD Cert.SamoutIdeal.τ).loc Cert.SamoutIdeal.main_arg8)) →
    ∃ (v0 : (c : Dev Cert.SamoutIdeal.nD) → Buf (Elt Ideal) ((c.tc : Thread Cert.SamoutIdeal.nD Cert.SamoutIdeal.τ).loc Cert.SamoutIdeal.main_v11_0)) (v1 : (c : Dev Cert.SamoutIdeal.nD) → Buf (Elt Ideal) ((c.tc : Thread Cert.SamoutIdeal.nD Cert.SamoutIdeal.τ).loc Cert.SamoutIdeal.main_v11_1)),
      θ_run (Cert.SamoutIdeal.defs (F := Ideal)) (onTc (τ := Cert.SamoutIdeal.τ) (Cert.SamoutIdeal.main (F := Ideal))) ⟨m, fun _ => 0, g⟩ (fun r => ∀ c : Dev Cert.SamoutIdeal.nD,
          r.2.mem ((c.tc : Thread Cert.SamoutIdeal.nD Cert.SamoutIdeal.τ).loc Cert.SamoutIdeal.main_v11_0) = v0 c
          ∧ r.2.mem ((c.tc : Thread Cert.SamoutIdeal.nD Cert.SamoutIdeal.τ).loc Cert.SamoutIdeal.main_v11_1) = v1 c
          ∧ r.2.mem ((c.tc : Thread Cert.SamoutIdeal.nD Cert.SamoutIdeal.τ).loc Cert.SamoutIdeal.main_arg0) = m ((c.tc : Thread Cert.SamoutIdeal.nD Cert.SamoutIdeal.τ).loc Cert.SamoutIdeal.main_arg0)
          ∧ r.2.mem ((c.tc : Thread Cert.SamoutIdeal.nD Cert.SamoutIdeal.τ).loc Cert.SamoutIdeal.main_arg1) = m ((c.tc : Thread Cert.SamoutIdeal.nD Cert.SamoutIdeal.τ).loc Cert.SamoutIdeal.main_arg1)
          ∧ r.2.mem ((c.tc : Thread Cert.SamoutIdeal.nD Cert.SamoutIdeal.τ).loc Cert.SamoutIdeal.main_arg2) = m ((c.tc : Thread Cert.SamoutIdeal.nD Cert.SamoutIdeal.τ).loc Cert.SamoutIdeal.main_arg2)
          ∧ r.2.mem ((c.tc : Thread Cert.SamoutIdeal.nD Cert.SamoutIdeal.τ).loc Cert.SamoutIdeal.main_arg3) = m ((c.tc : Thread Cert.SamoutIdeal.nD Cert.SamoutIdeal.τ).loc Cert.SamoutIdeal.main_arg3)
          ∧ r.2.mem ((c.tc : Thread Cert.SamoutIdeal.nD Cert.SamoutIdeal.τ).loc Cert.SamoutIdeal.main_arg4) = m ((c.tc : Thread Cert.SamoutIdeal.nD Cert.SamoutIdeal.τ).loc Cert.SamoutIdeal.main_arg4)
          ∧ r.2.mem ((c.tc : Thread Cert.SamoutIdeal.nD Cert.SamoutIdeal.τ).loc Cert.SamoutIdeal.main_arg5) = m ((c.tc : Thread Cert.SamoutIdeal.nD Cert.SamoutIdeal.τ).loc Cert.SamoutIdeal.main_arg5)
          ∧ r.2.mem ((c.tc : Thread Cert.SamoutIdeal.nD Cert.SamoutIdeal.τ).loc Cert.SamoutIdeal.main_arg6) = m ((c.tc : Thread Cert.SamoutIdeal.nD Cert.SamoutIdeal.τ).loc Cert.SamoutIdeal.main_arg6)
          ∧ r.2.mem ((c.tc : Thread Cert.SamoutIdeal.nD Cert.SamoutIdeal.τ).loc Cert.SamoutIdeal.main_arg7) = m ((c.tc : Thread Cert.SamoutIdeal.nD Cert.SamoutIdeal.τ).loc Cert.SamoutIdeal.main_arg7)
          ∧ r.2.mem ((c.tc : Thread Cert.SamoutIdeal.nD Cert.SamoutIdeal.τ).loc Cert.SamoutIdeal.main_arg8) = m ((c.tc : Thread Cert.SamoutIdeal.nD Cert.SamoutIdeal.τ).loc Cert.SamoutIdeal.main_arg8))
      ∧ θ_run (Cert.SamoutRefIdeal.defs (F := Ideal)) (onTc (τ := Cert.SamoutRefIdeal.τ) (Cert.SamoutRefIdeal.main (F := Ideal))) ⟨m', fun _ => 0, g'⟩ (fun r => ∀ c : Dev Cert.SamoutRefIdeal.nD,
          r.2.mem ((c.tc : Thread Cert.SamoutRefIdeal.nD Cert.SamoutRefIdeal.τ).loc Cert.SamoutRefIdeal.main_v43) = v0 c
          ∧ r.2.mem ((c.tc : Thread Cert.SamoutRefIdeal.nD Cert.SamoutRefIdeal.τ).loc Cert.SamoutRefIdeal.main_v45) = v1 c
          ∧ r.2.mem ((c.tc : Thread Cert.SamoutRefIdeal.nD Cert.SamoutRefIdeal.τ).loc Cert.SamoutRefIdeal.main_arg0) = m' ((c.tc : Thread Cert.SamoutRefIdeal.nD Cert.SamoutRefIdeal.τ).loc Cert.SamoutRefIdeal.main_arg0)
          ∧ r.2.mem ((c.tc : Thread Cert.SamoutRefIdeal.nD Cert.SamoutRefIdeal.τ).loc Cert.SamoutRefIdeal.main_arg1) = m' ((c.tc : Thread Cert.SamoutRefIdeal.nD Cert.SamoutRefIdeal.τ).loc Cert.SamoutRefIdeal.main_arg1)
          ∧ r.2.mem ((c.tc : Thread Cert.SamoutRefIdeal.nD Cert.SamoutRefIdeal.τ).loc Cert.SamoutRefIdeal.main_arg2) = m' ((c.tc : Thread Cert.SamoutRefIdeal.nD Cert.SamoutRefIdeal.τ).loc Cert.SamoutRefIdeal.main_arg2)
          ∧ r.2.mem ((c.tc : Thread Cert.SamoutRefIdeal.nD Cert.SamoutRefIdeal.τ).loc Cert.SamoutRefIdeal.main_arg3) = m' ((c.tc : Thread Cert.SamoutRefIdeal.nD Cert.SamoutRefIdeal.τ).loc Cert.SamoutRefIdeal.main_arg3)
          ∧ r.2.mem ((c.tc : Thread Cert.SamoutRefIdeal.nD Cert.SamoutRefIdeal.τ).loc Cert.SamoutRefIdeal.main_arg4) = m' ((c.tc : Thread Cert.SamoutRefIdeal.nD Cert.SamoutRefIdeal.τ).loc Cert.SamoutRefIdeal.main_arg4)
          ∧ r.2.mem ((c.tc : Thread Cert.SamoutRefIdeal.nD Cert.SamoutRefIdeal.τ).loc Cert.SamoutRefIdeal.main_arg5) = m' ((c.tc : Thread Cert.SamoutRefIdeal.nD Cert.SamoutRefIdeal.τ).loc Cert.SamoutRefIdeal.main_arg5)
          ∧ r.2.mem ((c.tc : Thread Cert.SamoutRefIdeal.nD Cert.SamoutRefIdeal.τ).loc Cert.SamoutRefIdeal.main_arg6) = m' ((c.tc : Thread Cert.SamoutRefIdeal.nD Cert.SamoutRefIdeal.τ).loc Cert.SamoutRefIdeal.main_arg6)
          ∧ r.2.mem ((c.tc : Thread Cert.SamoutRefIdeal.nD Cert.SamoutRefIdeal.τ).loc Cert.SamoutRefIdeal.main_arg7) = m' ((c.tc : Thread Cert.SamoutRefIdeal.nD Cert.SamoutRefIdeal.τ).loc Cert.SamoutRefIdeal.main_arg7)
          ∧ r.2.mem ((c.tc : Thread Cert.SamoutRefIdeal.nD Cert.SamoutRefIdeal.τ).loc Cert.SamoutRefIdeal.main_arg8) = m' ((c.tc : Thread Cert.SamoutRefIdeal.nD Cert.SamoutRefIdeal.τ).loc Cert.SamoutRefIdeal.main_arg8))

def preserves_Samscore_SamscoreIdeal : Prop :=
  True

def algebraic_SamscoreIdeal_SamscoreRefIdeal [hSamscoreIdeal : Cert.SamscoreIdeal.Facts] [hSamscoreRefIdeal : Cert.SamscoreRefIdeal.Facts] : Prop :=
  ∀ (m : (ℓ : Loc Cert.SamscoreIdeal.nD Cert.SamscoreIdeal.τ Cert.SamscoreIdeal.sig) → Buf (Elt Ideal) ℓ) (g : Dev Cert.SamscoreIdeal.nD → PrngReg)
    (m' : (ℓ : Loc Cert.SamscoreRefIdeal.nD Cert.SamscoreRefIdeal.τ Cert.SamscoreRefIdeal.sig) → Buf (Elt Ideal) ℓ) (g' : Dev Cert.SamscoreRefIdeal.nD → PrngReg), Pre_SamscoreIdeal m →
    (∀ c : Dev Cert.SamscoreIdeal.nD,
      m' ((c.tc : Thread Cert.SamscoreRefIdeal.nD Cert.SamscoreRefIdeal.τ).loc Cert.SamscoreRefIdeal.main_arg0) = m ((c.tc : Thread Cert.SamscoreIdeal.nD Cert.SamscoreIdeal.τ).loc Cert.SamscoreIdeal.main_arg0)
      ∧ m' ((c.tc : Thread Cert.SamscoreRefIdeal.nD Cert.SamscoreRefIdeal.τ).loc Cert.SamscoreRefIdeal.main_arg1) = m ((c.tc : Thread Cert.SamscoreIdeal.nD Cert.SamscoreIdeal.τ).loc Cert.SamscoreIdeal.main_arg1)
      ∧ m' ((c.tc : Thread Cert.SamscoreRefIdeal.nD Cert.SamscoreRefIdeal.τ).loc Cert.SamscoreRefIdeal.main_arg2) = m ((c.tc : Thread Cert.SamscoreIdeal.nD Cert.SamscoreIdeal.τ).loc Cert.SamscoreIdeal.main_arg2)) →
    ∃ (v0 : (c : Dev Cert.SamscoreIdeal.nD) → Buf (Elt Ideal) ((c.tc : Thread Cert.SamscoreIdeal.nD Cert.SamscoreIdeal.τ).loc Cert.SamscoreIdeal.main_v5)),
      θ_run (Cert.SamscoreIdeal.defs (F := Ideal)) (onTc (τ := Cert.SamscoreIdeal.τ) (Cert.SamscoreIdeal.main (F := Ideal))) ⟨m, fun _ => 0, g⟩ (fun r => ∀ c : Dev Cert.SamscoreIdeal.nD,
          r.2.mem ((c.tc : Thread Cert.SamscoreIdeal.nD Cert.SamscoreIdeal.τ).loc Cert.SamscoreIdeal.main_v5) = v0 c
          ∧ r.2.mem ((c.tc : Thread Cert.SamscoreIdeal.nD Cert.SamscoreIdeal.τ).loc Cert.SamscoreIdeal.main_arg0) = m ((c.tc : Thread Cert.SamscoreIdeal.nD Cert.SamscoreIdeal.τ).loc Cert.SamscoreIdeal.main_arg0)
          ∧ r.2.mem ((c.tc : Thread Cert.SamscoreIdeal.nD Cert.SamscoreIdeal.τ).loc Cert.SamscoreIdeal.main_arg1) = m ((c.tc : Thread Cert.SamscoreIdeal.nD Cert.SamscoreIdeal.τ).loc Cert.SamscoreIdeal.main_arg1)
          ∧ r.2.mem ((c.tc : Thread Cert.SamscoreIdeal.nD Cert.SamscoreIdeal.τ).loc Cert.SamscoreIdeal.main_arg2) = m ((c.tc : Thread Cert.SamscoreIdeal.nD Cert.SamscoreIdeal.τ).loc Cert.SamscoreIdeal.main_arg2))
      ∧ θ_run (Cert.SamscoreRefIdeal.defs (F := Ideal)) (onTc (τ := Cert.SamscoreRefIdeal.τ) (Cert.SamscoreRefIdeal.main (F := Ideal))) ⟨m', fun _ => 0, g'⟩ (fun r => ∀ c : Dev Cert.SamscoreRefIdeal.nD,
          r.2.mem ((c.tc : Thread Cert.SamscoreRefIdeal.nD Cert.SamscoreRefIdeal.τ).loc Cert.SamscoreRefIdeal.main_v8) = v0 c
          ∧ r.2.mem ((c.tc : Thread Cert.SamscoreRefIdeal.nD Cert.SamscoreRefIdeal.τ).loc Cert.SamscoreRefIdeal.main_arg0) = m' ((c.tc : Thread Cert.SamscoreRefIdeal.nD Cert.SamscoreRefIdeal.τ).loc Cert.SamscoreRefIdeal.main_arg0)
          ∧ r.2.mem ((c.tc : Thread Cert.SamscoreRefIdeal.nD Cert.SamscoreRefIdeal.τ).loc Cert.SamscoreRefIdeal.main_arg1) = m' ((c.tc : Thread Cert.SamscoreRefIdeal.nD Cert.SamscoreRefIdeal.τ).loc Cert.SamscoreRefIdeal.main_arg1)
          ∧ r.2.mem ((c.tc : Thread Cert.SamscoreRefIdeal.nD Cert.SamscoreRefIdeal.τ).loc Cert.SamscoreRefIdeal.main_arg2) = m' ((c.tc : Thread Cert.SamscoreRefIdeal.nD Cert.SamscoreRefIdeal.τ).loc Cert.SamscoreRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v19) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_Samlast_SamlastIdeal : Prop :=
  True

def algebraic_SamlastIdeal_SamlastRefIdeal [hSamlastIdeal : Cert.SamlastIdeal.Facts] [hSamlastRefIdeal : Cert.SamlastRefIdeal.Facts] : Prop :=
  ∀ (m : (ℓ : Loc Cert.SamlastIdeal.nD Cert.SamlastIdeal.τ Cert.SamlastIdeal.sig) → Buf (Elt Ideal) ℓ) (g : Dev Cert.SamlastIdeal.nD → PrngReg)
    (m' : (ℓ : Loc Cert.SamlastRefIdeal.nD Cert.SamlastRefIdeal.τ Cert.SamlastRefIdeal.sig) → Buf (Elt Ideal) ℓ) (g' : Dev Cert.SamlastRefIdeal.nD → PrngReg), Pre_SamlastIdeal m →
    (∀ c : Dev Cert.SamlastIdeal.nD,
      m' ((c.tc : Thread Cert.SamlastRefIdeal.nD Cert.SamlastRefIdeal.τ).loc Cert.SamlastRefIdeal.main_arg0) = m ((c.tc : Thread Cert.SamlastIdeal.nD Cert.SamlastIdeal.τ).loc Cert.SamlastIdeal.main_arg0)
      ∧ m' ((c.tc : Thread Cert.SamlastRefIdeal.nD Cert.SamlastRefIdeal.τ).loc Cert.SamlastRefIdeal.main_arg1) = m ((c.tc : Thread Cert.SamlastIdeal.nD Cert.SamlastIdeal.τ).loc Cert.SamlastIdeal.main_arg1)
      ∧ m' ((c.tc : Thread Cert.SamlastRefIdeal.nD Cert.SamlastRefIdeal.τ).loc Cert.SamlastRefIdeal.main_arg2) = m ((c.tc : Thread Cert.SamlastIdeal.nD Cert.SamlastIdeal.τ).loc Cert.SamlastIdeal.main_arg2)
      ∧ m' ((c.tc : Thread Cert.SamlastRefIdeal.nD Cert.SamlastRefIdeal.τ).loc Cert.SamlastRefIdeal.main_arg3) = m ((c.tc : Thread Cert.SamlastIdeal.nD Cert.SamlastIdeal.τ).loc Cert.SamlastIdeal.main_arg3)) →
    ∃ (v0 : (c : Dev Cert.SamlastIdeal.nD) → Buf (Elt Ideal) ((c.tc : Thread Cert.SamlastIdeal.nD Cert.SamlastIdeal.τ).loc Cert.SamlastIdeal.main_v2)),
      θ_run (Cert.SamlastIdeal.defs (F := Ideal)) (onTc (τ := Cert.SamlastIdeal.τ) (Cert.SamlastIdeal.main (F := Ideal))) ⟨m, fun _ => 0, g⟩ (fun r => ∀ c : Dev Cert.SamlastIdeal.nD,
          r.2.mem ((c.tc : Thread Cert.SamlastIdeal.nD Cert.SamlastIdeal.τ).loc Cert.SamlastIdeal.main_v2) = v0 c
          ∧ r.2.mem ((c.tc : Thread Cert.SamlastIdeal.nD Cert.SamlastIdeal.τ).loc Cert.SamlastIdeal.main_arg0) = m ((c.tc : Thread Cert.SamlastIdeal.nD Cert.SamlastIdeal.τ).loc Cert.SamlastIdeal.main_arg0)
          ∧ r.2.mem ((c.tc : Thread Cert.SamlastIdeal.nD Cert.SamlastIdeal.τ).loc Cert.SamlastIdeal.main_arg1) = m ((c.tc : Thread Cert.SamlastIdeal.nD Cert.SamlastIdeal.τ).loc Cert.SamlastIdeal.main_arg1)
          ∧ r.2.mem ((c.tc : Thread Cert.SamlastIdeal.nD Cert.SamlastIdeal.τ).loc Cert.SamlastIdeal.main_arg2) = m ((c.tc : Thread Cert.SamlastIdeal.nD Cert.SamlastIdeal.τ).loc Cert.SamlastIdeal.main_arg2)
          ∧ r.2.mem ((c.tc : Thread Cert.SamlastIdeal.nD Cert.SamlastIdeal.τ).loc Cert.SamlastIdeal.main_arg3) = m ((c.tc : Thread Cert.SamlastIdeal.nD Cert.SamlastIdeal.τ).loc Cert.SamlastIdeal.main_arg3))
      ∧ θ_run (Cert.SamlastRefIdeal.defs (F := Ideal)) (onTc (τ := Cert.SamlastRefIdeal.τ) (Cert.SamlastRefIdeal.main (F := Ideal))) ⟨m', fun _ => 0, g'⟩ (fun r => ∀ c : Dev Cert.SamlastRefIdeal.nD,
          r.2.mem ((c.tc : Thread Cert.SamlastRefIdeal.nD Cert.SamlastRefIdeal.τ).loc Cert.SamlastRefIdeal.main_v16) = v0 c
          ∧ r.2.mem ((c.tc : Thread Cert.SamlastRefIdeal.nD Cert.SamlastRefIdeal.τ).loc Cert.SamlastRefIdeal.main_arg0) = m' ((c.tc : Thread Cert.SamlastRefIdeal.nD Cert.SamlastRefIdeal.τ).loc Cert.SamlastRefIdeal.main_arg0)
          ∧ r.2.mem ((c.tc : Thread Cert.SamlastRefIdeal.nD Cert.SamlastRefIdeal.τ).loc Cert.SamlastRefIdeal.main_arg1) = m' ((c.tc : Thread Cert.SamlastRefIdeal.nD Cert.SamlastRefIdeal.τ).loc Cert.SamlastRefIdeal.main_arg1)
          ∧ r.2.mem ((c.tc : Thread Cert.SamlastRefIdeal.nD Cert.SamlastRefIdeal.τ).loc Cert.SamlastRefIdeal.main_arg2) = m' ((c.tc : Thread Cert.SamlastRefIdeal.nD Cert.SamlastRefIdeal.τ).loc Cert.SamlastRefIdeal.main_arg2)
          ∧ r.2.mem ((c.tc : Thread Cert.SamlastRefIdeal.nD Cert.SamlastRefIdeal.τ).loc Cert.SamlastRefIdeal.main_arg3) = m' ((c.tc : Thread Cert.SamlastRefIdeal.nD Cert.SamlastRefIdeal.τ).loc Cert.SamlastRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v4) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojRefIdeal : Cert.OutprojRefIdeal.Facts) (hPscore : Cert.Pscore.Facts) (hPscoreIdeal : Cert.PscoreIdeal.Facts) (hPscoreRefIdeal : Cert.PscoreRefIdeal.Facts) (hInproj : Cert.Inproj.Facts) (hInprojIdeal : Cert.InprojIdeal.Facts) (hInprojRefIdeal : Cert.InprojRefIdeal.Facts) (hAda : Cert.Ada.Facts) (hAdaIdeal : Cert.AdaIdeal.Facts) (hAdaRefIdeal : Cert.AdaRefIdeal.Facts) (hSamproj : Cert.Samproj.Facts) (hSamprojIdeal : Cert.SamprojIdeal.Facts) (hSamprojRefIdeal : Cert.SamprojRefIdeal.Facts) (hSamout : Cert.Samout.Facts) (hSamoutIdeal : Cert.SamoutIdeal.Facts) (hSamoutRefIdeal : Cert.SamoutRefIdeal.Facts) (hSamscore : Cert.Samscore.Facts) (hSamscoreIdeal : Cert.SamscoreIdeal.Facts) (hSamscoreRefIdeal : Cert.SamscoreRefIdeal.Facts) (hLast : Cert.Last.Facts) (hLastIdeal : Cert.LastIdeal.Facts) (hLastRefIdeal : Cert.LastRefIdeal.Facts) (hSamlast : Cert.Samlast.Facts) (hSamlastIdeal : Cert.SamlastIdeal.Facts) (hSamlastRefIdeal : Cert.SamlastRefIdeal.Facts) (hGates : Cert.Gates.Facts) (hGatesIdeal : Cert.GatesIdeal.Facts) (hGatesRefIdeal : Cert.GatesRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Pscore (hPscore := hPscore)
    ∧ quiescent_PscoreIdeal (hPscoreIdeal := hPscoreIdeal)
    ∧ quiescent_PscoreRefIdeal (hPscoreRefIdeal := hPscoreRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ada (hAda := hAda)
    ∧ quiescent_AdaIdeal (hAdaIdeal := hAdaIdeal)
    ∧ quiescent_AdaRefIdeal (hAdaRefIdeal := hAdaRefIdeal)
    ∧ quiescent_Samproj (hSamproj := hSamproj)
    ∧ quiescent_SamprojIdeal (hSamprojIdeal := hSamprojIdeal)
    ∧ quiescent_SamprojRefIdeal (hSamprojRefIdeal := hSamprojRefIdeal)
    ∧ quiescent_Samout (hSamout := hSamout)
    ∧ quiescent_SamoutIdeal (hSamoutIdeal := hSamoutIdeal)
    ∧ quiescent_SamoutRefIdeal (hSamoutRefIdeal := hSamoutRefIdeal)
    ∧ quiescent_Samscore (hSamscore := hSamscore)
    ∧ quiescent_SamscoreIdeal (hSamscoreIdeal := hSamscoreIdeal)
    ∧ quiescent_SamscoreRefIdeal (hSamscoreRefIdeal := hSamscoreRefIdeal)
    ∧ quiescent_Last (hLast := hLast)
    ∧ quiescent_LastIdeal (hLastIdeal := hLastIdeal)
    ∧ quiescent_LastRefIdeal (hLastRefIdeal := hLastRefIdeal)
    ∧ quiescent_Samlast (hSamlast := hSamlast)
    ∧ quiescent_SamlastIdeal (hSamlastIdeal := hSamlastIdeal)
    ∧ quiescent_SamlastRefIdeal (hSamlastRefIdeal := hSamlastRefIdeal)
    ∧ quiescent_Gates (hGates := hGates)
    ∧ quiescent_GatesIdeal (hGatesIdeal := hGatesIdeal)
    ∧ quiescent_GatesRefIdeal (hGatesRefIdeal := hGatesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Outproj_OutprojIdeal
    ∧ algebraic_OutprojIdeal_OutprojRefIdeal (hOutprojIdeal := hOutprojIdeal) (hOutprojRefIdeal := hOutprojRefIdeal)
    ∧ preserves_Pscore_PscoreIdeal
    ∧ algebraic_PscoreIdeal_PscoreRefIdeal (hPscoreIdeal := hPscoreIdeal) (hPscoreRefIdeal := hPscoreRefIdeal)
    ∧ preserves_Inproj_InprojIdeal
    ∧ algebraic_InprojIdeal_InprojRefIdeal (hInprojIdeal := hInprojIdeal) (hInprojRefIdeal := hInprojRefIdeal)
    ∧ preserves_Ada_AdaIdeal
    ∧ algebraic_AdaIdeal_AdaRefIdeal (hAdaIdeal := hAdaIdeal) (hAdaRefIdeal := hAdaRefIdeal)
    ∧ preserves_Samproj_SamprojIdeal
    ∧ algebraic_SamprojIdeal_SamprojRefIdeal (hSamprojIdeal := hSamprojIdeal) (hSamprojRefIdeal := hSamprojRefIdeal)
    ∧ preserves_Samout_SamoutIdeal
    ∧ algebraic_SamoutIdeal_SamoutRefIdeal (hSamoutIdeal := hSamoutIdeal) (hSamoutRefIdeal := hSamoutRefIdeal)
    ∧ preserves_Samscore_SamscoreIdeal
    ∧ algebraic_SamscoreIdeal_SamscoreRefIdeal (hSamscoreIdeal := hSamscoreIdeal) (hSamscoreRefIdeal := hSamscoreRefIdeal)
    ∧ preserves_Last_LastIdeal
    ∧ algebraic_LastIdeal_LastRefIdeal (hLastIdeal := hLastIdeal) (hLastRefIdeal := hLastRefIdeal)
    ∧ preserves_Samlast_SamlastIdeal
    ∧ algebraic_SamlastIdeal_SamlastRefIdeal (hSamlastIdeal := hSamlastIdeal) (hSamlastRefIdeal := hSamlastRefIdeal)
    ∧ preserves_Gates_GatesIdeal
    ∧ algebraic_GatesIdeal_GatesRefIdeal (hGatesIdeal := hGatesIdeal) (hGatesRefIdeal := hGatesRefIdeal)
-- ==== Pre_finite.lean ====
abbrev S4x2048x1024 : Shape := ⟨3, ![4, 2048, 1024]⟩
abbrev S8x1x8192 : Shape := ⟨3, ![8, 1, 8192]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1x8192 : S_.BroadcastsInDim S8x1x8192 (![] : Fin 0 → Fin S8x1x8192.rank)
  reducesTo_S8x1x8192_S_d0_1_2 : S8x1x8192.ReducesTo [0, 1, 2] S_

variable [Facts]

def fn {F : FTy → Type} [FloatOps F] (main_arg0 : FVec F S4x2048x1024 .bf16) (main_arg1 : FVec F S4x2048x1024 .f32) (main_arg2 : FVec F S4x2048x1024 .f32) (main_arg3 : FVec F S8x1x8192 .f32) : IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x2048x1024 .f32 := Host.absf main_arg1
  let main_cst_0 : FVec F S_ .f32 := constant S_ .f32 0x7F800000#32
  let main_v6 : FVec F S4x2048x1024 .f32 := broadcastInDim S4x2048x1024 ![] bcast_S_S4x2048x1024 main_cst_0
  let main_v7 : IVec S4x2048x1024 1 := cmpf .olt main_v5 main_v6
  let main_c_1 : IVec S_ 1 := constantI S_ 1 1#1
  let main_v8 : IVec S_ 1 := (fun x v => Host.reduce IntOp.andi x v reducesTo_S4x2048x1024_S_d0_1_2 h_S_) main_v7 main_c_1
  let main_v9 : IVec S_ 1 := andi main_v4 main_v8
  let main_v10 : FVec F S8x1x8192 .f32 := Host.absf main_arg3
  let main_cst_2 : FVec F S_ .f32 := constant S_ .f32 0x7F800000#32
  let main_v11 : FVec F S8x1x8192 .f32 := broadcastInDim S8x1x8192 ![] bcast_S_S8x1x8192 main_cst_2
  let main_v12 : IVec S8x1x8192 1 := cmpf .olt main_v10 main_v11
  let main_c_3 : IVec S_ 1 := constantI S_ 1 1#1
  let main_v13 : IVec S_ 1 := (fun x v => Host.reduce IntOp.andi x v reducesTo_S8x1x8192_S_d0_1_2 h_S_) main_v12 main_c_3
  let main_v14 : IVec S_ 1 := andi main_v9 main_v13
  main_v14
-- ==== Kernel.lean ====
abbrev S4x2048x1024 : Shape := ⟨3, ![4, 2048, 1024]⟩
abbrev S8x1x8192 : Shape := ⟨3, ![8, 1, 8192]⟩
abbrev S1x512x128 : Shape := ⟨3, ![1, 512, 128]⟩
abbrev S1x1x512 : Shape := ⟨3, ![1, 1, 512]⟩
abbrev S512x1 : Shape := ⟨2, ![512, 1]⟩
abbrev S512x128 : Shape := ⟨2, ![512, 128]⟩
abbrev S512x512 : Shape := ⟨2, ![512, 512]⟩
abbrev S1x512 : Shape := ⟨2, ![1, 512]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S8x1x8192, .f32⟩
  | .hbm, ⟨4, _⟩ => ⟨S4x2048x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x1x512, .f32⟩
  | .local _ .vmem, ⟨7, _⟩ => ⟨S1x1x512, .f32⟩
  | .local _ .vmem, ⟨8, _⟩ => ⟨S1x512x128, .bf16⟩
  | .local _ .vmem, ⟨9, _⟩ => ⟨S1x512x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 8, 4, 4], ![false, false, false, false]⟩

def k0_cond3 (i : grid0.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.minsi arg3 arg2
  let v2 : BitVec 32 := Scalar.addi v0 v1
  let c0_i32 : BitVec 32 := 0#32
  let c0_i32_0 : BitVec 32 := 0#32
  ![arg1.toNat, c0_i32.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4x2048x1024 : Shape := ⟨3, ![4, 2048, 1024]⟩
abbrev S8x1x8192 : Shape := ⟨3, ![8, 1, 8192]⟩
abbrev S4x2048x8x128 : Shape := ⟨4, ![4, 2048, 8, 128]⟩
abbrev S8x4x2048 : Shape := ⟨3, ![8, 4, 2048]⟩
abbrev S4x8x2048 : Shape := ⟨3, ![4, 8, 2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S8x1x8192, .f32⟩
  | .hbm, ⟨4, _⟩ => ⟨S4x2048x1024, .f32⟩
  | .hbm, ⟨5, _⟩ => ⟨S4x2048x8x128, .f32⟩
  | .hbm, ⟨6, _⟩ => ⟨S4x2048x8x128, .f32⟩
  | .hbm, ⟨7, _⟩ => ⟨S4x2048x8x128, .f32⟩
  | .hbm, ⟨8, _⟩ => ⟨S8x4x2048, .f32⟩
  | .hbm, ⟨9, _⟩ => ⟨S4x8x2048, .f32⟩
  | .hbm, ⟨10, _⟩ => ⟨S4x8x2048x2048, .f32⟩
  | .hbm, ⟨11, _⟩ => ⟨S_, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S4x8x2048x1, .f32⟩
  | .hbm, ⟨16, _⟩ => ⟨S4x8x2048x2048, .f32⟩
  | .hbm, ⟨17, _⟩ => ⟨S4x8x2048x2048, .f32⟩
  | .hbm, ⟨18, _⟩ => ⟨S4x8x1x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x128x2048, .f32⟩
  | .hbm, ⟨47, _⟩ => ⟨S4x2048x8x128, .f32⟩
  | .hbm, ⟨48, _⟩ => ⟨S4x2048x1024, .f32⟩
  | .hbm, ⟨49, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Outproj.lean ====
abbrev S4x2048x1024 : Shape := ⟨3, ![4, 2048, 1024]⟩
abbrev S4x2048x2048 : Shape := ⟨3, ![4, 2048, 2048]⟩
abbrev S4x1x2048 : Shape := ⟨3, ![4, 1, 2048]⟩
abbrev S1x2048 : Shape := ⟨2, ![1, 2048]⟩
abbrev S1x2048x2048 : Shape := ⟨3, ![1, 2048, 2048]⟩
abbrev S2048x2048 : Shape := ⟨2, ![2048, 2048]⟩
abbrev S8192x2048 : Shape := ⟨2, ![8192, 2048]⟩
abbrev S8192x1024 : Shape := ⟨2, ![8192, 1024]⟩
abbrev S2048 : Shape := ⟨1, ![2048]⟩
abbrev S256x1024 : Shape := ⟨2, ![256, 1024]⟩
abbrev S256x2048 : Shape := ⟨2, ![256, 2048]⟩
abbrev S1x1x2048 : Shape := ⟨3, ![1, 1, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 20
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .f32⟩
  | .hbm, ⟨3, _⟩ => ⟨S4x1x2048, .f32⟩
  | .hbm, ⟨4, _⟩ => ⟨S1x2048, .f32⟩
  | .hbm, ⟨5, _⟩ => ⟨S1x2048, .f32⟩
  | .hbm, ⟨6, _⟩ => ⟨S4x1x2048, .f32⟩
  | .hbm, ⟨7, _⟩ => ⟨S4x1x2048, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S8192x2048, .f32⟩
  | .hbm, ⟨12, _⟩ => ⟨S8192x1024, .bf16⟩
  | .hbm, ⟨13, _⟩ => ⟨S8192x1024, .bf16⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S8192x2048, .f32⟩
  | .hbm, ⟨19, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S4x2048x1024 : Shape := ⟨3, ![4, 2048, 1024]⟩
abbrev S4x2048x2048 : Shape := ⟨3, ![4, 2048, 2048]⟩
abbrev S4x1x2048 : Shape := ⟨3, ![4, 1, 2048]⟩
abbrev S1x2048 : Shape := ⟨2, ![1, 2048]⟩
abbrev S1x2048x2048 : Shape := ⟨3, ![1, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x2048, .f32⟩
  | .hbm, ⟨3, _⟩ => ⟨S4x1x2048, .f32⟩
  | .hbm, ⟨4, _⟩ => ⟨S1x2048, .f32⟩
  | .hbm, ⟨5, _⟩ => ⟨S1x2048, .f32⟩
  | .hbm, ⟨6, _⟩ => ⟨S4x1x2048, .f32⟩
  | .hbm, ⟨7, _⟩ => ⟨S4x1x2048, .f32⟩
  | .hbm, ⟨8, _⟩ => ⟨S1x2048x2048, .f32⟩
  | .hbm, ⟨9, _⟩ => ⟨S4x2048x1024, .f32⟩
  | .hbm, ⟨10, _⟩ => ⟨S4x2048x1024, .f32⟩
  | .hbm, ⟨11, _⟩ => ⟨S4x2048x2048, .f32⟩
  | .hbm, ⟨12, _⟩ => ⟨S2048x2048, .f32⟩
  | .hbm, ⟨13, _⟩ => ⟨S4x2048x2048, .f32⟩
  | .hbm, ⟨14, _⟩ => ⟨S2048, .f32⟩
  | .hbm, ⟨15, _⟩ => ⟨S4x2048x2048, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S1x1x2048, .f32⟩
  | .hbm, ⟨49, _⟩ => ⟨S4x2048x2048, .f32⟩
  | .hbm, ⟨50, _⟩ => ⟨S4x2048x2048, .f32⟩
  | .hbm, ⟨51, _⟩ => ⟨S_, .f32⟩
  | .hbm, ⟨52, _⟩ => ⟨S4x1x2048, .f32⟩
  | .hbm, ⟨53, _⟩ => ⟨S4x1x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S8192x2048, .f32⟩
  | .hbm, ⟨59, _⟩ => ⟨S4x2048x2048, .bf16⟩
  | .hbm, ⟨60, _⟩ => ⟨S8192x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Pscore.lean ====
abbrev S8192x2048 : Shape := ⟨2, ![8192, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S8x2x128x128 : Shape := ⟨4, ![8, 2, 128, 128]⟩
abbrev S16x128x128 : Shape := ⟨3, ![16, 128, 128]⟩
abbrev S16x128x8192 : Shape := ⟨3, ![16, 128, 8192]⟩
abbrev S512x2048 : Shape := ⟨2, ![512, 2048]⟩
abbrev S16x128x512 : Shape := ⟨3, ![16, 128, 512]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8x2x128x128, .f32⟩
  | .hbm, ⟨3, _⟩ => ⟨S2048x2048, .f32⟩
  | .hbm, ⟨4, _⟩ => ⟨S2048x2048, .bf16⟩
  | .hbm, ⟨5, _⟩ => ⟨S8x2x128x128, .f32⟩
  | .hbm, ⟨6, _⟩ => ⟨S16x128x128, .f32⟩
  | .hbm, ⟨7, _⟩ => ⟨S16x128x128, .bf16⟩
  | .hbm, ⟨8, _⟩ => ⟨S16x128x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S16x128x128, .bf16⟩
  | .local _ .vmem, ⟨4, _⟩ => ⟨S16x128x512, .f32⟩
  | .local _ .vmem, ⟨5, _⟩ => ⟨S16x128x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PscoreRefIdeal.lean ====
abbrev S8192x2048 : Shape := ⟨2, ![8192, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S8192x8x2x128 : Shape := ⟨4, ![8192, 8, 2, 128]⟩
abbrev S8x2x128x128 : Shape := ⟨4, ![8, 2, 128, 128]⟩
abbrev S8x2x128x8192 : Shape := ⟨4, ![8, 2, 128, 8192]⟩
abbrev S8192x16x128 : Shape := ⟨3, ![8192, 16, 128]⟩
abbrev S16x128x8192 : Shape := ⟨3, ![16, 128, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8x2x128x128, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x8x2x128, .f32⟩
  | .hbm, ⟨7, _⟩ => ⟨S8x2x128x128, .f32⟩
  | .hbm, ⟨8, _⟩ => ⟨S8x2x128x8192, .f32⟩
  | .hbm, ⟨9, _⟩ => ⟨S8192x8x2x128, .f32⟩
  | .hbm, ⟨10, _⟩ => ⟨S8192x16x128, .f32⟩
  | .hbm, ⟨11, _⟩ => ⟨S16x128x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Inproj.lean ====
abbrev S4x2048x2048 : Shape := ⟨3, ![4, 2048, 2048]⟩
abbrev S4x1x2048 : Shape := ⟨3, ![4, 1, 2048]⟩
abbrev S1x2048 : Shape := ⟨2, ![1, 2048]⟩
abbrev S1x2048x4104 : Shape := ⟨3, ![1, 2048, 4104]⟩
abbrev S1x8 : Shape := ⟨2, ![1, 8]⟩
abbrev S1x2048x3072 : Shape := ⟨3, ![1, 2048, 3072]⟩
abbrev S2048x3072 : Shape := ⟨2, ![2048, 3072]⟩
abbrev S1x2048x1024 : Shape := ⟨3, ![1, 2048, 1024]⟩
abbrev S2048x1024 : Shape := ⟨2, ![2048, 1024]⟩
abbrev S2048x4096 : Shape := ⟨2, ![2048, 4096]⟩
abbrev S_ : Shape := ⟨0, ![]⟩
abbrev S16x2048 : Shape := ⟨2, ![16, 2048]⟩
abbrev S1x2048x8 : Shape := ⟨3, ![1, 2048, 8]⟩
abbrev S2048x8 : Shape := ⟨2, ![2048, 8]⟩
abbrev S8x2048 : Shape := ⟨2, ![8, 2048]⟩
abbrev S1 : Shape := ⟨1, ![1]⟩
abbrev S8192x2048 : Shape := ⟨2, ![8192, 2048]⟩
abbrev S2048 : Shape := ⟨1, ![2048]⟩
abbrev S8 : Shape := ⟨1, ![8]⟩
abbrev S8x1 : Shape := ⟨2, ![8, 1]⟩
abbrev S8192x1024 : Shape := ⟨2, ![8192, 1024]⟩
abbrev S8x8192 : Shape := ⟨2, ![8, 8192]⟩
abbrev S256x2048 : Shape := ⟨2, ![256, 2048]⟩
abbrev S1x1x2048 : Shape := ⟨3, ![1, 1, 2048]⟩
abbrev S256x1024 : Shape := ⟨2, ![256, 1024]⟩
abbrev S8x256 : Shape := ⟨2, ![8, 256]⟩
abbrev S256 : Shape := ⟨1, ![256]⟩
abbrev S256x1 : Shape := ⟨2, ![256, 1]⟩
abbrev S16x256 : Shape := ⟨2, ![16, 256]⟩
abbrev S4x2048x1024 : Shape := ⟨3, ![4, 2048, 1024]⟩
abbrev S1x4x2048x8x128 : Shape := ⟨5, ![1, 4, 2048, 8, 128]⟩
abbrev S8192x8 : Shape := ⟨2, ![8192, 8]⟩
abbrev S1x4x2048x8 : Shape := ⟨4, ![1, 4, 2048, 8]⟩
abbrev S4x15x1024 : Shape := ⟨3, ![4, 15, 1024]⟩
abbrev S1x4x15x1024 : Shape := ⟨4, ![1, 4, 15, 1024]⟩

abbrev nBuf : Space → Nat
  | .hbm => 38
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x4104, .f32⟩
  | .hbm, ⟨5, _⟩ => ⟨S1x8, .f32⟩
  | .hbm, ⟨6, _⟩ => ⟨S1x2048x3072, .f32⟩
  | .hbm, ⟨7, _⟩ => ⟨S2048x3072, .f32⟩
  | .hbm, ⟨8, _⟩ => ⟨S1x2048x1024, .f32⟩
  | .hbm, ⟨9, _⟩ => ⟨S2048x1024, .f32⟩
  | .hbm, ⟨10, _⟩ => ⟨S2048x4096, .f32⟩
  | .hbm, ⟨11, _⟩ => ⟨S2048x4096, .bf16⟩
  | .hbm, ⟨12, _⟩ => ⟨S_, .bf16⟩
  | .hbm, ⟨13, _⟩ => ⟨S16x2048, .bf16⟩
  | .hbm, ⟨14, _⟩ => ⟨S1x2048x8, .f32⟩
  | .hbm, ⟨15, _⟩ => ⟨S2048x8, .f32⟩
  | .hbm, ⟨16, _⟩ => ⟨S8x2048, .f32⟩
  | .hbm, ⟨17, _⟩ => ⟨S8x2048, .bf16⟩
  | .hbm, ⟨18, _⟩ => ⟨S_, .i32⟩
  | .hbm, ⟨19, _⟩ => ⟨S1, .i32⟩
  | .hbm, ⟨20, _⟩ => ⟨S16x2048, .bf16⟩
  | .hbm, ⟨21, _⟩ => ⟨S8192x2048, .f32⟩
  | .hbm, ⟨22, _⟩ => ⟨S2048, .f32⟩
  | .hbm, ⟨23, _⟩ => ⟨S8, .f32⟩
  | .hbm, ⟨24, _⟩ => ⟨S1x2048, .f32⟩
  | .hbm, ⟨25, _⟩ => ⟨S8x1, .f32⟩
  | .hbm, ⟨26, _⟩ => ⟨S8192x1024, .bf16⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8x8192, .f32⟩
  | .hbm, ⟨31, _⟩ => ⟨S4x2048x1024, .f32⟩
  | .hbm, ⟨32, _⟩ => ⟨S1x4x2048x8x128, .f32⟩
  | .hbm, ⟨33, _⟩ => ⟨S1x4x2048x8x128, .f32⟩
  | .hbm, ⟨34, _⟩ => ⟨S8192x8, .f32⟩
  | .hbm, ⟨35, _⟩ => ⟨S1x4x2048x8, .f32⟩
  | .hbm, ⟨36, _⟩ => ⟨S4x15x1024, .f32⟩
  | .hbm, ⟨37, _⟩ => ⟨S1x4x15x1024, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S16x2048, .bf16⟩
  | .local _ .vmem, ⟨10, _⟩ => ⟨S8x1, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x256, .f32⟩
  | .local _ .vmem, ⟨20, _⟩ => ⟨S8x256, .f32⟩
  | .local _ .vmem, ⟨21, _⟩ => ⟨S256x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InprojRefIdeal.lean ====
abbrev S4x2048x2048 : Shape := ⟨3, ![4, 2048, 2048]⟩
abbrev S4x1x2048 : Shape := ⟨3, ![4, 1, 2048]⟩
abbrev S1x2048 : Shape := ⟨2, ![1, 2048]⟩
abbrev S1x2048x4104 : Shape := ⟨3, ![1, 2048, 4104]⟩
abbrev S1x8 : Shape := ⟨2, ![1, 8]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x4104 : Shape := ⟨2, ![2048, 4104]⟩
abbrev S4x2048x4104 : Shape := ⟨3, ![4, 2048, 4104]⟩
abbrev S4x2048x1024 : Shape := ⟨3, ![4, 2048, 1024]⟩
abbrev S4x2048x8x128 : Shape := ⟨4, ![4, 2048, 8, 128]⟩
abbrev S4x2048x8 : Shape := ⟨3, ![4, 2048, 8]⟩
abbrev S8 : Shape := ⟨1, ![8]⟩
abbrev S1x1x8 : Shape := ⟨3, ![1, 1, 8]⟩
abbrev S4x15x1024 : Shape := ⟨3, ![4, 15, 1024]⟩
abbrev S4x2063x1024 : Shape := ⟨3, ![4, 2063, 1024]⟩
abbrev S8192x1024 : Shape := ⟨2, ![8192, 1024]⟩
abbrev S1x4x2048x8x128 : Shape := ⟨5, ![1, 4, 2048, 8, 128]⟩
abbrev S1x4x2048x8 : Shape := ⟨4, ![1, 4, 2048, 8]⟩
abbrev S1x4x15x1024 : Shape := ⟨4, ![1, 4, 15, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1x2048, .f32⟩
  | .hbm, ⟨2, _⟩ => ⟨S4x1x2048, .f32⟩
  | .hbm, ⟨3, _⟩ => ⟨S1x2048, .f32⟩
  | .hbm, ⟨4, _⟩ => ⟨S1x2048x4104, .f32⟩
  | .hbm, ⟨5, _⟩ => ⟨S1x8, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S2048x4104, .f32⟩
  | .hbm, ⟨31, _⟩ => ⟨S4x2048x4104, .f32⟩
  | .hbm, ⟨32, _⟩ => ⟨S4x2048x1024, .f32⟩
  | .hbm, ⟨33, _⟩ => ⟨S4x2048x1024, .f32⟩
  | .hbm, ⟨34, _⟩ => ⟨S4x2048x8x128, .f32⟩
  | .hbm, ⟨35, _⟩ => ⟨S4x2048x1024, .f32⟩
  | .hbm, ⟨36, _⟩ => ⟨S4x2048x8x128, .f32⟩
  | .hbm, ⟨37, _⟩ => ⟨S4x2048x8, .f32⟩
  | .hbm, ⟨38, _⟩ => ⟨S8, .f32⟩
  | .hbm, ⟨39, _⟩ => ⟨S1x1x8, .f32⟩
  | .hbm, ⟨40, _⟩ => ⟨S4x2048x8, .f32⟩
  | .hbm, ⟨41, _⟩ => ⟨S4x2048x8, .f32⟩
  | .hbm, ⟨42, _⟩ => ⟨S4x2048x8, .f32⟩
  | .hbm, ⟨43, _⟩ => ⟨S_, .f32⟩
  | .hbm, ⟨44, _⟩ => ⟨S4x2048x8, .f32⟩
  | .hbm, ⟨45, _⟩ => ⟨S4x2048x8, .f32⟩
  | .hbm, ⟨46, _⟩ => ⟨S4x2048x8, .f32⟩
  | .hbm, ⟨47, _⟩ => ⟨S4x2048x8, .f32⟩
  | .hbm, ⟨48, _⟩ => ⟨S4x2048x8, .i1⟩
  | .hbm, ⟨49, _⟩ => ⟨S4x2048x8, .f32⟩
  | .hbm, ⟨50, _⟩ => ⟨S4x2048x8, .f32⟩
  | .hbm, ⟨51, _⟩ => ⟨S4x2048x8, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S4x2048x8, .f32⟩
  | .hbm, ⟨56, _⟩ => ⟨S4x2048x8, .f32⟩
  | .hbm, ⟨57, _⟩ => ⟨S4x2048x8, .f32⟩
  | .hbm, ⟨58, _⟩ => ⟨S4x2048x1024, .f32⟩
  | .hbm, ⟨59, _⟩ => ⟨S_, .f32⟩
  | .hbm, ⟨60, _⟩ => ⟨S4x15x1024, .f32⟩
  | .hbm, ⟨61, _⟩ => ⟨S4x2063x1024, .f32⟩
  | .hbm, ⟨62, _⟩ => ⟨S4x2048x1024, .bf16⟩
  | .hbm, ⟨63, _⟩ => ⟨S8192x1024, .bf16⟩
  | .hbm, ⟨64, _⟩ => ⟨S1x4x2048x8x128, .f32⟩
  | .hbm, ⟨65, _⟩ => ⟨S1x4x2048x8x128, .f32⟩
  | .hbm, ⟨66, _⟩ => ⟨S1x4x2048x8, .f32⟩
  | .hbm, ⟨67, _⟩ => ⟨S8192x1024, .f32⟩
  | .hbm, ⟨68, _⟩ => ⟨S4x15x1024, .f32⟩
  | .hbm, ⟨69, _⟩ => ⟨S1x4x15x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Ada.lean ====
abbrev S4x2048 : Shape := ⟨2, ![4, 2048]⟩
abbrev S32x2048 : Shape := ⟨2, ![32, 2048]⟩
abbrev S1x2048x12288 : Shape := ⟨3, ![1, 2048, 12288]⟩
abbrev S1x12288 : Shape := ⟨2, ![1, 12288]⟩
abbrev S_ : Shape := ⟨0, ![]⟩
abbrev S40x2048 : Shape := ⟨2, ![40, 2048]⟩
abbrev S36x2048 : Shape := ⟨2, ![36, 2048]⟩
abbrev S1 : Shape := ⟨1, ![1]⟩
abbrev S2048x12288 : Shape := ⟨2, ![2048, 12288]⟩
abbrev S12288 : Shape := ⟨1, ![12288]⟩
abbrev S40x12288 : Shape := ⟨2, ![40, 12288]⟩
abbrev S2048x1024 : Shape := ⟨2, ![2048, 1024]⟩
abbrev S1x1024 : Shape := ⟨2, ![1, 1024]⟩
abbrev S40x1024 : Shape := ⟨2, ![40, 1024]⟩
abbrev S4x1x2048 : Shape := ⟨3, ![4, 1, 2048]⟩
abbrev S32x4x2048 : Shape := ⟨3, ![32, 4, 2048]⟩
abbrev S128x2048 : Shape := ⟨2, ![128, 2048]⟩
abbrev S1x128x2048 : Shape := ⟨3, ![1, 128, 2048]⟩

abbrev nBuf : Space → Nat
  | .hbm => 50
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S_, .f32⟩
  | .hbm, ⟨5, _⟩ => ⟨S40x2048, .f32⟩
  | .hbm, ⟨6, _⟩ => ⟨S36x2048, .f32⟩
  | .hbm, ⟨7, _⟩ => ⟨S_, .i32⟩
  | .hbm, ⟨8, _⟩ => ⟨S1, .i32⟩
  | .hbm, ⟨9, _⟩ => ⟨S40x2048, .f32⟩
  | .hbm, ⟨10, _⟩ => ⟨S2048x12288, .f32⟩
  | .hbm, ⟨11, _⟩ => ⟨S12288, .f32⟩
  | .hbm, ⟨12, _⟩ => ⟨S1x12288, .f32⟩
  | .hbm, ⟨13, _⟩ => ⟨S40x12288, .f32⟩
  | .hbm, ⟨14, _⟩ => ⟨S4x2048, .f32⟩
  | .hbm, ⟨15, _⟩ => ⟨S4x1x2048, .f32⟩
  | .hbm, ⟨16, _⟩ => ⟨S4x2048, .f32⟩
  | .hbm, ⟨17, _⟩ => ⟨S4x1x2048, .f32⟩
  | .hbm, ⟨18, _⟩ => ⟨S4x2048, .f32⟩
  | .hbm, ⟨19, _⟩ => ⟨S4x1x2048, .f32⟩
  | .hbm, ⟨20, _⟩ => ⟨S4x2048, .f32⟩
  | .hbm, ⟨21, _⟩ => ⟨S4x1x2048, .f32⟩
  | .hbm, ⟨22, _⟩ => ⟨S4x2048, .f32⟩
  | .hbm, ⟨23, _⟩ => ⟨S4x1x2048, .f32⟩
  | .hbm, ⟨24, _⟩ => ⟨S4x2048, .f32⟩
  | .hbm, ⟨25, _⟩ => ⟨S4x1x2048, .f32⟩
  | .hbm, ⟨26, _⟩ => ⟨S32x2048, .f32⟩
  | .hbm, ⟨27, _⟩ => ⟨S32x4x2048, .f32⟩
  | .hbm, ⟨28, _⟩ => ⟨S128x2048, .f32⟩
  | .hbm, ⟨29, _⟩ => ⟨S1x128x2048, .f32⟩
  | .hbm, ⟨30, _⟩ => ⟨S32x2048, .f32⟩
  | .hbm, ⟨31, _⟩ => ⟨S32x4x2048, .f32⟩
  | .hbm, ⟨32, _⟩ => ⟨S128x2048, .f32⟩
  | .hbm, ⟨33, _⟩ => ⟨S1x128x2048, .f32⟩
  | .hbm, ⟨34, _⟩ => ⟨S32x2048, .f32⟩
  | .hbm, ⟨35, _⟩ => ⟨S32x4x2048, .f32⟩
  | .hbm, ⟨36, _⟩ => ⟨S128x2048, .f32⟩
  | .hbm, ⟨37, _⟩ => ⟨S1x128x2048, .f32⟩
  | .hbm, ⟨38, _⟩ => ⟨S32x2048, .f32⟩
  | .hbm, ⟨39, _⟩ => ⟨S32x4x2048, .f32⟩
  | .hbm, ⟨40, _⟩ => ⟨S128x2048, .f32⟩
  | .hbm, ⟨41, _⟩ => ⟨S1x128x2048, .f32⟩
  | .hbm, ⟨42, _⟩ => ⟨S32x2048, .f32⟩
  | .hbm, ⟨43, _⟩ => ⟨S32x4x2048, .f32⟩
  | .hbm, ⟨44, _⟩ => ⟨S128x2048, .f32⟩
  | .hbm, ⟨45, _⟩ => ⟨S1x128x2048, .f32⟩
  | .hbm, ⟨46, _⟩ => ⟨S32x2048, .f32⟩
  | .hbm, ⟨47, _⟩ => ⟨S32x4x2048, .f32⟩
  | .hbm, ⟨48, _⟩ => ⟨S128x2048, .f32⟩
  | .hbm, ⟨49, _⟩ => ⟨S1x128x2048, .f32⟩
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S4x2048 : Shape := ⟨2, ![4, 2048]⟩
abbrev S32x2048 : Shape := ⟨2, ![32, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S4x12288 : Shape := ⟨2, ![4, 12288]⟩
abbrev S12288 : Shape := ⟨1, ![12288]⟩
abbrev S4x1x12288 : Shape := ⟨3, ![4, 1, 12288]⟩
abbrev S4x1x2048 : Shape := ⟨3, ![4, 1, 2048]⟩
abbrev S32x12288 : Shape := ⟨2, ![32, 12288]⟩
abbrev S32x1x12288 : Shape := ⟨3, ![32, 1, 12288]⟩
abbrev S32x1x2048 : Shape := ⟨3, ![32, 1, 2048]⟩
abbrev S32x4x2048 : Shape := ⟨3, ![32, 4, 2048]⟩
abbrev S1x128x2048 : Shape := ⟨3, ![1, 128, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2048x12288, .f32⟩
  | .hbm, ⟨14, _⟩ => ⟨S4x12288, .f32⟩
  | .hbm, ⟨15, _⟩ => ⟨S12288, .f32⟩
  | .hbm, ⟨16, _⟩ => ⟨S1x12288, .f32⟩
  | .hbm, ⟨17, _⟩ => ⟨S4x12288, .f32⟩
  | .hbm, ⟨18, _⟩ => ⟨S4x12288, .f32⟩
  | .hbm, ⟨19, _⟩ => ⟨S4x1x12288, .f32⟩
  | .hbm, ⟨20, _⟩ => ⟨S4x1x2048, .f32⟩
  | .hbm, ⟨21, _⟩ => ⟨S4x1x2048, .f32⟩
  | .hbm, ⟨22, _⟩ => ⟨S4x1x2048, .f32⟩
  | .hbm, ⟨23, _⟩ => ⟨S4x1x2048, .f32⟩
  | .hbm, ⟨24, _⟩ => ⟨S4x1x2048, .f32⟩
  | .hbm, ⟨25, _⟩ => ⟨S4x1x2048, .f32⟩
  | .hbm, ⟨26, _⟩ => ⟨S32x2048, .f32⟩
  | .hbm, ⟨27, _⟩ => ⟨S32x2048, .f32⟩
  | .hbm, ⟨28, _⟩ => ⟨S_, .f32⟩
  | .hbm, ⟨29, _⟩ => ⟨S32x2048, .f32⟩
  | .hbm, ⟨30, _⟩ => ⟨S32x2048, .f32⟩
  | .hbm, ⟨31, _⟩ => ⟨S_, .f32⟩
  | .hbm, ⟨32, _⟩ => ⟨S32x2048, .f32⟩
  | .hbm, ⟨33, _⟩ => ⟨S32x2048, .f32⟩
  | .hbm, ⟨34, _⟩ => ⟨S32x2048, .f32⟩
  | .hbm, ⟨35, _⟩ => ⟨S2048x12288, .f32⟩
  | .hbm, ⟨36, _⟩ => ⟨S32x12288, .f32⟩
  | .hbm, ⟨37, _⟩ => ⟨S12288, .f32⟩
  | .hbm, ⟨38, _⟩ => ⟨S1x12288, .f32⟩
  | .hbm, ⟨39, _⟩ => ⟨S32x12288, .f32⟩
  | .hbm, ⟨40, _⟩ => ⟨S32x12288, .f32⟩
  | .hbm, ⟨41, _⟩ => ⟨S32x1x12288, .f32⟩
  | .hbm, ⟨42, _⟩ => ⟨S32x1x2048, .f32⟩
  | .hbm, ⟨43, _⟩ => ⟨S32x1x2048, .f32⟩
  | .hbm, ⟨44, _⟩ => ⟨S32x1x2048, .f32⟩
  | .hbm, ⟨45, _⟩ => ⟨S32x1x2048, .f32⟩
  | .hbm, ⟨46, _⟩ => ⟨S32x1x2048, .f32⟩
  | .hbm, ⟨47, _⟩ => ⟨S32x1x2048, .f32⟩
  | .hbm, ⟨48, _⟩ => ⟨S32x4x2048, .f32⟩
  | .hbm, ⟨49, _⟩ => ⟨S1x128x2048, .f32⟩
  | .hbm, ⟨50, _⟩ => ⟨S32x4x2048, .f32⟩
  | .hbm, ⟨51, _⟩ => ⟨S1x128x2048, .f32⟩
  | .hbm, ⟨52, _⟩ => ⟨S32x4x2048, .f32⟩
  | .hbm, ⟨53, _⟩ => ⟨S1x128x2048, .f32⟩
  | .hbm, ⟨54, _⟩ => ⟨S32x4x2048, .f32⟩
  | .hbm, ⟨55, _⟩ => ⟨S1x128x2048, .f32⟩
  | .hbm, ⟨56, _⟩ => ⟨S32x4x2048, .f32⟩
  | .hbm, ⟨57, _⟩ => ⟨S1x128x2048, .f32⟩
  | .hbm, ⟨58, _⟩ => ⟨S32x4x2048, .f32⟩
  | .hbm, ⟨59, _⟩ => ⟨S1x128x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Samproj.lean ====
abbrev S32x4x2048 : Shape := ⟨3, ![32, 4, 2048]⟩
abbrev S1x128x2048 : Shape := ⟨3, ![1, 128, 2048]⟩
abbrev S1x2048 : Shape := ⟨2, ![1, 2048]⟩
abbrev S1x2048x4104 : Shape := ⟨3, ![1, 2048, 4104]⟩
abbrev S1x8 : Shape := ⟨2, ![1, 8]⟩
abbrev S1x32x15x1024 : Shape := ⟨4, ![1, 32, 15, 1024]⟩
abbrev S1x2048x3072 : Shape := ⟨3, ![1, 2048, 3072]⟩
abbrev S2048x3072 : Shape := ⟨2, ![2048, 3072]⟩
abbrev S1x2048x1024 : Shape := ⟨3, ![1, 2048, 1024]⟩
abbrev S2048x1024 : Shape := ⟨2, ![2048, 1024]⟩
abbrev S2048x4096 : Shape := ⟨2, ![2048, 4096]⟩
abbrev S_ : Shape := ⟨0, ![]⟩
abbrev S16x2048 : Shape := ⟨2, ![16, 2048]⟩
abbrev S1x2048x8 : Shape := ⟨3, ![1, 2048, 8]⟩
abbrev S2048x8 : Shape := ⟨2, ![2048, 8]⟩
abbrev S8x2048 : Shape := ⟨2, ![8, 2048]⟩
abbrev S1 : Shape := ⟨1, ![1]⟩
abbrev S128x2048 : Shape := ⟨2, ![128, 2048]⟩
abbrev S2048 : Shape := ⟨1, ![2048]⟩
abbrev S8 : Shape := ⟨1, ![8]⟩
abbrev S8x1 : Shape := ⟨2, ![8, 1]⟩
abbrev S128x1024 : Shape := ⟨2, ![128, 1024]⟩
abbrev S8x128 : Shape := ⟨2, ![8, 128]⟩
abbrev S128 : Shape := ⟨1, ![128]⟩
abbrev S128x1 : Shape := ⟨2, ![128, 1]⟩
abbrev S16x128 : Shape := ⟨2, ![16, 128]⟩
abbrev S32x15x1024 : Shape := ⟨3, ![32, 15, 1024]⟩
abbrev S32x4x1024 : Shape := ⟨3, ![32, 4, 1024]⟩
abbrev S32x19x1024 : Shape := ⟨3, ![32, 19, 1024]⟩
abbrev S1x32x4x8x128 : Shape := ⟨5, ![1, 32, 4, 8, 128]⟩
abbrev S128x8 : Shape := ⟨2, ![128, 8]⟩
abbrev S1x32x4x8 : Shape := ⟨4, ![1, 32, 4, 8]⟩

abbrev nBuf : Space → Nat
  | .hbm => 41
  | .vmem => 14
  | .smem => 0
  | _ => 0

abbrev bufTy : (tb : Table) → Fin (tcTables nBuf tb) → BufTy
  | .hbm, ⟨0, _⟩ => ⟨S32x4x2048, .f32⟩
  | .hbm, ⟨1, _⟩ => ⟨S1x128x2048, .f32⟩
  | .hbm, ⟨2, _⟩ => ⟨S1x128x2048, .f32⟩
  | .hbm, ⟨3, _⟩ => ⟨S1x2048, .f32⟩
  | .hbm, ⟨4, _⟩ => ⟨S1x2048x4104, .f32⟩
  | .hbm, ⟨5, _⟩ => ⟨S1x8, .f32⟩
  | .hbm, ⟨6, _⟩ => ⟨S1x32x15x1024, .f32⟩
  | .hbm, ⟨7, _⟩ => ⟨S1x2048x3072, .f32⟩
  | .hbm, ⟨8, _⟩ => ⟨S2048x3072, .f32⟩
  | .hbm, ⟨9, _⟩ => ⟨S1x2048x1024, .f32⟩
  | .hbm, ⟨10, _⟩ => ⟨S2048x1024, .f32⟩
  | .hbm, ⟨11, _⟩ => ⟨S2048x4096, .f32⟩
  | .hbm, ⟨12, _⟩ => ⟨S2048x4096, .bf16⟩
  | .hbm, ⟨13, _⟩ => ⟨S_, .bf16⟩
  | .hbm, ⟨14, _⟩ => ⟨S16x2048, .bf16⟩
  | .hbm, ⟨15, _⟩ => ⟨S1x2048x8, .f32⟩
  | .hbm, ⟨16, _⟩ => ⟨S2048x8, .f32⟩
  | .hbm, ⟨17, _⟩ => ⟨S8x2048, .f32⟩
  | .hbm, ⟨18, _⟩ => ⟨S8x2048, .bf16⟩
  | .hbm, ⟨19, _⟩ => ⟨S_, .i32⟩
  | .hbm, ⟨20, _⟩ => ⟨S1, .i32⟩
  | .hbm, ⟨21, _⟩ => ⟨S16x2048, .bf16⟩
  | .hbm, ⟨22, _⟩ => ⟨S128x2048, .f32⟩
  | .hbm, ⟨23, _⟩ => ⟨S2048, .f32⟩
  | .hbm, ⟨24, _⟩ => ⟨S8, .f32⟩
  | .hbm, ⟨25, _⟩ => ⟨S1x2048, .f32⟩
  | .hbm, ⟨26, _⟩ => ⟨S8x1, .f32⟩
  | .hbm, ⟨27, _⟩ => ⟨S128x1024, .bf16⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S8x128, .f32⟩
  | .hbm, ⟨32, _⟩ => ⟨S32x15x1024, .f32⟩
  | .hbm, ⟨33, _⟩ => ⟨S32x4x1024, .f32⟩
  | .hbm, ⟨34, _⟩ => ⟨S32x19x1024, .f32⟩
  | .hbm, ⟨35, _⟩ => ⟨S1x32x4x8x128, .f32⟩
  | .hbm, ⟨36, _⟩ => ⟨S1x32x4x8x128, .f32⟩
  | .hbm, ⟨37, _⟩ => ⟨S128x8, .f32⟩
  | .hbm, ⟨38, _⟩ => ⟨S1x32x4x8, .f32⟩
  | .hbm, ⟨39, _⟩ => ⟨S32x15x1024, .f32⟩
  | .hbm, ⟨40, _⟩ => ⟨S1x32x15x1024, .f32⟩
  | .local _ .vmem, ⟨0, _⟩ => ⟨S128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S16x2048, .bf16⟩
  | .local _ .vmem, ⟨7, _⟩ => ⟨S8x1, .f32⟩
  | .local _ .vmem, ⟨8, _⟩ => ⟨S128x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S8x128, .f32⟩
  | .local _ .vmem, ⟨13, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== SamprojRefIdeal.lean ====
abbrev S32x4x2048 : Shape := ⟨3, ![32, 4, 2048]⟩
abbrev S1x128x2048 : Shape := ⟨3, ![1, 128, 2048]⟩
abbrev S1x2048 : Shape := ⟨2, ![1, 2048]⟩
abbrev S1x2048x4104 : Shape := ⟨3, ![1, 2048, 4104]⟩
abbrev S1x8 : Shape := ⟨2, ![1, 8]⟩
abbrev S1x32x15x1024 : Shape := ⟨4, ![1, 32, 15, 1024]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x4104 : Shape := ⟨2, ![2048, 4104]⟩
abbrev S32x4x4104 : Shape := ⟨3, ![32, 4, 4104]⟩
abbrev S32x4x1024 : Shape := ⟨3, ![32, 4, 1024]⟩
abbrev S32x4x8x128 : Shape := ⟨4, ![32, 4, 8, 128]⟩
abbrev S32x4x8 : Shape := ⟨3, ![32, 4, 8]⟩
abbrev S8 : Shape := ⟨1, ![8]⟩
abbrev S1x1x8 : Shape := ⟨3, ![1, 1, 8]⟩
abbrev S32x15x1024 : Shape := ⟨3, ![32, 15, 1024]⟩
abbrev S32x19x1024 : Shape := ⟨3, ![32, 19, 1024]⟩
abbrev S128x1024 : Shape := ⟨2, ![128, 1024]⟩
abbrev S1x32x4x8x128 : Shape := ⟨5, ![1, 32, 4, 8, 128]⟩
abbrev S1x32x4x8 : Shape := ⟨4, ![1, 32, 4, 8]⟩

abbrev nBuf : Space → Nat
  | .hbm => 70
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x128x2048, .f32⟩
  | .hbm, ⟨2, _⟩ => ⟨S1x128x2048, .f32⟩
  | .hbm, ⟨3, _⟩ => ⟨S1x2048, .f32⟩
  | .hbm, ⟨4, _⟩ => ⟨S1x2048x4104, .f32⟩
  | .hbm, ⟨5, _⟩ => ⟨S1x8, .f32⟩
  | .hbm, ⟨6, _⟩ => ⟨S1x32x15x1024, .f32⟩
  | .hbm, ⟨7, _⟩ => ⟨S2048, .f32⟩
  | .hbm, ⟨8, _⟩ => ⟨S32x4x2048, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x2048, .f32⟩
  | .hbm, ⟨20, _⟩ => ⟨S32x4x2048, .f32⟩
  | .hbm, ⟨21, _⟩ => ⟨S1x1x2048, .f32⟩
  | .hbm, ⟨22, _⟩ => ⟨S32x4x2048, .f32⟩
  | .hbm, ⟨23, _⟩ => ⟨S32x4x2048, .f32⟩
  | .hbm, ⟨24, _⟩ => ⟨S32x4x2048, .f32⟩
  | .hbm, ⟨25, _⟩ => ⟨S_, .f32⟩
  | .hbm, ⟨26, _⟩ => ⟨S32x4x2048, .f32⟩
  | .hbm, ⟨27, _⟩ => ⟨S32x4x2048, .f32⟩
  | .hbm, ⟨28, _⟩ => ⟨S32x4x2048, .f32⟩
  | .hbm, ⟨29, _⟩ => ⟨S32x4x2048, .f32⟩
  | .hbm, ⟨30, _⟩ => ⟨S32x4x2048, .f32⟩
  | .hbm, ⟨31, _⟩ => ⟨S2048x4104, .f32⟩
  | .hbm, ⟨32, _⟩ => ⟨S32x4x4104, .f32⟩
  | .hbm, ⟨33, _⟩ => ⟨S32x4x1024, .f32⟩
  | .hbm, ⟨34, _⟩ => ⟨S32x4x1024, .f32⟩
  | .hbm, ⟨35, _⟩ => ⟨S32x4x8x128, .f32⟩
  | .hbm, ⟨36, _⟩ => ⟨S32x4x1024, .f32⟩
  | .hbm, ⟨37, _⟩ => ⟨S32x4x8x128, .f32⟩
  | .hbm, ⟨38, _⟩ => ⟨S32x4x8, .f32⟩
  | .hbm, ⟨39, _⟩ => ⟨S8, .f32⟩
  | .hbm, ⟨40, _⟩ => ⟨S1x1x8, .f32⟩
  | .hbm, ⟨41, _⟩ => ⟨S32x4x8, .f32⟩
  | .hbm, ⟨42, _⟩ => ⟨S32x4x8, .f32⟩
  | .hbm, ⟨43, _⟩ => ⟨S32x4x8, .f32⟩
  | .hbm, ⟨44, _⟩ => ⟨S_, .f32⟩
  | .hbm, ⟨45, _⟩ => ⟨S32x4x8, .f32⟩
  | .hbm, ⟨46, _⟩ => ⟨S32x4x8, .f32⟩
  | .hbm, ⟨47, _⟩ => ⟨S32x4x8, .f32⟩
  | .hbm, ⟨48, _⟩ => ⟨S32x4x8, .f32⟩
  | .hbm, ⟨49, _⟩ => ⟨S32x4x8, .i1⟩
  | .hbm, ⟨50, _⟩ => ⟨S32x4x8, .f32⟩
  | .hbm, ⟨51, _⟩ => ⟨S32x4x8, .f32⟩
  | .hbm, ⟨52, _⟩ => ⟨S32x4x8, .f32⟩
  | .hbm, ⟨53, _⟩ => ⟨S32x4x8, .f32⟩
  | .hbm, ⟨54, _⟩ => ⟨S32x4x8, .f32⟩
  | .hbm, ⟨55, _⟩ => ⟨S32x4x8, .f32⟩
  | .hbm, ⟨56, _⟩ => ⟨S32x4x8, .f32⟩
  | .hbm, ⟨57, _⟩ => ⟨S32x4x8, .f32⟩
  | .hbm, ⟨58, _⟩ => ⟨S32x4x8, .f32⟩
  | .hbm, ⟨59, _⟩ => ⟨S32x4x1024, .f32⟩
  | .hbm, ⟨60, _⟩ => ⟨S32x15x1024, .f32⟩
  | .hbm, ⟨61, _⟩ => ⟨S32x19x1024, .f32⟩
  | .hbm, ⟨62, _⟩ => ⟨S32x4x1024, .bf16⟩
  | .hbm, ⟨63, _⟩ => ⟨S128x1024, .bf16⟩
  | .hbm, ⟨64, _⟩ => ⟨S1x32x4x8x128, .f32⟩
  | .hbm, ⟨65, _⟩ => ⟨S1x32x4x8x128, .f32⟩
  | .hbm, ⟨66, _⟩ => ⟨S1x32x4x8, .f32⟩
  | .hbm, ⟨67, _⟩ => ⟨S128x1024, .f32⟩
  | .hbm, ⟨68, _⟩ => ⟨S32x15x1024, .f32⟩
  | .hbm, ⟨69, _⟩ => ⟨S1x32x15x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Samout.lean ====
abbrev S32x32x128 : Shape := ⟨3, ![32, 32, 128]⟩
abbrev S4x32x1024 : Shape := ⟨3, ![4, 32, 1024]⟩
abbrev S32x4x2048 : Shape := ⟨3, ![32, 4, 2048]⟩
abbrev S1x128x2048 : Shape := ⟨3, ![1, 128, 2048]⟩
abbrev S1x2048 : Shape := ⟨2, ![1, 2048]⟩
abbrev S1x2048x2048 : Shape := ⟨3, ![1, 2048, 2048]⟩
abbrev S2048x2048 : Shape := ⟨2, ![2048, 2048]⟩
abbrev S128x2048 : Shape := ⟨2, ![128, 2048]⟩
abbrev S32x4x1024 : Shape := ⟨3, ![32, 4, 1024]⟩
abbrev S128x1024 : Shape := ⟨2, ![128, 1024]⟩
abbrev S2048 : Shape := ⟨1, ![2048]⟩
abbrev S1024x2048 : Shape := ⟨2, ![1024, 2048]⟩
abbrev S128 : Shape := ⟨1, ![128]⟩
abbrev S128x1 : Shape := ⟨2, ![128, 1]⟩

abbrev nBuf : Space → Nat
  | .hbm => 22
  | .vmem => 11
  | .smem => 0
  | _ => 0

abbrev bufTy : (tb : Table) → Fin (tcTables nBuf tb) → BufTy
  | .hbm, ⟨0, _⟩ => ⟨S32x32x128, .f32⟩
  | .hbm, ⟨1, _⟩ => ⟨S4x32x1024, .bf16⟩
  | .hbm, ⟨2, _⟩ => ⟨S32x4x2048, .f32⟩
  | .hbm, ⟨3, _⟩ => ⟨S1x128x2048, .f32⟩
  | .hbm, ⟨4, _⟩ => ⟨S1x2048, .f32⟩
  | .hbm, ⟨5, _⟩ => ⟨S1x2048, .f32⟩
  | .hbm, ⟨6, _⟩ => ⟨S1x128x2048, .f32⟩
  | .hbm, ⟨7, _⟩ => ⟨S1x128x2048, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S128x2048, .f32⟩
  | .hbm, ⟨12, _⟩ => ⟨S32x4x1024, .bf16⟩
  | .hbm, ⟨13, _⟩ => ⟨S128x1024, .bf16⟩
  | .hbm, ⟨14, _⟩ => ⟨S128x1024, .f32⟩
  | .hbm, ⟨15, _⟩ => ⟨S128x1024, .bf16⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S128x2048, .f32⟩
  | .hbm, ⟨21, _⟩ => ⟨S128x2048, .bf16⟩
  | .local _ .vmem, ⟨0, _⟩ => ⟨S128x1024, .bf16⟩
  | .local _ .vmem, ⟨1, _⟩ => ⟨S128x1024, .bf16⟩
  | .local _ .vmem, ⟨2, _⟩ => ⟨S128x2048, .f32⟩
  | .local _ .vmem, ⟨3, _⟩ => ⟨S1x128x2048, .f32⟩
  | .local _ .vmem, ⟨4, _⟩ => ⟨S1x2048, .f32⟩
  | .local _ .vmem, ⟨5, _⟩ => ⟨S1x2048, .f32⟩
  | .local _ .vmem, ⟨6, _⟩ => ⟨S1x128x2048, .f32⟩
  | .local _ .vmem, ⟨7, _⟩ => ⟨S1x128x2048, .f32⟩
  | .local _ .vmem, ⟨8, _⟩ => ⟨S2048x2048, .bf16⟩
  | .local _ .vmem, ⟨9, _⟩ => ⟨S128x2048, .f32⟩
  | .local _ .vmem, ⟨10, _⟩ => ⟨S128x2048, .bf16⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== SamoutRefIdeal.lean ====
abbrev S32x32x128 : Shape := ⟨3, ![32, 32, 128]⟩
abbrev S4x32x1024 : Shape := ⟨3, ![4, 32, 1024]⟩
abbrev S32x4x2048 : Shape := ⟨3, ![32, 4, 2048]⟩
abbrev S1x128x2048 : Shape := ⟨3, ![1, 128, 2048]⟩
abbrev S1x2048 : Shape := ⟨2, ![1, 2048]⟩
abbrev S1x2048x2048 : Shape := ⟨3, ![1, 2048, 2048]⟩
abbrev S32x4x1024 : Shape := ⟨3, ![32, 4, 1024]⟩
abbrev S2048x2048 : Shape := ⟨2, ![2048, 2048]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S128x2048 : Shape := ⟨2, ![128, 2048]⟩

abbrev nBuf : Space → Nat
  | .hbm => 62
  | .vmem => 0
  | .smem => 0
  | _ => 0

abbrev bufTy : (tb : Table) → Fin (tcTables nBuf tb) → BufTy
  | .hbm, ⟨0, _⟩ => ⟨S32x32x128, .f32⟩
  | .hbm, ⟨1, _⟩ => ⟨S4x32x1024, .bf16⟩
  | .hbm, ⟨2, _⟩ => ⟨S32x4x2048, .f32⟩
  | .hbm, ⟨3, _⟩ => ⟨S1x128x2048, .f32⟩
  | .hbm, ⟨4, _⟩ => ⟨S1x2048, .f32⟩
  | .hbm, ⟨5, _⟩ => ⟨S1x2048, .f32⟩
  | .hbm, ⟨6, _⟩ => ⟨S1x128x2048, .f32⟩
  | .hbm, ⟨7, _⟩ => ⟨S1x128x2048, .f32⟩
  | .hbm, ⟨8, _⟩ => ⟨S1x2048x2048, .f32⟩
  | .hbm, ⟨9, _⟩ => ⟨S32x4x1024, .f32⟩
  | .hbm, ⟨10, _⟩ => ⟨S32x4x1024, .bf16⟩
  | .hbm, ⟨11, _⟩ => ⟨S32x4x1024, .f32⟩
  | .hbm, ⟨12, _⟩ => ⟨S32x4x2048, .f32⟩
  | .hbm, ⟨13, _⟩ => ⟨S2048x2048, .f32⟩
  | .hbm, ⟨14, _⟩ => ⟨S32x4x2048, .f32⟩
  | .hbm, ⟨15, _⟩ => ⟨S32x4x2048, .f32⟩
  | .hbm, ⟨16, _⟩ => ⟨S2048, .f32⟩
  | .hbm, ⟨17, _⟩ => ⟨S32x4x2048, .f32⟩
  | .hbm, ⟨18, _⟩ => ⟨S_, .f32⟩
  | .hbm, ⟨19, _⟩ => ⟨S32x4, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S_, .f32⟩
  | .hbm, ⟨25, _⟩ => ⟨S32x4x1, .f32⟩
  | .hbm, ⟨26, _⟩ => ⟨S32x4x1, .f32⟩
  | .hbm, ⟨27, _⟩ => ⟨S32x4x1, .f32⟩
  | .hbm, ⟨28, _⟩ => ⟨S32x4x2048, .f32⟩
  | .hbm, ⟨29, _⟩ => ⟨S32x4x2048, .f32⟩
  | .hbm, ⟨30, _⟩ => ⟨S1x1x2048, .f32⟩
  | .hbm, ⟨31, _⟩ => ⟨S32x4x2048, .f32⟩
  | .hbm, ⟨32, _⟩ => ⟨S32x4x2048, .f32⟩
  | .hbm, ⟨33, _⟩ => ⟨S32x4x2048, .f32⟩
  | .hbm, ⟨34, _⟩ => ⟨S32x4x2048, .f32⟩
  | .hbm, ⟨35, _⟩ => ⟨S2048, .f32⟩
  | .hbm, ⟨36, _⟩ => ⟨S32x4x2048, .f32⟩
  | .hbm, ⟨37, _⟩ => ⟨S_, .f32⟩
  | .hbm, ⟨38, _⟩ => ⟨S32x4, .f32⟩
  | .hbm, ⟨39, _⟩ => ⟨S32x4x1, .f32⟩
  | .hbm, ⟨40, _⟩ => ⟨S_, .f32⟩
  | .hbm, ⟨41, _⟩ => ⟨S32x4x1, .f32⟩
  | .hbm, ⟨42, _⟩ => ⟨S32x4x1, .f32⟩
  | .hbm, ⟨43, _⟩ => ⟨S_, .f32⟩
  | .hbm, ⟨44, _⟩ => ⟨S32x4x1, .f32⟩
  | .hbm, ⟨45, _⟩ => ⟨S32x4x1, .f32⟩
  | .hbm, ⟨46, _⟩ => ⟨S32x4x1, .f32⟩
  | .hbm, ⟨47, _⟩ => ⟨S32x4x2048, .f32⟩
  | .hbm, ⟨48, _⟩ => ⟨S32x4x2048, .f32⟩
  | .hbm, ⟨49, _⟩ => ⟨S1x1x2048, .f32⟩
  | .hbm, ⟨50, _⟩ => ⟨S32x4x2048, .f32⟩
  | .hbm, ⟨51, _⟩ => ⟨S32x4x2048, .f32⟩
  | .hbm, ⟨52, _⟩ => ⟨S32x4x2048, .f32⟩
  | .hbm, ⟨53, _⟩ => ⟨S_, .f32⟩
  | .hbm, ⟨54, _⟩ => ⟨S32x4x2048, .f32⟩
  | .hbm, ⟨55, _⟩ => ⟨S32x4x2048, .f32⟩
  | .hbm, ⟨56, _⟩ => ⟨S32x4x2048, .f32⟩
  | .hbm, ⟨57, _⟩ => ⟨S32x4x2048, .f32⟩
  | .hbm, ⟨58, _⟩ => ⟨S32x4x2048, .f32⟩
  | .hbm, ⟨59, _⟩ => ⟨S128x2048, .f32⟩
  | .hbm, ⟨60, _⟩ => ⟨S32x4x2048, .bf16⟩
  | .hbm, ⟨61, _⟩ => ⟨S128x2048, .bf16⟩
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Samscore.lean ====
abbrev S128x2048 : Shape := ⟨2, ![128, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S8x2x128x128 : Shape := ⟨4, ![8, 2, 128, 128]⟩
abbrev S16x128x128 : Shape := ⟨3, ![16, 128, 128]⟩
abbrev S1x128x128 : Shape := ⟨3, ![1, 128, 128]⟩
abbrev S128x128 : Shape := ⟨2, ![128, 128]⟩

abbrev nBuf : Space → Nat
  | .hbm => 9
  | .vmem => 4
  | .smem => 0
  | _ => 0

abbrev bufTy : (tb : Table) → Fin (tcTables nBuf tb) → BufTy
  | .hbm, ⟨0, _⟩ => ⟨S128x2048, .bf16⟩
  | .hbm, ⟨1, _⟩ => ⟨S1x2048x2048, .f32⟩
  | .hbm, ⟨2, _⟩ => ⟨S1x8x2x128x128, .f32⟩
  | .hbm, ⟨3, _⟩ => ⟨S2048x2048, .f32⟩
  | .hbm, ⟨4, _⟩ => ⟨S2048x2048, .bf16⟩
  | .hbm, ⟨5, _⟩ => ⟨S8x2x128x128, .f32⟩
  | .hbm, ⟨6, _⟩ => ⟨S16x128x128, .f32⟩
  | .hbm, ⟨7, _⟩ => ⟨S16x128x128, .bf16⟩
  | .hbm, ⟨8, _⟩ => ⟨S16x128x128, .f32⟩
  | .local _ .vmem, ⟨0, _⟩ => ⟨S128x2048, .bf16⟩
  | .local _ .vmem, ⟨1, _⟩ => ⟨S2048x2048, .bf16⟩
  | .local _ .vmem, ⟨2, _⟩ => ⟨S16x128x128, .bf16⟩
  | .local _ .vmem, ⟨3, _⟩ => ⟨S16x128x128, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SamscoreRefIdeal.lean ====
abbrev S128x2048 : Shape := ⟨2, ![128, 2048]⟩
abbrev S1x2048x2048 : Shape := ⟨3, ![1, 2048, 2048]⟩
abbrev S1x8x2x128x128 : Shape := ⟨5, ![1, 8, 2, 128, 128]⟩
abbrev S2048x2048 : Shape := ⟨2, ![2048, 2048]⟩
abbrev S128x8x2x128 : Shape := ⟨4, ![128, 8, 2, 128]⟩
abbrev S8x2x128x128 : Shape := ⟨4, ![8, 2, 128, 128]⟩
abbrev S128x16x128 : Shape := ⟨3, ![128, 16, 128]⟩
abbrev S16x128x128 : Shape := ⟨3, ![16, 128, 128]⟩

abbrev nBuf : Space → Nat
  | .hbm => 12
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S1x2048x2048, .f32⟩
  | .hbm, ⟨2, _⟩ => ⟨S1x8x2x128x128, .f32⟩
  | .hbm, ⟨3, _⟩ => ⟨S128x2048, .f32⟩
  | .hbm, ⟨4, _⟩ => ⟨S2048x2048, .f32⟩
  | .hbm, ⟨5, _⟩ => ⟨S128x2048, .f32⟩
  | .hbm, ⟨6, _⟩ => ⟨S128x8x2x128, .f32⟩
  | .hbm, ⟨7, _⟩ => ⟨S8x2x128x128, .f32⟩
  | .hbm, ⟨8, _⟩ => ⟨S8x2x128x128, .f32⟩
  | .hbm, ⟨9, _⟩ => ⟨S128x8x2x128, .f32⟩
  | .hbm, ⟨10, _⟩ => ⟨S128x16x128, .f32⟩
  | .hbm, ⟨11, _⟩ => ⟨S16x128x128, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Last.lean ====
abbrev S8192x2048 : Shape := ⟨2, ![8192, 2048]⟩
abbrev S4x1x2048 : Shape := ⟨3, ![4, 1, 2048]⟩
abbrev S1x2048 : Shape := ⟨2, ![1, 2048]⟩
abbrev S2048 : Shape := ⟨1, ![2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x1x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastRefIdeal.lean ====
abbrev S8192x2048 : Shape := ⟨2, ![8192, 2048]⟩
abbrev S4x1x2048 : Shape := ⟨3, ![4, 1, 2048]⟩
abbrev S1x2048 : Shape := ⟨2, ![1, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x1x2048, .f32⟩
  | .hbm, ⟨3, _⟩ => ⟨S1x2048, .f32⟩
  | .hbm, ⟨4, _⟩ => ⟨S4x2048x2048, .f32⟩
  | .hbm, ⟨5, _⟩ => ⟨S4x2048x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Samlast.lean ====
abbrev S128x2048 : Shape := ⟨2, ![128, 2048]⟩
abbrev S1x128x2048 : Shape := ⟨3, ![1, 128, 2048]⟩
abbrev S1x2048 : Shape := ⟨2, ![1, 2048]⟩
abbrev S2048 : Shape := ⟨1, ![2048]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S1x128x2048, .f32⟩
  | .local _ .vmem, ⟨3, _⟩ => ⟨S1x2048, .f32⟩
  | .local _ .vmem, ⟨4, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.divsi v0 c128_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c128_i32_0 c0_i32_2
  let v8 : BitVec 32 := Scalar.extui v7
  let c0_i32_3 : BitVec 32 := 0#32
  let v9 : BitVec 1 := Scalar.cmpi .slt c128_i32_0 c0_i32_3
  let v10 : BitVec 32 := Scalar.extui v9
  let v11 : BitVec 32 := Scalar.subi v8 v10
  let v12 : BitVec 1 := Scalar.cmpi .ne v6 v11
  let v13 : BitVec 32 := Scalar.remsi v0 c128_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SamlastRefIdeal.lean ====
abbrev S128x2048 : Shape := ⟨2, ![128, 2048]⟩
abbrev S1x128x2048 : Shape := ⟨3, ![1, 128, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩

abbrev nBuf : Space → Nat
  | .hbm => 24
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S1x128x2048, .f32⟩
  | .hbm, ⟨3, _⟩ => ⟨S1x2048, .f32⟩
  | .hbm, ⟨4, _⟩ => ⟨S128x2048, .f32⟩
  | .hbm, ⟨5, _⟩ => ⟨S2048, .f32⟩
  | .hbm, ⟨6, _⟩ => ⟨S128x2048, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Gates.lean ====
abbrev S8x8192 : Shape := ⟨2, ![8, 8192]⟩
abbrev S8x2048 : Shape := ⟨2, ![8, 2048]⟩
abbrev S8x1 : Shape := ⟨2, ![8, 1]⟩
abbrev S8x128 : Shape := ⟨2, ![8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GatesRefIdeal.lean ====
abbrev S8x8192 : Shape := ⟨2, ![8, 8192]⟩
abbrev S8192x8 : Shape := ⟨2, ![8192, 8]⟩
abbrev S4x2048x8 : Shape := ⟨3, ![4, 2048, 8]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x8, .f32⟩
  | .hbm, ⟨2, _⟩ => ⟨S4x2048x8, .f32⟩
  | .hbm, ⟨3, _⟩ => ⟨S_, .f32⟩
  | .hbm, ⟨4, _⟩ => ⟨S_, .f32⟩
  | .hbm, ⟨5, _⟩ => ⟨S4x2048x8, .f32⟩
  | .hbm, ⟨6, _⟩ => ⟨S8192x8, .f32⟩
  | .hbm, ⟨7, _⟩ => ⟨S8x8192, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Pay.lean ====
/- What the attention body's stored values are at one element of the block: the masked score, the new maximum, the new
   denominator and numerator, and the quotient, over whatever the blocks and the carried scratch hold. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Minus infinity's pattern denotes `⊥`. -/
theorem ofBits_ninf : Ideal.ofBits .f32 0xFF800000#32 = (⊥ : EReal) := by
  simp [Ideal.ofBits, Ideal.ieee]

theorem named_mask : (Named.named κ "mask" 0xF149F2CA#32 : Ideal .f32) = (⊥ : EReal) := rfl

theorem named_scale : (Named.named κ "scale" 0x3DB504F3#32 : Ideal .f32) = (((Real.sqrt 128)⁻¹ : ℝ) : EReal) := rfl

/-- The causal test on words: block `a` of 512 columns, block `b` of 512 rows. -/
theorem causal (a b : ℕ) (ha : a < 4) (hb : b < 4) (r l : Fin 512) :
    IntOp.cmpi .sle (IntOp.addi (Scalar.muli (BitVec.ofNat 32 a) 512#32) (BitVec.ofNat 32 ↑l))
        (IntOp.addi (Scalar.muli (BitVec.ofNat 32 b) 512#32) (BitVec.ofNat 32 ↑r))
      = BitVec.ofBool (decide (512 * a + l.val ≤ 512 * b + r.val)) := by
  have hr := r.isLt
  have hl := l.isLt
  simp only [IntOp.cmpi, IntOp.addi, Scalar.muli, IntOp.muli]
  congr 1
  rw [BitVec.sle_eq_decide]
  congr 1
  have e : ∀ (x : ℕ) (y : Fin 512), x < 4 → (BitVec.ofNat 32 x * 512#32 + BitVec.ofNat 32 ↑y).toInt = ((512 * x + y.val : ℕ) : ℤ) := by
    intro x y hx
    have hy := y.isLt
    have hn : (BitVec.ofNat 32 x * 512#32 + BitVec.ofNat 32 ↑y).toNat = 512 * x + y.val := by
      simp only [BitVec.toNat_add, BitVec.toNat_mul, BitVec.toNat_ofNat]
      omega
    rw [BitVec.toInt_eq_toNat_of_lt (by omega), hn]
  rw [e a l ha, e b r hb]
  exact propext Int.ofNat_le

/-- A masked score: query row `r` against key row `l`, scaled, minus the key's cumulative gate; hidden above the diagonal. -/
theorem pay8_at (a b : ℕ) (ha : a < 4) (hb : b < 4) (q : Vec Ideal S1x512x128 .bf16) (k : Vec Ideal S1x512x128 .f32)
    (f : Vec Ideal S1x1x512 .f32) (r l : Fin 512) :
    k0_pay8 (BitVec.ofNat 32 b) (BitVec.ofNat 32 a) q k f (ix2 r l)
      = if 512 * a + l.val ≤ 512 * b + r.val
        then (∑ x : Fin 128, q (ix3 0 r x) * k (ix3 0 l x)) * (((Real.sqrt 128)⁻¹ : ℝ) : EReal) - f (ix3 0 0 l) else ⊥ := by
  pointwise [k0_pay8]
  rw [causal a b ha hb, named_scale, named_mask]
  by_cases h : 512 * a + l.val ≤ 512 * b + r.val
  · simp [h, Scalar.select]
  · simp [h, Scalar.select]

variable (a2 a3 : BitVec 32) (q : Vec Ideal S1x512x128 .bf16) (k v : Vec Ideal S1x512x128 .f32) (f : Vec Ideal S1x1x512 .f32)
  (mp lp : Vec Ideal S512x1 .f32) (ap : Vec Ideal S512x128 .f32)

/-- The new maximum of a row. -/
theorem pay9_at (r : Fin 512) : k0_pay9 a2 a3 q k f mp (ix2 r 0)
    = max (mp (ix2 r 0)) ((Finset.univ : Finset (Fin 512)).sup fun x => k0_pay8 a2 a3 q k f (ix2 r x)) := by
  pointwise [k0_pay9]
  rw [ofBits_ninf]
  rfl

/-- The maximum as it is stored. -/
theorem pay6_at (x : FVec Ideal S512x1 .f32) (r : Fin 512) : k0_pay6 x (ix2 r 0) = x (ix2 r 0) := by
  pointwise [k0_pay6]

/-- The new denominator of a row. -/
theorem pay12_at (r : Fin 512) : k0_pay4 (k0_pay12 a2 a3 q k f mp lp) (ix2 r 0)
    = Ideal.exp (mp (ix2 r 0) - k0_pay9 a2 a3 q k f mp (ix2 r 0)) * lp (ix2 r 0)
      + ∑ x : Fin 512, Ideal.exp (k0_pay8 a2 a3 q k f (ix2 r x) - k0_pay9 a2 a3 q k f mp (ix2 r 0)) := by
  pointwise [k0_pay4, k0_pay12, k0_pay10, k0_pay11]

/-- The new numerator of a row, in lane `d` of the head. -/
theorem pay5_at (r : Fin 512) (d : Fin 128) : k0_pay5 (k0_pay10 a2 a3 q k f mp) (k0_pay11 a2 a3 q k f mp) ap v (ix2 r d)
    = Ideal.exp (mp (ix2 r 0) - k0_pay9 a2 a3 q k f mp (ix2 r 0)) * ap (ix2 r d)
      + ∑ x : Fin 512, Ideal.exp (k0_pay8 a2 a3 q k f (ix2 r x) - k0_pay9 a2 a3 q k f mp (ix2 r 0)) * v (ix3 0 x d) := by
  pointwise [k0_pay5, k0_pay10, k0_pay11]

/-- The quotient that is written out. -/
theorem pay7_at (r : Fin 512) (d : Fin 128) : k0_pay7 ap lp (ix3 0 r d) = Ideal.div (ap (ix2 r d)) (lp (ix2 r 0)) := by
  pointwise [k0_pay7]

theorem pay1_at (r : Fin 512) : (k0_pay1 (F := Ideal)) (ix2 r 0) = (⊥ : EReal) := by
  pointwise [k0_pay1]
  rw [named_mask]

theorem pay2_at (r : Fin 512) : (k0_pay2 (F := Ideal)) (ix2 r 0) = (0 : EReal) := by
  pointwise [k0_pay2]

theorem pay3_at (r : Fin 512) (d : Fin 128) : (k0_pay3 (F := Ideal)) (ix2 r d) = (0 : EReal) := by
  pointwise [k0_pay3]

end Cert.KernelIdeal.Value

end
-- ==== Proof.Soft.lean ====
/- Softmax over the extended reals, row by row, and how a running maximum carries it from one stretch of columns to the
   next. A row is a function of the column number: its scores `s` (a score is a real number, or `⊥` where the mask hides
   the column) and the values `v` it weighs. Nothing here mentions a program. -/
module

public import Idealize.ShloMosaic.PureOps.Ideal

@[expose] public section

noncomputable section

namespace Cert.Soft

open Idealize.ShloMosaic Finset

/-- The largest of the first `n` scores (`⊥` if there are none). -/
def rowMax (s : ℕ → EReal) (n : ℕ) : EReal := (range n).sup s

/-- The denominator of the softmax over the first `n` columns. -/
def den (s : ℕ → EReal) (n : ℕ) : EReal := ∑ j ∈ range n, Ideal.exp (s j - rowMax s n)

/-- The numerator: the first `n` values weighed by their unnormalised probabilities. -/
def num (s v : ℕ → EReal) (n : ℕ) : EReal := ∑ j ∈ range n, Ideal.exp (s j - rowMax s n) * v j

/-- What is asked of a row: column 0 is visible and real, and no score is `⊤`. -/
structure Row (s : ℕ → EReal) : Prop where
  first : ∃ r : ℝ, s 0 = r
  lt_top : ∀ j, s j ≠ ⊤

theorem rowMax_zero (s : ℕ → EReal) : rowMax s 0 = ⊥ := rfl
theorem den_zero (s : ℕ → EReal) : den s 0 = 0 := rfl
theorem num_zero (s v : ℕ → EReal) : num s v 0 = 0 := rfl

/-- A nonnegative real factor goes into a finite sum of extended reals. -/
theorem mul_sum_real {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [sum_insert ha, sum_insert ha, EReal.left_distrib_of_nonneg_of_ne_top (by exact_mod_cast hc) (EReal.coe_ne_top c), ih]

theorem rowMax_real {s : ℕ → EReal} (h : Row s) {n : ℕ} (hn : 0 < n) : ∃ r : ℝ, rowMax s n = r := by
  have hlt : rowMax s n < ⊤ := (Finset.sup_lt_iff bot_lt_top).2 fun j _ => lt_top_iff_ne_top.2 (h.lt_top j)
  have hge : s 0 ≤ rowMax s n := Finset.le_sup (f := s) (mem_range.2 hn)
  obtain ⟨r, hr⟩ := h.first
  have hbot : rowMax s n ≠ ⊥ := fun e => by
    rw [e, hr] at hge
    exact absurd (le_bot_iff.1 hge) (EReal.coe_ne_bot r)
  exact ⟨(rowMax s n).toReal, (EReal.coe_toReal hlt.ne hbot).symm⟩

theorem rowMax_add (s : ℕ → EReal) (n b : ℕ) :
    rowMax s (n + b) = max (rowMax s n) ((univ : Finset (Fin b)).sup fun k => s (n + k)) := by
  apply le_antisymm
  · refine Finset.sup_le fun j hj => ?_
    by_cases hjn : j < n
    · exact le_max_of_le_left (Finset.le_sup (f := s) (mem_range.2 hjn))
    · have hj' := mem_range.1 hj
      refine le_max_of_le_right ?_
      have := Finset.le_sup (f := fun k : Fin b => s (n + k)) (mem_univ ⟨j - n, by omega⟩)
      simpa [Nat.add_sub_cancel' (Nat.le_of_not_lt hjn)] using this
  · refine max_le (Finset.sup_mono (range_mono (Nat.le_add_right n b))) (Finset.sup_le fun k _ => ?_)
    exact Finset.le_sup (f := s) (mem_range.2 (by have := k.isLt; omega))

/-- Moving the reference point of an exponential from one maximum to another. -/
theorem exp_shift {a : EReal} (ha : a ≠ ⊤) (m m' : ℝ) :
    Ideal.exp ((m : EReal) - m') * Ideal.exp (a - m) = Ideal.exp (a - m') := by
  induction a with
  | bot => simp
  | coe r =>
    rw [← EReal.coe_sub, ← EReal.coe_sub, ← EReal.coe_sub, Ideal.exp_coe, Ideal.exp_coe, Ideal.exp_coe, ← EReal.coe_mul,
      ← Real.exp_add]
    congr 2; ring
  | top => exact absurd rfl ha

/-- One step of the running denominator: the old one rescaled to the new maximum, plus the new columns. -/
theorem den_step {s : ℕ → EReal} (h : Row s) (n b : ℕ) (hb : 0 < b) :
    Ideal.exp (rowMax s n - rowMax s (n + b)) * den s n + ∑ k : Fin b, Ideal.exp (s (n + k) - rowMax s (n + b))
      = den s (n + b) := by
  obtain ⟨m', hm'⟩ := rowMax_real h (show 0 < n + b by omega)
  have e : den s (n + b) = (∑ j ∈ range n, Ideal.exp (s j - rowMax s (n + b)))
      + ∑ k : Fin b, Ideal.exp (s (n + k) - rowMax s (n + b)) := by
    unfold den
    rw [sum_range_add, sum_range (n := b)]
  rw [e]
  congr 1
  rcases Nat.eq_zero_or_pos n with rfl | hn
  · simp [den_zero]
  obtain ⟨m, hm⟩ := rowMax_real h hn
  unfold den
  rw [hm', hm, ← EReal.coe_sub, Ideal.exp_coe, mul_sum_real _ (Real.exp_pos _).le]
  refine sum_congr rfl fun j _ => ?_
  rw [← Ideal.exp_coe, EReal.coe_sub, exp_shift (h.lt_top j)]

/-- One step of the running numerator. Nothing is asked of the values. -/
theorem num_step {s : ℕ → EReal} (h : Row s) (v : ℕ → EReal) (n b : ℕ) (hb : 0 < b) :
    Ideal.exp (rowMax s n - rowMax s (n + b)) * num s v n + ∑ k : Fin b, Ideal.exp (s (n + k) - rowMax s (n + b)) * v (n + k)
      = num s v (n + b) := by
  obtain ⟨m', hm'⟩ := rowMax_real h (show 0 < n + b by omega)
  have e : num s v (n + b) = (∑ j ∈ range n, Ideal.exp (s j - rowMax s (n + b)) * v j)
      + ∑ k : Fin b, Ideal.exp (s (n + k) - rowMax s (n + b)) * v (n + k) := by
    unfold num
    rw [sum_range_add, sum_range (n := b)]
  rw [e]
  congr 1
  rcases Nat.eq_zero_or_pos n with rfl | hn
  · simp [num_zero]
  obtain ⟨m, hm⟩ := rowMax_real h hn
  unfold num
  rw [hm', hm, ← EReal.coe_sub, Ideal.exp_coe, mul_sum_real _ (Real.exp_pos _).le]
  refine sum_congr rfl fun j _ => ?_
  rw [← Ideal.exp_coe, ← mul_assoc, EReal.coe_sub, exp_shift (h.lt_top j)]

/-- Columns that the mask hides add nothing: the maximum over `n` columns is the one over all `n + b`. -/
theorem rowMax_hidden {s : ℕ → EReal} (n b : ℕ) (hs : ∀ j, n ≤ j → s j = ⊥) : rowMax s (n + b) = rowMax s n := by
  rw [rowMax_add]
  refine max_eq_left (Finset.sup_le fun k _ => ?_)
  rw [hs _ (Nat.le_add_right n k)]
  exact bot_le

theorem den_hidden {s : ℕ → EReal} (n b : ℕ) (hs : ∀ j, n ≤ j → s j = ⊥) : den s (n + b) = den s n := by
  unfold den
  rw [rowMax_hidden n b hs, sum_range_add]
  conv_rhs => rw [← add_zero (∑ j ∈ range n, _)]
  congr 1
  refine sum_eq_zero fun j _ => ?_
  rw [hs _ (Nat.le_add_right n j), EReal.bot_sub, Ideal.exp_bot]

theorem num_hidden {s : ℕ → EReal} (v : ℕ → EReal) (n b : ℕ) (hs : ∀ j, n ≤ j → s j = ⊥) : num s v (n + b) = num s v n := by
  unfold num
  rw [rowMax_hidden n b hs, sum_range_add]
  conv_rhs => rw [← add_zero (∑ j ∈ range n, _)]
  congr 1
  refine sum_eq_zero fun j _ => ?_
  rw [hs _ (Nat.le_add_right n j), EReal.bot_sub, Ideal.exp_bot, zero_mul]

/-- The denominator is a positive real: the largest score is itself among the columns. -/
theorem den_real {s : ℕ → EReal} (h : Row s) {n : ℕ} (hn : 0 < n) : ∃ r : ℝ, 0 < r ∧ den s n = r := by
  obtain ⟨m, hm⟩ := rowMax_real h hn
  have term : ∀ j, ∃ r : ℝ, 0 ≤ r ∧ Ideal.exp (s j - rowMax s n) = r := fun j => by
    rw [hm]
    induction hj : s j with
    | bot => exact ⟨0, le_rfl, by simp⟩
    | coe a => exact ⟨Real.exp (a - m), (Real.exp_pos _).le, by rw [← EReal.coe_sub, Ideal.exp_coe]⟩
    | top => exact absurd hj (h.lt_top j)
  choose f hf0 hf using term
  refine ⟨∑ j ∈ range n, f j, ?_, ?_⟩
  · refine sum_pos' (fun j _ => hf0 j) ⟨0, mem_range.2 hn, ?_⟩
    obtain ⟨r, hr⟩ := h.first
    have := hf 0
    rw [hr, hm, ← EReal.coe_sub, Ideal.exp_coe] at this
    have e : f 0 = Real.exp (r - m) := (EReal.coe_eq_coe_iff.1 this).symm
    rw [e]; exact Real.exp_pos _
  · unfold den
    rw [sum_congr rfl fun j _ => hf j]
    exact (map_sum (⟨⟨Real.toEReal, EReal.coe_zero⟩, EReal.coe_add⟩ : ℝ →+ EReal) f (range n)).symm

/-- Dividing once at the end is dividing every weight: the quotient of numerator and denominator is the sum of the values
    times the normalised weights, here with the maximum and the scores shifted by any real `c`. -/
theorem softmax_shift {s v : ℕ → EReal} (h : Row s) {n : ℕ} (hn : 0 < n) (c : ℝ) :
    Ideal.div (num s v n) (den s n)
      = ∑ j ∈ range n, v j * Ideal.div (Ideal.exp (s j + c - rowMax (fun j => s j + c) n))
          (∑ k ∈ range n, Ideal.exp (s k + c - rowMax (fun j => s j + c) n)) := by
  obtain ⟨m, hm⟩ := rowMax_real h hn
  have hmax : rowMax (fun j => s j + c) n = rowMax s n + c := by
    apply le_antisymm
    · exact Finset.sup_le fun j hj => add_le_add (Finset.le_sup (f := s) hj) le_rfl
    · have hne : (range n).Nonempty := ⟨0, mem_range.2 hn⟩
      obtain ⟨j, hj, hjm⟩ := exists_mem_eq_sup (range n) hne s
      have hj' : s j + c ≤ rowMax (fun j => s j + c) n := Finset.le_sup (f := fun j => s j + (c : EReal)) hj
      unfold rowMax at hj' ⊢
      rw [hjm]; exact hj'
  have hsub : ∀ j, s j + c - rowMax (fun j => s j + c) n = s j - rowMax s n := fun j => by
    rw [hmax, hm]
    induction hj : s j with
    | bot => simp
    | coe a =>
      rw [← EReal.coe_add, ← EReal.coe_add, ← EReal.coe_sub, ← EReal.coe_sub]
      congr 1; ring
    | top => exact absurd hj (h.lt_top j)
  obtain ⟨d, hd0, hd⟩ := den_real h hn
  simp only [hsub]
  have hden : (∑ k ∈ range n, Ideal.exp (s k - rowMax s n)) = (d : EReal) := hd
  rw [hden, hd, Ideal.div_coe hd0.ne', mul_comm]
  unfold num
  rw [mul_sum_real _ (by positivity)]
  refine sum_congr rfl fun j _ => ?_
  rw [Ideal.div_coe hd0.ne', mul_left_comm, mul_comm (v j), mul_assoc]

end Cert.Soft

end
-- ==== Proof.Rows.lean ====
/- The attention's rows as functions of the arrays: the scores of query row `R` of head `h` in batch entry `b` against
   every key position, and the values it weighs in one lane of the head. Over finite queries, keys and gates such a row
   is one that the running softmax accepts (Proof/Soft.lean). -/
module

public import proofs.«01_k».proof.Proof.Soft
public import proofs.«01_k».proof.Proof.Gen.KernelIdeal.Skeleton
public import Idealize.ShloMosaic.Lib.Pointwise

@[expose] public section

set_option maxRecDepth 16384

noncomputable section

open Idealize.ShloMosaic

namespace Cert.Rows

open Cert.KernelIdeal Cert.Soft

/-- Queries times keys over the 128 lanes of head `h`. -/
def dot (Q : FVec Ideal S4x2048x1024 .bf16) (K : FVec Ideal S4x2048x1024 .f32) (b : Fin 4) (h : Fin 8) (R j : Fin 2048) : EReal :=
  ∑ x : Fin 128, Q (ix3 b R ⟨h * 128 + x, by omega⟩) * K (ix3 b j ⟨h * 128 + x, by omega⟩)

/-- The score of row `R` against position `j`, without the row's own gate (a constant along the row). -/
def score (Q : FVec Ideal S4x2048x1024 .bf16) (K : FVec Ideal S4x2048x1024 .f32) (G : FVec Ideal S8x1x8192 .f32)
    (b : Fin 4) (h : Fin 8) (R : Fin 2048) (j : ℕ) : EReal :=
  if hj : j ≤ R.val then dot Q K b h R ⟨j, by omega⟩ * (((Real.sqrt 128)⁻¹ : ℝ) : EReal) - G (ix3 h 0 ⟨b * 2048 + j, by omega⟩) else ⊥

/-- The values in lane `d` of head `h`. -/
def vals (V : FVec Ideal S4x2048x1024 .f32) (b : Fin 4) (h : Fin 8) (d : Fin 128) (j : ℕ) : EReal :=
  if hj : j < 2048 then V (ix3 b ⟨j, hj⟩ ⟨h * 128 + d, by omega⟩) else 0

/-- Every element is a real number. -/
def AllReal {S : Shape} {φ : FTy} (X : FVec Ideal S φ) : Prop := ∀ i, ∃ r : ℝ, X i = (r : EReal)

theorem dot_real {Q : FVec Ideal S4x2048x1024 .bf16} {K : FVec Ideal S4x2048x1024 .f32} (hQ : AllReal Q) (hK : AllReal K)
    (b : Fin 4) (h : Fin 8) (R j : Fin 2048) : ∃ r : ℝ, dot Q K b h R j = r := by
  choose q hq using hQ
  choose k hk using hK
  refine ⟨∑ x : Fin 128, q (ix3 b R ⟨h * 128 + x, by omega⟩) * k (ix3 b j ⟨h * 128 + x, by omega⟩), ?_⟩
  unfold dot
  simp only [hq, hk, ← EReal.coe_mul]
  exact (map_sum (⟨⟨Real.toEReal, EReal.coe_zero⟩, EReal.coe_add⟩ : ℝ →+ EReal) _ Finset.univ).symm

theorem row {Q : FVec Ideal S4x2048x1024 .bf16} {K : FVec Ideal S4x2048x1024 .f32} {G : FVec Ideal S8x1x8192 .f32}
    (hQ : AllReal Q) (hK : AllReal K) (hG : AllReal G) (b : Fin 4) (h : Fin 8) (R : Fin 2048) : Row (score Q K G b h R) := by
  have key : ∀ j, j ≤ R.val → ∃ r : ℝ, score Q K G b h R j = r := fun j hj => by
    obtain ⟨d, hd⟩ := dot_real hQ hK b h R ⟨j, by omega⟩
    obtain ⟨g, hg⟩ := hG (ix3 h 0 ⟨b * 2048 + j, by omega⟩)
    exact ⟨d * (Real.sqrt 128)⁻¹ - g, by unfold score; rw [dif_pos hj, hd, hg, ← EReal.coe_mul, ← EReal.coe_sub]⟩
  refine ⟨key 0 (Nat.zero_le _), fun j => ?_⟩
  by_cases hj : j ≤ R.val
  · obtain ⟨r, hr⟩ := key j hj
    rw [hr]; exact EReal.coe_ne_top r
  · unfold score; rw [dif_neg hj]; exact bot_ne_top

/-- Beyond the diagonal every position is hidden. -/
theorem hidden (Q : FVec Ideal S4x2048x1024 .bf16) (K : FVec Ideal S4x2048x1024 .f32) (G : FVec Ideal S8x1x8192 .f32)
    (b : Fin 4) (h : Fin 8) (R : Fin 2048) (j : ℕ) (hj : R.val < j) : score Q K G b h R j = ⊥ := by
  unfold score; exact dif_neg (by omega)

end Cert.Rows

end
-- ==== Proof.Carry.lean ====
/- The scratch carried from point to point: after the `k`-th key block of a query block, row by row, the running maximum,
   denominator and numerator are those of the softmax over the columns of the blocks met so far. Proved by induction on
   the grid point; a query block's first point starts from nothing, the points above the diagonal change nothing. -/
module

public import proofs.«01_k».proof.Proof.Pay
public import proofs.«01_k».proof.Proof.Rows
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Value

open Cert.KernelIdeal Cert.KernelIdeal.Gen Cert.Soft Cert.Rows

variable (m : (ℓ : Loc nD τ sig) → Buf (Elt Ideal) ℓ)

/-- The four arguments as arrays. -/
abbrev AQ (c : Dev nD) : FVec Ideal S4x2048x1024 .bf16 := m ((c : Thread nD τ).loc main_arg0)
abbrev AK (c : Dev nD) : FVec Ideal S4x2048x1024 .f32 := m ((c : Thread nD τ).loc main_arg1)
abbrev AV (c : Dev nD) : FVec Ideal S4x2048x1024 .f32 := m ((c : Thread nD τ).loc main_arg2)
abbrev AG (c : Dev nD) : FVec Ideal S8x1x8192 .f32 := m ((c : Thread nD τ).loc main_arg3)

/-- Batch entry, head and query row of point `n`: the grid runs over batch, head, query block, key block. -/
def bN (n : ℕ) : Fin 4 := ⟨n / 128 % 4, Nat.mod_lt _ (by decide)⟩
def hdN (n : ℕ) : Fin 8 := ⟨n / 16 % 8, Nat.mod_lt _ (by decide)⟩
def rN (n : ℕ) (r : Fin 512) : Fin 2048 := ⟨n / 4 % 4 * 512 + r.val, by have := r.isLt; omega⟩

theorem idx : ∀ t : Fin cfg0.N, win0_0.index t = ![t.val / 128, t.val / 4 % 4, t.val / 16 % 8]
    ∧ win0_1.index t = ![t.val / 128, min (t.val % 4) (t.val / 4 % 4), t.val / 16 % 8]
    ∧ win0_2.index t = ![t.val / 128, min (t.val % 4) (t.val / 4 % 4), t.val / 16 % 8]
    ∧ win0_3.index t = ![t.val / 16 % 8, 0, t.val / 128 * 4 + min (t.val % 4) (t.val / 4 % 4)]
    ∧ win0_4.index t = ![t.val / 128, t.val / 4 % 4, t.val / 16 % 8] :=
  (by decide +kernel : ∀ t : Fin grid0.N, _)

theorem coords_val : ∀ t : Fin cfg0.N, (grid0.coords t 2).val = t.val / 4 % 4 ∧ (grid0.coords t 3).val = t.val % 4 :=
  (by decide +kernel : ∀ t : Fin grid0.N, _)

/-- The row of point `n`'s query block as a function of the position, and a lane of the values beside it. -/
abbrev sN (c : Dev nD) (n : ℕ) (r : Fin 512) : ℕ → EReal := score (AQ m c) (AK m c) (AG m c) (bN n) (hdN n) (rN n r)
abbrev vN (c : Dev nD) (n : ℕ) (d : Fin 128) : ℕ → EReal := vals (AV m c) (bN n) (hdN n) d

theorem read_q (c : Dev nD) (t : Fin cfg0.N) (r : Fin 512) (x : Fin 128) : (iblk m c 0 t : Vec Ideal S1x512x128 .bf16) (ix3 0 r x)
    = AQ m c (ix3 (bN t.val) (rN t.val r) ⟨hdN t.val * 128 + x, by omega⟩) := by
  have ht : t.val < 512 := lt_of_lt_of_eq t.isLt N_0
  unfold bN hdN rN
  blk_ext [iblk, V, idx t]

theorem read_k (c : Dev nD) (t : Fin cfg0.N) (h1 : t.val % 4 ≤ t.val / 4 % 4) (l : Fin 512) (x : Fin 128) :
    (iblk m c 1 t : Vec Ideal S1x512x128 .f32) (ix3 0 l x)
      = AK m c (ix3 (bN t.val) ⟨512 * (t.val % 4) + l.val, by omega⟩ ⟨hdN t.val * 128 + x, by omega⟩) := by
  have ht : t.val < 512 := lt_of_lt_of_eq t.isLt N_0
  have e := Nat.min_eq_left h1
  unfold bN hdN
  blk_ext [iblk, V, idx t, e]

theorem read_v (c : Dev nD) (t : Fin cfg0.N) (h1 : t.val % 4 ≤ t.val / 4 % 4) (l : Fin 512) (x : Fin 128) :
    (iblk m c 2 t : Vec Ideal S1x512x128 .f32) (ix3 0 l x)
      = AV m c (ix3 (bN t.val) ⟨512 * (t.val % 4) + l.val, by omega⟩ ⟨hdN t.val * 128 + x, by omega⟩) := by
  have ht : t.val < 512 := lt_of_lt_of_eq t.isLt N_0
  have e := Nat.min_eq_left h1
  unfold bN hdN
  blk_ext [iblk, V, idx t, e]

theorem read_g (c : Dev nD) (t : Fin cfg0.N) (h1 : t.val % 4 ≤ t.val / 4 % 4) (l : Fin 512) :
    (iblk m c 3 t : Vec Ideal S1x1x512 .f32) (ix3 0 0 l)
      = AG m c (ix3 (hdN t.val) 0 ⟨bN t.val * 2048 + (512 * (t.val % 4) + l.val), by unfold bN; dsimp only; omega⟩) := by
  have ht : t.val < 512 := lt_of_lt_of_eq t.isLt N_0
  have e := Nat.min_eq_left h1
  unfold bN hdN
  blk_ext [iblk, V, idx t, e]

/-- The masked scores of a point on or below the diagonal are the row's scores at the key block's positions. -/
theorem pay8_block (c : Dev nD) (t : Fin cfg0.N) (h1 : t.val % 4 ≤ t.val / 4 % 4) (r l : Fin 512) :
    k0_pay8 (F := Ideal) (BitVec.ofNat 32 ↑(grid0.coords t 2)) (BitVec.ofNat 32 ↑(grid0.coords t 3)) (iblk m c 0 t) (iblk m c 1 t)
      (iblk m c 3 t) (ix2 r l) = sN m c t.val r (512 * (t.val % 4) + l.val) := by
  obtain ⟨e2, e3⟩ := coords_val t
  rw [e2, e3, pay8_at _ _ (Nat.mod_lt _ (by decide)) (Nat.mod_lt _ (by decide))]
  unfold sN score
  have hc : 512 * (t.val % 4) + l.val ≤ 512 * (t.val / 4 % 4) + r.val ↔ 512 * (t.val % 4) + l.val ≤ (rN t.val r).val := by
    unfold rN; dsimp only; omega
  by_cases hd : 512 * (t.val % 4) + l.val ≤ (rN t.val r).val
  · rw [dif_pos hd, if_pos (hc.2 hd), read_g m c t h1 l]
    unfold dot
    congr 2
    exact Finset.sum_congr rfl fun x _ => by rw [read_q m c t, read_k m c t h1]
  · rw [dif_neg hd, if_neg (fun h => hd (hc.1 h))]

/-- A block of the values. -/
theorem vals_block (c : Dev nD) (t : Fin cfg0.N) (h1 : t.val % 4 ≤ t.val / 4 % 4) (x : Fin 512) (d : Fin 128) :
    (iblk m c 2 t : Vec Ideal S1x512x128 .f32) (ix3 0 x d) = vN m c t.val d (512 * (t.val % 4) + x.val) := by
  have hx := x.isLt
  unfold vN vals
  rw [dif_pos (by omega), read_v m c t h1]

/-! ## One attending point, over what the point before left -/

section Step

variable (c : Dev nD) (t : Fin cfg0.N) (h1 : t.val % 4 ≤ t.val / 4 % 4)
  (mp lp : Vec Ideal S512x1 .f32) (ap : Vec Ideal S512x128 .f32)

include h1 in
theorem step_max0 (r : Fin 512) (hm : mp (ix2 r 0) = rowMax (sN m c t.val r) (512 * (t.val % 4))) :
    k0_pay9 (F := Ideal) (BitVec.ofNat 32 ↑(grid0.coords t 2)) (BitVec.ofNat 32 ↑(grid0.coords t 3)) (iblk m c 0 t) (iblk m c 1 t)
      (iblk m c 3 t) mp (ix2 r 0) = rowMax (sN m c t.val r) (512 * (t.val % 4) + 512) := by
  rw [pay9_at, hm, rowMax_add]
  congr 1
  exact Finset.sup_congr rfl fun x _ => pay8_block m c t h1 r x

include h1 in
theorem step_max (r : Fin 512) (hm : mp (ix2 r 0) = rowMax (sN m c t.val r) (512 * (t.val % 4))) :
    k0_pay6 (k0_pay9 (F := Ideal) (BitVec.ofNat 32 ↑(grid0.coords t 2)) (BitVec.ofNat 32 ↑(grid0.coords t 3)) (iblk m c 0 t)
      (iblk m c 1 t) (iblk m c 3 t) mp) (ix2 r 0) = rowMax (sN m c t.val r) (512 * (t.val % 4) + 512) := by
  rw [pay6_at]; exact step_max0 m c t h1 mp r hm

include h1 in
theorem step_den (r : Fin 512) (hrow : Row (sN m c t.val r)) (hm : mp (ix2 r 0) = rowMax (sN m c t.val r) (512 * (t.val % 4)))
    (hl : lp (ix2 r 0) = den (sN m c t.val r) (512 * (t.val % 4))) :
    k0_pay4 (k0_pay12 (F := Ideal) (BitVec.ofNat 32 ↑(grid0.coords t 2)) (BitVec.ofNat 32 ↑(grid0.coords t 3)) (iblk m c 0 t)
      (iblk m c 1 t) (iblk m c 3 t) mp lp) (ix2 r 0) = den (sN m c t.val r) (512 * (t.val % 4) + 512) := by
  rw [pay12_at, step_max0 m c t h1 mp r hm, hm, hl, ← den_step hrow _ _ (by decide)]
  congr 1
  exact Finset.sum_congr rfl fun x _ => by rw [pay8_block m c t h1 r x]

include h1 in
theorem step_num (r : Fin 512) (d : Fin 128) (hrow : Row (sN m c t.val r))
    (hm : mp (ix2 r 0) = rowMax (sN m c t.val r) (512 * (t.val % 4)))
    (ha : ap (ix2 r d) = num (sN m c t.val r) (vN m c t.val d) (512 * (t.val % 4))) :
    k0_pay5 (k0_pay10 (F := Ideal) (BitVec.ofNat 32 ↑(grid0.coords t 2)) (BitVec.ofNat 32 ↑(grid0.coords t 3)) (iblk m c 0 t)
        (iblk m c 1 t) (iblk m c 3 t) mp)
      (k0_pay11 (F := Ideal) (BitVec.ofNat 32 ↑(grid0.coords t 2)) (BitVec.ofNat 32 ↑(grid0.coords t 3)) (iblk m c 0 t)
        (iblk m c 1 t) (iblk m c 3 t) mp) ap (iblk m c 2 t) (ix2 r d)
      = num (sN m c t.val r) (vN m c t.val d) (512 * (t.val % 4) + 512) := by
  rw [pay5_at, step_max0 m c t h1 mp r hm, hm, ha, ← num_step hrow _ _ _ (by decide)]
  congr 1
  exact Finset.sum_congr rfl fun x _ => by rw [pay8_block m c t h1 r x, vals_block m c t h1 x d]

end Step

/-! ## The induction -/

/-- How many columns the query block of point `n` has met once point `n` is done. -/
def cols (n : ℕ) : ℕ := 512 * min (n % 4) (n / 4 % 4) + 512

/-- The scratch after point `n`. -/
def Inv (c : Dev nD) (n : ℕ) (hn : n < cfg0.N) : Prop := ∀ r : Fin 512,
  (outsAt0 m c n hn).2.1 (ix2 r 0) = rowMax (sN m c n r) (cols n)
  ∧ (outsAt0 m c n hn).2.2.1 (ix2 r 0) = den (sN m c n r) (cols n)
  ∧ ∀ d : Fin 128, (outsAt0 m c n hn).2.2.2 (ix2 r d) = num (sN m c n r) (vN m c n d) (cols n)

theorem cols_attend {n : ℕ} (h1 : n % 4 ≤ n / 4 % 4) : cols n = 512 * (n % 4) + 512 := by unfold cols; omega
theorem cols_before {n : ℕ} (h0 : ¬n % 4 = 0) (h1 : n % 4 ≤ n / 4 % 4) : cols (n - 1) = 512 * (n % 4) := by unfold cols; omega
theorem cols_idle {n : ℕ} (h0 : ¬n % 4 = 0) (h1 : ¬n % 4 ≤ n / 4 % 4) : cols (n - 1) = cols n := by unfold cols; omega

theorem bN_pred {n : ℕ} (h0 : ¬n % 4 = 0) : bN (n - 1) = bN n := Fin.ext (by unfold bN; dsimp only; omega)
theorem hdN_pred {n : ℕ} (h0 : ¬n % 4 = 0) : hdN (n - 1) = hdN n := Fin.ext (by unfold hdN; dsimp only; omega)
theorem rN_pred {n : ℕ} (h0 : ¬n % 4 = 0) (r : Fin 512) : rN (n - 1) r = rN n r := Fin.ext (by unfold rN; dsimp only; omega)

theorem sN_pred (c : Dev nD) {n : ℕ} (h0 : ¬n % 4 = 0) (r : Fin 512) : sN m c (n - 1) r = sN m c n r := by
  unfold sN; rw [bN_pred h0, hdN_pred h0, rN_pred h0]
theorem vN_pred (c : Dev nD) {n : ℕ} (h0 : ¬n % 4 = 0) (d : Fin 128) : vN m c (n - 1) d = vN m c n d := by
  unfold vN; rw [bN_pred h0, hdN_pred h0]

/-- The first key block: nothing has been met. -/
theorem inv_A (c : Dev nD) (t : Fin cfg0.N) (h0 : t.val % 4 = 0) (hrow : ∀ r, Row (sN m c t.val r)) : Inv m c t.val t.isLt := by
  have h1 : t.val % 4 ≤ t.val / 4 % 4 := by omega
  have h2 : ¬t.val % 4 = 3 := by omega
  have z : 512 * (t.val % 4) = 0 := by omega
  intro r
  rw [cols_attend h1]
  refine ⟨?_, ?_, fun d => ?_⟩
  · rw [outsAt0_A m c t h0 h1 h2]; frame_out
    exact step_max m c t h1 _ r (by rw [pay1_at, z, rowMax_zero])
  · rw [outsAt0_A m c t h0 h1 h2]; frame_out
    exact step_den m c t h1 _ _ r (hrow r) (by rw [pay1_at, z, rowMax_zero]) (by rw [pay2_at, z, den_zero])
  · rw [outsAt0_A m c t h0 h1 h2]; frame_out
    exact step_num m c t h1 _ _ r d (hrow r) (by rw [pay1_at, z, rowMax_zero]) (by rw [pay3_at, z, num_zero])

/-- A later key block on or below the diagonal. -/
theorem inv_D (c : Dev nD) (t : Fin cfg0.N) (h0 : ¬t.val % 4 = 0) (h1 : t.val % 4 ≤ t.val / 4 % 4) (h2 : ¬t.val % 4 = 3)
    (hrow : ∀ r, Row (sN m c t.val r)) (ih : Inv m c (t.val - 1) (Nat.lt_of_le_of_lt (Nat.sub_le _ _) t.isLt)) :
    Inv m c t.val t.isLt := by
  intro r
  obtain ⟨im, il, ia⟩ := ih r
  rw [sN_pred m c h0, cols_before h0 h1] at im il
  rw [cols_attend h1]
  refine ⟨?_, ?_, fun d => ?_⟩
  · rw [outsAt0_D m c t h0 h1 h2]; frame_out; simp only [read_unread_whole]
    exact step_max m c t h1 _ r im
  · rw [outsAt0_D m c t h0 h1 h2]; frame_out; simp only [read_unread_whole]
    exact step_den m c t h1 _ _ r (hrow r) im il
  · have ia := ia d
    rw [sN_pred m c h0, vN_pred m c h0, cols_before h0 h1] at ia
    rw [outsAt0_D m c t h0 h1 h2]; frame_out; simp only [read_unread_whole]
    exact step_num m c t h1 _ _ r d (hrow r) im ia

/-- The same at the last key block, which also writes the quotient out. -/
theorem inv_E (c : Dev nD) (t : Fin cfg0.N) (h0 : ¬t.val % 4 = 0) (h1 : t.val % 4 ≤ t.val / 4 % 4) (h2 : t.val % 4 = 3)
    (hrow : ∀ r, Row (sN m c t.val r)) (ih : Inv m c (t.val - 1) (Nat.lt_of_le_of_lt (Nat.sub_le _ _) t.isLt)) :
    Inv m c t.val t.isLt := by
  intro r
  obtain ⟨im, il, ia⟩ := ih r
  rw [sN_pred m c h0, cols_before h0 h1] at im il
  rw [cols_attend h1]
  refine ⟨?_, ?_, fun d => ?_⟩
  · rw [outsAt0_E m c t h0 h1 h2]; frame_out; simp only [read_unread_whole]
    exact step_max m c t h1 _ r im
  · rw [outsAt0_E m c t h0 h1 h2]; frame_out; simp only [read_unread_whole]
    exact step_den m c t h1 _ _ r (hrow r) im il
  · have ia := ia d
    rw [sN_pred m c h0, vN_pred m c h0, cols_before h0 h1] at ia
    rw [outsAt0_E m c t h0 h1 h2]; frame_out; simp only [read_unread_whole]
    exact step_num m c t h1 _ _ r d (hrow r) im ia

/-- Above the diagonal nothing changes. -/
theorem inv_BC (c : Dev nD) (t : Fin cfg0.N) (h0 : ¬t.val % 4 = 0) (h1 : ¬t.val % 4 ≤ t.val / 4 % 4)
    (e : (outsAt0 m c t.val t.isLt).2 = (outsAt0 m c (t.val - 1) (Nat.lt_of_le_of_lt (Nat.sub_le _ _) t.isLt)).2)
    (ih : Inv m c (t.val - 1) (Nat.lt_of_le_of_lt (Nat.sub_le _ _) t.isLt)) : Inv m c t.val t.isLt := by
  intro r
  obtain ⟨im, il, ia⟩ := ih r
  rw [e, ← cols_idle h0 h1, ← sN_pred m c h0]
  exact ⟨im, il, fun d => by rw [← vN_pred m c h0]; exact ia d⟩

theorem keep_B (c : Dev nD) (t : Fin cfg0.N) (h0 : ¬t.val % 4 = 0) (h1 : ¬t.val % 4 ≤ t.val / 4 % 4) (h2 : ¬t.val % 4 = 3) :
    (outsAt0 m c t.val t.isLt).2 = (outsAt0 m c (t.val - 1) (Nat.lt_of_le_of_lt (Nat.sub_le _ _) t.isLt)).2 := by
  rw [outsAt0_B m c t h0 h1 h2]
  refine Prod.ext ?_ (Prod.ext ?_ ?_)
  all_goals rfl

theorem keep_C (c : Dev nD) (t : Fin cfg0.N) (h0 : ¬t.val % 4 = 0) (h1 : ¬t.val % 4 ≤ t.val / 4 % 4) (h2 : t.val % 4 = 3) :
    (outsAt0 m c t.val t.isLt).2 = (outsAt0 m c (t.val - 1) (Nat.lt_of_le_of_lt (Nat.sub_le _ _) t.isLt)).2 := by
  rw [outsAt0_C m c t h0 h1 h2]
  refine Prod.ext ?_ (Prod.ext ?_ ?_)
  all_goals rfl

/-- The invariant at every point, over finite queries, keys and gates. -/
theorem inv (c : Dev nD) (hQ : AllReal (AQ m c)) (hK : AllReal (AK m c)) (hG : AllReal (AG m c)) :
    ∀ (n : ℕ) (hn : n < cfg0.N), Inv m c n hn := by
  intro n
  induction n with
  | zero => exact fun hn => inv_A m c ⟨0, hn⟩ rfl fun r => row hQ hK hG ..
  | succ n ih =>
    intro hn
    have hrow : ∀ r, Row (sN m c (n + 1) r) := fun r => row hQ hK hG ..
    have ih' := ih (Nat.lt_of_succ_lt hn)
    by_cases h0 : (n + 1) % 4 = 0
    · exact inv_A m c ⟨n + 1, hn⟩ h0 hrow
    by_cases h1 : (n + 1) % 4 ≤ (n + 1) / 4 % 4
    · by_cases h2 : (n + 1) % 4 = 3
      · exact inv_E m c ⟨n + 1, hn⟩ h0 h1 h2 hrow ih'
      · exact inv_D m c ⟨n + 1, hn⟩ h0 h1 h2 hrow ih'
    · by_cases h2 : (n + 1) % 4 = 3
      · exact inv_BC m c ⟨n + 1, hn⟩ h0 h1 (keep_C m c ⟨n + 1, hn⟩ h0 h1 h2) ih'
      · exact inv_BC m c ⟨n + 1, hn⟩ h0 h1 (keep_B m c ⟨n + 1, hn⟩ h0 h1 h2) ih'

/-- What the last key block's point leaves in the output block: numerator over denominator. -/
theorem out_last (c : Dev nD) (hQ : AllReal (AQ m c)) (hK : AllReal (AK m c)) (hG : AllReal (AG m c)) (t : Fin cfg0.N)
    (h2 : t.val % 4 = 3) (r : Fin 512) (d : Fin 128) : (outsAt0 m c t.val t.isLt).1 (ix3 0 r d)
      = Ideal.div (num (sN m c t.val r) (vN m c t.val d) (cols t.val)) (den (sN m c t.val r) (cols t.val)) := by
  have h0 : ¬t.val % 4 = 0 := by omega
  have hrow : Row (sN m c t.val r) := row hQ hK hG ..
  obtain ⟨im, il, ia⟩ := inv m c hQ hK hG (t.val - 1) (Nat.lt_of_le_of_lt (Nat.sub_le _ _) t.isLt) r
  have ia := ia d
  rw [sN_pred m c h0] at im il ia
  rw [vN_pred m c h0] at ia
  by_cases h1 : t.val % 4 ≤ t.val / 4 % 4
  · rw [cols_before h0 h1] at im il ia
    rw [cols_attend h1, outsAt0_E m c t h0 h1 h2]
    frame_out; simp only [read_unread_whole]
    rw [pay7_at, step_num m c t h1 _ _ r d hrow im ia, step_den m c t h1 _ _ r hrow im il]
  · rw [cols_idle h0 h1] at il ia
    rw [outsAt0_C m c t h0 h1 h2]
    frame_out; simp only [read_unread_whole]
    rw [pay7_at, il, ia]

end Cert.KernelIdeal.Value

end
-- ==== Proof.RefAt.lean ====
/- The reference read at an index. Its term is cut into four stages (scores, row maxima, exponentials, probabilities), each
   read at an index over any operand, so that the scores, which the term repeats three times, are read once. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

theorem ofBits_ninf : Ideal.ofBits .f32 0xFF800000#32 = (⊥ : EReal) := by
  simp [Ideal.ofBits, Ideal.ieee]

theorem ofBits_128 : Ideal.ofBits .f32 0x43000000#32 = ((128 : ℝ) : EReal) := by
  simp [Ideal.ofBits, Ideal.ieee, -EReal.coe_mul]; norm_num

/-- The causal test on the words of two positions. -/
theorem causal_ref (R j : Fin 2048) : IntOp.cmpi .sle (BitVec.ofNat 32 j.val) (BitVec.ofNat 32 R.val)
    = BitVec.ofBool (decide (j.val ≤ R.val)) := by
  have hr := R.isLt
  have hj := j.isLt
  simp only [IntOp.cmpi]
  congr 1
  rw [BitVec.sle_eq_decide]
  congr 1
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact propext Int.ofNat_le

/-- The masked scores of every head. -/
def scores (Q : FVec Ideal S4x2048x1024 .bf16) (K : FVec Ideal S4x2048x1024 .f32) (G : FVec Ideal S8x1x8192 .f32) :
    FVec Ideal S4x8x2048x2048 .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (Host.divf (Host.dotGeneral dot_S4x2048x8x128_S4x2048x8x128_S4x8x2048x2048_3_3_1_1_02_02 none (shapeCast _ (extf .f32 Q bitsLt_bf16_f32) shapeCasts_S4x2048x1024_S4x2048x8x128) (shapeCast _ K shapeCasts_S4x2048x1024_S4x2048x8x128)) (broadcastInDim S4x8x2048x2048 ![] bcast_S_S4x8x2048x2048 (Host.sqrt (constant S_ .f32 0x43000000#32)))) (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [1, 0, 2] (shapeCast _ G shapeCasts_S8x1x8192_S8x4x2048) transposes_S8x4x2048_S4x8x2048_1_0_2)))) (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [1, 0, 2] (shapeCast _ G shapeCasts_S8x1x8192_S8x4x2048) transposes_S8x4x2048_S4x8x2048_1_0_2)))) (broadcastInDim S4x8x2048x2048 ![] bcast_S_S4x8x2048x2048 (constant (F := Ideal) S_ .f32 0xFF800000#32))

/-- The largest score of every row. -/
def maxima (S : FVec Ideal S4x8x2048x2048 .f32) : FVec Ideal S4x8x2048 .f32 :=
  maximumf (broadcastInDim S4x8x2048 ![] bcast_S_S4x8x2048 (constant S_ .f32 0xFF800000#32)) (Host.reduce FloatOps.maximumf S (constant S_ .f32 0xFF800000#32) reducesTo_S4x8x2048x2048_S4x8x2048_d3 h_S_)

/-- The exponentials of the scores over a given maximum. -/
def weights (S : FVec Ideal S4x8x2048x2048 .f32) (M : FVec Ideal S4x8x2048 .f32) : FVec Ideal S4x8x2048x2048 .f32 :=
  Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 M)))

/-- The normalised weights. -/
def probs (W : FVec Ideal S4x8x2048x2048 .f32) : FVec Ideal S4x8x2048x2048 .f32 :=
  Host.divf W (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd W (constant S_ .f32 0x00000000#32) reducesTo_S4x8x2048x2048_S4x8x2048_d3 h_S_)))

/-- The values weighed by the probabilities, heads side by side. -/
def mixed (V : FVec Ideal S4x2048x1024 .f32) (W : FVec Ideal S4x8x2048x2048 .f32) : FVec Ideal S4x2048x1024 .bf16 :=
  truncf .bf16 (shapeCast S4x2048x1024 (transpose S4x2048x8x128 [0, 3, 1, 2] (Host.dotGeneral (F := Ideal) dot_S4x2048x8x128_S4x8x2048x2048_S4x8x128x2048_1_3_3_2_02_01 none (shapeCast S4x2048x8x128 V shapeCasts_S4x2048x1024_S4x2048x8x128) W) transposes_S4x8x128x2048_S4x2048x8x128_0_3_1_2) shapeCasts_S4x2048x8x128_S4x2048x1024) bitsLt_bf16_f32

theorem res_eq (m : (ℓ : Loc nD τ sig) → Buf (Elt Ideal) ℓ) (c : Dev nD) :
    res_out0 m c = mixed (m ((c.tc : Thread nD τ).loc main_arg2))
      (probs (weights (scores (m ((c.tc : Thread nD τ).loc main_arg0)) (m ((c.tc : Thread nD τ).loc main_arg1)) (m ((c.tc : Thread nD τ).loc main_arg3)))
        (maxima (scores (m ((c.tc : Thread nD τ).loc main_arg0)) (m ((c.tc : Thread nD τ).loc main_arg1)) (m ((c.tc : Thread nD τ).loc main_arg3)))))) := rfl

/-- A masked score of query row `R` against key row `j`. -/
theorem scores_at (Q : FVec Ideal S4x2048x1024 .bf16) (K : FVec Ideal S4x2048x1024 .f32) (G : FVec Ideal S8x1x8192 .f32)
    (b : Fin 4) (h : Fin 8) (R j : Fin 2048) : scores Q K G (ix4 b h R j)
      = if j.val ≤ R.val then
          Ideal.div (∑ x : Fin 128, Q (ix3 b R ⟨h * 128 + x, by omega⟩) * K (ix3 b j ⟨h * 128 + x, by omega⟩))
              ((Real.sqrt 128 : ℝ) : EReal) + G (ix3 h 0 ⟨b * 2048 + R, by omega⟩) - G (ix3 h 0 ⟨b * 2048 + j, by omega⟩)
        else ⊥ := by
  pointwise [scores]
  rw [causal_ref, ofBits_128, Ideal.sqrt_coe, if_neg (show ¬(128 : ℝ) < 0 by norm_num), ofBits_ninf]
  by_cases hj : j.val ≤ R.val
  · simp [hj, Scalar.select]
  · simp [hj, Scalar.select]

/-- A maximum along the last of four axes, of any extents, is the maximum over that axis's coordinates. -/
theorem max_last {n0 n1 n2 n3 : ℕ} {t u : Shape} (S : (⟨4, ![n0, n1, n2, n3]⟩ : Shape).Idx → Ideal .f32) (init : u.Idx → Ideal .f32)
    (h : (⟨4, ![n0, n1, n2, n3]⟩ : Shape).ReducesTo [3] t) (hu : 0 < u.numel) (j : t.Idx) :
    Host.reduce (FloatOps.maximumf (F := Ideal) (φ := .f32)) S init h hu j
      = (Finset.univ : Finset (Fin n3)).fold (max : EReal → EReal → EReal) (init (Shape.Idx.first hu)) fun k =>
      S (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k) :=
  (Host.reduce_eq_fold max S init h hu j).trans (h.fold_fiber_r4_a3 j max _ S)

theorem max_row (S : FVec Ideal S4x8x2048x2048 .f32) (b : Fin 4) (h : Fin 8) (R : Fin 2048) :
    Host.reduce FloatOps.maximumf S (constant S_ .f32 0xFF800000#32) reducesTo_S4x8x2048x2048_S4x8x2048_d3 h_S_ (ix3 b h R)
      = (Finset.univ : Finset (Fin 2048)).fold max (Ideal.ofBits .f32 0xFF800000#32) fun k => S (ix4 b h R k) :=
  max_last (n0 := 4) (n1 := 8) (n2 := 2048) (n3 := 2048) S (constant (F := Ideal) S_ .f32 0xFF800000#32)
    reducesTo_S4x8x2048x2048_S4x8x2048_d3 h_S_ (ix3 b h R)

theorem max_floor (X : FVec Ideal S4x8x2048 .f32) (j : S4x8x2048.Idx) :
    maximumf (broadcastInDim S4x8x2048 ![] bcast_S_S4x8x2048 (constant S_ .f32 0xFF800000#32)) X j
      = max (Ideal.ofBits .f32 0xFF800000#32) (X j) := rfl

/-- The largest score of a row, from `⊥`. -/
theorem maxima_at (S : FVec Ideal S4x8x2048x2048 .f32) (b : Fin 4) (h : Fin 8) (R : Fin 2048) :
    maxima S (ix3 b h R) = (Finset.univ : Finset (Fin 2048)).sup fun k => S (ix4 b h R k) := by
  refine (max_floor _ _).trans ?_
  rw [max_row, ofBits_ninf, max_eq_right bot_le]
  rfl

theorem weights_at (S : FVec Ideal S4x8x2048x2048 .f32) (M : FVec Ideal S4x8x2048 .f32) (b : Fin 4) (h : Fin 8) (R j : Fin 2048) :
    weights S M (ix4 b h R j) = Ideal.exp (S (ix4 b h R j) - M (ix3 b h R)) := by
  pointwise [weights]

theorem probs_at (W : FVec Ideal S4x8x2048x2048 .f32) (b : Fin 4) (h : Fin 8) (R j : Fin 2048) :
    probs W (ix4 b h R j) = Ideal.div (W (ix4 b h R j)) (∑ k : Fin 2048, W (ix4 b h R k)) := by
  pointwise [probs]

theorem mixed_at (V : FVec Ideal S4x2048x1024 .f32) (W : FVec Ideal S4x8x2048x2048 .f32) (b : Fin 4) (R : Fin 2048) (e : Fin 1024) :
    mixed V W (ix3 b R e) = ∑ j : Fin 2048, V (ix3 b j e) * W (ix4 b ⟨e / 128, by omega⟩ R j) := by
  pointwise [mixed]

end Cert.ReferenceIdeal.Value

end
-- ==== Proof.Match.lean ====
/- The row softmax of Proof/Rows.lean, cut off at any column beyond the diagonal, is the reference's row: the hidden columns
   add nothing, and the row's own gate, which the kernel leaves out, shifts every score of the row alike. -/
module

public import proofs.«01_k».proof.Proof.Rows
public import proofs.«01_k».proof.Proof.RefAt

@[expose] public section

set_option maxRecDepth 16384

noncomputable section

open Idealize.ShloMosaic

namespace Cert.Match

open Cert.KernelIdeal Cert.Soft Cert.Rows

variable {Q : FVec Ideal S4x2048x1024 .bf16} {K : FVec Ideal S4x2048x1024 .f32} {G : FVec Ideal S8x1x8192 .f32}

/-- The reference's result over the four arguments. -/
abbrev whole (Q : FVec Ideal S4x2048x1024 .bf16) (K V : FVec Ideal S4x2048x1024 .f32) (G : FVec Ideal S8x1x8192 .f32) :
    FVec Ideal S4x2048x1024 .bf16 :=
  Cert.ReferenceIdeal.Value.mixed V (Cert.ReferenceIdeal.Value.probs (Cert.ReferenceIdeal.Value.weights
    (Cert.ReferenceIdeal.Value.scores Q K G) (Cert.ReferenceIdeal.Value.maxima (Cert.ReferenceIdeal.Value.scores Q K G))))

/-- A score of the reference is the row's score plus the row's own gate. -/
theorem score_shift (hQ : AllReal Q) (hK : AllReal K) (hG : AllReal G) (b : Fin 4) (h : Fin 8) (R j : Fin 2048) (g : ℝ)
    (hg : G (ix3 h 0 ⟨b * 2048 + R, by omega⟩) = g) :
    Cert.ReferenceIdeal.Value.scores Q K G (ix4 b h R j) = score Q K G b h R j.val + g := by
  rw [Cert.ReferenceIdeal.Value.scores_at]
  unfold score
  by_cases hj : j.val ≤ R.val
  · rw [if_pos hj, dif_pos hj]
    obtain ⟨e, he⟩ := dot_real hQ hK b h R j
    obtain ⟨y, hy⟩ := hG (ix3 h 0 ⟨b * 2048 + j, by omega⟩)
    have he' := he
    unfold dot at he'
    have hs : Real.sqrt 128 ≠ 0 := (Real.sqrt_pos.mpr (by norm_num)).ne'
    rw [he', hy, hg, Ideal.div_coe hs, one_div]
    rw [show dot Q K b h R ⟨j.val, by omega⟩ = (e : EReal) from he]
    rw [← EReal.coe_mul, ← EReal.coe_add, ← EReal.coe_sub, ← EReal.coe_sub, ← EReal.coe_add]
    congr 1; ring
  · rw [if_neg hj, dif_neg hj, EReal.bot_add]

/-- Over finite queries, keys and gates the running softmax over any stretch of columns that reaches beyond the diagonal is
    the reference's result. -/
theorem row_eq (hQ : AllReal Q) (hK : AllReal K) (hG : AllReal G) (V : FVec Ideal S4x2048x1024 .f32) (b : Fin 4) (h : Fin 8)
    (R : Fin 2048) (d : Fin 128) (N : ℕ) (hN : R.val < N) (hN' : N ≤ 2048) :
    Ideal.div (num (score Q K G b h R) (vals V b h d) N) (den (score Q K G b h R) N)
      = whole Q K V G (ix3 b R ⟨h * 128 + d, by omega⟩) := by
  obtain ⟨g, hg⟩ := hG (ix3 h 0 ⟨b * 2048 + R, by omega⟩)
  have hs : ∀ j, N ≤ j → score Q K G b h R j = ⊥ := fun j hj => hidden Q K G b h R j (by omega)
  obtain ⟨k, hk⟩ := Nat.exists_eq_add_of_le hN'
  have hrow := row hQ hK hG b h R
  rw [← num_hidden (vals V b h d) N k hs, ← den_hidden N k hs, ← hk, softmax_shift hrow (by decide) g]
  have hmax : rowMax (fun j => score Q K G b h R j + g) 2048
      = (Finset.univ : Finset (Fin 2048)).sup fun k => Cert.ReferenceIdeal.Value.scores Q K G (ix4 b h R k) := by
    have e := rowMax_add (fun j => score Q K G b h R j + g) 0 2048
    rw [Nat.zero_add] at e
    rw [e, rowMax_zero, max_eq_right bot_le]
    exact Finset.sup_congr rfl fun x _ => by rw [score_shift hQ hK hG b h R x g hg, Nat.zero_add]
  have hw : ∀ x : Fin 2048, Ideal.exp (score Q K G b h R x.val + g - rowMax (fun j => score Q K G b h R j + g) 2048)
      = Cert.ReferenceIdeal.Value.weights (Cert.ReferenceIdeal.Value.scores Q K G)
          (Cert.ReferenceIdeal.Value.maxima (Cert.ReferenceIdeal.Value.scores Q K G)) (ix4 b h R x) := fun x => by
    rw [Cert.ReferenceIdeal.Value.weights_at, Cert.ReferenceIdeal.Value.maxima_at, score_shift hQ hK hG b h R x g hg, hmax]
  have hh : (⟨(h.val * 128 + d.val) / 128, by omega⟩ : Fin 8) = h := Fin.ext (by dsimp only; omega)
  unfold whole
  rw [Cert.ReferenceIdeal.Value.mixed_at]
  simp only [hh]
  rw [Finset.sum_range, Finset.sum_range]
  refine Finset.sum_congr rfl fun x _ => ?_
  rw [Cert.ReferenceIdeal.Value.probs_at, hw]
  congr 1
  · unfold vals; rw [dif_pos x.isLt]
  · congr 1
    exact Finset.sum_congr rfl fun y _ => hw y

end Cert.Match

end
-- ==== Proof.Final.lean ====
/- The attention's result array after the run: every flushed block holds the reference's rows. -/
module

public import proofs.«01_k».proof.Proof.Carry
public import proofs.«01_k».proof.Proof.Match

@[expose] public section

set_option maxRecDepth 16384

noncomputable section

open Idealize.ShloMosaic Idealize.ShloMosaic.TcCoe Idealize.SL.Sem

namespace Cert.KernelIdeal.Value

open Cert.KernelIdeal Cert.KernelIdeal.Gen Cert.Soft Cert.Rows

variable (m : (ℓ : Loc nD τ sig) → Buf (Elt Ideal) ℓ)

/-- An element of a flushed block is the reference's at its place in the array. -/
theorem block_at (c : Dev nD) (hQ : AllReal (AQ m c)) (hK : AllReal (AK m c)) (hG : AllReal (AG m c)) (t : Fin cfg0.N)
    (h2 : t.val % 4 = 3) (r : Fin 512) (d : Fin 128) : (outsAt0 m c t.val t.isLt).1 (ix3 0 r d)
      = Cert.Match.whole (AQ m c) (AK m c) (AV m c) (AG m c)
          (ix3 (bN t.val) (rN t.val r) ⟨hdN t.val * 128 + d, by omega⟩) := by
  rw [out_last m c hQ hK hG t h2]
  refine Cert.Match.row_eq hQ hK hG (AV m c) (bN t.val) (hdN t.val) (rN t.val r) d (cols t.val) ?_ ?_
  · have := r.isLt; unfold rN cols; dsimp only; omega
  · unfold cols; omega

theorem final (c : Dev nD) (hQ : AllReal (AQ m c)) (hK : AllReal (AK m c)) (hG : AllReal (AG m c)) :
    (dats m 0 c).arrAt 4 (cfgs 0).N = Cert.Match.whole (AQ m c) (AK m c) (AV m c) (AG m c) := by
  refine (dats m 0 c).arrAt_eq_of_covers 4 _ (by decide +kernel) fun t hf y => ?_
  have h2 : t.val % 4 = 3 := (flush0_4 t).mp hf
  have ht : t.val < 512 := lt_of_lt_of_eq t.isLt N_0
  blk_simp
  rw [after0_4]
  have e := block_at m c hQ hK hG t h2 (y 1) (y 2)
  refine Eq.trans ?_ (e.trans ?_)
  · blk_ext []
  · unfold bN rN hdN
    blk_ext [idx t]

end Cert.KernelIdeal.Value

end
-- ==== Proof.Finite.lean ====
/- The precondition read: every query, key and gate is a real number. -/
module

public import proofs.«01_k».proof.Defs
public import proofs.«01_k».proof.Proof.Rows
public import proofs.«01_k».proof.Proof.Gen.Pre_finite
public import Idealize.ShloMosaic.Lib.ReduceAll
public import Idealize.ShloMosaic.Lib.Affine

@[expose] public section

noncomputable section

open Idealize.ShloMosaic Idealize.ShloMosaic.TcCoe Idealize.SL.Sem

namespace Cert.Finite

open Cert.KernelIdeal Cert.Rows

theorem real_of_max {x : EReal} (h : max x (-x) < ⊤) : ∃ r : ℝ, x = r := by
  induction x with
  | bot => simp at h
  | coe r => exact ⟨r, rfl⟩
  | top => simp at h

/-- A value whose absolute value is below `+∞` is a real number. -/
theorem real_of_lt {x : Ideal .f32}
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  exact real_of_max hlt

variable {m : (ℓ : Loc nD τ sig) → Buf (Elt Ideal) ℓ}

theorem of_pre (h : Cert.Pre_KernelIdeal_finite m) (c : Dev nD) :
    AllReal (S := S4x2048x1024) (φ := .bf16) (m ((c : Thread nD τ).loc main_arg0))
      ∧ AllReal (S := S4x2048x1024) (φ := .f32) (m ((c : Thread nD τ).loc main_arg1))
      ∧ AllReal (S := S8x1x8192) (φ := .f32) (m ((c : Thread nD τ).loc main_arg3)) := by
  have e := congrFun (h c) (Shape.Idx.first Cert.Pre_finite.Gen.h_S_)
  dsimp only [Cert.Pre_finite.fn] at e
  obtain ⟨e1, eg⟩ := IntOp.andi_eq_one.1 e
  obtain ⟨eq, ek⟩ := IntOp.andi_eq_one.1 e1
  exact ⟨fun i => real_of_lt (Host.reduce_andi_all _ _ _ _ _ eq i), fun i => real_of_lt (Host.reduce_andi_all _ _ _ _ _ ek i),
    fun i => real_of_lt (Host.reduce_andi_all _ _ _ _ _ eg i)⟩

end Cert.Finite

end
-- ==== Proof.OutPay.lean ====
/- What a grid point of the output projection stores at one element of its two blocks, over whatever its input blocks
   hold: the mixed row through the norm and the gate onto the residual, and that row through the second, modulated norm. -/
module

public import proofs.«01_k».proof.Proof.Gen.OutprojIdeal.Skeleton
public import Idealize.ShloMosaic.Lib.Pointwise

@[expose] public section

set_option maxRecDepth 16384

noncomputable section

open Idealize.ShloMosaic Idealize.ShloMosaic.TcCoe Idealize.SL.Sem

/-- The reciprocal root of a row's mean square, the norm's small constant added. -/
def Cert.Rms.scale (f : Fin 2048 → EReal) : EReal :=
  Ideal.rsqrt (Ideal.div (∑ d : Fin 2048, f d * f d) (Ideal.ofBits .f32 0x45000000#32) + Ideal.ofBits .f32 0x358637BD#32)

namespace Cert.OutprojIdeal.Value

open Cert.OutprojIdeal Cert.OutprojIdeal.Gen

section Block

variable (a p : Vec Ideal S256x1024 .bf16) (wa wp : Vec Ideal S1024x2048 .bf16) (x : Vec Ideal S256x2048 .f32)
  (gt sc sh : Vec Ideal S1x1x2048 .f32) (gpost gpre : Vec Ideal S1x2048 .f32)

/-- A row of the two mixers' outputs through the two halves of the weights. -/
def mix (r : Fin 256) (e : Fin 2048) : EReal :=
  (∑ d : Fin 1024, a (ix2 r d) * wa (ix2 d e)) + ∑ d : Fin 1024, p (ix2 r d) * wp (ix2 d e)

/-- The residual stream's block: the mixed row normed, weighted and gated onto the input row. -/
theorem pay2_at (r : Fin 256) (e : Fin 2048) : k0_pay2 a wa p wp x gt gpost (ix2 r e)
    = x (ix2 r e) + gt (ix3 0 0 e) * (mix a p wa wp r e * Cert.Rms.scale (mix a p wa wp r) * gpost (ix2 0 e)) := by
  pointwise [k0_pay2]
  rfl

/-- The sum of squares of a row of it. -/
theorem pay3_at (r : Fin 256) : k0_pay3 a wa p wp x gt gpost (ix1 r)
    = ∑ d : Fin 2048, k0_pay2 a wa p wp x gt gpost (ix2 r d) * k0_pay2 a wa p wp x gt gpost (ix2 r d) := by
  pointwise [k0_pay3]

/-- The second block: a row through the second norm and its modulation. -/
theorem pay1_at (y : FVec Ideal S256x2048 .f32) (q : FVec Ideal S256 .f32) (r : Fin 256) (e : Fin 2048) :
    k0_pay1 y q gpre sc sh (ix2 r e)
      = y (ix2 r e) * Ideal.rsqrt (Ideal.div (q (ix1 r)) (Ideal.ofBits .f32 0x45000000#32) + Ideal.ofBits .f32 0x358637BD#32)
          * gpre (ix2 0 e) * (1 + sc (ix3 0 0 e)) + sh (ix3 0 0 e) := by
  pointwise [k0_pay1]

end Block

section Spec

variable (A P : FVec Ideal S4x2048x1024 .bf16) (X : FVec Ideal S4x2048x2048 .f32) (G SC SH : FVec Ideal S4x1x2048 .f32)
  (GP GF : FVec Ideal S1x2048 .f32) (W : FVec Ideal S1x2048x2048 .f32)

/-- A token's mixed row: the two mixers' outputs, side by side, through the weights. -/
def mixed (b : Fin 4) (s e : Fin 2048) : EReal :=
  (∑ d : Fin 1024, A (ix3 b s d) * W (ix3 0 ⟨d.val, by omega⟩ e))
    + ∑ d : Fin 1024, P (ix3 b s d) * W (ix3 0 ⟨1024 + d.val, by omega⟩ e)

/-- The residual stream after the mixers. -/
def stream (b : Fin 4) (s e : Fin 2048) : EReal :=
  X (ix3 b s e) + G (ix3 b 0 e) * (mixed A P W b s e * Cert.Rms.scale (mixed A P W b s) * GP (ix2 0 e))

/-- The experts' argument: the stream normed and modulated. -/
def expertArg (b : Fin 4) (s e : Fin 2048) : EReal :=
  stream A P X G GP W b s e * Cert.Rms.scale (stream A P X G GP W b s) * GF (ix2 0 e) * (1 + SC (ix3 b 0 e)) + SH (ix3 b 0 e)

/-- The first array: the stream, the sequences one after another. -/
def whole1 : FVec Ideal S8192x2048 .f32 := fun y =>
  have y0 : (y 0).val < 8192 := (y 0).isLt
  stream A P X G GP W ⟨(y 0).val / 2048, by omega⟩ ⟨(y 0).val % 2048, by omega⟩ (y 1)

/-- The second array: the experts' argument, the sequences one after another. -/
def whole2 : FVec Ideal S8192x2048 .bf16 := fun y =>
  have y0 : (y 0).val < 8192 := (y 0).isLt
  expertArg A P X G SC SH GP GF W ⟨(y 0).val / 2048, by omega⟩ ⟨(y 0).val % 2048, by omega⟩ (y 1)

end Spec

end Cert.OutprojIdeal.Value

end
-- ==== Proof.Out.lean ====
/- The output projection: what the call leaves in its two arrays, as functions of the arguments. -/
module

public import proofs.«01_k».proof.Proof.OutPay
public import proofs.«01_k».proof.Proof.Gen.OutprojIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.OutprojIdeal.Value

open Cert.OutprojIdeal Cert.OutprojIdeal.Gen

variable (m : (ℓ : Loc nD τ sig) → Buf (Elt Ideal) ℓ) (c : Dev nD)

/-- The nine arguments as arrays. -/
abbrev aAtt : FVec Ideal S4x2048x1024 .bf16 := m ((c : Thread nD τ).loc main_arg0)
abbrev aPool : FVec Ideal S4x2048x1024 .bf16 := m ((c : Thread nD τ).loc main_arg1)
abbrev aX : FVec Ideal S4x2048x2048 .f32 := m ((c : Thread nD τ).loc main_arg2)
abbrev aGate : FVec Ideal S4x1x2048 .f32 := m ((c : Thread nD τ).loc main_arg3)
abbrev aPost : FVec Ideal S1x2048 .f32 := m ((c : Thread nD τ).loc main_arg4)
abbrev aPre : FVec Ideal S1x2048 .f32 := m ((c : Thread nD τ).loc main_arg5)
abbrev aSc : FVec Ideal S4x1x2048 .f32 := m ((c : Thread nD τ).loc main_arg6)
abbrev aSh : FVec Ideal S4x1x2048 .f32 := m ((c : Thread nD τ).loc main_arg7)
abbrev aW : FVec Ideal S1x2048x2048 .f32 := m ((c : Thread nD τ).loc main_arg8)

theorem idx : ∀ t : Fin cfg0.N, win0_0.index t = ![t.val, 0] ∧ win0_1.index t = ![t.val, 0] ∧ win0_2.index t = ![t.val, 0]
    ∧ win0_3.index t = ![t.val / 8, 0, 0] ∧ win0_4.index t = ![0, 0] ∧ win0_5.index t = ![0, 0]
    ∧ win0_6.index t = ![t.val / 8, 0, 0] ∧ win0_7.index t = ![t.val / 8, 0, 0] ∧ win0_8.index t = ![0, 0]
    ∧ win0_9.index t = ![t.val, 0] ∧ win0_10.index t = ![t.val, 0] :=
  (by decide +kernel : ∀ t : Fin grid0.N, _)

/-- The sequence a grid point works on, and the token its row `r` is. -/
def seqOf (t : Fin cfg0.N) : Fin 4 := ⟨t.val / 8, by have := lt_of_lt_of_eq t.isLt N_0; omega⟩
def tokOf (t : Fin cfg0.N) (r : Fin 256) : Fin 2048 := ⟨(t.val * 256 + r.val) % 2048, by omega⟩

variable (t : Fin cfg0.N)

theorem read_att (r : Fin 256) (d : Fin 1024) : (iblk m c 0 t : Vec Ideal S256x1024 .bf16) (ix2 r d)
    = aAtt m c (ix3 (seqOf t) (tokOf t r) d) := by
  have ht : t.val < 32 := lt_of_lt_of_eq t.isLt N_0
  unfold seqOf tokOf
  blk_point [iblk, idx t]

theorem read_pool (r : Fin 256) (d : Fin 1024) : (iblk m c 1 t : Vec Ideal S256x1024 .bf16) (ix2 r d)
    = aPool m c (ix3 (seqOf t) (tokOf t r) d) := by
  have ht : t.val < 32 := lt_of_lt_of_eq t.isLt N_0
  unfold seqOf tokOf
  blk_point [iblk, idx t]

theorem read_x (r : Fin 256) (e : Fin 2048) : (iblk m c 2 t : Vec Ideal S256x2048 .f32) (ix2 r e)
    = aX m c (ix3 (seqOf t) (tokOf t r) e) := by
  have ht : t.val < 32 := lt_of_lt_of_eq t.isLt N_0
  unfold seqOf tokOf
  blk_point [iblk, idx t]

theorem read_gate (e : Fin 2048) : (iblk m c 3 t : Vec Ideal S1x1x2048 .f32) (ix3 0 0 e) = aGate m c (ix3 (seqOf t) 0 e) := by
  have ht : t.val < 32 := lt_of_lt_of_eq t.isLt N_0
  unfold seqOf
  blk_ext [iblk, V, idx t]

theorem read_post (e : Fin 2048) : (iblk m c 4 t : Vec Ideal S1x2048 .f32) (ix2 0 e) = aPost m c (ix2 0 e) := by
  blk_point [iblk, idx t]

theorem read_pre (e : Fin 2048) : (iblk m c 5 t : Vec Ideal S1x2048 .f32) (ix2 0 e) = aPre m c (ix2 0 e) := by
  blk_point [iblk, idx t]

theorem read_sc (e : Fin 2048) : (iblk m c 6 t : Vec Ideal S1x1x2048 .f32) (ix3 0 0 e) = aSc m c (ix3 (seqOf t) 0 e) := by
  have ht : t.val < 32 := lt_of_lt_of_eq t.isLt N_0
  unfold seqOf
  blk_ext [iblk, V, idx t]

theorem read_sh (e : Fin 2048) : (iblk m c 7 t : Vec Ideal S1x1x2048 .f32) (ix3 0 0 e) = aSh m c (ix3 (seqOf t) 0 e) := by
  have ht : t.val < 32 := lt_of_lt_of_eq t.isLt N_0
  unfold seqOf
  blk_ext [iblk, V, idx t]

theorem read_w (d e : Fin 2048) : (iblk m c 8 t : Vec Ideal S2048x2048 .bf16) (ix2 d e) = aW m c (ix3 0 d e) := by
  blk_point [iblk, idx t]

theorem ld_half (a : Vec Ideal S256x1024 .bf16) : View.ld a r0_0 = a :=
  View.ld_unit_zero (by funext a; fin_cases a <;> rfl) _ _

theorem ld_full (a : Vec Ideal S256x2048 .f32) : View.ld a r0_3 = a :=
  View.ld_unit_zero (by funext a; fin_cases a <;> rfl) _ _

theorem ld_mod (a : Vec Ideal S1x1x2048 .f32) : View.ld a r0_4 = a :=
  View.ld_unit_zero (by funext a; fin_cases a <;> rfl) _ _

theorem ld_vec (a : Vec Ideal S1x2048 .f32) : View.ld a r0_5 = a :=
  View.ld_unit_zero (by funext a; fin_cases a <;> rfl) _ _

theorem ld_top (w : Vec Ideal S2048x2048 .bf16) (d : Fin 1024) (e : Fin 2048) :
    (View.ld w r0_1 : Vec Ideal S1024x2048 .bf16) (ix2 d e) = w (ix2 ⟨d.val, by omega⟩ e) :=
  congrArg w (funext fun a => Fin.ext (match a with
    | 0 => by show 0 + 1 * d.val = d.val; omega
    | 1 => by show 0 + 1 * e.val = e.val; omega))

theorem ld_bottom (w : Vec Ideal S2048x2048 .bf16) (d : Fin 1024) (e : Fin 2048) :
    (View.ld w r0_2 : Vec Ideal S1024x2048 .bf16) (ix2 d e) = w (ix2 ⟨1024 + d.val, by omega⟩ e) :=
  congrArg w (funext fun a => Fin.ext (match a with
    | 0 => by show 1024 + 1 * d.val = 1024 + d.val; omega
    | 1 => by show 0 + 1 * e.val = e.val; omega))

/-- A row of the block's mix is the token's mixed row. -/
theorem mix_eq (r : Fin 256) : mix (iblk m c 0 t) (iblk m c 1 t) (View.ld (iblk m c 8 t) r0_1) (View.ld (iblk m c 8 t) r0_2) r
    = mixed (aAtt m c) (aPool m c) (aW m c) (seqOf t) (tokOf t r) := by
  funext e
  refine congrArg₂ (· + ·) (Finset.sum_congr rfl fun d _ => congrArg₂ (· * ·) (read_att m c t r d) ?_)
    (Finset.sum_congr rfl fun d _ => congrArg₂ (· * ·) (read_pool m c t r d) ?_)
  · exact (ld_top (iblk m c 8 t) d e).trans (read_w m c t _ _)
  · exact (ld_bottom (iblk m c 8 t) d e).trans (read_w m c t _ _)

/-- The stored block over the input blocks. -/
abbrev pay2 : FVec Ideal S256x2048 .f32 :=
  k0_pay2 (iblk m c 0 t) (View.ld (iblk m c 8 t) r0_1) (iblk m c 1 t) (View.ld (iblk m c 8 t) r0_2) (iblk m c 2 t)
    (iblk m c 3 t) (iblk m c 4 t)

theorem pay2_eq (r : Fin 256) (e : Fin 2048) : pay2 m c t (ix2 r e)
    = stream (aAtt m c) (aPool m c) (aX m c) (aGate m c) (aPost m c) (aW m c) (seqOf t) (tokOf t r) e := by
  refine (pay2_at _ _ _ _ _ _ _ r e).trans ?_
  rw [mix_eq]
  exact congrArg₂ (· + ·) (read_x m c t r e) (congrArg₂ (· * ·) (read_gate m c t e)
    (congrArg (_ * ·) (read_post m c t e)))

theorem pay3_eq (r : Fin 256) :
    k0_pay3 (iblk m c 0 t) (View.ld (iblk m c 8 t) r0_1) (iblk m c 1 t) (View.ld (iblk m c 8 t) r0_2) (iblk m c 2 t)
        (iblk m c 3 t) (iblk m c 4 t) (ix1 r)
      = ∑ d : Fin 2048, stream (aAtt m c) (aPool m c) (aX m c) (aGate m c) (aPost m c) (aW m c) (seqOf t) (tokOf t r) d
          * stream (aAtt m c) (aPool m c) (aX m c) (aGate m c) (aPost m c) (aW m c) (seqOf t) (tokOf t r) d :=
  (pay3_at _ _ _ _ _ _ _ r).trans (Finset.sum_congr rfl fun d _ => congrArg₂ (· * ·) (pay2_eq m c t r d) (pay2_eq m c t r d))

theorem block1_at (r : Fin 256) (e : Fin 2048) :
    out0_9 (iblk m c 0 t) (iblk m c 1 t) (iblk m c 2 t) (iblk m c 3 t) (iblk m c 4 t) (iblk m c 5 t) (iblk m c 6 t)
        (iblk m c 7 t) (iblk m c 8 t) (ix2 r e)
      = stream (aAtt m c) (aPool m c) (aX m c) (aGate m c) (aPost m c) (aW m c) (seqOf t) (tokOf t r) e := by
  unfold out0_9
  rw [ld_half, ld_half, ld_full, ld_mod, ld_vec]
  refine (View.canon_apply_of_pieces (fun x : S256x2048.Idx => pay2 m c t x) _ ?_ (ix2 r e) (cover0_9 _ _)).trans
    (pay2_eq m c t r e)
  intro pc hpc
  obtain rfl := List.mem_singleton.1 hpc
  intro x
  refine congrArg (pay2 m c t) (funext fun a => Fin.ext ?_)
  match a with
  | 0 => show (x 0).val = 0 + 1 * (x 0).val; omega
  | 1 => show (x 1).val = 0 + 1 * (x 1).val; omega

theorem block2_at (r : Fin 256) (e : Fin 2048) :
    out0_10 (iblk m c 0 t) (iblk m c 1 t) (iblk m c 2 t) (iblk m c 3 t) (iblk m c 4 t) (iblk m c 5 t) (iblk m c 6 t)
        (iblk m c 7 t) (iblk m c 8 t) (ix2 r e)
      = expertArg (aAtt m c) (aPool m c) (aX m c) (aGate m c) (aSc m c) (aSh m c) (aPost m c) (aPre m c) (aW m c)
          (seqOf t) (tokOf t r) e := by
  unfold out0_10
  rw [ld_half, ld_half, ld_full, ld_mod, ld_vec, ld_mod, ld_mod, ld_vec]
  refine (View.canon_apply_of_pieces (fun x : S256x2048.Idx => k0_pay1 (pay2 m c t)
      (k0_pay3 (iblk m c 0 t) (View.ld (iblk m c 8 t) r0_1) (iblk m c 1 t) (View.ld (iblk m c 8 t) r0_2) (iblk m c 2 t)
        (iblk m c 3 t) (iblk m c 4 t)) (iblk m c 5 t) (iblk m c 6 t) (iblk m c 7 t) x) _ ?_ (ix2 r e) (cover0_10 _ _)).trans ?_
  · intro pc hpc
    obtain rfl := List.mem_singleton.1 hpc
    intro x
    refine congrArg (k0_pay1 (F := Ideal) _ _ _ _ _) (funext fun a => Fin.ext ?_)
    match a with
    | 0 => show (x 0).val = 0 + 1 * (x 0).val; omega
    | 1 => show (x 1).val = 0 + 1 * (x 1).val; omega
  · refine (pay1_at _ _ _ _ _ r e).trans ?_
    rw [pay3_eq, pay2_eq]
    exact congrArg₂ (· + ·) (congrArg₂ (· * ·) (congrArg (_ * ·) (read_pre m c t e)) (congrArg (1 + ·) (read_sc m c t e)))
      (read_sh m c t e)

/-- A block's element, at the place of the array its point writes it to. -/
theorem whole_at (f : Fin 4 → Fin 2048 → Fin 2048 → EReal) (r : Fin 256) (e : Fin 2048) (n : Fin 8192) (e' : Fin 2048)
    (h : n.val = t.val * 256 + r.val) (he : e'.val = e.val) :
    f (seqOf t) (tokOf t r) e = f ⟨n.val / 2048, by omega⟩ ⟨n.val % 2048, by omega⟩ e' := by
  have e0 : seqOf t = ⟨n.val / 2048, by omega⟩ := Fin.ext (by show t.val / 8 = n.val / 2048; omega)
  have e1 : tokOf t r = ⟨n.val % 2048, by omega⟩ := Fin.ext (by show (t.val * 256 + r.val) % 2048 = n.val % 2048; omega)
  rw [e0, e1, Fin.ext he]

/-- The first array after the run. -/
theorem final1 : (dats m 0 c).arrAt 9 cfg0.N = whole1 (aAtt m c) (aPool m c) (aX m c) (aGate m c) (aPost m c) (aW m c) := by
  refine (dats m 0 c).arrAt_eq_of_covers 9 _ (by decide +kernel) fun t hf y => ?_
  have ht : t.val < 32 := lt_of_lt_of_eq t.isLt N_0
  blk_simp
  rw [after0_9]
  refine Eq.trans ?_ ((block1_at m c t (y 0) (y 1)).trans ?_)
  · exact congrArg _ (eq_ix2 y)
  · refine whole_at t (stream (aAtt m c) (aPool m c) (aX m c) (aGate m c) (aPost m c) (aW m c)) (y 0) (y 1) _ _ ?_ ?_
    · show win0_9.index t 0 * 256 + 1 * (y 0).val = _
      simp [idx t]
    · show win0_9.index t 1 * 2048 + 1 * (y 1).val = _
      simp [idx t]

/-- The second array after the run. -/
theorem final2 : (dats m 0 c).arrAt 10 cfg0.N = whole2 (aAtt m c) (aPool m c) (aX m c) (aGate m c) (aSc m c) (aSh m c)
    (aPost m c) (aPre m c) (aW m c) := by
  refine (dats m 0 c).arrAt_eq_of_covers 10 _ (by decide +kernel) fun t hf y => ?_
  have ht : t.val < 32 := lt_of_lt_of_eq t.isLt N_0
  blk_simp
  rw [after0_10]
  refine Eq.trans ?_ ((block2_at m c t (y 0) (y 1)).trans ?_)
  · exact congrArg _ (eq_ix2 y)
  · refine whole_at t (expertArg (aAtt m c) (aPool m c) (aX m c) (aGate m c) (aSc m c) (aSh m c) (aPost m c) (aPre m c) (aW m c)) (y 0) (y 1) _ _ ?_ ?_
    · show win0_10.index t 0 * 256 + 1 * (y 0).val = _
      simp [idx t]
    · show win0_10.index t 1 * 2048 + 1 * (y 1).val = _
      simp [idx t]

end Cert.OutprojIdeal.Value

end
-- ==== Proof.OutRef.lean ====
/- The output projection's reference, read at an index: the same functions of the arguments as the call's two arrays. -/
module

public import proofs.«01_k».proof.Proof.OutPay
public import proofs.«01_k».proof.Proof.Gen.OutprojRefIdeal.Run

@[expose] public section

set_option maxRecDepth 16384

noncomputable section

open Idealize.ShloMosaic Idealize.ShloMosaic.TcCoe Idealize.SL.Sem

namespace Cert.OutprojRefIdeal.Value

open Cert.OutprojRefIdeal Cert.OutprojRefIdeal.Gen

variable (A P : FVec Ideal S4x2048x1024 .bf16) (X : FVec Ideal S4x2048x2048 .f32) (G SC SH : FVec Ideal S4x1x2048 .f32)
  (GP GF : FVec Ideal S1x2048 .f32) (W : FVec Ideal S1x2048x2048 .f32)

/-- The reference's product of the joined mixers with the weights. -/
def prod : FVec Ideal S4x2048x2048 .f32 :=
  Host.dotGeneral (F := Ideal) (φ₁ := .f32) (φ₂ := .f32) dot_S4x2048x2048_S2048x2048_S4x2048x2048_2_0_01_1_n_n none (concatenate S4x2048x2048 2 [⟨S4x2048x1024, (extf .f32 A bitsLt_bf16_f32)⟩, ⟨S4x2048x1024, (extf .f32 P bitsLt_bf16_f32)⟩] concatenates_S4x2048x1024_S4x2048x1024_S4x2048x2048_d2) (shapeCast S2048x2048 W shapeCasts_S1x2048x2048_S2048x2048)

/-- The reference's norm factor of every row. -/
def factor (f : FVec Ideal S4x2048x2048 .f32) : FVec Ideal S4x2048x1 .f32 :=
  Host.rsqrt (addf (Host.divf (broadcastInDim S4x2048x1 ![0, 1] bcast_S4x2048_S4x2048x1_0_1 (Host.reduceAdd (mulf f f) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))

/-- The reference's norm: the factor and the weights on every row. -/
def normed (f : FVec Ideal S4x2048x2048 .f32) (g : FVec Ideal S1x2048 .f32) : FVec Ideal S4x2048x2048 .f32 :=
  mulf (mulf f (broadcastInDim S4x2048x2048 ![0, 1, 2] bcast_S4x2048x1_S4x2048x2048_0_1_2 (factor f))) (broadcastInDim S4x2048x2048 ![0, 1, 2] bcast_S1x1x2048_S4x2048x2048_0_1_2 (broadcastInDim S1x1x2048 ![2] bcast_S2048_S1x1x2048_2 (shapeCast S2048 g shapeCasts_S1x2048_S2048)))

/-- The reference's residual stream. -/
def resid : FVec Ideal S4x2048x2048 .f32 :=
  addf X (mulf (broadcastInDim S4x2048x2048 ![0, 1, 2] bcast_S4x1x2048_S4x2048x2048_0_1_2 G) (normed (prod A P W) GP))

/-- The reference's experts' argument. -/
def arg : FVec Ideal S4x2048x2048 .bf16 :=
  truncf .bf16 (addf (mulf (normed (resid A P X G GP W) GF) (broadcastInDim S4x2048x2048 ![0, 1, 2] bcast_S4x1x2048_S4x2048x2048_0_1_2 (addf (broadcastInDim S4x1x2048 ![] bcast_S_S4x1x2048 (constant S_ .f32 0x3F800000#32)) SC))) (broadcastInDim S4x2048x2048 ![0, 1, 2] bcast_S4x1x2048_S4x2048x2048_0_1_2 SH)) bitsLt_bf16_f32

/-- The two results. -/
def first : FVec Ideal S8192x2048 .f32 := shapeCast S8192x2048 (resid A P X G GP W) shapeCasts_S4x2048x2048_S8192x2048
def second : FVec Ideal S8192x2048 .bf16 := shapeCast S8192x2048 (arg A P X G SC SH GP GF W) shapeCasts_S4x2048x2048_S8192x2048

/-- The joined row's sum of products is the two halves' sums. -/
theorem prod_at (b : Fin 4) (s e : Fin 2048) : prod A P W (ix3 b s e) = Cert.OutprojIdeal.Value.mixed A P W b s e := by
  pointwise [prod]
  rfl

/-- The factor of a row is the row's scale. -/
theorem factor_at (f : FVec Ideal S4x2048x2048 .f32) (b : Fin 4) (s : Fin 2048) :
    factor f (ix3 b s 0) = Cert.Rms.scale fun d => f (ix3 b s d) := by
  pointwise [factor]
  rfl

/-- The norm at an index. -/
theorem normed_at (f : FVec Ideal S4x2048x2048 .f32) (g : FVec Ideal S1x2048 .f32) (b : Fin 4) (s e : Fin 2048) :
    normed f g (ix3 b s e) = f (ix3 b s e) * (Cert.Rms.scale fun d => f (ix3 b s d)) * g (ix2 0 e) := by
  rw [← factor_at]
  pointwise [normed]

theorem resid_at (b : Fin 4) (s e : Fin 2048) :
    resid A P X G GP W (ix3 b s e) = Cert.OutprojIdeal.Value.stream A P X G GP W b s e := by
  have h : (fun d => prod A P W (ix3 b s d)) = Cert.OutprojIdeal.Value.mixed A P W b s := funext fun d => prod_at A P W b s d
  unfold Cert.OutprojIdeal.Value.stream
  rw [← h]
  refine Eq.trans ?_ (congrArg (X (ix3 b s e) + G (ix3 b 0 e) * ·) (normed_at (prod A P W) GP b s e))
  pointwise [resid]

theorem arg_at (b : Fin 4) (s e : Fin 2048) :
    arg A P X G SC SH GP GF W (ix3 b s e) = Cert.OutprojIdeal.Value.expertArg A P X G SC SH GP GF W b s e := by
  have h : (fun d => resid A P X G GP W (ix3 b s d)) = Cert.OutprojIdeal.Value.stream A P X G GP W b s :=
    funext fun d => resid_at A P X G GP W b s d
  unfold Cert.OutprojIdeal.Value.expertArg
  rw [← h]
  refine Eq.trans ?_ (congrArg (· * (1 + SC (ix3 b 0 e)) + SH (ix3 b 0 e)) (normed_at (resid A P X G GP W) GF b s e))
  pointwise [arg]

theorem first_eq : first A P X G GP W = Cert.OutprojIdeal.Value.whole1 A P X G GP W := by
  funext y
  rw [eq_ix2 y]
  unfold Cert.OutprojIdeal.Value.whole1
  refine Eq.trans ?_ (resid_at A P X G GP W _ _ _)
  pointwise [first]

theorem second_eq : second A P X G SC SH GP GF W = Cert.OutprojIdeal.Value.whole2 A P X G SC SH GP GF W := by
  funext y
  rw [eq_ix2 y]
  unfold Cert.OutprojIdeal.Value.whole2
  refine Eq.trans ?_ (arg_at A P X G SC SH GP GF W _ _ _)
  pointwise [second]

end Cert.OutprojRefIdeal.Value

end
-- ==== Proof.Score.lean ====
/- The scores of the experts' sub-keys: what a grid point of the score call leaves in its block, and the whole array after
   the run, as one sum of products over the arguments. -/
module

public import proofs.«01_k».proof.Proof.Gen.PscoreIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.PscoreIdeal.Value

open Cert.PscoreIdeal Cert.PscoreIdeal.Gen

/-- The queries of a block of rows: the rows through the query weights. -/
theorem query_at (h : Vec Ideal S512x2048 .bf16) (w : Vec Ideal S2048x2048 .bf16) (r : Fin 512) (e : Fin 2048) :
    k0_pay2 h w (ix2 r e) = ∑ d : Fin 2048, h (ix2 r d) * w (ix2 d e) := by
  pointwise [k0_pay2]

/-- Pair `g`'s scores of a block: its sub-keys against its part of the queries. -/
def blockScore (h : Vec Ideal S512x2048 .bf16) (w : Vec Ideal S2048x2048 .bf16) (k : Vec Ideal S16x128x128 .bf16) :
    Vec Ideal S16x128x512 .f32 := fun y =>
  ∑ x : Fin 128, k (ix3 (y 0) (y 1) x) * k0_pay2 h w (ix2 (y 2) ⟨(y 0).val * 128 + x.val, by have := (y 0).isLt; have e : S16x128x512.size 0 = 16 := rfl; omega⟩)

/-- Pair 0's store. -/
theorem piece0 (h : Vec Ideal S512x2048 .bf16) (w : Vec Ideal S2048x2048 .bf16) (k : Vec Ideal S1x128x128 .bf16) (a : Fin 1) (j : Fin 128) (r : Fin 512) :
    k0_pay3 h w k (ix3 a j r) = ∑ x : Fin 128, k (ix3 0 j x) * k0_pay2 h w (ix2 r ⟨x.val, by omega⟩) := by
  pointwise [k0_pay3]

/-- Pair 1's store. -/
theorem piece1 (h : Vec Ideal S512x2048 .bf16) (w : Vec Ideal S2048x2048 .bf16) (k : Vec Ideal S1x128x128 .bf16) (a : Fin 1) (j : Fin 128) (r : Fin 512) :
    k0_pay4 h w k (ix3 a j r) = ∑ x : Fin 128, k (ix3 0 j x) * k0_pay2 h w (ix2 r ⟨128 + x.val, by omega⟩) := by
  pointwise [k0_pay4]

/-- Pair 2's store. -/
theorem piece2 (h : Vec Ideal S512x2048 .bf16) (w : Vec Ideal S2048x2048 .bf16) (k : Vec Ideal S1x128x128 .bf16) (a : Fin 1) (j : Fin 128) (r : Fin 512) :
    k0_pay5 h w k (ix3 a j r) = ∑ x : Fin 128, k (ix3 0 j x) * k0_pay2 h w (ix2 r ⟨256 + x.val, by omega⟩) := by
  pointwise [k0_pay5]

/-- Pair 3's store. -/
theorem piece3 (q : FVec Ideal S512x2048 .bf16) (k : Vec Ideal S1x128x128 .bf16) (a : Fin 1) (j : Fin 128) (r : Fin 512) :
    k0_pay6 q k (ix3 a j r) = ∑ x : Fin 128, k (ix3 0 j x) * q (ix2 r ⟨384 + x.val, by omega⟩) := by
  pointwise [k0_pay6]

/-- Pair 4's store. -/
theorem piece4 (q : FVec Ideal S512x2048 .bf16) (k : Vec Ideal S1x128x128 .bf16) (a : Fin 1) (j : Fin 128) (r : Fin 512) :
    k0_pay7 q k (ix3 a j r) = ∑ x : Fin 128, k (ix3 0 j x) * q (ix2 r ⟨512 + x.val, by omega⟩) := by
  pointwise [k0_pay7]

/-- Pair 5's store. -/
theorem piece5 (q : FVec Ideal S512x2048 .bf16) (k : Vec Ideal S1x128x128 .bf16) (a : Fin 1) (j : Fin 128) (r : Fin 512) :
    k0_pay8 q k (ix3 a j r) = ∑ x : Fin 128, k (ix3 0 j x) * q (ix2 r ⟨640 + x.val, by omega⟩) := by
  pointwise [k0_pay8]

/-- Pair 6's store. -/
theorem piece6 (q : FVec Ideal S512x2048 .bf16) (k : Vec Ideal S1x128x128 .bf16) (a : Fin 1) (j : Fin 128) (r : Fin 512) :
    k0_pay9 q k (ix3 a j r) = ∑ x : Fin 128, k (ix3 0 j x) * q (ix2 r ⟨768 + x.val, by omega⟩) := by
  pointwise [k0_pay9]

/-- Pair 7's store. -/
theorem piece7 (q : FVec Ideal S512x2048 .bf16) (k : Vec Ideal S1x128x128 .bf16) (a : Fin 1) (j : Fin 128) (r : Fin 512) :
    k0_pay10 q k (ix3 a j r) = ∑ x : Fin 128, k (ix3 0 j x) * q (ix2 r ⟨896 + x.val, by omega⟩) := by
  pointwise [k0_pay10]

/-- Pair 8's store. -/
theorem piece8 (q : FVec Ideal S512x2048 .bf16) (k : Vec Ideal S1x128x128 .bf16) (a : Fin 1) (j : Fin 128) (r : Fin 512) :
    k0_pay11 q k (ix3 a j r) = ∑ x : Fin 128, k (ix3 0 j x) * q (ix2 r ⟨1024 + x.val, by omega⟩) := by
  pointwise [k0_pay11]

/-- Pair 9's store. -/
theorem piece9 (q : FVec Ideal S512x2048 .bf16) (k : Vec Ideal S1x128x128 .bf16) (a : Fin 1) (j : Fin 128) (r : Fin 512) :
    k0_pay12 q k (ix3 a j r) = ∑ x : Fin 128, k (ix3 0 j x) * q (ix2 r ⟨1152 + x.val, by omega⟩) := by
  pointwise [k0_pay12]

/-- Pair 10's store. -/
theorem piece10 (q : FVec Ideal S512x2048 .bf16) (k : Vec Ideal S1x128x128 .bf16) (a : Fin 1) (j : Fin 128) (r : Fin 512) :
    k0_pay13 q k (ix3 a j r) = ∑ x : Fin 128, k (ix3 0 j x) * q (ix2 r ⟨1280 + x.val, by omega⟩) := by
  pointwise [k0_pay13]

/-- Pair 11's store. -/
theorem piece11 (q : FVec Ideal S512x2048 .bf16) (k : Vec Ideal S1x128x128 .bf16) (a : Fin 1) (j : Fin 128) (r : Fin 512) :
    k0_pay14 q k (ix3 a j r) = ∑ x : Fin 128, k (ix3 0 j x) * q (ix2 r ⟨1408 + x.val, by omega⟩) := by
  pointwise [k0_pay14]

/-- Pair 12's store. -/
theorem piece12 (q : FVec Ideal S512x2048 .bf16) (k : Vec Ideal S1x128x128 .bf16) (a : Fin 1) (j : Fin 128) (r : Fin 512) :
    k0_pay15 q k (ix3 a j r) = ∑ x : Fin 128, k (ix3 0 j x) * q (ix2 r ⟨1536 + x.val, by omega⟩) := by
  pointwise [k0_pay15]

/-- Pair 13's store. -/
theorem piece13 (q : FVec Ideal S512x2048 .bf16) (k : Vec Ideal S1x128x128 .bf16) (a : Fin 1) (j : Fin 128) (r : Fin 512) :
    k0_pay16 q k (ix3 a j r) = ∑ x : Fin 128, k (ix3 0 j x) * q (ix2 r ⟨1664 + x.val, by omega⟩) := by
  pointwise [k0_pay16]

/-- Pair 14's store. -/
theorem piece14 (q : FVec Ideal S512x2048 .bf16) (k : Vec Ideal S1x128x128 .bf16) (a : Fin 1) (j : Fin 128) (r : Fin 512) :
    k0_pay17 q k (ix3 a j r) = ∑ x : Fin 128, k (ix3 0 j x) * q (ix2 r ⟨1792 + x.val, by omega⟩) := by
  pointwise [k0_pay17]

/-- Pair 15's store. -/
theorem piece15 (q : FVec Ideal S512x2048 .bf16) (k : Vec Ideal S1x128x128 .bf16) (a : Fin 1) (j : Fin 128) (r : Fin 512) :
    k0_pay1 q k (ix3 a j r) = ∑ x : Fin 128, k (ix3 0 j x) * q (ix2 r ⟨1920 + x.val, by omega⟩) := by
  pointwise [k0_pay1]

theorem ld_rows (h : Vec Ideal S512x2048 .bf16) : View.ld h r0_0 = h :=
  View.ld_unit_zero (by funext a; fin_cases a <;> rfl) _ _

theorem ld_weights (w : Vec Ideal S2048x2048 .bf16) : View.ld w r0_1 = w :=
  View.ld_unit_zero (by funext a; fin_cases a <;> rfl) _ _

/-- The sixteen stores leave the scores of the block. -/
theorem block_eq (h : Vec Ideal S512x2048 .bf16) (w : Vec Ideal S2048x2048 .bf16) (k : Vec Ideal S16x128x128 .bf16) (y : S16x128x512.Idx) :
    out0_3 h w k y = blockScore h w k y := by
  unfold out0_3 k0_pay18
  refine View.canon_apply_of_pieces (blockScore h w k) _ ?_ y (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · intro x
    have h0 : (x 0).val = 0 := Nat.lt_one_iff.1 (x 0).isLt
    rw [eq_ix3 x]
    refine (piece15 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 15 + 1 * 0 = 15 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1920 + z.val = (15 + 1 * (x 0).val) * 128 + z.val; omega
  · intro x
    have h0 : (x 0).val = 0 := Nat.lt_one_iff.1 (x 0).isLt
    rw [eq_ix3 x]
    refine (piece14 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 14 + 1 * 0 = 14 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1792 + z.val = (14 + 1 * (x 0).val) * 128 + z.val; omega
  · intro x
    have h0 : (x 0).val = 0 := Nat.lt_one_iff.1 (x 0).isLt
    rw [eq_ix3 x]
    refine (piece13 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 13 + 1 * 0 = 13 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1664 + z.val = (13 + 1 * (x 0).val) * 128 + z.val; omega
  · intro x
    have h0 : (x 0).val = 0 := Nat.lt_one_iff.1 (x 0).isLt
    rw [eq_ix3 x]
    refine (piece12 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 12 + 1 * 0 = 12 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1536 + z.val = (12 + 1 * (x 0).val) * 128 + z.val; omega
  · intro x
    have h0 : (x 0).val = 0 := Nat.lt_one_iff.1 (x 0).isLt
    rw [eq_ix3 x]
    refine (piece11 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 11 + 1 * 0 = 11 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1408 + z.val = (11 + 1 * (x 0).val) * 128 + z.val; omega
  · intro x
    have h0 : (x 0).val = 0 := Nat.lt_one_iff.1 (x 0).isLt
    rw [eq_ix3 x]
    refine (piece10 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 10 + 1 * 0 = 10 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1280 + z.val = (10 + 1 * (x 0).val) * 128 + z.val; omega
  · intro x
    have h0 : (x 0).val = 0 := Nat.lt_one_iff.1 (x 0).isLt
    rw [eq_ix3 x]
    refine (piece9 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 9 + 1 * 0 = 9 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1152 + z.val = (9 + 1 * (x 0).val) * 128 + z.val; omega
  · intro x
    have h0 : (x 0).val = 0 := Nat.lt_one_iff.1 (x 0).isLt
    rw [eq_ix3 x]
    refine (piece8 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 8 + 1 * 0 = 8 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1024 + z.val = (8 + 1 * (x 0).val) * 128 + z.val; omega
  · intro x
    have h0 : (x 0).val = 0 := Nat.lt_one_iff.1 (x 0).isLt
    rw [eq_ix3 x]
    refine (piece7 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 7 + 1 * 0 = 7 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 896 + z.val = (7 + 1 * (x 0).val) * 128 + z.val; omega
  · intro x
    have h0 : (x 0).val = 0 := Nat.lt_one_iff.1 (x 0).isLt
    rw [eq_ix3 x]
    refine (piece6 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 6 + 1 * 0 = 6 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 768 + z.val = (6 + 1 * (x 0).val) * 128 + z.val; omega
  · intro x
    have h0 : (x 0).val = 0 := Nat.lt_one_iff.1 (x 0).isLt
    rw [eq_ix3 x]
    refine (piece5 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 5 + 1 * 0 = 5 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 640 + z.val = (5 + 1 * (x 0).val) * 128 + z.val; omega
  · intro x
    have h0 : (x 0).val = 0 := Nat.lt_one_iff.1 (x 0).isLt
    rw [eq_ix3 x]
    refine (piece4 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 4 + 1 * 0 = 4 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 512 + z.val = (4 + 1 * (x 0).val) * 128 + z.val; omega
  · intro x
    have h0 : (x 0).val = 0 := Nat.lt_one_iff.1 (x 0).isLt
    rw [eq_ix3 x]
    refine (piece3 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 3 + 1 * 0 = 3 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 384 + z.val = (3 + 1 * (x 0).val) * 128 + z.val; omega
  · intro x
    have h0 : (x 0).val = 0 := Nat.lt_one_iff.1 (x 0).isLt
    rw [eq_ix3 x]
    refine (piece2 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 2 + 1 * 0 = 2 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 256 + z.val = (2 + 1 * (x 0).val) * 128 + z.val; omega
  · intro x
    have h0 : (x 0).val = 0 := Nat.lt_one_iff.1 (x 0).isLt
    rw [eq_ix3 x]
    refine (piece1 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 1 + 1 * 0 = 1 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 128 + z.val = (1 + 1 * (x 0).val) * 128 + z.val; omega
  · intro x
    have h0 : (x 0).val = 0 := Nat.lt_one_iff.1 (x 0).isLt
    rw [eq_ix3 x]
    refine (piece0 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 0 + 1 * 0 = 0 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show z.val = (0 + 1 * (x 0).val) * 128 + z.val; omega

variable (m : (ℓ : Loc nD τ sig) → Buf (Elt Ideal) ℓ)

/-- The three arguments as arrays. -/
abbrev AH (c : Dev nD) : FVec Ideal S8192x2048 .bf16 := m ((c : Thread nD τ).loc main_arg0)
abbrev AW (c : Dev nD) : FVec Ideal S1x2048x2048 .f32 := m ((c : Thread nD τ).loc main_arg1)
abbrev AK (c : Dev nD) : FVec Ideal S1x8x2x128x128 .f32 := m ((c : Thread nD τ).loc main_arg2)

/-- The score of every pair, sub-key and token: the sub-key against the token's query, itself the token through the weights. -/
def whole (H : FVec Ideal S8192x2048 .bf16) (W : FVec Ideal S1x2048x2048 .f32) (K : FVec Ideal S1x8x2x128x128 .f32) :
    FVec Ideal S16x128x8192 .f32 := fun y =>
  have y0 : (y 0).val < 16 := (y 0).isLt
  ∑ x : Fin 128, K (ix5 0 ⟨(y 0).val / 2, by omega⟩ ⟨(y 0).val % 2, by omega⟩ (y 1) x)
    * ∑ d : Fin 2048, H (ix2 (y 2) d) * W (ix3 0 d ⟨(y 0).val * 128 + x.val, by omega⟩)

theorem idx : ∀ t : Fin cfg0.N, win0_0.index t = ![t.val, 0] ∧ win0_1.index t = ![0, 0] ∧ win0_2.index t = ![0, 0, 0]
    ∧ win0_3.index t = ![0, 0, t.val] :=
  (by decide +kernel : ∀ t : Fin grid0.N, _)

theorem read_h (c : Dev nD) (t : Fin cfg0.N) (r : Fin 512) (d : Fin 2048) : (iblk m c 0 t : Vec Ideal S512x2048 .bf16) (ix2 r d)
    = AH m c (ix2 ⟨t.val * 512 + r.val, by have := lt_of_lt_of_eq t.isLt N_0; omega⟩ d) := by
  blk_ext [iblk, V, idx t]

theorem read_w (c : Dev nD) (t : Fin cfg0.N) (d e : Fin 2048) : (iblk m c 1 t : Vec Ideal S2048x2048 .bf16) (ix2 d e)
    = AW m c (ix3 0 d e) := by
  blk_point [iblk, idx t]

theorem read_k (c : Dev nD) (t : Fin cfg0.N) (g : Fin 16) (j x : Fin 128) : (iblk m c 2 t : Vec Ideal S16x128x128 .bf16) (ix3 g j x)
    = AK m c (ix5 0 ⟨g.val / 2, by omega⟩ ⟨g.val % 2, by omega⟩ j x) := by
  blk_point [iblk, idx t]

/-- What a point leaves in its block is the whole score array's part there. -/
theorem block_at (c : Dev nD) (t : Fin cfg0.N) (g : Fin 16) (j : Fin 128) (r : Fin 512) :
    out0_3 (iblk m c 0 t) (iblk m c 1 t) (iblk m c 2 t) (ix3 g j r)
      = whole (AH m c) (AW m c) (AK m c) (ix3 g j ⟨t.val * 512 + r.val, by have := lt_of_lt_of_eq t.isLt N_0; omega⟩) := by
  refine (block_eq _ _ _ _).trans (Finset.sum_congr rfl fun x _ => congrArg₂ (· * ·) (read_k m c t g j x) ?_)
  refine (query_at _ _ _ _).trans (Finset.sum_congr rfl fun d _ => ?_)
  exact congrArg₂ (· * ·) (read_h m c t r d) (read_w m c t d _)

/-- The array after the run. -/
theorem final (c : Dev nD) : (dats m 0 c).arrAt 3 cfg0.N = whole (AH m c) (AW m c) (AK m c) := by
  refine (dats m 0 c).arrAt_eq_of_covers 3 _ (by decide +kernel) fun t hf y => ?_
  have ht : t.val < 16 := lt_of_lt_of_eq t.isLt N_0
  blk_simp
  rw [after0_3]
  refine Eq.trans ?_ ((block_at m c t (y 0) (y 1) (y 2)).trans ?_)
  · blk_ext []
  · blk_ext [idx t]

end Cert.PscoreIdeal.Value

end
-- ==== Proof.ScoreRef.lean ====
/- The reference's scores, read at an index: the same sum of products as the call's array. -/
module

public import proofs.«01_k».proof.Proof.Score
public import proofs.«01_k».proof.Proof.Gen.PscoreRefIdeal.Run

@[expose] public section

set_option maxRecDepth 16384

noncomputable section

open Idealize.ShloMosaic Idealize.ShloMosaic.TcCoe Idealize.SL.Sem

namespace Cert.PscoreRefIdeal.Value

open Cert.PscoreRefIdeal Cert.PscoreRefIdeal.Gen

/-- The reference's term over its three arguments. -/
def scores (H : FVec Ideal S8192x2048 .bf16) (W : FVec Ideal S1x2048x2048 .f32) (K : FVec Ideal S1x8x2x128x128 .f32) :
    FVec Ideal S16x128x8192 .f32 :=
  transpose S16x128x8192 [1, 2, 0] (shapeCast S8192x16x128 (transpose S8192x8x2x128 [3, 0, 1, 2] (Host.dotGeneral (F := Ideal) dot_S8x2x128x128_S8192x8x2x128_S8x2x128x8192_3_3_2_0_01_12 none (shapeCast S8x2x128x128 K shapeCasts_S1x8x2x128x128_S8x2x128x128) (shapeCast S8192x8x2x128 (Host.dotGeneral (F := Ideal) dot_S8192x2048_S2048x2048_S8192x2048_1_0_0_1_n_n none (extf .f32 H bitsLt_bf16_f32) (shapeCast S2048x2048 W shapeCasts_S1x2048x2048_S2048x2048)) shapeCasts_S8192x2048_S8192x8x2x128)) transposes_S8x2x128x8192_S8192x8x2x128_3_0_1_2) shapeCasts_S8192x8x2x128_S8192x16x128) transposes_S8192x16x128_S16x128x8192_1_2_0

theorem scores_eq (H : FVec Ideal S8192x2048 .bf16) (W : FVec Ideal S1x2048x2048 .f32) (K : FVec Ideal S1x8x2x128x128 .f32) :
    scores H W K = Cert.PscoreIdeal.Value.whole H W K := by
  funext y
  rw [eq_ix3 y]
  unfold Cert.PscoreIdeal.Value.whole
  pointwise [scores]
  blk_point []

end Cert.PscoreRefIdeal.Value

end
-- ==== Proof.InPay.lean ====
/- What a grid point of the input projection computes, at one element, over whatever its input blocks hold: a row through
   the norm and its modulation, that row through a block of the weights, and the forget gates of a row's heads. -/
module

public import proofs.«01_k».proof.Proof.OutPay
public import proofs.«01_k».proof.Proof.Gen.InprojIdeal.Skeleton
public import Idealize.ShloMosaic.Lib.Pointwise

@[expose] public section

set_option maxRecDepth 16384

noncomputable section

open Idealize.ShloMosaic Idealize.ShloMosaic.TcCoe Idealize.SL.Sem

namespace Cert.InprojIdeal.Value

open Cert.InprojIdeal Cert.InprojIdeal.Gen

/-- The logarithm of the logistic function, by the form that never overflows. -/
def gateOf (z : EReal) : EReal := min z 0 - Ideal.log1p (Ideal.exp (0 - max z (-z)))

section Block

variable (x : Vec Ideal S256x2048 .f32) (g : Vec Ideal S1x2048 .f32) (sc sh : Vec Ideal S1x1x2048 .f32)

/-- A row of the block through the norm and its modulation. -/
theorem pay4_at (r : Fin 256) (e : Fin 2048) : k0_pay4 x g sc sh (ix2 r e)
    = x (ix2 r e) * (Cert.Rms.scale fun d => x (ix2 r d)) * g (ix2 0 e) * (1 + sc (ix3 0 0 e)) + sh (ix3 0 0 e) := by
  pointwise [k0_pay4]
  rfl

/-- The same block as the call keeps it. -/
theorem pay5_at (r : Fin 256) (e : Fin 2048) : k0_pay5 x g sc sh (ix2 r e) = k0_pay4 x g sc sh (ix2 r e) := by
  pointwise [k0_pay5]

/-- A kept row through a block of the weights. -/
theorem pay2_at (h : Vec Ideal S256x2048 .bf16) (w : Vec Ideal S2048x1024 .bf16) (r : Fin 256) (e : Fin 1024) :
    k0_pay2 h w (ix2 r e) = ∑ d : Fin 2048, h (ix2 r d) * w (ix2 d e) := by
  pointwise [k0_pay2]

theorem pay3_at (h : Vec Ideal S256x2048 .bf16) (w : Vec Ideal S2048x1024 .bf16) (r : Fin 256) (e : Fin 1024) :
    k0_pay3 h w (ix2 r e) = ∑ d : Fin 2048, h (ix2 r d) * w (ix2 d e) := by
  rw [← pay2_at]
  pointwise [k0_pay3]

/-- A head's forget logit of a row, its offset added. -/
theorem pay6_at (wf : Vec Ideal S16x2048 .bf16) (b : Vec Ideal S8x1 .f32) (i : Fin 8) (r : Fin 256) :
    k0_pay6 x g sc sh wf b (ix2 i r)
      = (∑ d : Fin 2048, wf (ix2 ⟨i.val, by omega⟩ d) * k0_pay4 x g sc sh (ix2 r d)) + b (ix2 i 0) := by
  pointwise [k0_pay6]

/-- The gate of a logit. -/
theorem pay1_at (z : FVec Ideal S8x256 .f32) (i : Fin 8) (r : Fin 256) : k0_pay1 z (ix2 i r) = gateOf (z (ix2 i r)) := by
  unfold gateOf
  pointwise [k0_pay1]
  rfl

end Block

section Spec

variable (X : FVec Ideal S4x2048x2048 .f32) (SC SH : FVec Ideal S4x1x2048 .f32) (G : FVec Ideal S1x2048 .f32)
  (W : FVec Ideal S1x2048x4104 .f32) (B : FVec Ideal S1x8 .f32)

/-- A token's row through the norm and its modulation. -/
def hid (b : Fin 4) (s e : Fin 2048) : EReal :=
  X (ix3 b s e) * (Cert.Rms.scale fun d => X (ix3 b s d)) * G (ix2 0 e) * (1 + SC (ix3 b 0 e)) + SH (ix3 b 0 e)

/-- One entry of the token's projection. -/
def proj (b : Fin 4) (s : Fin 2048) (n : Fin 4104) : EReal := ∑ d : Fin 2048, hid X SC SH G b s d * W (ix3 0 d n)

/-- The 1024 entries from the place `o` on. -/
def part (o : Nat) (ho : o ≤ 3080) (b : Fin 4) (s : Fin 2048) (e : Fin 1024) : EReal :=
  proj X SC SH G W b s ⟨o + e.val, by omega⟩

/-- A head's forget gate of the token. -/
def forget (b : Fin 4) (s : Fin 2048) (i : Fin 8) : EReal :=
  gateOf (proj X SC SH G W b s ⟨3072 + i.val, by omega⟩ + B (ix2 0 i))

/-- Such a part of every token, the sequences one after another. -/
def flat {φ : FTy} (f : Fin 4 → Fin 2048 → Fin 1024 → EReal) : FVec Ideal S8192x1024 φ := fun y =>
  have y0 : (y 0).val < 8192 := (y 0).isLt
  f ⟨(y 0).val / 2048, by omega⟩ ⟨(y 0).val % 2048, by omega⟩ (y 1)

/-- The gates of every token, one head after another. -/
def flatGates (f : Fin 4 → Fin 2048 → Fin 8 → EReal) : FVec Ideal S8x8192 .f32 := fun y =>
  have y1 : (y 1).val < 8192 := (y 1).isLt
  f ⟨(y 1).val / 2048, by omega⟩ ⟨(y 1).val % 2048, by omega⟩ (y 0)

/-- The keys or the values, by heads of 128. -/
def heads (f : Fin 4 → Fin 2048 → Fin 1024 → EReal) : FVec Ideal S1x4x2048x8x128 .f32 := fun y =>
  have y3 : (y 3).val < 8 := (y 3).isLt
  have y4 : (y 4).val < 128 := (y 4).isLt
  f (y 1) (y 2) ⟨(y 3).val * 128 + (y 4).val, by omega⟩

/-- The gates, token by token. -/
def tokenGates (f : Fin 4 → Fin 2048 → Fin 8 → EReal) : FVec Ideal S1x4x2048x8 .f32 := fun y => f (y 1) (y 2) (y 3)

/-- The last fifteen tokens' parts. -/
def lastTokens (f : Fin 4 → Fin 2048 → Fin 1024 → EReal) : FVec Ideal S1x4x15x1024 .f32 := fun y =>
  have y2 : (y 2).val < 15 := (y 2).isLt
  f (y 1) ⟨2033 + (y 2).val, by omega⟩ (y 3)

end Spec

end Cert.InprojIdeal.Value

end
-- ==== Proof.InRunIdeal.lean ====
/- The input projection's kernel body, run once in each of the four places a grid point can stand in its row of four:
   at the first the block of rows is normed, modulated, kept in the scratch and the forget gate and the query columns
   are stored; at the others the kept rows are multiplied with the next block of columns and the key, the value and
   the pooled columns are stored in turn.  Each run is stated at the stored values themselves. -/
module

public import proofs.«01_k».proof.Proof.Gen.InprojIdeal.Frame
public import proofs.«01_k».proof.Proof.Gen.InprojIdeal.Skeleton
public import Idealize.ShloMosaic.Lib.VecWindow
public import Idealize.ShloMosaic.Lib.Pipeline.ValueKit

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.InprojIdeal.Gen

variable {F : FTy → Type} [FloatOps F]

local notation "𝕄" => MT nD τ sig Unit (Elt F) ℕ (UR sig nD τ) ℕ

/-- A store over the whole of a buffer leaves the stored value in it. -/
theorem whole_store {s : Shape} {e : EltTy} (v : View sig .tc .vmem s e) (f : v.ty.Contents (Elt F)) {off : Fin s.rank → ℕ}
    (h : off = fun _ => 0) (inb : ∀ a, off a + s.size a ≤ s.size a) (P : s.Idx → Elt F e) :
    v.read (Elt F) (v.writes (Elt F) f [⟨Rect.unit off s.size inb, P⟩]) = P := by
  subst h; exact View.read_writes_full v f inb P []

theorem zero2 : (![0, 0] : Fin 2 → ℕ) = fun _ => 0 := by funext a; fin_cases a <;> rfl
theorem zero3 : (![0, 0, 0] : Fin 3 → ℕ) = fun _ => 0 := by funext a; fin_cases a <;> rfl

/-- A load of the whole of a buffer reads what the buffer holds. -/
theorem whole_load {s : Shape} {e : EltTy} {a : Memref sig .tc .vmem s e} (ha : a.IsWhole) {off : Fin s.rank → ℕ}
    (h : off = fun _ => 0) (inb : ∀ k, off k + s.size k ≤ s.size k) (x : Vec F s e) :
    View.readAt (Elt F) a.view (Rect.unit off s.size inb).toLoadRect (ha.unread x) = x := by
  subst h; exact (View.readAt_full _ _ _).trans (ha.read_unread x)

/-- The kept rows, from what the loads read. -/
theorem rows_eq {a2 : Memref sig .tc .vmem S256x2048 .f32} (h2 : a2.IsWhole) {a5 : Memref sig .tc .vmem S1x2048 .f32} (h5 : a5.IsWhole)
    {a3 : Memref sig .tc .vmem S1x1x2048 .f32} (h3 : a3.IsWhole) {a4 : Memref sig .tc .vmem S1x1x2048 .f32} (h4 : a4.IsWhole)
    (b2 b5 b3 b4) (x2 : Vec F S256x2048 .f32) (x5 : Vec F S1x2048 .f32) (x3 x4 : Vec F S1x1x2048 .f32) :
    k0_pay5 (View.readAt (Elt F) a2.view (Rect.unit (s := S256x2048) ![0, 0] S256x2048.size b2).toLoadRect (h2.unread x2))
        (View.readAt (Elt F) a5.view (Rect.unit (s := S1x2048) ![0, 0] S1x2048.size b5).toLoadRect (h5.unread x5))
        (View.readAt (Elt F) a3.view (Rect.unit (s := S1x1x2048) ![0, 0, 0] S1x1x2048.size b3).toLoadRect (h3.unread x3))
        (View.readAt (Elt F) a4.view (Rect.unit (s := S1x1x2048) ![0, 0, 0] S1x1x2048.size b4).toLoadRect (h4.unread x4))
      = k0_pay5 x2 x5 x3 x4 := by
  rw [whole_load h2 zero2, whole_load h5 zero2, whole_load h3 zero3, whole_load h4 zero3]

/-- The gate, from what the loads read. -/
theorem gate_eq {a2 : Memref sig .tc .vmem S256x2048 .f32} (h2 : a2.IsWhole) {a5 : Memref sig .tc .vmem S1x2048 .f32} (h5 : a5.IsWhole)
    {a3 : Memref sig .tc .vmem S1x1x2048 .f32} (h3 : a3.IsWhole) {a4 : Memref sig .tc .vmem S1x1x2048 .f32} (h4 : a4.IsWhole)
    {a7 : Memref sig .tc .vmem S16x2048 .bf16} (h7 : a7.IsWhole) {a8 : Memref sig .tc .vmem S8x1 .f32} (h8 : a8.IsWhole)
    (b2 b5 b3 b4 b7 b8) (x2 : Vec F S256x2048 .f32) (x5 : Vec F S1x2048 .f32) (x3 x4 : Vec F S1x1x2048 .f32)
    (x7 : Vec F S16x2048 .bf16) (x8 : Vec F S8x1 .f32) :
    k0_pay1 (k0_pay6 (View.readAt (Elt F) a2.view (Rect.unit (s := S256x2048) ![0, 0] S256x2048.size b2).toLoadRect (h2.unread x2))
        (View.readAt (Elt F) a5.view (Rect.unit (s := S1x2048) ![0, 0] S1x2048.size b5).toLoadRect (h5.unread x5))
        (View.readAt (Elt F) a3.view (Rect.unit (s := S1x1x2048) ![0, 0, 0] S1x1x2048.size b3).toLoadRect (h3.unread x3))
        (View.readAt (Elt F) a4.view (Rect.unit (s := S1x1x2048) ![0, 0, 0] S1x1x2048.size b4).toLoadRect (h4.unread x4))
        (View.readAt (Elt F) a7.view (Rect.unit (s := S16x2048) ![0, 0] S16x2048.size b7).toLoadRect (h7.unread x7))
        (View.readAt (Elt F) a8.view (Rect.unit (s := S8x1) ![0, 0] S8x1.size b8).toLoadRect (h8.unread x8)))
      = k0_pay1 (k0_pay6 x2 x5 x3 x4 x7 x8) := by
  rw [whole_load h2 zero2, whole_load h5 zero2, whole_load h3 zero3, whole_load h4 zero3, whole_load h7 zero2, whole_load h8 zero2]

set_option maxHeartbeats 4000000 in
/-- The body at the first point of a row: the kept rows, the gate and the query columns are stored. -/
theorem run_A (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S8x256 .f32) (harg13 : arg13.IsWhole) (arg14 : Memref sig .tc .vmem S256x2048 .bf16) (harg14 : arg14.IsWhole) (hc1 : k0_cond1 i = 1#1) (hc2 : k0_cond2 i = 1#1) (hc3 : ¬k0_cond3 i = 1#1) (hc4 : ¬k0_cond4 i = 1#1) (hc5 : ¬k0_cond5 i = 1#1)
    (x2 : Vec F S256x2048 .f32) (x3 : Vec F S1x1x2048 .f32) (x4 : Vec F S1x1x2048 .f32) (x5 : Vec F S1x2048 .f32) (x6 : Vec F S2048x1024 .bf16) (x7 : Vec F S16x2048 .bf16) (x8 : Vec F S8x1 .f32) (x10 : Vec F S256x1024 .f32) (x11 : Vec F S256x1024 .f32) (x12 : Vec F S256x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 (k0_pay5 x2 x5 x3 x4) x6) ∗ owns (c : Thread nD τ) arg10 fullShare x10 ∗ owns (c : Thread nD τ) arg11 fullShare x11 ∗ owns (c : Thread nD τ) arg12 fullShare x12 ∗ owns (c : Thread nD τ) arg13 fullShare (k0_pay1 (k0_pay6 x2 x5 x3 x4 x7 x8)) ∗ owns (c : Thread nD τ) arg14 fullShare (k0_pay5 x2 x5 x3 x4)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro; refine (whole_store _ _ zero2 _ _).trans ?_; exact congrArg₂ k0_pay3 ((View.readCov_full _ _ _ _ _).trans (rows_eq harg2 harg5 harg3 harg4 _ _ _ _ _ _ _ _)) (whole_load harg6 zero2 _ _)
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      swap; · iexact H13
      ipureintro; refine (whole_store _ _ zero2 _ _).trans ?_; exact gate_eq harg2 harg5 harg3 harg4 harg7 harg8 _ _ _ _ _ _ _ _ _ _ _ _
    · iexists _; isplitr
      swap; · iexact H14
      ipureintro; refine (whole_store _ _ zero2 _ _).trans ?_; exact rows_eq harg2 harg5 harg3 harg4 _ _ _ _ _ _ _ _

set_option maxHeartbeats 4000000 in
/-- The body at the second point: the key columns are stored. -/
theorem run_B (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S8x256 .f32) (harg13 : arg13.IsWhole) (arg14 : Memref sig .tc .vmem S256x2048 .bf16) (harg14 : arg14.IsWhole) (hc1 : ¬k0_cond1 i = 1#1) (hc2 : ¬k0_cond2 i = 1#1) (hc3 : k0_cond3 i = 1#1) (hc4 : ¬k0_cond4 i = 1#1) (hc5 : ¬k0_cond5 i = 1#1)
    (x2 : Vec F S256x2048 .f32) (x3 : Vec F S1x1x2048 .f32) (x4 : Vec F S1x1x2048 .f32) (x5 : Vec F S1x2048 .f32) (x6 : Vec F S2048x1024 .bf16) (x7 : Vec F S16x2048 .bf16) (x8 : Vec F S8x1 .f32) (x9 : Vec F S256x1024 .bf16) (x11 : Vec F S256x1024 .f32) (x12 : Vec F S256x1024 .f32) (x13 : Vec F S8x256 .f32) (x14 : Vec F S256x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay2 x14 x6) ∗ owns (c : Thread nD τ) arg11 fullShare x11 ∗ owns (c : Thread nD τ) arg12 fullShare x12 ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr
      swap; · iexact H10
      ipureintro; refine (whole_store _ _ zero2 _ _).trans ?_; exact congrArg₂ k0_pay2 (whole_load harg14 zero2 _ _) (whole_load harg6 zero2 _ _)
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    · iexists _; isplitr; · ipureintro; exact harg14.read_unread _
      iexact H14

set_option maxHeartbeats 4000000 in
/-- The body at the third point: the value columns are stored. -/
theorem run_C (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S8x256 .f32) (harg13 : arg13.IsWhole) (arg14 : Memref sig .tc .vmem S256x2048 .bf16) (harg14 : arg14.IsWhole) (hc1 : ¬k0_cond1 i = 1#1) (hc2 : ¬k0_cond2 i = 1#1) (hc3 : ¬k0_cond3 i = 1#1) (hc4 : k0_cond4 i = 1#1) (hc5 : ¬k0_cond5 i = 1#1)
    (x2 : Vec F S256x2048 .f32) (x3 : Vec F S1x1x2048 .f32) (x4 : Vec F S1x1x2048 .f32) (x5 : Vec F S1x2048 .f32) (x6 : Vec F S2048x1024 .bf16) (x7 : Vec F S16x2048 .bf16) (x8 : Vec F S8x1 .f32) (x9 : Vec F S256x1024 .bf16) (x10 : Vec F S256x1024 .f32) (x12 : Vec F S256x1024 .f32) (x13 : Vec F S8x256 .f32) (x14 : Vec F S256x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay2 x14 x6) ∗ owns (c : Thread nD τ) arg12 fullShare x12 ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr
      swap; · iexact H11
      ipureintro; refine (whole_store _ _ zero2 _ _).trans ?_; exact congrArg₂ k0_pay2 (whole_load harg14 zero2 _ _) (whole_load harg6 zero2 _ _)
    isplitl [H12]
    · iexists _; isplitr; · ipureintro; exact harg12.read_unread _
      iexact H12
    isplitl [H13]
    · iexists _; isplitr; · ipureintro; exact harg13.read_unread _
      iexact H13
    · iexists _; isplitr; · ipureintro; exact harg14.read_unread _
      iexact H14

set_option maxHeartbeats 4000000 in
/-- The body at the last point: the pooled columns are stored. -/
theorem run_D (c : Dev nD) (i : grid0.Coords) (arg2 : Memref sig .tc .vmem S256x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S256x1024 .bf16) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S8x256 .f32) (harg13 : arg13.IsWhole) (arg14 : Memref sig .tc .vmem S256x2048 .bf16) (harg14 : arg14.IsWhole) (hc1 : ¬k0_cond1 i = 1#1) (hc2 : ¬k0_cond2 i = 1#1) (hc3 : ¬k0_cond3 i = 1#1) (hc4 : ¬k0_cond4 i = 1#1) (hc5 : k0_cond5 i = 1#1)
    (x2 : Vec F S256x2048 .f32) (x3 : Vec F S1x1x2048 .f32) (x4 : Vec F S1x1x2048 .f32) (x5 : Vec F S1x2048 .f32) (x6 : Vec F S2048x1024 .bf16) (x7 : Vec F S16x2048 .bf16) (x8 : Vec F S8x1 .f32) (x9 : Vec F S256x1024 .bf16) (x10 : Vec F S256x1024 .f32) (x11 : Vec F S256x1024 .f32) (x13 : Vec F S8x256 .f32) (x14 : Vec F S256x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay2 x14 x6) ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro; refine (whole_store _ _ zero2 _ _).trans ?_; exact congrArg₂ k0_pay2 (whole_load harg14 zero2 _ _) (whole_load harg6 zero2 _ _)
    isplitl [H13]
    · iexists _; isplitr; · ipureintro; exact harg13.read_unread _
      iexact H13
    · iexists _; isplitr; · ipureintro; exact harg14.read_unread _
      iexact H14

end Cert.InprojIdeal.Body

end
-- ==== Proof.InBodyIdeal.lean ====
/- The input projection's run over its grid: what each buffer holds after every point, in closed form over the four
   points of a row; the body's triple at a generic point from the four runs; the launch; the frame.

   A row of four points shares one block of 256 rows.  The block is normed once, at the row's first point, and kept;
   each stored block is then a function of the row alone, so what a buffer holds between its store and its
   write-back is stated by the row, not by recursion over the points. -/
module

public import proofs.«01_k».proof.Proof.InRunIdeal
public import Idealize.ShloMosaic.Lib.Pipeline.TableIdle
public import Idealize.ShloMosaic.Lib.Claim

@[expose] public section

set_option maxRecDepth 16384

noncomputable section

namespace Cert.InprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four points of a row -/

/-- The `k`-th of the four points of `t`'s row. -/
def pt (t : Fin cfg0.N) (k : Fin 4) : Fin cfg0.N :=
  ⟨t.val / 4 * 4 + k.val, by have h : t.val < 128 := lt_of_lt_of_eq t.isLt N_0; have := k.isLt; exact lt_of_lt_of_eq (b := 128) (by omega) N_0.symm⟩

theorem pt_self (t : Fin cfg0.N) (k : Fin 4) (h : t.val % 4 = k.val) : pt t k = t :=
  Fin.ext (by show t.val / 4 * 4 + k.val = t.val; omega)

/-- The point before a point. -/
abbrev prev (t : Fin cfg0.N) : Fin cfg0.N := ⟨t.val - 1, Nat.lt_of_le_of_lt (Nat.sub_le _ _) t.isLt⟩

theorem pt_prev (t : Fin cfg0.N) (k : Fin 4) (h : t.val % 4 ≠ 0) : pt (prev t) k = pt t k :=
  Fin.ext (by show (t.val - 1) / 4 * 4 + k.val = t.val / 4 * 4 + k.val; omega)

/-- The normed and modulated rows `t`'s row of points works on. -/
def rows (c : Dev nD) (t : Fin cfg0.N) : Vec F S256x2048 .bf16 :=
  k0_pay5 (iblk m c 0 (pt t 0)) (iblk m c 3 (pt t 0)) (iblk m c 1 (pt t 0)) (iblk m c 2 (pt t 0))

/-- The forget gate of these rows. -/
def gate (c : Dev nD) (t : Fin cfg0.N) : Vec F S8x256 .f32 :=
  k0_pay1 (k0_pay6 (iblk m c 0 (pt t 0)) (iblk m c 3 (pt t 0)) (iblk m c 1 (pt t 0)) (iblk m c 2 (pt t 0)) (iblk m c 5 (pt t 0)) (iblk m c 6 (pt t 0)))

theorem rows_prev (c : Dev nD) (t : Fin cfg0.N) (h : t.val % 4 ≠ 0) : rows m c (prev t) = rows m c t := by
  unfold rows; rw [pt_prev t 0 h]

theorem gate_prev (c : Dev nD) (t : Fin cfg0.N) (h : t.val % 4 ≠ 0) : gate m c (prev t) = gate m c t := by
  unfold gate; rw [pt_prev t 0 h]

/-! ## Where the body stores -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ t.val % 4 = 1 :=
  (by decide +kernel : ∀ t : Fin grid0.N, k0_cond3 (grid0.coords t) = 1#1 ↔ t.val % 4 = 1)
theorem hcond4 : ∀ t : Fin cfg0.N, k0_cond4 (grid0.coords t) = 1#1 ↔ t.val % 4 = 2 :=
  (by decide +kernel : ∀ t : Fin grid0.N, k0_cond4 (grid0.coords t) = 1#1 ↔ t.val % 4 = 2)
theorem hcond5 : ∀ t : Fin cfg0.N, k0_cond5 (grid0.coords t) = 1#1 ↔ t.val % 4 = 3 :=
  (by decide +kernel : ∀ t : Fin grid0.N, k0_cond5 (grid0.coords t) = 1#1 ↔ t.val % 4 = 3)
theorem live_7 : ∀ t : Fin cfg0.N, t.val % 4 = 0 → cfg0.idle 7 (grid0.coords t) = false :=
  (by decide +kernel : ∀ t : Fin grid0.N, t.val % 4 = 0 → cfg0.idle 7 (grid0.coords t) = false)
theorem idle_7 : ∀ t : Fin cfg0.N, t.val % 4 ≠ 0 → cfg0.idle 7 (grid0.coords t) = true :=
  (by decide +kernel : ∀ t : Fin grid0.N, t.val % 4 ≠ 0 → cfg0.idle 7 (grid0.coords t) = true)
theorem fresh_7 : ∀ t : Fin cfg0.N, t.val % 4 = 0 → cfg0.fresh 7 t.val = true :=
  (by decide +kernel : ∀ t : Fin grid0.N, t.val % 4 = 0 → cfg0.fresh 7 t.val = true)
theorem stale_7 : ∀ t : Fin cfg0.N, t.val % 4 = 3 → cfg0.fresh 7 t.val = false :=
  (by decide +kernel : ∀ t : Fin grid0.N, t.val % 4 = 3 → cfg0.fresh 7 t.val = false)
theorem back_7 (t : Fin cfg0.N) (h : t.val % 4 = 3) : (cfg0.win 7).flush t = true := (flush0_7 t).mpr h
theorem stay_7 (t : Fin cfg0.N) (h : t.val % 4 ≠ 3) : (cfg0.win 7).flush t = false := by
  cases hf : (cfg0.win 7).flush t
  · rfl
  · exact absurd ((flush0_7 t).mp hf) h
theorem live_8 : ∀ t : Fin cfg0.N, t.val % 4 = 1 → cfg0.idle 8 (grid0.coords t) = false :=
  (by decide +kernel : ∀ t : Fin grid0.N, t.val % 4 = 1 → cfg0.idle 8 (grid0.coords t) = false)
theorem idle_8 : ∀ t : Fin cfg0.N, t.val % 4 ≠ 1 → cfg0.idle 8 (grid0.coords t) = true :=
  (by decide +kernel : ∀ t : Fin grid0.N, t.val % 4 ≠ 1 → cfg0.idle 8 (grid0.coords t) = true)
theorem fresh_8 : ∀ t : Fin cfg0.N, t.val % 4 = 0 → cfg0.fresh 8 t.val = true :=
  (by decide +kernel : ∀ t : Fin grid0.N, t.val % 4 = 0 → cfg0.fresh 8 t.val = true)
theorem stale_8 : ∀ t : Fin cfg0.N, t.val % 4 = 3 → cfg0.fresh 8 t.val = false :=
  (by decide +kernel : ∀ t : Fin grid0.N, t.val % 4 = 3 → cfg0.fresh 8 t.val = false)
theorem back_8 (t : Fin cfg0.N) (h : t.val % 4 = 3) : (cfg0.win 8).flush t = true := (flush0_8 t).mpr h
theorem stay_8 (t : Fin cfg0.N) (h : t.val % 4 ≠ 3) : (cfg0.win 8).flush t = false := by
  cases hf : (cfg0.win 8).flush t
  · rfl
  · exact absurd ((flush0_8 t).mp hf) h
theorem live_9 : ∀ t : Fin cfg0.N, t.val % 4 = 2 → cfg0.idle 9 (grid0.coords t) = false :=
  (by decide +kernel : ∀ t : Fin grid0.N, t.val % 4 = 2 → cfg0.idle 9 (grid0.coords t) = false)
theorem idle_9 : ∀ t : Fin cfg0.N, t.val % 4 ≠ 2 → cfg0.idle 9 (grid0.coords t) = true :=
  (by decide +kernel : ∀ t : Fin grid0.N, t.val % 4 ≠ 2 → cfg0.idle 9 (grid0.coords t) = true)
theorem fresh_9 : ∀ t : Fin cfg0.N, t.val % 4 = 0 → cfg0.fresh 9 t.val = true :=
  (by decide +kernel : ∀ t : Fin grid0.N, t.val % 4 = 0 → cfg0.fresh 9 t.val = true)
theorem stale_9 : ∀ t : Fin cfg0.N, t.val % 4 = 3 → cfg0.fresh 9 t.val = false :=
  (by decide +kernel : ∀ t : Fin grid0.N, t.val % 4 = 3 → cfg0.fresh 9 t.val = false)
theorem back_9 (t : Fin cfg0.N) (h : t.val % 4 = 3) : (cfg0.win 9).flush t = true := (flush0_9 t).mpr h
theorem stay_9 (t : Fin cfg0.N) (h : t.val % 4 ≠ 3) : (cfg0.win 9).flush t = false := by
  cases hf : (cfg0.win 9).flush t
  · rfl
  · exact absurd ((flush0_9 t).mp hf) h
theorem live_10 : ∀ t : Fin cfg0.N, t.val % 4 = 3 → cfg0.idle 10 (grid0.coords t) = false :=
  (by decide +kernel : ∀ t : Fin grid0.N, t.val % 4 = 3 → cfg0.idle 10 (grid0.coords t) = false)
theorem idle_10 : ∀ t : Fin cfg0.N, t.val % 4 ≠ 3 → cfg0.idle 10 (grid0.coords t) = true :=
  (by decide +kernel : ∀ t : Fin grid0.N, t.val % 4 ≠ 3 → cfg0.idle 10 (grid0.coords t) = true)
theorem fresh_10 : ∀ t : Fin cfg0.N, t.val % 4 = 0 → cfg0.fresh 10 t.val = true :=
  (by decide +kernel : ∀ t : Fin grid0.N, t.val % 4 = 0 → cfg0.fresh 10 t.val = true)
theorem back_10 (t : Fin cfg0.N) (h : t.val % 4 = 3) : (cfg0.win 10).flush t = true := (flush0_10 t).mpr h
theorem stay_10 (t : Fin cfg0.N) (h : t.val % 4 ≠ 3) : (cfg0.win 10).flush t = false := by
  cases hf : (cfg0.win 10).flush t
  · rfl
  · exact absurd ((flush0_10 t).mp hf) h
theorem live_11 : ∀ t : Fin cfg0.N, t.val % 4 = 0 → cfg0.idle 11 (grid0.coords t) = false :=
  (by decide +kernel : ∀ t : Fin grid0.N, t.val % 4 = 0 → cfg0.idle 11 (grid0.coords t) = false)
theorem idle_11 : ∀ t : Fin cfg0.N, t.val % 4 ≠ 0 → cfg0.idle 11 (grid0.coords t) = true :=
  (by decide +kernel : ∀ t : Fin grid0.N, t.val % 4 ≠ 0 → cfg0.idle 11 (grid0.coords t) = true)
theorem fresh_11 : ∀ t : Fin cfg0.N, t.val % 4 = 0 → cfg0.fresh 11 t.val = true :=
  (by decide +kernel : ∀ t : Fin grid0.N, t.val % 4 = 0 → cfg0.fresh 11 t.val = true)
theorem stale_11 : ∀ t : Fin cfg0.N, t.val % 4 = 3 → cfg0.fresh 11 t.val = false :=
  (by decide +kernel : ∀ t : Fin grid0.N, t.val % 4 = 3 → cfg0.fresh 11 t.val = false)
theorem back_11 (t : Fin cfg0.N) (h : t.val % 4 = 3) : (cfg0.win 11).flush t = true := (flush0_11 t).mpr h
theorem stay_11 (t : Fin cfg0.N) (h : t.val % 4 ≠ 3) : (cfg0.win 11).flush t = false := by
  cases hf : (cfg0.win 11).flush t
  · rfl
  · exact absurd ((flush0_11 t).mp hf) h

/-! ## The buffers, and what the body finds and leaves in them -/

/-- Window 0's buffer at point `t`. -/
abbrev ms0 (t : Fin cfg0.N) : Memref sig .tc .vmem S256x2048 .f32 := win0_0.stage (cfg0.slots t 0)
/-- Window 1's buffer at point `t`. -/
abbrev ms1 (t : Fin cfg0.N) : Memref sig .tc .vmem S1x1x2048 .f32 := win0_1.stage (cfg0.slots t 1)
/-- Window 2's buffer at point `t`. -/
abbrev ms2 (t : Fin cfg0.N) : Memref sig .tc .vmem S1x1x2048 .f32 := win0_2.stage (cfg0.slots t 2)
/-- Window 3's buffer at point `t`. -/
abbrev ms3 (t : Fin cfg0.N) : Memref sig .tc .vmem S1x2048 .f32 := win0_3.stage (cfg0.slots t 3)
/-- Window 4's buffer at point `t`. -/
abbrev ms4 (t : Fin cfg0.N) : Memref sig .tc .vmem S2048x1024 .bf16 := win0_4.stage (cfg0.slots t 4)
/-- Window 5's buffer at point `t`. -/
abbrev ms5 (t : Fin cfg0.N) : Memref sig .tc .vmem S16x2048 .bf16 := win0_5.stage (cfg0.slots t 5)
/-- Window 6's buffer at point `t`. -/
abbrev ms6 (t : Fin cfg0.N) : Memref sig .tc .vmem S8x1 .f32 := win0_6.stage (cfg0.slots t 6)
/-- Window 7's buffer at point `t`. -/
abbrev ms7 (t : Fin cfg0.N) : Memref sig .tc .vmem S256x1024 .bf16 := win0_7.stage (cfg0.slots t 7)
/-- Window 8's buffer at point `t`. -/
abbrev ms8 (t : Fin cfg0.N) : Memref sig .tc .vmem S256x1024 .f32 := win0_8.stage (cfg0.slots t 8)
/-- Window 9's buffer at point `t`. -/
abbrev ms9 (t : Fin cfg0.N) : Memref sig .tc .vmem S256x1024 .f32 := win0_9.stage (cfg0.slots t 9)
/-- Window 10's buffer at point `t`. -/
abbrev ms10 (t : Fin cfg0.N) : Memref sig .tc .vmem S256x1024 .f32 := win0_10.stage (cfg0.slots t 10)
/-- Window 11's buffer at point `t`. -/
abbrev ms11 (t : Fin cfg0.N) : Memref sig .tc .vmem S8x256 .f32 := win0_11.stage (cfg0.slots t 11)
/-- The kept rows' buffer. -/
abbrev scM : Memref sig .tc .vmem S256x2048 .bf16 := Memref.whole cc0_scratch0

/-- What the launch hands over beside the windows: the kept rows' buffer at anything, and the generator's register. -/
theorem rest_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the kept rows' buffer holds anything; after a point it holds that point's rows. -/
def PhiS (c : Dev nD) : (n : ℕ) → n ≤ cfg0.N → sProp 𝕄
  | 0, _ => Pipeline.ΦA spec0 c
  | n + 1, hn => iprop(owns (c : Thread nD τ) scM fullShare (rows m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM fullShare (rows m c ⟨n, hn⟩) ∗ (∃ r, prngReg c r)) := rfl
theorem PhiS_pos (c : Dev nD) (n : ℕ) (h : n ≤ cfg0.N) (hz : n ≠ 0) :
    PhiS m c n h = iprop(owns (c : Thread nD τ) scM fullShare (rows m c ⟨n - 1, by omega⟩) ∗ (∃ r, prngReg c r)) := by
  cases n with
  | zero => exact absurd rfl hz
  | succ n => rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (rows m c t) (iblk m c 4 (pt t 0))
    | ⟨8, _⟩ => k0_pay2 (rows m c t) (iblk m c 4 (pt t 1))
    | ⟨9, _⟩ => k0_pay2 (rows m c t) (iblk m c 4 (pt t 2))
    | ⟨10, _⟩ => k0_pay2 (rows m c t) (iblk m c 4 (pt t 3))
    | ⟨11, _⟩ => gate m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay3 (rows m c t) (iblk m c 4 (pt t 0)) := by dsimp only [dats]
theorem after8 (c : Dev nD) (t : Fin cfg0.N) : (dats m 0 c).after 8 t = k0_pay2 (rows m c t) (iblk m c 4 (pt t 1)) := by dsimp only [dats]
theorem after9 (c : Dev nD) (t : Fin cfg0.N) : (dats m 0 c).after 9 t = k0_pay2 (rows m c t) (iblk m c 4 (pt t 2)) := by dsimp only [dats]
theorem after10 (c : Dev nD) (t : Fin cfg0.N) : (dats m 0 c).after 10 t = k0_pay2 (rows m c t) (iblk m c 4 (pt t 3)) := by dsimp only [dats]
theorem after11 (c : Dev nD) (t : Fin cfg0.N) : (dats m 0 c).after 11 t = gate m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem carry7 (c : Dev nD) (t : Fin cfg0.N) (h : t.val % 4 ≠ 0) : (dats m 0 c).after 7 (prev t) = (dats m 0 c).after 7 t := by
  rw [after7, after7, rows_prev m c t h, pt_prev t 0 h]
/-- At the last point of a row the body finds in window 7's buffer what it stored there earlier in the row. -/
theorem before7 (c : Dev nD) (t : Fin cfg0.N) (h : t.val % 4 = 3) (d) : (dats m 0 c).before 7 t d = (dats m 0 c).after 7 t := by
  rw [(dats m 0 c).before_out_traj 7 rfl (fun _ _ => rfl) (fun s hs _ hf => ?_) t.val t rfl d, stale_7 t h, if_neg Bool.false_ne_true]
  · exact carry7 m c t (by omega)
  · refine (carry7 m c s fun h0 => ?_).symm
    rw [fresh_7 s h0] at hf; exact absurd hf (by decide)
theorem carry8 (c : Dev nD) (t : Fin cfg0.N) (h : t.val % 4 ≠ 0) : (dats m 0 c).after 8 (prev t) = (dats m 0 c).after 8 t := by
  rw [after8, after8, rows_prev m c t h, pt_prev t 1 h]
/-- At the last point of a row the body finds in window 8's buffer what it stored there earlier in the row. -/
theorem before8 (c : Dev nD) (t : Fin cfg0.N) (h : t.val % 4 = 3) (d) : (dats m 0 c).before 8 t d = (dats m 0 c).after 8 t := by
  rw [(dats m 0 c).before_out_traj 8 rfl (fun _ _ => rfl) (fun s hs _ hf => ?_) t.val t rfl d, stale_8 t h, if_neg Bool.false_ne_true]
  · exact carry8 m c t (by omega)
  · refine (carry8 m c s fun h0 => ?_).symm
    rw [fresh_8 s h0] at hf; exact absurd hf (by decide)
theorem carry9 (c : Dev nD) (t : Fin cfg0.N) (h : t.val % 4 ≠ 0) : (dats m 0 c).after 9 (prev t) = (dats m 0 c).after 9 t := by
  rw [after9, after9, rows_prev m c t h, pt_prev t 2 h]
/-- At the last point of a row the body finds in window 9's buffer what it stored there earlier in the row. -/
theorem before9 (c : Dev nD) (t : Fin cfg0.N) (h : t.val % 4 = 3) (d) : (dats m 0 c).before 9 t d = (dats m 0 c).after 9 t := by
  rw [(dats m 0 c).before_out_traj 9 rfl (fun _ _ => rfl) (fun s hs _ hf => ?_) t.val t rfl d, stale_9 t h, if_neg Bool.false_ne_true]
  · exact carry9 m c t (by omega)
  · refine (carry9 m c s fun h0 => ?_).symm
    rw [fresh_9 s h0] at hf; exact absurd hf (by decide)
theorem carry11 (c : Dev nD) (t : Fin cfg0.N) (h : t.val % 4 ≠ 0) : (dats m 0 c).after 11 (prev t) = (dats m 0 c).after 11 t := by
  rw [after11, after11, gate_prev m c t h]
/-- At the last point of a row the body finds in window 11's buffer what it stored there earlier in the row. -/
theorem before11 (c : Dev nD) (t : Fin cfg0.N) (h : t.val % 4 = 3) (d) : (dats m 0 c).before 11 t d = (dats m 0 c).after 11 t := by
  rw [(dats m 0 c).before_out_traj 11 rfl (fun _ _ => rfl) (fun s hs _ hf => ?_) t.val t rfl d, stale_11 t h, if_neg Bool.false_ne_true]
  · exact carry11 m c t (by omega)
  · refine (carry11 m c s fun h0 => ?_).symm
    rw [fresh_11 s h0] at hf; exact absurd hf (by decide)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_back (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at the first point of a row. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t (live_7 t h), after7]
  rw [Dat.leavesExact_idle (dats m 0 c) 8 t (idle_8 t (by omega)) (stay_8 t (by omega))]
  rw [Dat.leavesExact_idle (dats m 0 c) 9 t (idle_9 t (by omega)) (stay_9 t (by omega))]
  rw [Dat.leavesExact_idle (dats m 0 c) 10 t (idle_10 t (by omega)) (stay_10 t (by omega))]
  rw [leaves_live m c 11 t (live_11 t h), after11]
  rw [show rows m c ⟨t.val, t.isLt⟩ = rows m c t from rfl]
  unfold gate rows
  rw [pt_self t 0 h]
  have hΦ : PhiS m c t.val (Nat.le_of_lt t.isLt) ⊢ (iprop((∃ d, owns (c : Thread nD τ) scM fullShare d) ∗ (∃ r, prngReg c r)) : sProp 𝕄) := by
    by_cases hz : t.val = 0
    · rw [PhiS_zero m c _ _ hz, rest_eq]
    · rw [PhiS_pos m c _ _ hz]
      iintro ⟨HS, Hg⟩
      isplitl [HS]
      · iexists _; iexact HS
      iexact Hg
  refine (sep_mono_left hΦ).trans ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) _ _ _ _ _ _ _ _ _ _ _ _ _ _ _ _ _ _ _ _ _ _ _ _ _ _ ((hcond1 t).mpr h) ((hcond2 t).mpr h) (fun e => absurd ((hcond3 t).mp e) (by omega)) (fun e => absurd ((hcond4 t).mp e) (by omega)) (fun e => absurd ((hcond5 t).mp e) (by omega)) (iblk m c 0 t) (iblk m c 1 t) (iblk m c 2 t) (iblk m c 3 t) (iblk m c 4 t) (iblk m c 5 t) (iblk m c 6 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iexact H11

set_option maxHeartbeats 4000000 in
/-- The body at the second point of a row. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (idle_7 t (by omega)) (stay_7 t (by omega))]
  rw [leaves_live m c 8 t (live_8 t h), after8]
  rw [Dat.leavesExact_idle (dats m 0 c) 9 t (idle_9 t (by omega)) (stay_9 t (by omega))]
  rw [Dat.leavesExact_idle (dats m 0 c) 10 t (idle_10 t (by omega)) (stay_10 t (by omega))]
  rw [Dat.leavesExact_idle (dats m 0 c) 11 t (idle_11 t (by omega)) (stay_11 t (by omega))]
  rw [PhiS_pos m c _ _ (by omega : t.val ≠ 0), show rows m c ⟨t.val - 1, _⟩ = rows m c t from rows_prev m c t (by omega),
    show rows m c ⟨t.val, t.isLt⟩ = rows m c t from rfl, pt_self t 1 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ (fun e => absurd ((hcond1 t).mp e) (by omega)) (fun e => absurd ((hcond2 t).mp e) (by omega)) ((hcond3 t).mpr h) (fun e => absurd ((hcond4 t).mp e) (by omega)) (fun e => absurd ((hcond5 t).mp e) (by omega)) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  iexists _; iexact H11

set_option maxHeartbeats 4000000 in
/-- The body at the third point of a row. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (idle_7 t (by omega)) (stay_7 t (by omega))]
  rw [Dat.leavesExact_idle (dats m 0 c) 8 t (idle_8 t (by omega)) (stay_8 t (by omega))]
  rw [leaves_live m c 9 t (live_9 t h), after9]
  rw [Dat.leavesExact_idle (dats m 0 c) 10 t (idle_10 t (by omega)) (stay_10 t (by omega))]
  rw [Dat.leavesExact_idle (dats m 0 c) 11 t (idle_11 t (by omega)) (stay_11 t (by omega))]
  rw [PhiS_pos m c _ _ (by omega : t.val ≠ 0), show rows m c ⟨t.val - 1, _⟩ = rows m c t from rows_prev m c t (by omega),
    show rows m c ⟨t.val, t.isLt⟩ = rows m c t from rfl, pt_self t 2 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ (fun e => absurd ((hcond1 t).mp e) (by omega)) (fun e => absurd ((hcond2 t).mp e) (by omega)) (fun e => absurd ((hcond3 t).mp e) (by omega)) ((hcond4 t).mpr h) (fun e => absurd ((hcond5 t).mp e) (by omega)) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexists _; iexact H10
  iexists _; iexact H11

set_option maxHeartbeats 4000000 in
/-- The body at the last point of a row. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_back m c 7 t (idle_7 t (by omega)) (back_7 t h)]
  rw [leaves_back m c 8 t (idle_8 t (by omega)) (back_8 t h)]
  rw [leaves_back m c 9 t (idle_9 t (by omega)) (back_9 t h)]
  rw [leaves_live m c 10 t (live_10 t h), after10]
  rw [leaves_back m c 11 t (idle_11 t (by omega)) (back_11 t h)]
  simp only [before7 m c t h, before8 m c t h, before9 m c t h, before11 m c t h]
  rw [PhiS_pos m c _ _ (by omega : t.val ≠ 0), show rows m c ⟨t.val - 1, _⟩ = rows m c t from rows_prev m c t (by omega),
    show rows m c ⟨t.val, t.isLt⟩ = rows m c t from rfl, pt_self t 3 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) _ _ _ _ _ _ _ _ _ _ _ _ _ _ _ _ _ _ _ _ _ _ _ _ _ _ (fun e => absurd ((hcond1 t).mp e) (by omega)) (fun e => absurd ((hcond2 t).mp e) (by omega)) (fun e => absurd ((hcond3 t).mp e) (by omega)) (fun e => absurd ((hcond4 t).mp e) (by omega)) ((hcond5 t).mpr h) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  rcases (by omega : t.val % 4 = 0 ∨ t.val % 4 = 1 ∨ t.val % 4 = 2 ∨ t.val % 4 = 3) with h | h | h | h
  · exact sound_A m c t h
  · exact sound_B m c t h
  · exact sound_C m c t h
  · exact sound_D m c t h

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), rest_eq]
  iintro ⟨HS, Hg⟩
  isplitl [HS]
  · iexists _; iexact HS
  iexact Hg

/-! ## The run and the frame -/

/-- What holds after the run. -/
abbrev Post (r : PUnit × MemSt nD τ sig (Elt F)) : Prop :=
  Pipeline.FramePost cfgs (dats m) 0 (Pipeline.afterTail₀ cfgs (dats m) 0 (V0 m) [hostOps1]) r

set_option backward.isDefEq.respectTransparency.types false in
/-- The launch: the post, and every semaphore counter at zero. -/
theorem run_quiescent : θ_run defs (onTc (τ := τ) (main (F := F))) (s₀ m ρ) (fun r => Post m r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Post m) :=
  (θ_run defs _ _).mono (fun _ h => h.1) (run_quiescent m ρ)

/-- THE FRAME: every argument array ends as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.InprojIdeal.Body

end
-- ==== Proof.InRead.lean ====
/- The input projection's input blocks as entries of the arguments, and the blocks its points compute from them. -/
module

public import proofs.«01_k».proof.Proof.InPay
public import proofs.«01_k».proof.Proof.InBodyIdeal
public import Idealize.ShloMosaic.Lib.Pipeline.ValueKit
public import Idealize.ShloMosaic.Lib.Pipeline.ReadBack
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.InprojIdeal.Value

open Cert.InprojIdeal Cert.InprojIdeal.Gen Cert.InprojIdeal.Body

variable (m : (ℓ : Loc nD τ sig) → Buf (Elt Ideal) ℓ) (c : Dev nD)

/-- The six arguments as arrays. -/
abbrev aX : FVec Ideal S4x2048x2048 .f32 := m ((c : Thread nD τ).loc main_arg0)
abbrev aSc : FVec Ideal S4x1x2048 .f32 := m ((c : Thread nD τ).loc main_arg1)
abbrev aSh : FVec Ideal S4x1x2048 .f32 := m ((c : Thread nD τ).loc main_arg2)
abbrev aG : FVec Ideal S1x2048 .f32 := m ((c : Thread nD τ).loc main_arg3)
abbrev aW : FVec Ideal S1x2048x4104 .f32 := m ((c : Thread nD τ).loc main_arg4)
abbrev aB : FVec Ideal S1x8 .f32 := m ((c : Thread nD τ).loc main_arg5)

theorem idx : ∀ t : Fin cfg0.N, win0_0.index t = ![t.val / 4, 0] ∧ win0_1.index t = ![t.val / 32, 0, 0]
    ∧ win0_2.index t = ![t.val / 32, 0, 0] ∧ win0_3.index t = ![0, 0] ∧ win0_4.index t = ![0, t.val % 4]
    ∧ win0_5.index t = ![0, 0] ∧ win0_6.index t = ![0, 0] ∧ win0_7.index t = ![t.val / 4, 0]
    ∧ win0_8.index t = ![t.val / 4, 0] ∧ win0_9.index t = ![t.val / 4, 0] ∧ win0_10.index t = ![t.val / 4, 0]
    ∧ win0_11.index t = ![0, t.val / 4] :=
  (by decide +kernel : ∀ t : Fin grid0.N, _)

/-- The sequence a grid point works on, and the token its row `r` is. -/
def seqOf (t : Fin cfg0.N) : Fin 4 := ⟨t.val / 32, by have := lt_of_lt_of_eq t.isLt N_0; omega⟩
def tokOf (t : Fin cfg0.N) (r : Fin 256) : Fin 2048 := ⟨(t.val / 4 * 256 + r.val) % 2048, by omega⟩

variable (t : Fin cfg0.N)

theorem seq_pt (k : Fin 4) : seqOf (pt t k) = seqOf t :=
  Fin.ext (by show (t.val / 4 * 4 + k.val) / 32 = t.val / 32; omega)

theorem tok_pt (k : Fin 4) (r : Fin 256) : tokOf (pt t k) r = tokOf t r :=
  Fin.ext (by show ((t.val / 4 * 4 + k.val) / 4 * 256 + r.val) % 2048 = (t.val / 4 * 256 + r.val) % 2048; omega)

/-- What the host prepares for the call's windows, as arrays over the arguments. -/
theorem V_x : (V m c main_v13 : FVec Ideal S8192x2048 .f32) = shapeCast S8192x2048 (aX m c) shapeCasts_S4x2048x2048_S8192x2048 := by
  show StableHlo.after (List.flatten [hostOps0]) (fun b => m (c, b)) _ = _
  simp only [hostOps0, List.flatten_cons, List.flatten_nil, List.append_nil, List.cons_append, List.nil_append]
  after_results
  try rfl

theorem V_w : (V m c main_v5 : FVec Ideal S2048x4096 .bf16) = truncf .bf16 (concatenate S2048x4096 1
      [⟨S2048x3072, shapeCast S2048x3072 (extractStridedSlice S1x2048x3072 ![0, 0, 0] (aW m c) slices_S1x2048x4104_S1x2048x3072_0_0_0) shapeCasts_S1x2048x3072_S2048x3072⟩,
       ⟨S2048x1024, shapeCast S2048x1024 (extractStridedSlice S1x2048x1024 ![0, 0, 3080] (aW m c) slices_S1x2048x4104_S1x2048x1024_0_0_3080) shapeCasts_S1x2048x1024_S2048x1024⟩] concatenates_S2048x3072_S2048x1024_S2048x4096_d1) bitsLt_bf16_f32 := by
  show StableHlo.after (List.flatten [hostOps0]) (fun b => m (c, b)) _ = _
  simp only [hostOps0, List.flatten_cons, List.flatten_nil, List.append_nil, List.cons_append, List.nil_append]
  after_results
  try rfl

theorem V_g : (V m c main_v16 : FVec Ideal S1x2048 .f32) = shapeCast S1x2048 (shapeCast S2048 (aG m c) shapeCasts_S1x2048_S2048) shapeCasts_S2048_S1x2048 := by
  show StableHlo.after (List.flatten [hostOps0]) (fun b => m (c, b)) _ = _
  simp only [hostOps0, List.flatten_cons, List.flatten_nil, List.append_nil, List.cons_append, List.nil_append]
  after_results
  try rfl

theorem V_wf : (V m c main_v12 : FVec Ideal S16x2048 .bf16) = Host.scatter scatter_S16x2048_S1_S8x2048_01_n_0_0 (fun _ b => b)
     (broadcastInDim S16x2048 ![] bcast_S_S16x2048 (constant S_ .bf16 0x0000#16))
     (broadcastInDim S1 ![] bcast_S_S1 (constantI S_ 32 0#32))
     (truncf .bf16 (transpose S8x2048 [1, 0] (shapeCast S2048x8 (extractStridedSlice S1x2048x8 ![0, 0, 3072] (aW m c) slices_S1x2048x4104_S1x2048x8_0_0_3072) shapeCasts_S1x2048x8_S2048x8) transposes_S2048x8_S8x2048_1_0) bitsLt_bf16_f32) := by
  show StableHlo.after (List.flatten [hostOps0]) (fun b => m (c, b)) _ = _
  simp only [hostOps0, List.flatten_cons, List.flatten_nil, List.append_nil, List.cons_append, List.nil_append]
  after_results
  try rfl

theorem V_b : (V m c main_v17 : FVec Ideal S8x1 .f32) = shapeCast S8x1 (shapeCast S8 (aB m c) shapeCasts_S1x8_S8) shapeCasts_S8_S8x1 := by
  show StableHlo.after (List.flatten [hostOps0]) (fun b => m (c, b)) _ = _
  simp only [hostOps0, List.flatten_cons, List.flatten_nil, List.append_nil, List.cons_append, List.nil_append]
  after_results
  try rfl

/-! ## Where a block's element lies in its array -/

variable (t : Fin cfg0.N)

theorem emb_x (r : Fin 256) (e : Fin 2048) (h : t.val / 4 * 256 + r.val < 8192) :
    (win0_0.blk t).view.emb (ix2 r e) = ix2 ⟨t.val / 4 * 256 + r.val, h⟩ e :=
  funext fun a => Fin.ext (match a with
    | 0 => by show win0_0.index t 0 * 256 + 1 * r.val = t.val / 4 * 256 + r.val; simp [idx t]
    | 1 => by show win0_0.index t 1 * 2048 + 1 * e.val = e.val; simp [idx t])

theorem emb_g (e : Fin 2048) : (win0_3.blk t).view.emb (ix2 0 e) = ix2 0 e :=
  funext fun a => Fin.ext (match a with
    | 0 => by show win0_3.index t 0 * 1 + 1 * 0 = 0; simp [idx t]
    | 1 => by show win0_3.index t 1 * 2048 + 1 * e.val = e.val; simp [idx t])

theorem emb_w (d : Fin 2048) (e : Fin 1024) : (win0_4.blk t).view.emb (ix2 d e) = ix2 d ⟨t.val % 4 * 1024 + e.val, by omega⟩ :=
  funext fun a => Fin.ext (match a with
    | 0 => by show win0_4.index t 0 * 2048 + 1 * d.val = d.val; simp [idx t]
    | 1 => by show win0_4.index t 1 * 1024 + 1 * e.val = t.val % 4 * 1024 + e.val; simp [idx t])

theorem emb_wf (i : Fin 16) (d : Fin 2048) : (win0_5.blk t).view.emb (ix2 i d) = ix2 i d :=
  funext fun a => Fin.ext (match a with
    | 0 => by show win0_5.index t 0 * 16 + 1 * i.val = i.val; simp [idx t]
    | 1 => by show win0_5.index t 1 * 2048 + 1 * d.val = d.val; simp [idx t])

theorem emb_b (i : Fin 8) : (win0_6.blk t).view.emb (ix2 i 0) = ix2 i 0 :=
  funext fun a => Fin.ext (match a with
    | 0 => by show win0_6.index t 0 * 8 + 1 * i.val = i.val; simp [idx t]
    | 1 => by show win0_6.index t 1 * 1 + 1 * 0 = 0; simp [idx t])

/-! ## The blocks' elements as the arguments' -/

theorem read_x (r : Fin 256) (e : Fin 2048) : (iblk m c 0 t : Vec Ideal S256x2048 .f32) (ix2 r e)
    = aX m c (ix3 (seqOf t) (tokOf t r) e) := by
  have ht : t.val < 128 := lt_of_lt_of_eq t.isLt N_0
  refine (congrFun (V_x m c) _).trans ((congrArg _ (emb_x t r e (by omega))).trans ?_)
  pointwise []
  refine congrArg (aX m c) ?_
  unfold seqOf tokOf
  exact congrArg₂ (fun b s => ix3 b s e) (Fin.ext (by show (t.val / 4 * 256 + r.val) / 2048 = t.val / 32; omega)) (Fin.ext rfl)

theorem read_sc (e : Fin 2048) : (iblk m c 1 t : Vec Ideal S1x1x2048 .f32) (ix3 0 0 e) = aSc m c (ix3 (seqOf t) 0 e) := by
  have ht : t.val < 128 := lt_of_lt_of_eq t.isLt N_0
  unfold seqOf
  blk_ext [iblk, V, idx t]

theorem read_sh (e : Fin 2048) : (iblk m c 2 t : Vec Ideal S1x1x2048 .f32) (ix3 0 0 e) = aSh m c (ix3 (seqOf t) 0 e) := by
  have ht : t.val < 128 := lt_of_lt_of_eq t.isLt N_0
  unfold seqOf
  blk_ext [iblk, V, idx t]

theorem read_g (e : Fin 2048) : (iblk m c 3 t : Vec Ideal S1x2048 .f32) (ix2 0 e) = aG m c (ix2 0 e) := by
  refine (congrFun (V_g m c) _).trans ((congrArg _ (emb_g t e)).trans ?_)
  pointwise []

theorem read_b (i : Fin 8) : (iblk m c 6 t : Vec Ideal S8x1 .f32) (ix2 i 0) = aB m c (ix2 0 i) := by
  refine (congrFun (V_b m c) _).trans ((congrArg _ (emb_b t i)).trans ?_)
  pointwise []

/-- A block of the joined weights: before the gates' columns they are the argument's, after them the argument's eight
    columns further on. -/
theorem read_w_low (h : t.val % 4 < 3) (d : Fin 2048) (e : Fin 1024) : (iblk m c 4 t : Vec Ideal S2048x1024 .bf16) (ix2 d e)
    = aW m c (ix3 0 d ⟨t.val % 4 * 1024 + e.val, by omega⟩) := by
  refine (congrFun (V_w m c) _).trans ((congrArg _ (emb_w t d e)).trans ?_)
  pointwise []
  exact dif_pos (by omega)

theorem read_w_high (h : t.val % 4 = 3) (d : Fin 2048) (e : Fin 1024) : (iblk m c 4 t : Vec Ideal S2048x1024 .bf16) (ix2 d e)
    = aW m c (ix3 0 d ⟨3080 + e.val, by omega⟩) := by
  refine (congrFun (V_w m c) _).trans ((congrArg _ (emb_w t d e)).trans ?_)
  pointwise []
  exact (dif_neg (by omega)).trans (congrArg (fun n => aW m c (ix3 0 d n)) (Fin.ext (by
    show 3080 + (t.val % 4 * 1024 + e.val - 3072) = 3080 + e.val; omega)))

/-! ## The gates' weights: eight rows written into a zero array -/

/-- Every update keeps its place. -/
theorem lands (k : S8x2048.Idx) (a : Fin S16x2048.rank) :
    scatter_S16x2048_S1_S8x2048_01_n_0_0.start k (broadcastInDim S1 ![] bcast_S_S1 (constantI S_ 32 0#32)) a
      + (scatter_S16x2048_S1_S8x2048_01_n_0_0.window k a : Int) = ((k ⟨a.val, a.isLt⟩).val : Int) := by
  match a with
  | 0 => show (0 : Int) + ((k 0).val : Int) = _; exact zero_add _
  | 1 => show (0 : Int) + ((k 1).val : Int) = _; exact zero_add _

theorem read_wf (i : Fin 8) (d : Fin 2048) : (iblk m c 5 t : Vec Ideal S16x2048 .bf16) (ix2 ⟨i.val, by omega⟩ d)
    = aW m c (ix3 0 d ⟨3072 + i.val, by omega⟩) := by
  refine (congrFun (V_wf m c) _).trans ((congrArg _ (emb_wf t _ d)).trans ?_)
  refine Routing.scatter_set_hit _ _ _ _ _ _ (fun k hk => ?_) (ix2 i d) ((Routing.resultIdx?_eq_some _ _ _ _).2 fun a => ?_)
  · have hk' := (Routing.resultIdx?_eq_some _ _ _ _).1 hk
    have e : k = ix2 i d := funext fun a => Fin.ext (match a with
      | 0 => by have := (lands k 0).symm.trans (hk' 0); exact Int.ofNat.inj this
      | 1 => by have := (lands k 1).symm.trans (hk' 1); exact Int.ofNat.inj this)
    rw [e]
    pointwise []
  · refine (lands _ a).trans ?_
    match a with
    | 0 => rfl
    | 1 => rfl

end Cert.InprojIdeal.Value

end
-- ==== Proof.InFinal.lean ====
/- The input projection's blocks as parts of the tokens' projections, and what the call leaves in its five arrays. -/
module

public import proofs.«01_k».proof.Proof.InRead

@[expose] public section

set_option maxRecDepth 16384

noncomputable section

open Idealize.ShloMosaic Idealize.ShloMosaic.TcCoe Idealize.SL.Sem

namespace Cert.InprojIdeal.Value

open Cert.InprojIdeal Cert.InprojIdeal.Gen Cert.InprojIdeal.Body

variable (m : (ℓ : Loc nD τ sig) → Buf (Elt Ideal) ℓ) (c : Dev nD)

/-- The tokens' rows, parts of their projections and gates, over the six arguments. -/
abbrev hidden : Fin 4 → Fin 2048 → Fin 2048 → EReal := hid (aX m c) (aSc m c) (aSh m c) (aG m c)
abbrev partOf (o : Nat) (ho : o ≤ 3080) : Fin 4 → Fin 2048 → Fin 1024 → EReal :=
  part (aX m c) (aSc m c) (aSh m c) (aG m c) (aW m c) o ho
abbrev gates : Fin 4 → Fin 2048 → Fin 8 → EReal := forget (aX m c) (aSc m c) (aSh m c) (aG m c) (aW m c) (aB m c)

variable (t : Fin cfg0.N)

/-- A row of the normed block is a token's row. -/
theorem pay4_eq (r : Fin 256) (e : Fin 2048) :
    k0_pay4 (iblk m c 0 t) (iblk m c 3 t) (iblk m c 1 t) (iblk m c 2 t) (ix2 r e) = hidden m c (seqOf t) (tokOf t r) e := by
  refine (pay4_at _ _ _ _ r e).trans ?_
  have hx : (fun d => (iblk m c 0 t : Vec Ideal S256x2048 .f32) (ix2 r d)) = fun d => aX m c (ix3 (seqOf t) (tokOf t r) d) :=
    funext fun d => read_x m c t r d
  rw [hx]
  exact congrArg₂ (· + ·) (congrArg₂ (· * ·) (congrArg₂ (· * ·) (congrArg (· * _) (read_x m c t r e)) (read_g m c t e))
    (congrArg (1 + ·) (read_sc m c t e))) (read_sh m c t e)

theorem rows_at (r : Fin 256) (e : Fin 2048) : (rows m c t : Vec Ideal S256x2048 .bf16) (ix2 r e)
    = hidden m c (seqOf t) (tokOf t r) e := by
  unfold rows
  refine (pay5_at _ _ _ _ r e).trans ((pay4_eq m c (pt t 0) r e).trans ?_)
  rw [seq_pt, tok_pt]

theorem block_q (r : Fin 256) (e : Fin 1024) : k0_pay3 (rows m c t) (iblk m c 4 (pt t 0)) (ix2 r e)
    = partOf m c 0 (by omega) (seqOf t) (tokOf t r) e := by
  unfold partOf part proj
  refine (pay3_at _ _ r e).trans (Finset.sum_congr rfl fun d _ => ?_)
  refine congrArg₂ (fun x y : EReal => x * y) (rows_at m c t r d) ?_
  refine (read_w_low m c (pt t 0) (by show (t.val / 4 * 4 + 0) % 4 < 3; omega) d e).trans
    (congrArg (fun n => aW m c (ix3 0 d n)) (Fin.ext ?_))
  show (t.val / 4 * 4 + 0) % 4 * 1024 + e.val = 0 + e.val
  omega

theorem block_k (r : Fin 256) (e : Fin 1024) : k0_pay2 (rows m c t) (iblk m c 4 (pt t 1)) (ix2 r e)
    = partOf m c 1024 (by omega) (seqOf t) (tokOf t r) e := by
  unfold partOf part proj
  refine (pay2_at _ _ r e).trans (Finset.sum_congr rfl fun d _ => ?_)
  refine congrArg₂ (fun x y : EReal => x * y) (rows_at m c t r d) ?_
  refine (read_w_low m c (pt t 1) (by show (t.val / 4 * 4 + 1) % 4 < 3; omega) d e).trans
    (congrArg (fun n => aW m c (ix3 0 d n)) (Fin.ext ?_))
  show (t.val / 4 * 4 + 1) % 4 * 1024 + e.val = 1024 + e.val
  omega

theorem block_v (r : Fin 256) (e : Fin 1024) : k0_pay2 (rows m c t) (iblk m c 4 (pt t 2)) (ix2 r e)
    = partOf m c 2048 (by omega) (seqOf t) (tokOf t r) e := by
  unfold partOf part proj
  refine (pay2_at _ _ r e).trans (Finset.sum_congr rfl fun d _ => ?_)
  refine congrArg₂ (fun x y : EReal => x * y) (rows_at m c t r d) ?_
  refine (read_w_low m c (pt t 2) (by show (t.val / 4 * 4 + 2) % 4 < 3; omega) d e).trans
    (congrArg (fun n => aW m c (ix3 0 d n)) (Fin.ext ?_))
  show (t.val / 4 * 4 + 2) % 4 * 1024 + e.val = 2048 + e.val
  omega

theorem block_p (r : Fin 256) (e : Fin 1024) : k0_pay2 (rows m c t) (iblk m c 4 (pt t 3)) (ix2 r e)
    = partOf m c 3080 (by omega) (seqOf t) (tokOf t r) e := by
  unfold partOf part proj
  refine (pay2_at _ _ r e).trans (Finset.sum_congr rfl fun d _ => ?_)
  refine congrArg₂ (fun x y : EReal => x * y) (rows_at m c t r d) ?_
  exact read_w_high m c (pt t 3) (by show (t.val / 4 * 4 + 3) % 4 = 3; omega) d e

theorem gate_at (i : Fin 8) (r : Fin 256) : (gate m c t : Vec Ideal S8x256 .f32) (ix2 i r)
    = gates m c (seqOf t) (tokOf t r) i := by
  unfold gate
  refine (pay1_at _ i r).trans (congrArg gateOf ((pay6_at _ _ _ _ _ _ i r).trans (congrArg₂ (· + ·) ?_ (read_b m c (pt t 0) i))))
  refine Finset.sum_congr rfl fun d _ => ?_
  have h := pay4_eq m c (pt t 0) r d
  rw [seq_pt, tok_pt] at h
  exact (congrArg₂ (fun x y : EReal => x * y) (read_wf m c (pt t 0) i d) h).trans (mul_comm _ _)

/-- A block's element, at the place of the array its row of points writes it to. -/
theorem whole_at {n : Nat} (f : Fin 4 → Fin 2048 → Fin n → EReal) (r : Fin 256) (e e' : Fin n) (k : Fin 8192)
    (h : k.val = t.val / 4 * 256 + r.val) (he : e'.val = e.val) :
    f (seqOf t) (tokOf t r) e = f ⟨k.val / 2048, by omega⟩ ⟨k.val % 2048, by omega⟩ e' := by
  have e0 : seqOf t = ⟨k.val / 2048, by omega⟩ := Fin.ext (by show t.val / 32 = k.val / 2048; omega)
  have e1 : tokOf t r = ⟨k.val % 2048, by omega⟩ := Fin.ext (by show (t.val / 4 * 256 + r.val) % 2048 = k.val % 2048; omega)
  rw [e0, e1, Fin.ext he]

/-! ## The five arrays after the run -/

theorem final_q : (dats m 0 c).arrAt 7 cfg0.N = flat (φ := .bf16) (partOf m c 0 (by omega)) := by
  refine (dats m 0 c).arrAt_eq_of_covers 7 _ (by decide +kernel) fun t hf y => ?_
  blk_simp
  rw [after7]
  refine Eq.trans ?_ ((block_q m c t (y 0) (y 1)).trans ?_)
  · exact congrArg _ (eq_ix2 y)
  · refine whole_at t (partOf m c 0 (by omega)) (y 0) (y 1) _ _ ?_ ?_
    · show win0_7.index t 0 * 256 + 1 * (y 0).val = _
      simp [idx t]
    · show win0_7.index t 1 * 1024 + 1 * (y 1).val = _
      simp [idx t]

theorem final_k : (dats m 0 c).arrAt 8 cfg0.N = flat (φ := .f32) (partOf m c 1024 (by omega)) := by
  refine (dats m 0 c).arrAt_eq_of_covers 8 _ (by decide +kernel) fun t hf y => ?_
  blk_simp
  rw [after8]
  refine Eq.trans ?_ ((block_k m c t (y 0) (y 1)).trans ?_)
  · exact congrArg _ (eq_ix2 y)
  · refine whole_at t (partOf m c 1024 (by omega)) (y 0) (y 1) _ _ ?_ ?_
    · show win0_8.index t 0 * 256 + 1 * (y 0).val = _
      simp [idx t]
    · show win0_8.index t 1 * 1024 + 1 * (y 1).val = _
      simp [idx t]

theorem final_v : (dats m 0 c).arrAt 9 cfg0.N = flat (φ := .f32) (partOf m c 2048 (by omega)) := by
  refine (dats m 0 c).arrAt_eq_of_covers 9 _ (by decide +kernel) fun t hf y => ?_
  blk_simp
  rw [after9]
  refine Eq.trans ?_ ((block_v m c t (y 0) (y 1)).trans ?_)
  · exact congrArg _ (eq_ix2 y)
  · refine whole_at t (partOf m c 2048 (by omega)) (y 0) (y 1) _ _ ?_ ?_
    · show win0_9.index t 0 * 256 + 1 * (y 0).val = _
      simp [idx t]
    · show win0_9.index t 1 * 1024 + 1 * (y 1).val = _
      simp [idx t]

theorem final_p : (dats m 0 c).arrAt 10 cfg0.N = flat (φ := .f32) (partOf m c 3080 (by omega)) := by
  refine (dats m 0 c).arrAt_eq_of_covers 10 _ (by decide +kernel) fun t hf y => ?_
  blk_simp
  rw [after10]
  refine Eq.trans ?_ ((block_p m c t (y 0) (y 1)).trans ?_)
  · exact congrArg _ (eq_ix2 y)
  · refine whole_at t (partOf m c 3080 (by omega)) (y 0) (y 1) _ _ ?_ ?_
    · show win0_10.index t 0 * 256 + 1 * (y 0).val = _
      simp [idx t]
    · show win0_10.index t 1 * 1024 + 1 * (y 1).val = _
      simp [idx t]

theorem final_gate : (dats m 0 c).arrAt 11 cfg0.N = flatGates (gates m c) := by
  refine (dats m 0 c).arrAt_eq_of_covers 11 _ (by decide +kernel) fun t hf y => ?_
  blk_simp
  rw [after11]
  refine Eq.trans ?_ ((gate_at m c t (y 0) (y 1)).trans ?_)
  · exact congrArg _ (eq_ix2 y)
  · refine whole_at t (gates m c) (y 1) (y 0) _ _ ?_ ?_
    · show win0_11.index t 1 * 256 + 1 * (y 1).val = _
      simp [idx t]
    · show win0_11.index t 0 * 8 + 1 * (y 0).val = _
      simp [idx t]

end Cert.InprojIdeal.Value

end
-- ==== Proof.InTail.lean ====
/- The input projection's whole program: its five arrays, and the four of them the host lays out anew. -/
module

public import proofs.«01_k».proof.Proof.InFinal

@[expose] public section

set_option maxRecDepth 16384

noncomputable section

open Idealize.ShloMosaic Idealize.ShloMosaic.TcCoe Idealize.SL.Sem

namespace Cert.InprojIdeal.Value

open Cert.InprojIdeal Cert.InprojIdeal.Gen Cert.InprojIdeal.Body

/-! ## The new layouts, over any parts -/

/-- A token counted through all sequences is the token of its own sequence. -/
theorem token {α : Type} (f : Fin 4 → Fin 2048 → α) (b : Fin 4) (s : Fin 2048) (k : Nat) (h : k = s.val)
    (h0 : (b.val * 2048 + k) / 2048 < 4) (h1 : (b.val * 2048 + k) % 2048 < 2048) :
    f ⟨(b.val * 2048 + k) / 2048, h0⟩ ⟨(b.val * 2048 + k) % 2048, h1⟩ = f b s :=
  congrArg₂ f (Fin.ext (by show (b.val * 2048 + k) / 2048 = b.val; omega)) (Fin.ext (by show (b.val * 2048 + k) % 2048 = s.val; omega))

theorem heads_eq (f : Fin 4 → Fin 2048 → Fin 1024 → EReal) :
    shapeCast S1x4x2048x8x128 (flat (φ := .f32) f) shapeCasts_S8192x1024_S1x4x2048x8x128 = heads f := by
  funext y
  rw [eq_ix5 y]
  unfold flat heads
  pointwise []
  exact congrFun (token f (y 1) (y 2) _ rfl _ _) _

theorem tokenGates_eq (f : Fin 4 → Fin 2048 → Fin 8 → EReal) :
    shapeCast S1x4x2048x8 (transpose S8192x8 [1, 0] (flatGates f) transposes_S8x8192_S8192x8_1_0) shapeCasts_S8192x8_S1x4x2048x8
      = tokenGates f := by
  funext y
  rw [eq_ix4 y]
  unfold flatGates tokenGates
  pointwise []
  exact congrFun (token f (y 1) (y 2) _ rfl _ _) _

theorem lastTokens_eq (f : Fin 4 → Fin 2048 → Fin 1024 → EReal) :
    broadcastInDim S1x4x15x1024 ![1, 2, 3] bcast_S4x15x1024_S1x4x15x1024_1_2_3 (extractStridedSlice S4x15x1024 ![0, 2033, 0]
        (shapeCast S4x2048x1024 (flat (φ := .f32) f) shapeCasts_S8192x1024_S4x2048x1024) slices_S4x2048x1024_S4x15x1024_0_2033_0)
      = lastTokens f := by
  funext y
  rw [eq_ix4 y]
  unfold flat lastTokens
  pointwise []
  exact congrFun (token f (y 1) ⟨2033 + (y 2).val, _⟩ _ rfl _ _) _

/-! ## The results -/

variable (m : (ℓ : Loc nD τ sig) → Buf (Elt Ideal) ℓ) (ρ : Dev nD → PrngReg) (c : Dev nD)

/-- What the buffers hold once the host has laid the call's arrays out anew. -/
abbrev tail (b : Ref sig .tc) : Buf (Elt Ideal) ((c.tc : Thread nD τ).loc b) :=
  Pipeline.afterTail₀ cfgs (dats m) 0 (V0 m) [hostOps1] c b

theorem array (w : Fin cfg0.W) (A) (h : (dats m 0 c).arrAt w cfg0.N = A) :
    Pipeline.withArrays (cfgs 0).spec c (V0 m c) (fun w => (dats m 0 c).arrAt w (cfgs 0).N) (Proc.devRef .tc (Pipeline.arrRef spec0 w)) = A :=
  (Pipeline.withArrays_arr spec0 launch0.win.arr_inj c (V0 m c) _ w).trans h

theorem tail_k : (tail m c main_v20 : FVec Ideal S1x4x2048x8x128 .f32) = heads (partOf m c 1024 (by omega)) := by
  refine Eq.trans ?_ (heads_eq _)
  unfold tail Pipeline.afterTail₀
  simp only [hostOps1, List.flatten_cons, List.flatten_nil, List.append_nil, List.cons_append, List.nil_append]
  after_results
  exact congrArg (fun A : FVec Ideal S8192x1024 .f32 => shapeCast S1x4x2048x8x128 A shapeCasts_S8192x1024_S1x4x2048x8x128)
    (array m c 8 _ (final_k m c))

theorem tail_v : (tail m c main_v21 : FVec Ideal S1x4x2048x8x128 .f32) = heads (partOf m c 2048 (by omega)) := by
  refine Eq.trans ?_ (heads_eq _)
  unfold tail Pipeline.afterTail₀
  simp only [hostOps1, List.flatten_cons, List.flatten_nil, List.append_nil, List.cons_append, List.nil_append]
  after_results
  exact congrArg (fun A : FVec Ideal S8192x1024 .f32 => shapeCast S1x4x2048x8x128 A shapeCasts_S8192x1024_S1x4x2048x8x128)
    (array m c 9 _ (final_v m c))

theorem tail_gate : (tail m c main_v23 : FVec Ideal S1x4x2048x8 .f32) = tokenGates (gates m c) := by
  refine Eq.trans ?_ (tokenGates_eq _)
  unfold tail Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v18_4) = flatGates (gates m c) :=
    array m c 11 _ (final_gate m c)
  rw [h]
  rfl

theorem tail_pool : (tail m c main_v25 : FVec Ideal S1x4x15x1024 .f32) = lastTokens (partOf m c 3080 (by omega)) := by
  refine Eq.trans ?_ (lastTokens_eq _)
  unfold tail Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v18_3)
      = (flat (φ := .f32) (partOf m c 3080 (by omega)) : FVec Ideal S8192x1024 .f32) := array m c 10 _ (final_p m c)
  rw [h]
  rfl

/-- The whole run: the six results, and every argument kept. -/
theorem run : θ_run defs (onTc (τ := τ) (main (F := Ideal))) ⟨m, fun _ => 0, ρ⟩ (fun r => ∀ c : Dev nD,
      r.2.mem ((c.tc : Thread nD τ).loc main_v18_0) = (flat (φ := .bf16) (partOf m c 0 (by omega)) : FVec Ideal S8192x1024 .bf16)
      ∧ r.2.mem ((c.tc : Thread nD τ).loc main_v20) = heads (partOf m c 1024 (by omega))
      ∧ r.2.mem ((c.tc : Thread nD τ).loc main_v21) = heads (partOf m c 2048 (by omega))
      ∧ r.2.mem ((c.tc : Thread nD τ).loc main_v23) = tokenGates (gates m c)
      ∧ r.2.mem ((c.tc : Thread nD τ).loc main_v18_3) = (flat (φ := .f32) (partOf m c 3080 (by omega)) : FVec Ideal S8192x1024 .f32)
      ∧ r.2.mem ((c.tc : Thread nD τ).loc main_v25) = lastTokens (partOf m c 3080 (by omega))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 7).trans (final_q m c),
      ((h.1 c).2 main_v20 (Pipeline.mem_restRefs_of main_v20 (by decide) (by decide))).trans (tail_k m c),
      ((h.1 c).2 main_v21 (Pipeline.mem_restRefs_of main_v21 (by decide) (by decide))).trans (tail_v m c),
      ((h.1 c).2 main_v23 (Pipeline.mem_restRefs_of main_v23 (by decide) (by decide))).trans (tail_gate m c),
      ((h.1 c).1 10).trans (final_p m c),
      ((h.1 c).2 main_v25 (Pipeline.mem_restRefs_of main_v25 (by decide) (by decide))).trans (tail_pool m c),
      h.2 c⟩)
    (θ_run_and (run_main m ρ) (frame_of m ρ (dats m) (A_eq m) (run_main m ρ)))

end Cert.InprojIdeal.Value

end
-- ==== Proof.InRef.lean ====
/- The input projection's reference, read at an index: the same parts of the tokens' projections as the call's. -/
module

public import proofs.«01_k».proof.Proof.InPay
public import proofs.«01_k».proof.Proof.Gen.InprojRefIdeal.Run

@[expose] public section

set_option maxRecDepth 16384

noncomputable section

open Idealize.ShloMosaic Idealize.ShloMosaic.TcCoe Idealize.SL.Sem

/-- The logarithm of one and an exponential is a number, unless the exponent is infinitely large. -/
theorem Cert.InprojIdeal.Value.log1p_exp_real (w : EReal) (h : w ≠ ⊤) :
    Ideal.log1p (Ideal.exp w) ≠ ⊥ ∧ Ideal.log1p (Ideal.exp w) ≠ ⊤ := by
  unfold Ideal.log1p
  induction w with
  | bot =>
    rw [Ideal.exp_bot, add_zero, ← EReal.coe_one, Ideal.log_coe, if_neg (by norm_num)]
    exact ⟨EReal.coe_ne_bot _, EReal.coe_ne_top _⟩
  | top => exact absurd rfl h
  | coe r =>
    have hr : ¬ (1 + Real.exp r ≤ 0) := by have := Real.exp_pos r; linarith
    rw [Ideal.exp_coe, ← EReal.coe_one, ← EReal.coe_add, Ideal.log_coe, if_neg hr]
    exact ⟨EReal.coe_ne_bot _, EReal.coe_ne_top _⟩

/-- The logistic function's logarithm as minus the logarithm of a sum of exponentials is the form that never overflows. -/
theorem Cert.InprojIdeal.Value.gateOf_eq (z : EReal) :
    -(max (-z) 0 + Ideal.log1p (Ideal.exp (-(max (-z) (- -z))))) = Cert.InprojIdeal.Value.gateOf z := by
  unfold Cert.InprojIdeal.Value.gateOf
  rw [neg_neg, max_comm (-z) z, zero_sub]
  have hw : -(max z (-z)) ≠ ⊤ := by
    intro h
    have h1 : max z (-z) = ⊥ := by rw [← neg_neg (max z (-z)), h]; rfl
    have h2 : z = ⊥ := le_bot_iff.1 (h1 ▸ le_max_left z (-z))
    have h3 : -z = ⊥ := le_bot_iff.1 (h1 ▸ le_max_right z (-z))
    rw [h2] at h3
    exact absurd h3 (by simp)
  have hL := Cert.InprojIdeal.Value.log1p_exp_real _ hw
  rw [EReal.neg_add (Or.inr hL.2) (Or.inr hL.1)]
  refine congrArg (· - _) ?_
  rcases le_total z 0 with h | h
  · have h' : (0 : EReal) ≤ -z := by simpa using EReal.neg_le_neg_iff.2 h
    rw [min_eq_left h, max_eq_left h', neg_neg]
  · have h' : -z ≤ (0 : EReal) := by simpa using EReal.neg_le_neg_iff.2 h
    rw [min_eq_right h, max_eq_right h', neg_zero]

namespace Cert.InprojRefIdeal.Value

open Cert.InprojRefIdeal Cert.InprojRefIdeal.Gen
open Cert.InprojIdeal.Value (hid proj part forget flat heads tokenGates lastTokens gateOf)

variable (X : FVec Ideal S4x2048x2048 .f32) (SC SH : FVec Ideal S4x1x2048 .f32) (G : FVec Ideal S1x2048 .f32)
  (W : FVec Ideal S1x2048x4104 .f32) (B : FVec Ideal S1x8 .f32)

/-- The reference's norm factor of every row. -/
def factor (f : FVec Ideal S4x2048x2048 .f32) : FVec Ideal S4x2048x1 .f32 :=
  Host.rsqrt (addf (Host.divf (broadcastInDim S4x2048x1 ![0, 1] bcast_S4x2048_S4x2048x1_0_1 (Host.reduceAdd (mulf f f) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))

/-- The reference's norm: the factor and the weights on every row. -/
def normed (f : FVec Ideal S4x2048x2048 .f32) (g : FVec Ideal S1x2048 .f32) : FVec Ideal S4x2048x2048 .f32 :=
  mulf (mulf f (broadcastInDim S4x2048x2048 ![0, 1, 2] bcast_S4x2048x1_S4x2048x2048_0_1_2 (factor f))) (broadcastInDim S4x2048x2048 ![0, 1, 2] bcast_S1x1x2048_S4x2048x2048_0_1_2 (broadcastInDim S1x1x2048 ![2] bcast_S2048_S1x1x2048_2 (shapeCast S2048 g shapeCasts_S1x2048_S2048)))

/-- The modulated rows. -/
def modulated : FVec Ideal S4x2048x2048 .f32 :=
  addf (mulf (normed X G) (broadcastInDim S4x2048x2048 ![0, 1, 2] bcast_S4x1x2048_S4x2048x2048_0_1_2 (addf (broadcastInDim S4x1x2048 ![] bcast_S_S4x1x2048 (constant S_ .f32 0x3F800000#32)) SC))) (broadcastInDim S4x2048x2048 ![0, 1, 2] bcast_S4x1x2048_S4x2048x2048_0_1_2 SH)

/-- The product with the weights. -/
def prod : FVec Ideal S4x2048x4104 .f32 :=
  Host.dotGeneral (F := Ideal) (φ₁ := .f32) (φ₂ := .f32) dot_S4x2048x2048_S2048x4104_S4x2048x4104_2_0_01_1_n_n none (modulated X SC SH G) (shapeCast S2048x4104 W shapeCasts_S1x2048x4104_S2048x4104)

/-- The forget logits of every token. -/
def logits : FVec Ideal S4x2048x8 .f32 :=
  addf (extractStridedSlice S4x2048x8 ![0, 0, 3072] (prod X SC SH G W) slices_S4x2048x4104_S4x2048x8_0_0_3072) (broadcastInDim S4x2048x8 ![0, 1, 2] bcast_S1x1x8_S4x2048x8_0_1_2 (broadcastInDim S1x1x8 ![2] bcast_S8_S1x1x8_2 (shapeCast S8 B shapeCasts_S1x8_S8)))

/-- The zeros the logits are compared with. -/
def zeros : FVec Ideal S4x2048x8 .f32 := broadcastInDim S4x2048x8 ![] bcast_S_S4x2048x8 (constant S_ .f32 0x00000000#32)

/-- The logistic function's logarithm, entry by entry. -/
def logSigmoid (z : FVec Ideal S4x2048x8 .f32) : FVec Ideal S4x2048x8 .f32 :=
  Host.negf (select (cmpf .une (subf (Host.negf z) zeros) (subf (Host.negf z) zeros)) (addf (Host.negf z) zeros) (addf (maximumf (Host.negf z) zeros) (Host.log1p (Host.exp (Host.negf (Host.absf (subf (Host.negf z) zeros)))))))

/-- The six results. -/
def resQ : FVec Ideal S8192x1024 .bf16 := shapeCast S8192x1024 (truncf .bf16 (extractStridedSlice S4x2048x1024 ![0, 0, 0] (prod X SC SH G W) slices_S4x2048x4104_S4x2048x1024_0_0_0) bitsLt_bf16_f32) shapeCasts_S4x2048x1024_S8192x1024
def resK : FVec Ideal S1x4x2048x8x128 .f32 := broadcastInDim S1x4x2048x8x128 ![1, 2, 3, 4] bcast_S4x2048x8x128_S1x4x2048x8x128_1_2_3_4 (shapeCast S4x2048x8x128 (extractStridedSlice S4x2048x1024 ![0, 0, 1024] (prod X SC SH G W) slices_S4x2048x4104_S4x2048x1024_0_0_1024) shapeCasts_S4x2048x1024_S4x2048x8x128)
def resV : FVec Ideal S1x4x2048x8x128 .f32 := broadcastInDim S1x4x2048x8x128 ![1, 2, 3, 4] bcast_S4x2048x8x128_S1x4x2048x8x128_1_2_3_4 (shapeCast S4x2048x8x128 (extractStridedSlice S4x2048x1024 ![0, 0, 2048] (prod X SC SH G W) slices_S4x2048x4104_S4x2048x1024_0_0_2048) shapeCasts_S4x2048x1024_S4x2048x8x128)
def resGate : FVec Ideal S1x4x2048x8 .f32 := broadcastInDim S1x4x2048x8 ![1, 2, 3] bcast_S4x2048x8_S1x4x2048x8_1_2_3 (logSigmoid (logits X SC SH G W B))
def resP : FVec Ideal S8192x1024 .f32 := shapeCast S8192x1024 (extractStridedSlice S4x2048x1024 ![0, 0, 3080] (prod X SC SH G W) slices_S4x2048x4104_S4x2048x1024_0_0_3080) shapeCasts_S4x2048x1024_S8192x1024
def resPool : FVec Ideal S1x4x15x1024 .f32 := broadcastInDim S1x4x15x1024 ![1, 2, 3] bcast_S4x15x1024_S1x4x15x1024_1_2_3 (extractStridedSlice S4x15x1024 ![0, 2048, 0] (concatenate S4x2063x1024 1 [⟨S4x15x1024, (broadcastInDim S4x15x1024 ![] bcast_S_S4x15x1024 (constant S_ .f32 0x00000000#32))⟩, ⟨S4x2048x1024, (extractStridedSlice S4x2048x1024 ![0, 0, 3080] (prod X SC SH G W) slices_S4x2048x4104_S4x2048x1024_0_0_3080)⟩] concatenates_S4x15x1024_S4x2048x1024_S4x2063x1024_d1) slices_S4x2063x1024_S4x15x1024_0_2048_0)

/-- The factor of a row is the row's scale. -/
theorem factor_at (f : FVec Ideal S4x2048x2048 .f32) (b : Fin 4) (s : Fin 2048) :
    factor f (ix3 b s 0) = Cert.Rms.scale fun d => f (ix3 b s d) := by
  pointwise [factor]
  rfl

/-- The norm at an index. -/
theorem normed_at (f : FVec Ideal S4x2048x2048 .f32) (g : FVec Ideal S1x2048 .f32) (b : Fin 4) (s e : Fin 2048) :
    normed f g (ix3 b s e) = f (ix3 b s e) * (Cert.Rms.scale fun d => f (ix3 b s d)) * g (ix2 0 e) := by
  rw [← factor_at]
  pointwise [normed]

theorem modulated_at (b : Fin 4) (s e : Fin 2048) : modulated X SC SH G (ix3 b s e) = hid X SC SH G b s e := by
  refine Eq.trans ?_ (congrArg (· * (1 + SC (ix3 b 0 e)) + SH (ix3 b 0 e)) (normed_at X G b s e))
  pointwise [modulated]

theorem prod_at (b : Fin 4) (s : Fin 2048) (n : Fin 4104) : prod X SC SH G W (ix3 b s n) = proj X SC SH G W b s n := by
  unfold proj
  have h : (fun d => modulated X SC SH G (ix3 b s d)) = fun d => hid X SC SH G b s d :=
    funext fun d => modulated_at X SC SH G b s d
  refine Eq.trans (b := ∑ d : Fin 2048, modulated X SC SH G (ix3 b s d) * W (ix3 0 d n)) ?_
    (Finset.sum_congr rfl fun d _ => congrArg (· * W (ix3 0 d n)) (congrFun h d))
  pointwise [prod]

theorem logits_at (b : Fin 4) (s : Fin 2048) (i : Fin 8) : logits X SC SH G W B (ix3 b s i)
    = proj X SC SH G W b s ⟨3072 + i.val, by omega⟩ + B (ix2 0 i) := by
  rw [← prod_at]
  pointwise [logits]

theorem logSigmoid_at (z : FVec Ideal S4x2048x8 .f32) (b : Fin 4) (s : Fin 2048) (i : Fin 8) :
    logSigmoid z (ix3 b s i) = gateOf (z (ix3 b s i)) := by
  refine Eq.trans ?_ (Cert.InprojIdeal.Value.gateOf_eq (z (ix3 b s i)))
  pointwise [logSigmoid, zeros]
  exact congrArg Neg.neg (if_neg (not_not.2 rfl))

theorem resQ_eq : resQ X SC SH G W = flat (φ := .bf16) (part X SC SH G W 0 (by omega)) := by
  funext y
  rw [eq_ix2 y]
  unfold flat part
  refine Eq.trans ?_ (prod_at X SC SH G W _ _ _)
  pointwise [resQ]

theorem resP_eq : resP X SC SH G W = flat (φ := .f32) (part X SC SH G W 3080 (by omega)) := by
  funext y
  rw [eq_ix2 y]
  unfold flat part
  refine Eq.trans ?_ (prod_at X SC SH G W _ _ _)
  pointwise [resP]

theorem resK_eq : resK X SC SH G W = heads (part X SC SH G W 1024 (by omega)) := by
  funext y
  rw [eq_ix5 y]
  unfold heads part
  refine Eq.trans ?_ (prod_at X SC SH G W _ _ _)
  pointwise [resK]

theorem resV_eq : resV X SC SH G W = heads (part X SC SH G W 2048 (by omega)) := by
  funext y
  rw [eq_ix5 y]
  unfold heads part
  refine Eq.trans ?_ (prod_at X SC SH G W _ _ _)
  pointwise [resV]

theorem resGate_eq : resGate X SC SH G W B = tokenGates (forget X SC SH G W B) := by
  funext y
  rw [eq_ix4 y]
  unfold tokenGates forget
  refine Eq.trans ?_ ((logSigmoid_at _ _ _ _).trans (congrArg gateOf (logits_at X SC SH G W B _ _ _)))
  pointwise [resGate]

theorem resPool_eq : resPool X SC SH G W = lastTokens (part X SC SH G W 3080 (by omega)) := by
  funext y
  rw [eq_ix4 y]
  unfold lastTokens part
  refine Eq.trans ?_ (prod_at X SC SH G W _ _ _)
  pointwise [resPool]
  exact (dif_neg (by omega)).trans (congrArg (fun n => prod X SC SH G W (ix3 (y 1) n _)) (Fin.ext (by
    show 2048 + (y 2).val - 15 = 2033 + (y 2).val; omega)))

end Cert.InprojRefIdeal.Value

end
-- ==== Proof.Ada.lean ====
/- The modulation call: its conditioning rows of both batches stacked into one array, each grid point a block of a thousand
   columns, and the whole array after the run as one row of products over the arguments. -/
module

public import proofs.«01_k».proof.Proof.Gen.AdaIdeal.Frame
public import Idealize.ShloMosaic.Lib.Pointwise
public import Idealize.ShloMosaic.Lib.Pipeline.ValueKit
public import Idealize.ShloMosaic.Lib.Pipeline.ReadBack
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.AdaIdeal.Value

open Cert.AdaIdeal Cert.AdaIdeal.Gen

/-- One column of a conditioning row's modulation: the row, each entry weighed by its logistic, through the weights, and the
    bias. -/
def mod (x : Fin 2048 → EReal) (W : FVec Ideal S1x2048x12288 .f32) (B : FVec Ideal S1x12288 .f32) (e : Fin 12288) : EReal :=
  (∑ d : Fin 2048, x d * Ideal.logistic (x d) * W (ix3 0 d e)) + B (ix2 0 e)

/-- The body's block, entry by entry. -/
theorem pay_at (C : Vec Ideal S40x2048 .f32) (w : Vec Ideal S2048x1024 .f32) (b : Vec Ideal S1x1024 .f32) (r : Fin 40) (e : Fin 1024) :
    k0_pay1 C w b (ix2 r e) = (∑ d : Fin 2048, C (ix2 r d) * Ideal.logistic (C (ix2 r d)) * w (ix2 d e)) + b (ix2 0 e) := by
  pointwise [k0_pay1]

variable (m : (ℓ : Loc nD τ sig) → Buf (Elt Ideal) ℓ) (c : Dev nD)

/-- The four arguments as arrays: the prompt's and the sample's conditioning rows, the weights and the bias. -/
abbrev aP : FVec Ideal S4x2048 .f32 := m ((c : Thread nD τ).loc main_arg0)
abbrev aS : FVec Ideal S32x2048 .f32 := m ((c : Thread nD τ).loc main_arg1)
abbrev aW : FVec Ideal S1x2048x12288 .f32 := m ((c : Thread nD τ).loc main_arg2)
abbrev aB : FVec Ideal S1x12288 .f32 := m ((c : Thread nD τ).loc main_arg3)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The rows the call is given: zeros with the two batches' rows written over the first thirty-six. -/
def stacked (P : FVec Ideal S4x2048 .f32) (S : FVec Ideal S32x2048 .f32) : FVec Ideal S40x2048 .f32 :=
  Host.scatter scatter_S40x2048_S1_S36x2048_01_n_0_0 (fun _ b => b)
    (broadcastInDim S40x2048 ![] bcast_S_S40x2048 (constant S_ .f32 0x00000000#32))
    (broadcastInDim S1 ![] bcast_S_S1 (constantI S_ 32 0#32))
    (concatenate S36x2048 0 [⟨S4x2048, P⟩, ⟨S32x2048, S⟩] concatenates_S4x2048_S32x2048_S36x2048_d0)

theorem V_c : (V m c main_v3 : FVec Ideal S40x2048 .f32) = stacked (aP m c) (aS m c) := by
  show StableHlo.after (List.flatten [hostOps0]) (fun b => m (c, b)) _ = _
  simp only [hostOps0, List.flatten_cons, List.flatten_nil, List.append_nil, List.cons_append, List.nil_append]
  after_results
  try rfl

theorem V_w : (V m c main_v4 : FVec Ideal S2048x12288 .f32) = shapeCast S2048x12288 (aW m c) shapeCasts_S1x2048x12288_S2048x12288 := by
  show StableHlo.after (List.flatten [hostOps0]) (fun b => m (c, b)) _ = _
  simp only [hostOps0, List.flatten_cons, List.flatten_nil, List.append_nil, List.cons_append, List.nil_append]
  after_results
  try rfl

theorem V_b : (V m c main_v6 : FVec Ideal S1x12288 .f32) = shapeCast S1x12288 (shapeCast S12288 (aB m c) shapeCasts_S1x12288_S12288) shapeCasts_S12288_S1x12288 := by
  show StableHlo.after (List.flatten [hostOps0]) (fun b => m (c, b)) _ = _
  simp only [hostOps0, List.flatten_cons, List.flatten_nil, List.append_nil, List.cons_append, List.nil_append]
  after_results
  try rfl

/-! ## The stacked rows -/

/-- Every row written keeps its place. -/
theorem lands (k : S36x2048.Idx) (a : Fin S40x2048.rank) :
    scatter_S40x2048_S1_S36x2048_01_n_0_0.start k (broadcastInDim S1 ![] bcast_S_S1 (constantI S_ 32 0#32)) a
      + (scatter_S40x2048_S1_S36x2048_01_n_0_0.window k a : Int) = ((k ⟨a.val, a.isLt⟩).val : Int) := by
  match a with
  | 0 => show (0 : Int) + ((k 0).val : Int) = _; exact zero_add _
  | 1 => show (0 : Int) + ((k 1).val : Int) = _; exact zero_add _

/-- A row written is the joined rows' own. -/
theorem stacked_at (P : FVec Ideal S4x2048 .f32) (S : FVec Ideal S32x2048 .f32) (i : Fin 36) (d : Fin 2048) :
    stacked P S (ix2 ⟨i.val, by omega⟩ d)
      = concatenate S36x2048 0 [⟨S4x2048, P⟩, ⟨S32x2048, S⟩] concatenates_S4x2048_S32x2048_S36x2048_d0 (ix2 i d) := by
  unfold stacked
  refine Routing.scatter_set_hit _ _ _ _ _ _ (fun k hk => ?_) (ix2 i d) ((Routing.resultIdx?_eq_some _ _ _ _).2 fun a => ?_)
  · have hk' := (Routing.resultIdx?_eq_some _ _ _ _).1 hk
    have e : k = ix2 i d := funext fun a => Fin.ext (match a with
      | 0 => by have := (lands k 0).symm.trans (hk' 0); exact Int.ofNat.inj this
      | 1 => by have := (lands k 1).symm.trans (hk' 1); exact Int.ofNat.inj this)
    rw [e]
  · refine (lands _ a).trans ?_
    match a with
    | 0 => rfl
    | 1 => rfl

/-- The first four rows are the prompt's. -/
theorem stacked_prompt (P : FVec Ideal S4x2048 .f32) (S : FVec Ideal S32x2048 .f32) (i : Fin 4) (d : Fin 2048) (h : i.val < 40) :
    stacked P S (ix2 ⟨i.val, h⟩ d) = P (ix2 i d) := by
  refine (stacked_at P S ⟨i.val, by omega⟩ d).trans ?_
  pointwise []

/-- The next thirty-two are the sample's. -/
theorem stacked_sample (P : FVec Ideal S4x2048 .f32) (S : FVec Ideal S32x2048 .f32) (i : Fin 32) (d : Fin 2048) (h : 4 + i.val < 40) :
    stacked P S (ix2 ⟨4 + i.val, h⟩ d) = S (ix2 i d) := by
  refine (stacked_at P S ⟨4 + i.val, by omega⟩ d).trans ?_
  pointwise []

/-! ## The blocks and the whole array -/

variable (t : Fin cfg0.N)

theorem emb_c (r : Fin 40) (d : Fin 2048) : (win0_0.blk t).view.emb (ix2 r d) = ix2 r d :=
  funext fun a => Fin.ext (match a with
    | 0 => by show win0_0.index t 0 * 40 + 1 * r.val = r.val; simp [idx t]
    | 1 => by show win0_0.index t 1 * 2048 + 1 * d.val = d.val; simp [idx t])

theorem emb_w (d : Fin 2048) (e : Fin 1024) (h : t.val * 1024 + e.val < 12288) :
    (win0_1.blk t).view.emb (ix2 d e) = ix2 d ⟨t.val * 1024 + e.val, h⟩ :=
  funext fun a => Fin.ext (match a with
    | 0 => by show win0_1.index t 0 * 2048 + 1 * d.val = d.val; simp [idx t]
    | 1 => by show win0_1.index t 1 * 1024 + 1 * e.val = t.val * 1024 + e.val; simp [idx t])

theorem emb_b (e : Fin 1024) (h : t.val * 1024 + e.val < 12288) :
    (win0_2.blk t).view.emb (ix2 0 e) = ix2 0 ⟨t.val * 1024 + e.val, h⟩ :=
  funext fun a => Fin.ext (match a with
    | 0 => by show win0_2.index t 0 * 1 + 1 * 0 = 0; simp [idx t]
    | 1 => by show win0_2.index t 1 * 1024 + 1 * e.val = t.val * 1024 + e.val; simp [idx t])

theorem read_c (r : Fin 40) (d : Fin 2048) : (iblk m c 0 t : Vec Ideal S40x2048 .f32) (ix2 r d)
    = stacked (aP m c) (aS m c) (ix2 r d) :=
  (congrFun (V_c m c) _).trans (congrArg _ (emb_c t r d))

theorem read_w (d : Fin 2048) (e : Fin 1024) (h : t.val * 1024 + e.val < 12288) :
    (iblk m c 1 t : Vec Ideal S2048x1024 .f32) (ix2 d e) = aW m c (ix3 0 d ⟨t.val * 1024 + e.val, h⟩) := by
  refine (congrFun (V_w m c) _).trans ((congrArg _ (emb_w t d e h)).trans ?_)
  pointwise []

theorem read_b (e : Fin 1024) (h : t.val * 1024 + e.val < 12288) :
    (iblk m c 2 t : Vec Ideal S1x1024 .f32) (ix2 0 e) = aB m c (ix2 0 ⟨t.val * 1024 + e.val, h⟩) := by
  refine (congrFun (V_b m c) _).trans ((congrArg _ (emb_b t e h)).trans ?_)
  pointwise []

/-- The modulation of every stacked row. -/
def whole (C : FVec Ideal S40x2048 .f32) (W : FVec Ideal S1x2048x12288 .f32) (B : FVec Ideal S1x12288 .f32) : FVec Ideal S40x12288 .f32 :=
  fun y => mod (fun d => C (ix2 (y 0) d)) W B (y 1)

/-- The body reads its three blocks whole. -/
theorem ld_c (x : Vec Ideal S40x2048 .f32) : (View.ld x r0_0 : Vec Ideal S40x2048 .f32) = x :=
  funext fun y => congrArg x (funext fun a => Fin.ext (match a with
    | 0 => by show 0 + 1 * (y 0).val = (y 0).val; omega
    | 1 => by show 0 + 1 * (y 1).val = (y 1).val; omega))

theorem ld_w (x : Vec Ideal S2048x1024 .f32) : (View.ld x r0_1 : Vec Ideal S2048x1024 .f32) = x :=
  funext fun y => congrArg x (funext fun a => Fin.ext (match a with
    | 0 => by show 0 + 1 * (y 0).val = (y 0).val; omega
    | 1 => by show 0 + 1 * (y 1).val = (y 1).val; omega))

theorem ld_b (x : Vec Ideal S1x1024 .f32) : (View.ld x r0_2 : Vec Ideal S1x1024 .f32) = x :=
  funext fun y => congrArg x (funext fun a => Fin.ext (match a with
    | 0 => by show 0 + 1 * (y 0).val = (y 0).val; omega
    | 1 => by show 0 + 1 * (y 1).val = (y 1).val; omega))

/-- The stored block over the input blocks. -/
abbrev pay : FVec Ideal S40x1024 .f32 := k0_pay1 (iblk m c 0 t) (iblk m c 1 t) (iblk m c 2 t)

/-- What a point leaves in its block. -/
theorem block_at (r : Fin 40) (e : Fin 1024) (h : t.val * 1024 + e.val < 12288) :
    out0_3 (iblk m c 0 t) (iblk m c 1 t) (iblk m c 2 t) (ix2 r e)
      = whole (stacked (aP m c) (aS m c)) (aW m c) (aB m c) (ix2 r ⟨t.val * 1024 + e.val, h⟩) := by
  refine Eq.trans ?_ ((pay_at (iblk m c 0 t) (iblk m c 1 t) (iblk m c 2 t) r e).trans ?_)
  · unfold out0_3
    rw [ld_c, ld_w, ld_b]
    refine (View.canon_apply_of_pieces (fun x : S40x1024.Idx => pay m c t x) _ ?_ (ix2 r e) (cover0_3 _ _)).trans rfl
    intro pc hpc
    obtain rfl := List.mem_singleton.1 hpc
    intro x
    refine congrArg (pay m c t) (funext fun a => Fin.ext ?_)
    match a with
    | 0 => show (x 0).val = 0 + 1 * (x 0).val; omega
    | 1 => show (x 1).val = 0 + 1 * (x 1).val; omega
  · refine congrArg₂ (fun x y : EReal => x + y) (Finset.sum_congr rfl fun d _ => ?_) (read_b m c t e h)
    rw [read_c m c t r d, read_w m c t d e h]
    rfl

/-- The array after the run. -/
theorem final : (dats m 0 c).arrAt 3 cfg0.N = whole (stacked (aP m c) (aS m c)) (aW m c) (aB m c) := by
  refine (dats m 0 c).arrAt_eq_of_covers 3 _ (by decide +kernel) fun t hf y => ?_
  have ht : t.val < 12 := lt_of_lt_of_eq t.isLt N_0
  have hy : (y 1).val < 1024 := (y 1).isLt
  blk_simp
  rw [after0_3]
  refine Eq.trans ?_ ((block_at m c t (y 0) (y 1) (by omega)).trans ?_)
  · exact congrArg _ (eq_ix2 y)
  · refine congrArg (whole _ _ _) (funext fun a => Fin.ext ?_)
    match a with
    | 0 => show (y 0).val = win0_3.index t 0 * 40 + 1 * (y 0).val; simp [idx t]
    | 1 => show t.val * 1024 + (y 1).val = win0_3.index t 1 * 1024 + 1 * (y 1).val; simp [idx t]

end Cert.AdaIdeal.Value

end
-- ==== Proof.AdaTail.lean ====
/- The modulation's twelve results: six parts for the prompt, six for the sample, cut from the array and laid out anew. -/
module

public import proofs.«01_k».proof.Proof.Ada

@[expose] public section

set_option maxRecDepth 16384

noncomputable section

open Idealize.ShloMosaic Idealize.ShloMosaic.TcCoe Idealize.SL.Sem

namespace Cert.AdaIdeal.Value

open Cert.AdaIdeal Cert.AdaIdeal.Gen

/-- The part of the prompt's modulation that starts at column `k`, one row a sequence. -/
def promptPart (P : FVec Ideal S4x2048 .f32) (W : FVec Ideal S1x2048x12288 .f32) (B : FVec Ideal S1x12288 .f32) (k : Nat) (h : k + 2048 ≤ 12288) :
    FVec Ideal S4x1x2048 .f32 := fun y =>
  have y2 : (y 2).val < 2048 := (y 2).isLt
  mod (fun d => P (ix2 (y 0) d)) W B ⟨k + (y 2).val, by omega⟩

/-- The part of the sample's modulation that starts at column `k`, every sequence's row repeated for its four tokens. -/
def samplePart (S : FVec Ideal S32x2048 .f32) (W : FVec Ideal S1x2048x12288 .f32) (B : FVec Ideal S1x12288 .f32) (k : Nat) (h : k + 2048 ≤ 12288) :
    FVec Ideal S1x128x2048 .f32 := fun y =>
  have y1 : (y 1).val < 128 := (y 1).isLt
  have y2 : (y 2).val < 2048 := (y 2).isLt
  mod (fun d => S (ix2 ⟨(y 1).val / 4, by omega⟩ d)) W B ⟨k + (y 2).val, by omega⟩

/-! ## The array's parts -/

theorem whole_prompt (P : FVec Ideal S4x2048 .f32) (S : FVec Ideal S32x2048 .f32) (W : FVec Ideal S1x2048x12288 .f32) (B : FVec Ideal S1x12288 .f32)
    (b : Fin 4) (e : Fin 12288) (h : b.val < 40) : whole (stacked P S) W B (ix2 ⟨b.val, h⟩ e) = mod (fun d => P (ix2 b d)) W B e :=
  congrArg (fun x => mod x W B e) (funext fun d => stacked_prompt P S b d h)

theorem whole_sample (P : FVec Ideal S4x2048 .f32) (S : FVec Ideal S32x2048 .f32) (W : FVec Ideal S1x2048x12288 .f32) (B : FVec Ideal S1x12288 .f32)
    (b : Fin 32) (e : Fin 12288) (h : 4 + b.val < 40) : whole (stacked P S) W B (ix2 ⟨4 + b.val, h⟩ e) = mod (fun d => S (ix2 b d)) W B e :=
  congrArg (fun x => mod x W B e) (funext fun d => stacked_sample P S b d h)

variable (P : FVec Ideal S4x2048 .f32) (S : FVec Ideal S32x2048 .f32) (W : FVec Ideal S1x2048x12288 .f32) (B : FVec Ideal S1x12288 .f32)

theorem cutP0 : shapeCast S4x1x2048 (extractStridedSlice S4x2048 ![0, 0] (whole (stacked P S) W B) slices_S40x12288_S4x2048_0_0) shapeCasts_S4x2048_S4x1x2048
      = promptPart P W B 0 (by omega) := by
  funext y
  rw [eq_ix3 y]
  unfold promptPart
  pointwise []
  exact whole_prompt P S W B (y 0) _ _

theorem cutP2048 : shapeCast S4x1x2048 (extractStridedSlice S4x2048 ![0, 2048] (whole (stacked P S) W B) slices_S40x12288_S4x2048_0_2048) shapeCasts_S4x2048_S4x1x2048
      = promptPart P W B 2048 (by omega) := by
  funext y
  rw [eq_ix3 y]
  unfold promptPart
  pointwise []
  exact whole_prompt P S W B (y 0) _ _

theorem cutP4096 : shapeCast S4x1x2048 (extractStridedSlice S4x2048 ![0, 4096] (whole (stacked P S) W B) slices_S40x12288_S4x2048_0_4096) shapeCasts_S4x2048_S4x1x2048
      = promptPart P W B 4096 (by omega) := by
  funext y
  rw [eq_ix3 y]
  unfold promptPart
  pointwise []
  exact whole_prompt P S W B (y 0) _ _

theorem cutP6144 : shapeCast S4x1x2048 (extractStridedSlice S4x2048 ![0, 6144] (whole (stacked P S) W B) slices_S40x12288_S4x2048_0_6144) shapeCasts_S4x2048_S4x1x2048
      = promptPart P W B 6144 (by omega) := by
  funext y
  rw [eq_ix3 y]
  unfold promptPart
  pointwise []
  exact whole_prompt P S W B (y 0) _ _

theorem cutP8192 : shapeCast S4x1x2048 (extractStridedSlice S4x2048 ![0, 8192] (whole (stacked P S) W B) slices_S40x12288_S4x2048_0_8192) shapeCasts_S4x2048_S4x1x2048
      = promptPart P W B 8192 (by omega) := by
  funext y
  rw [eq_ix3 y]
  unfold promptPart
  pointwise []
  exact whole_prompt P S W B (y 0) _ _

theorem cutP10240 : shapeCast S4x1x2048 (extractStridedSlice S4x2048 ![0, 10240] (whole (stacked P S) W B) slices_S40x12288_S4x2048_0_10240) shapeCasts_S4x2048_S4x1x2048
      = promptPart P W B 10240 (by omega) := by
  funext y
  rw [eq_ix3 y]
  unfold promptPart
  pointwise []
  exact whole_prompt P S W B (y 0) _ _

theorem cutS0 : shapeCast S1x128x2048 (shapeCast S128x2048 (broadcastInDim S32x4x2048 ![0, 2] bcast_S32x2048_S32x4x2048_0_2
        (extractStridedSlice S32x2048 ![4, 0] (whole (stacked P S) W B) slices_S40x12288_S32x2048_4_0)) shapeCasts_S32x4x2048_S128x2048) shapeCasts_S128x2048_S1x128x2048
      = samplePart S W B 0 (by omega) := by
  funext y
  rw [eq_ix3 y]
  unfold samplePart
  pointwise []
  have y1 : (y 1).val < 128 := (y 1).isLt
  exact whole_sample P S W B ⟨(y 1).val / 4, by omega⟩ _ _

theorem cutS2048 : shapeCast S1x128x2048 (shapeCast S128x2048 (broadcastInDim S32x4x2048 ![0, 2] bcast_S32x2048_S32x4x2048_0_2
        (extractStridedSlice S32x2048 ![4, 2048] (whole (stacked P S) W B) slices_S40x12288_S32x2048_4_2048)) shapeCasts_S32x4x2048_S128x2048) shapeCasts_S128x2048_S1x128x2048
      = samplePart S W B 2048 (by omega) := by
  funext y
  rw [eq_ix3 y]
  unfold samplePart
  pointwise []
  have y1 : (y 1).val < 128 := (y 1).isLt
  exact whole_sample P S W B ⟨(y 1).val / 4, by omega⟩ _ _

theorem cutS4096 : shapeCast S1x128x2048 (shapeCast S128x2048 (broadcastInDim S32x4x2048 ![0, 2] bcast_S32x2048_S32x4x2048_0_2
        (extractStridedSlice S32x2048 ![4, 4096] (whole (stacked P S) W B) slices_S40x12288_S32x2048_4_4096)) shapeCasts_S32x4x2048_S128x2048) shapeCasts_S128x2048_S1x128x2048
      = samplePart S W B 4096 (by omega) := by
  funext y
  rw [eq_ix3 y]
  unfold samplePart
  pointwise []
  have y1 : (y 1).val < 128 := (y 1).isLt
  exact whole_sample P S W B ⟨(y 1).val / 4, by omega⟩ _ _

theorem cutS6144 : shapeCast S1x128x2048 (shapeCast S128x2048 (broadcastInDim S32x4x2048 ![0, 2] bcast_S32x2048_S32x4x2048_0_2
        (extractStridedSlice S32x2048 ![4, 6144] (whole (stacked P S) W B) slices_S40x12288_S32x2048_4_6144)) shapeCasts_S32x4x2048_S128x2048) shapeCasts_S128x2048_S1x128x2048
      = samplePart S W B 6144 (by omega) := by
  funext y
  rw [eq_ix3 y]
  unfold samplePart
  pointwise []
  have y1 : (y 1).val < 128 := (y 1).isLt
  exact whole_sample P S W B ⟨(y 1).val / 4, by omega⟩ _ _

theorem cutS8192 : shapeCast S1x128x2048 (shapeCast S128x2048 (broadcastInDim S32x4x2048 ![0, 2] bcast_S32x2048_S32x4x2048_0_2
        (extractStridedSlice S32x2048 ![4, 8192] (whole (stacked P S) W B) slices_S40x12288_S32x2048_4_8192)) shapeCasts_S32x4x2048_S128x2048) shapeCasts_S128x2048_S1x128x2048
      = samplePart S W B 8192 (by omega) := by
  funext y
  rw [eq_ix3 y]
  unfold samplePart
  pointwise []
  have y1 : (y 1).val < 128 := (y 1).isLt
  exact whole_sample P S W B ⟨(y 1).val / 4, by omega⟩ _ _

theorem cutS10240 : shapeCast S1x128x2048 (shapeCast S128x2048 (broadcastInDim S32x4x2048 ![0, 2] bcast_S32x2048_S32x4x2048_0_2
        (extractStridedSlice S32x2048 ![4, 10240] (whole (stacked P S) W B) slices_S40x12288_S32x2048_4_10240)) shapeCasts_S32x4x2048_S128x2048) shapeCasts_S128x2048_S1x128x2048
      = samplePart S W B 10240 (by omega) := by
  funext y
  rw [eq_ix3 y]
  unfold samplePart
  pointwise []
  have y1 : (y 1).val < 128 := (y 1).isLt
  exact whole_sample P S W B ⟨(y 1).val / 4, by omega⟩ _ _

/-! ## The results -/

variable (m : (ℓ : Loc nD τ sig) → Buf (Elt Ideal) ℓ) (ρ : Dev nD → PrngReg) (c : Dev nD)

/-- What the buffers hold once the host has cut the call's array. -/
abbrev tail (b : Ref sig .tc) : Buf (Elt Ideal) ((c.tc : Thread nD τ).loc b) :=
  Pipeline.afterTail₀ cfgs (dats m) 0 (V0 m) [hostOps1] c b

theorem array : Pipeline.withArrays (cfgs 0).spec c (V0 m c) (fun w => (dats m 0 c).arrAt w (cfgs 0).N) (Proc.tc.devRef main_v7)
    = (whole (stacked (aP m c) (aS m c)) (aW m c) (aB m c) : FVec Ideal S40x12288 .f32) :=
  (Pipeline.withArrays_arr spec0 launch0.win.arr_inj c (V0 m c) _ 3).trans (final m c)

theorem tailP0 : (tail m c main_v9 : FVec Ideal S4x1x2048 .f32) = promptPart (aP m c) (aW m c) (aB m c) 0 (by omega) := by
  refine Eq.trans ?_ (cutP0 (aP m c) (aS m c) (aW m c) (aB m c))
  unfold tail Pipeline.afterTail₀
  simp only [hostOps1, List.flatten_cons, List.flatten_nil, List.append_nil, List.cons_append, List.nil_append]
  after_results
  rw [array m c]
  try rfl

theorem tailP2048 : (tail m c main_v11 : FVec Ideal S4x1x2048 .f32) = promptPart (aP m c) (aW m c) (aB m c) 2048 (by omega) := by
  refine Eq.trans ?_ (cutP2048 (aP m c) (aS m c) (aW m c) (aB m c))
  unfold tail Pipeline.afterTail₀
  simp only [hostOps1, List.flatten_cons, List.flatten_nil, List.append_nil, List.cons_append, List.nil_append]
  after_results
  rw [array m c]
  try rfl

theorem tailP4096 : (tail m c main_v13 : FVec Ideal S4x1x2048 .f32) = promptPart (aP m c) (aW m c) (aB m c) 4096 (by omega) := by
  refine Eq.trans ?_ (cutP4096 (aP m c) (aS m c) (aW m c) (aB m c))
  unfold tail Pipeline.afterTail₀
  simp only [hostOps1, List.flatten_cons, List.flatten_nil, List.append_nil, List.cons_append, List.nil_append]
  after_results
  rw [array m c]
  try rfl

theorem tailP6144 : (tail m c main_v15 : FVec Ideal S4x1x2048 .f32) = promptPart (aP m c) (aW m c) (aB m c) 6144 (by omega) := by
  refine Eq.trans ?_ (cutP6144 (aP m c) (aS m c) (aW m c) (aB m c))
  unfold tail Pipeline.afterTail₀
  simp only [hostOps1, List.flatten_cons, List.flatten_nil, List.append_nil, List.cons_append, List.nil_append]
  after_results
  rw [array m c]
  try rfl

theorem tailP8192 : (tail m c main_v17 : FVec Ideal S4x1x2048 .f32) = promptPart (aP m c) (aW m c) (aB m c) 8192 (by omega) := by
  refine Eq.trans ?_ (cutP8192 (aP m c) (aS m c) (aW m c) (aB m c))
  unfold tail Pipeline.afterTail₀
  simp only [hostOps1, List.flatten_cons, List.flatten_nil, List.append_nil, List.cons_append, List.nil_append]
  after_results
  rw [array m c]
  try rfl

theorem tailP10240 : (tail m c main_v19 : FVec Ideal S4x1x2048 .f32) = promptPart (aP m c) (aW m c) (aB m c) 10240 (by omega) := by
  refine Eq.trans ?_ (cutP10240 (aP m c) (aS m c) (aW m c) (aB m c))
  unfold tail Pipeline.afterTail₀
  simp only [hostOps1, List.flatten_cons, List.flatten_nil, List.append_nil, List.cons_append, List.nil_append]
  after_results
  rw [array m c]
  try rfl

theorem tailS0 : (tail m c main_v23 : FVec Ideal S1x128x2048 .f32) = samplePart (aS m c) (aW m c) (aB m c) 0 (by omega) := by
  refine Eq.trans ?_ (cutS0 (aP m c) (aS m c) (aW m c) (aB m c))
  unfold tail Pipeline.afterTail₀
  simp only [hostOps1, List.flatten_cons, List.flatten_nil, List.append_nil, List.cons_append, List.nil_append]
  after_results
  rw [array m c]
  try rfl

theorem tailS2048 : (tail m c main_v27 : FVec Ideal S1x128x2048 .f32) = samplePart (aS m c) (aW m c) (aB m c) 2048 (by omega) := by
  refine Eq.trans ?_ (cutS2048 (aP m c) (aS m c) (aW m c) (aB m c))
  unfold tail Pipeline.afterTail₀
  simp only [hostOps1, List.flatten_cons, List.flatten_nil, List.append_nil, List.cons_append, List.nil_append]
  after_results
  rw [array m c]
  try rfl

theorem tailS4096 : (tail m c main_v31 : FVec Ideal S1x128x2048 .f32) = samplePart (aS m c) (aW m c) (aB m c) 4096 (by omega) := by
  refine Eq.trans ?_ (cutS4096 (aP m c) (aS m c) (aW m c) (aB m c))
  unfold tail Pipeline.afterTail₀
  simp only [hostOps1, List.flatten_cons, List.flatten_nil, List.append_nil, List.cons_append, List.nil_append]
  after_results
  rw [array m c]
  try rfl

theorem tailS6144 : (tail m c main_v35 : FVec Ideal S1x128x2048 .f32) = samplePart (aS m c) (aW m c) (aB m c) 6144 (by omega) := by
  refine Eq.trans ?_ (cutS6144 (aP m c) (aS m c) (aW m c) (aB m c))
  unfold tail Pipeline.afterTail₀
  simp only [hostOps1, List.flatten_cons, List.flatten_nil, List.append_nil, List.cons_append, List.nil_append]
  after_results
  rw [array m c]
  try rfl

theorem tailS8192 : (tail m c main_v39 : FVec Ideal S1x128x2048 .f32) = samplePart (aS m c) (aW m c) (aB m c) 8192 (by omega) := by
  refine Eq.trans ?_ (cutS8192 (aP m c) (aS m c) (aW m c) (aB m c))
  unfold tail Pipeline.afterTail₀
  simp only [hostOps1, List.flatten_cons, List.flatten_nil, List.append_nil, List.cons_append, List.nil_append]
  after_results
  rw [array m c]
  try rfl

theorem tailS10240 : (tail m c main_v43 : FVec Ideal S1x128x2048 .f32) = samplePart (aS m c) (aW m c) (aB m c) 10240 (by omega) := by
  refine Eq.trans ?_ (cutS10240 (aP m c) (aS m c) (aW m c) (aB m c))
  unfold tail Pipeline.afterTail₀
  simp only [hostOps1, List.flatten_cons, List.flatten_nil, List.append_nil, List.cons_append, List.nil_append]
  after_results
  rw [array m c]
  try rfl

/-- The whole run: the twelve results, and every argument kept. -/
theorem run : θ_run defs (onTc (τ := τ) (main (F := Ideal))) ⟨m, fun _ => 0, ρ⟩ (fun r => ∀ c : Dev nD,
      r.2.mem ((c.tc : Thread nD τ).loc main_v9) = promptPart (aP m c) (aW m c) (aB m c) 0 (by omega)
      ∧ r.2.mem ((c.tc : Thread nD τ).loc main_v11) = promptPart (aP m c) (aW m c) (aB m c) 2048 (by omega)
      ∧ r.2.mem ((c.tc : Thread nD τ).loc main_v13) = promptPart (aP m c) (aW m c) (aB m c) 4096 (by omega)
      ∧ r.2.mem ((c.tc : Thread nD τ).loc main_v15) = promptPart (aP m c) (aW m c) (aB m c) 6144 (by omega)
      ∧ r.2.mem ((c.tc : Thread nD τ).loc main_v17) = promptPart (aP m c) (aW m c) (aB m c) 8192 (by omega)
      ∧ r.2.mem ((c.tc : Thread nD τ).loc main_v19) = promptPart (aP m c) (aW m c) (aB m c) 10240 (by omega)
      ∧ r.2.mem ((c.tc : Thread nD τ).loc main_v23) = samplePart (aS m c) (aW m c) (aB m c) 0 (by omega)
      ∧ r.2.mem ((c.tc : Thread nD τ).loc main_v27) = samplePart (aS m c) (aW m c) (aB m c) 2048 (by omega)
      ∧ r.2.mem ((c.tc : Thread nD τ).loc main_v31) = samplePart (aS m c) (aW m c) (aB m c) 4096 (by omega)
      ∧ r.2.mem ((c.tc : Thread nD τ).loc main_v35) = samplePart (aS m c) (aW m c) (aB m c) 6144 (by omega)
      ∧ r.2.mem ((c.tc : Thread nD τ).loc main_v39) = samplePart (aS m c) (aW m c) (aB m c) 8192 (by omega)
      ∧ r.2.mem ((c.tc : Thread nD τ).loc main_v43) = samplePart (aS m c) (aW m c) (aB m c) 10240 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v9 (Pipeline.mem_restRefs_of main_v9 (by decide) (by decide))).trans (tailP0 m c),
      ((h.1 c).2 main_v11 (Pipeline.mem_restRefs_of main_v11 (by decide) (by decide))).trans (tailP2048 m c),
      ((h.1 c).2 main_v13 (Pipeline.mem_restRefs_of main_v13 (by decide) (by decide))).trans (tailP4096 m c),
      ((h.1 c).2 main_v15 (Pipeline.mem_restRefs_of main_v15 (by decide) (by decide))).trans (tailP6144 m c),
      ((h.1 c).2 main_v17 (Pipeline.mem_restRefs_of main_v17 (by decide) (by decide))).trans (tailP8192 m c),
      ((h.1 c).2 main_v19 (Pipeline.mem_restRefs_of main_v19 (by decide) (by decide))).trans (tailP10240 m c),
      ((h.1 c).2 main_v23 (Pipeline.mem_restRefs_of main_v23 (by decide) (by decide))).trans (tailS0 m c),
      ((h.1 c).2 main_v27 (Pipeline.mem_restRefs_of main_v27 (by decide) (by decide))).trans (tailS2048 m c),
      ((h.1 c).2 main_v31 (Pipeline.mem_restRefs_of main_v31 (by decide) (by decide))).trans (tailS4096 m c),
      ((h.1 c).2 main_v35 (Pipeline.mem_restRefs_of main_v35 (by decide) (by decide))).trans (tailS6144 m c),
      ((h.1 c).2 main_v39 (Pipeline.mem_restRefs_of main_v39 (by decide) (by decide))).trans (tailS8192 m c),
      ((h.1 c).2 main_v43 (Pipeline.mem_restRefs_of main_v43 (by decide) (by decide))).trans (tailS10240 m c),
      h.2 c⟩)
    (θ_run_and (run_main m ρ) (frame_of m ρ (dats m) (A_eq m) (run_main m ρ)))

end Cert.AdaIdeal.Value

end
-- ==== Proof.AdaRef.lean ====
/- The reference's modulation, read at an index: the call's twelve parts. -/
module

public import proofs.«01_k».proof.Proof.AdaTail
public import proofs.«01_k».proof.Proof.Gen.AdaRefIdeal.Run

@[expose] public section

set_option maxRecDepth 16384

noncomputable section

open Idealize.ShloMosaic Idealize.ShloMosaic.TcCoe Idealize.SL.Sem

namespace Cert.AdaRefIdeal.Value

open Cert.AdaRefIdeal Cert.AdaRefIdeal.Gen Cert.AdaIdeal.Value

/-- The prompt's whole modulation, one row a sequence, as the reference computes it. -/
def prompt (P : FVec Ideal S4x2048 .f32) (W : FVec Ideal S1x2048x12288 .f32) (B : FVec Ideal S1x12288 .f32) : FVec Ideal S4x1x12288 .f32 :=
  broadcastInDim S4x1x12288 ![0, 2] bcast_S4x12288_S4x1x12288_0_2 (addf (Host.dotGeneral (F := Ideal) dot_S4x2048_S2048x12288_S4x12288_1_0_0_1_n_n none
    (mulf P (Host.divf (broadcastInDim S4x2048 ![] bcast_S_S4x2048 (constant S_ .f32 0x3F800000#32))
      (addf (broadcastInDim S4x2048 ![] bcast_S_S4x2048 (constant S_ .f32 0x3F800000#32)) (Host.exp (Host.negf P)))))
    (shapeCast _ W shapeCasts_S1x2048x12288_S2048x12288))
    (broadcastInDim S4x12288 ![0, 1] bcast_S1x12288_S4x12288_0_1 (broadcastInDim S1x12288 ![1] bcast_S12288_S1x12288_1 (shapeCast _ B shapeCasts_S1x12288_S12288))))

theorem prompt_at (P : FVec Ideal S4x2048 .f32) (W : FVec Ideal S1x2048x12288 .f32) (B : FVec Ideal S1x12288 .f32) (b : Fin 4) (a : Fin 1) (e : Fin 12288) :
    prompt P W B (ix3 b a e) = mod (fun d => P (ix2 b d)) W B e := by
  unfold mod Ideal.logistic
  pointwise [prompt]

/-- The sample's whole modulation, one row a sequence, as the reference computes it. -/
def sample (S : FVec Ideal S32x2048 .f32) (W : FVec Ideal S1x2048x12288 .f32) (B : FVec Ideal S1x12288 .f32) : FVec Ideal S32x1x12288 .f32 :=
  broadcastInDim S32x1x12288 ![0, 2] bcast_S32x12288_S32x1x12288_0_2 (addf (Host.dotGeneral (F := Ideal) dot_S32x2048_S2048x12288_S32x12288_1_0_0_1_n_n none
    (mulf S (Host.divf (broadcastInDim S32x2048 ![] bcast_S_S32x2048 (constant S_ .f32 0x3F800000#32))
      (addf (broadcastInDim S32x2048 ![] bcast_S_S32x2048 (constant S_ .f32 0x3F800000#32)) (Host.exp (Host.negf S)))))
    (shapeCast _ W shapeCasts_S1x2048x12288_S2048x12288))
    (broadcastInDim S32x12288 ![0, 1] bcast_S1x12288_S32x12288_0_1 (broadcastInDim S1x12288 ![1] bcast_S12288_S1x12288_1 (shapeCast _ B shapeCasts_S1x12288_S12288))))

theorem sample_at (S : FVec Ideal S32x2048 .f32) (W : FVec Ideal S1x2048x12288 .f32) (B : FVec Ideal S1x12288 .f32) (b : Fin 32) (a : Fin 1) (e : Fin 12288) :
    sample S W B (ix3 b a e) = mod (fun d => S (ix2 b d)) W B e := by
  unfold mod Ideal.logistic
  pointwise [sample]

variable (P : FVec Ideal S4x2048 .f32) (S : FVec Ideal S32x2048 .f32) (W : FVec Ideal S1x2048x12288 .f32) (B : FVec Ideal S1x12288 .f32)

theorem refP0 : extractStridedSlice S4x1x2048 ![0, 0, 0] (prompt P W B) slices_S4x1x12288_S4x1x2048_0_0_0 = promptPart P W B 0 (by omega) := by
  funext y
  rw [eq_ix3 y]
  unfold promptPart
  pointwise []
  exact prompt_at P W B _ _ _

theorem refP2048 : extractStridedSlice S4x1x2048 ![0, 0, 2048] (prompt P W B) slices_S4x1x12288_S4x1x2048_0_0_2048 = promptPart P W B 2048 (by omega) := by
  funext y
  rw [eq_ix3 y]
  unfold promptPart
  pointwise []
  exact prompt_at P W B _ _ _

theorem refP4096 : extractStridedSlice S4x1x2048 ![0, 0, 4096] (prompt P W B) slices_S4x1x12288_S4x1x2048_0_0_4096 = promptPart P W B 4096 (by omega) := by
  funext y
  rw [eq_ix3 y]
  unfold promptPart
  pointwise []
  exact prompt_at P W B _ _ _

theorem refP6144 : extractStridedSlice S4x1x2048 ![0, 0, 6144] (prompt P W B) slices_S4x1x12288_S4x1x2048_0_0_6144 = promptPart P W B 6144 (by omega) := by
  funext y
  rw [eq_ix3 y]
  unfold promptPart
  pointwise []
  exact prompt_at P W B _ _ _

theorem refP8192 : extractStridedSlice S4x1x2048 ![0, 0, 8192] (prompt P W B) slices_S4x1x12288_S4x1x2048_0_0_8192 = promptPart P W B 8192 (by omega) := by
  funext y
  rw [eq_ix3 y]
  unfold promptPart
  pointwise []
  exact prompt_at P W B _ _ _

theorem refP10240 : extractStridedSlice S4x1x2048 ![0, 0, 10240] (prompt P W B) slices_S4x1x12288_S4x1x2048_0_0_10240 = promptPart P W B 10240 (by omega) := by
  funext y
  rw [eq_ix3 y]
  unfold promptPart
  pointwise []
  exact prompt_at P W B _ _ _

theorem refS0 : shapeCast S1x128x2048 (broadcastInDim S32x4x2048 ![0, 1, 2] bcast_S32x1x2048_S32x4x2048_0_1_2
      (extractStridedSlice S32x1x2048 ![0, 0, 0] (sample S W B) slices_S32x1x12288_S32x1x2048_0_0_0)) shapeCasts_S32x4x2048_S1x128x2048
      = samplePart S W B 0 (by omega) := by
  funext y
  rw [eq_ix3 y]
  unfold samplePart
  pointwise []
  have y1 : (y 1).val < 128 := (y 1).isLt
  exact sample_at S W B ⟨(y 1).val / 4, by omega⟩ _ _

theorem refS2048 : shapeCast S1x128x2048 (broadcastInDim S32x4x2048 ![0, 1, 2] bcast_S32x1x2048_S32x4x2048_0_1_2
      (extractStridedSlice S32x1x2048 ![0, 0, 2048] (sample S W B) slices_S32x1x12288_S32x1x2048_0_0_2048)) shapeCasts_S32x4x2048_S1x128x2048
      = samplePart S W B 2048 (by omega) := by
  funext y
  rw [eq_ix3 y]
  unfold samplePart
  pointwise []
  have y1 : (y 1).val < 128 := (y 1).isLt
  exact sample_at S W B ⟨(y 1).val / 4, by omega⟩ _ _

theorem refS4096 : shapeCast S1x128x2048 (broadcastInDim S32x4x2048 ![0, 1, 2] bcast_S32x1x2048_S32x4x2048_0_1_2
      (extractStridedSlice S32x1x2048 ![0, 0, 4096] (sample S W B) slices_S32x1x12288_S32x1x2048_0_0_4096)) shapeCasts_S32x4x2048_S1x128x2048
      = samplePart S W B 4096 (by omega) := by
  funext y
  rw [eq_ix3 y]
  unfold samplePart
  pointwise []
  have y1 : (y 1).val < 128 := (y 1).isLt
  exact sample_at S W B ⟨(y 1).val / 4, by omega⟩ _ _

theorem refS6144 : shapeCast S1x128x2048 (broadcastInDim S32x4x2048 ![0, 1, 2] bcast_S32x1x2048_S32x4x2048_0_1_2
      (extractStridedSlice S32x1x2048 ![0, 0, 6144] (sample S W B) slices_S32x1x12288_S32x1x2048_0_0_6144)) shapeCasts_S32x4x2048_S1x128x2048
      = samplePart S W B 6144 (by omega) := by
  funext y
  rw [eq_ix3 y]
  unfold samplePart
  pointwise []
  have y1 : (y 1).val < 128 := (y 1).isLt
  exact sample_at S W B ⟨(y 1).val / 4, by omega⟩ _ _

theorem refS8192 : shapeCast S1x128x2048 (broadcastInDim S32x4x2048 ![0, 1, 2] bcast_S32x1x2048_S32x4x2048_0_1_2
      (extractStridedSlice S32x1x2048 ![0, 0, 8192] (sample S W B) slices_S32x1x12288_S32x1x2048_0_0_8192)) shapeCasts_S32x4x2048_S1x128x2048
      = samplePart S W B 8192 (by omega) := by
  funext y
  rw [eq_ix3 y]
  unfold samplePart
  pointwise []
  have y1 : (y 1).val < 128 := (y 1).isLt
  exact sample_at S W B ⟨(y 1).val / 4, by omega⟩ _ _

theorem refS10240 : shapeCast S1x128x2048 (broadcastInDim S32x4x2048 ![0, 1, 2] bcast_S32x1x2048_S32x4x2048_0_1_2
      (extractStridedSlice S32x1x2048 ![0, 0, 10240] (sample S W B) slices_S32x1x12288_S32x1x2048_0_0_10240)) shapeCasts_S32x4x2048_S1x128x2048
      = samplePart S W B 10240 (by omega) := by
  funext y
  rw [eq_ix3 y]
  unfold samplePart
  pointwise []
  have y1 : (y 1).val < 128 := (y 1).isLt
  exact sample_at S W B ⟨(y 1).val / 4, by omega⟩ _ _

end Cert.AdaRefIdeal.Value

end
-- ==== Proof.SamPay.lean ====
/- What a grid point of the sample's input projection computes, at one element, over whatever its input blocks hold: a row
   through the norm and its modulation, that row through a block of the weights, and the forget gates of a row's heads. -/
module

public import proofs.«01_k».proof.Proof.InPay
public import proofs.«01_k».proof.Proof.Gen.SamprojIdeal.Skeleton
public import Idealize.ShloMosaic.Lib.Pointwise

@[expose] public section

set_option maxRecDepth 16384

noncomputable section

open Idealize.ShloMosaic Idealize.ShloMosaic.TcCoe Idealize.SL.Sem

namespace Cert.SamprojIdeal.Value

open Cert.SamprojIdeal Cert.SamprojIdeal.Gen
open Cert.InprojIdeal.Value (gateOf)

section Block

variable (x : Vec Ideal S128x2048 .f32) (g : Vec Ideal S1x2048 .f32) (sc sh : Vec Ideal S1x128x2048 .f32)

/-- A row of the block through the norm and its modulation. -/
theorem pay4_at (r : Fin 128) (e : Fin 2048) : k0_pay4 x g sc sh (ix2 r e)
    = x (ix2 r e) * (Cert.Rms.scale fun d => x (ix2 r d)) * g (ix2 0 e) * (1 + sc (ix3 0 r e)) + sh (ix3 0 r e) := by
  pointwise [k0_pay4]
  rfl

/-- The same block as the call keeps it. -/
theorem pay5_at (r : Fin 128) (e : Fin 2048) : k0_pay5 x g sc sh (ix2 r e) = k0_pay4 x g sc sh (ix2 r e) := by
  pointwise [k0_pay5]

/-- A kept row through a block of the weights. -/
theorem pay2_at (h : Vec Ideal S128x2048 .bf16) (w : Vec Ideal S2048x1024 .bf16) (r : Fin 128) (e : Fin 1024) :
    k0_pay2 h w (ix2 r e) = ∑ d : Fin 2048, h (ix2 r d) * w (ix2 d e) := by
  pointwise [k0_pay2]

theorem pay3_at (h : Vec Ideal S128x2048 .bf16) (w : Vec Ideal S2048x1024 .bf16) (r : Fin 128) (e : Fin 1024) :
    k0_pay3 h w (ix2 r e) = ∑ d : Fin 2048, h (ix2 r d) * w (ix2 d e) := by
  rw [← pay2_at]
  pointwise [k0_pay3]

/-- A head's forget logit of a row, its offset added. -/
theorem pay6_at (wf : Vec Ideal S16x2048 .bf16) (b : Vec Ideal S8x1 .f32) (i : Fin 8) (r : Fin 128) :
    k0_pay6 x g sc sh wf b (ix2 i r)
      = (∑ d : Fin 2048, wf (ix2 ⟨i.val, by omega⟩ d) * k0_pay4 x g sc sh (ix2 r d)) + b (ix2 i 0) := by
  pointwise [k0_pay6]

/-- The gate of a logit. -/
theorem pay1_at (z : FVec Ideal S8x128 .f32) (i : Fin 8) (r : Fin 128) : k0_pay1 z k0_pay7 (ix2 i r) = gateOf (z (ix2 i r)) := by
  unfold gateOf
  pointwise [k0_pay1, k0_pay7]
  rfl

end Block

section Spec

variable (X : FVec Ideal S32x4x2048 .f32) (SC SH : FVec Ideal S1x128x2048 .f32) (G : FVec Ideal S1x2048 .f32)
  (W : FVec Ideal S1x2048x4104 .f32) (B : FVec Ideal S1x8 .f32)

/-- The place of a token's row among all rows: the sequences lie one after another, four tokens each. -/
def row (b : Fin 32) (s : Fin 4) : Fin 128 := ⟨b.val * 4 + s.val, by omega⟩

/-- A token's row through the norm and its modulation. -/
def hid (b : Fin 32) (s : Fin 4) (e : Fin 2048) : EReal :=
  X (ix3 b s e) * (Cert.Rms.scale fun d => X (ix3 b s d)) * G (ix2 0 e) * (1 + SC (ix3 0 (row b s) e)) + SH (ix3 0 (row b s) e)

/-- One entry of the token's projection. -/
def proj (b : Fin 32) (s : Fin 4) (n : Fin 4104) : EReal := ∑ d : Fin 2048, hid X SC SH G b s d * W (ix3 0 d n)

/-- The 1024 entries from the place `o` on. -/
def part (o : Nat) (ho : o ≤ 3080) (b : Fin 32) (s : Fin 4) (e : Fin 1024) : EReal :=
  proj X SC SH G W b s ⟨o + e.val, by omega⟩

/-- A head's forget gate of the token. -/
def forget (b : Fin 32) (s : Fin 4) (i : Fin 8) : EReal :=
  gateOf (proj X SC SH G W b s ⟨3072 + i.val, by omega⟩ + B (ix2 0 i))

/-- Such a part of every token, the sequences one after another. -/
def flat {φ : FTy} (f : Fin 32 → Fin 4 → Fin 1024 → EReal) : FVec Ideal S128x1024 φ := fun y =>
  have y0 : (y 0).val < 128 := (y 0).isLt
  f ⟨(y 0).val / 4, by omega⟩ ⟨(y 0).val % 4, by omega⟩ (y 1)

/-- The gates of every token, one head after another. -/
def flatGates (f : Fin 32 → Fin 4 → Fin 8 → EReal) : FVec Ideal S8x128 .f32 := fun y =>
  have y1 : (y 1).val < 128 := (y 1).isLt
  f ⟨(y 1).val / 4, by omega⟩ ⟨(y 1).val % 4, by omega⟩ (y 0)

/-- The keys or the values, by heads of 128. -/
def heads (f : Fin 32 → Fin 4 → Fin 1024 → EReal) : FVec Ideal S1x32x4x8x128 .f32 := fun y =>
  have y3 : (y 3).val < 8 := (y 3).isLt
  have y4 : (y 4).val < 128 := (y 4).isLt
  f (y 1) (y 2) ⟨(y 3).val * 128 + (y 4).val, by omega⟩

/-- The gates, token by token. -/
def tokenGates (f : Fin 32 → Fin 4 → Fin 8 → EReal) : FVec Ideal S1x32x4x8 .f32 := fun y => f (y 1) (y 2) (y 3)

/-- The last fifteen of a sequence's nineteen pooled rows: fifteen kept from before, then the four tokens' parts. -/
def lastTokens (ST : FVec Ideal S1x32x15x1024 .f32) (f : Fin 32 → Fin 4 → Fin 1024 → EReal) : FVec Ideal S1x32x15x1024 .f32 := fun y =>
  have y2 : (y 2).val < 15 := (y 2).isLt
  if h : (y 2).val < 11 then ST (ix4 0 (y 1) ⟨4 + (y 2).val, by omega⟩ (y 3)) else f (y 1) ⟨(y 2).val - 11, by omega⟩ (y 3)

theorem lastTokens_kept (ST : FVec Ideal S1x32x15x1024 .f32) (f : Fin 32 → Fin 4 → Fin 1024 → EReal) (a : Fin 1) (b : Fin 32)
    (s : Fin 15) (e : Fin 1024) (h : s.val < 11) : lastTokens ST f (ix4 a b s e) = ST (ix4 0 b ⟨4 + s.val, by omega⟩ e) := dif_pos h

theorem lastTokens_fresh (ST : FVec Ideal S1x32x15x1024 .f32) (f : Fin 32 → Fin 4 → Fin 1024 → EReal) (a : Fin 1) (b : Fin 32)
    (s : Fin 15) (e : Fin 1024) (h : ¬ s.val < 11) : lastTokens ST f (ix4 a b s e) = f b ⟨s.val - 11, by omega⟩ e := dif_neg h

end Spec

end Cert.SamprojIdeal.Value

end
-- ==== Proof.SamRunIdeal.lean ====
/- The kernel body of the sample's input projection, run once in each of the four places a grid point can stand in its row of four:
   at the first the block of rows is normed, modulated, kept in the scratch and the forget gate and the query columns
   are stored; at the others the kept rows are multiplied with the next block of columns and the key, the value and
   the pooled columns are stored in turn.  Each run is stated at the stored values themselves. -/
module

public import proofs.«01_k».proof.Proof.Gen.SamprojIdeal.Frame
public import proofs.«01_k».proof.Proof.Gen.SamprojIdeal.Skeleton
public import Idealize.ShloMosaic.Lib.VecWindow
public import Idealize.ShloMosaic.Lib.Pipeline.ValueKit

@[expose] public section

set_option maxRecDepth 16384

noncomputable section

namespace Cert.SamprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SamprojIdeal.Gen

variable {F : FTy → Type} [FloatOps F]

local notation "𝕄" => MT nD τ sig Unit (Elt F) ℕ (UR sig nD τ) ℕ

/-- A store over the whole of a buffer leaves the stored value in it. -/
theorem whole_store {s : Shape} {e : EltTy} (v : View sig .tc .vmem s e) (f : v.ty.Contents (Elt F)) {off : Fin s.rank → ℕ}
    (h : off = fun _ => 0) (inb : ∀ a, off a + s.size a ≤ s.size a) (P : s.Idx → Elt F e) :
    v.read (Elt F) (v.writes (Elt F) f [⟨Rect.unit off s.size inb, P⟩]) = P := by
  subst h; exact View.read_writes_full v f inb P []

theorem zero2 : (![0, 0] : Fin 2 → ℕ) = fun _ => 0 := by funext a; fin_cases a <;> rfl
theorem zero3 : (![0, 0, 0] : Fin 3 → ℕ) = fun _ => 0 := by funext a; fin_cases a <;> rfl

/-- A load of the whole of a buffer reads what the buffer holds. -/
theorem whole_load {s : Shape} {e : EltTy} {a : Memref sig .tc .vmem s e} (ha : a.IsWhole) {off : Fin s.rank → ℕ}
    (h : off = fun _ => 0) (inb : ∀ k, off k + s.size k ≤ s.size k) (x : Vec F s e) :
    View.readAt (Elt F) a.view (Rect.unit off s.size inb).toLoadRect (ha.unread x) = x := by
  subst h; exact (View.readAt_full _ _ _).trans (ha.read_unread x)

/-- The kept rows, from what the loads read. -/
theorem rows_eq {a2 : Memref sig .tc .vmem S128x2048 .f32} (h2 : a2.IsWhole) {a5 : Memref sig .tc .vmem S1x2048 .f32} (h5 : a5.IsWhole)
    {a3 : Memref sig .tc .vmem S1x128x2048 .f32} (h3 : a3.IsWhole) {a4 : Memref sig .tc .vmem S1x128x2048 .f32} (h4 : a4.IsWhole)
    (b2 b5 b3 b4) (x2 : Vec F S128x2048 .f32) (x5 : Vec F S1x2048 .f32) (x3 x4 : Vec F S1x128x2048 .f32) :
    k0_pay5 (View.readAt (Elt F) a2.view (Rect.unit (s := S128x2048) ![0, 0] S128x2048.size b2).toLoadRect (h2.unread x2))
        (View.readAt (Elt F) a5.view (Rect.unit (s := S1x2048) ![0, 0] S1x2048.size b5).toLoadRect (h5.unread x5))
        (View.readAt (Elt F) a3.view (Rect.unit (s := S1x128x2048) ![0, 0, 0] S1x128x2048.size b3).toLoadRect (h3.unread x3))
        (View.readAt (Elt F) a4.view (Rect.unit (s := S1x128x2048) ![0, 0, 0] S1x128x2048.size b4).toLoadRect (h4.unread x4))
      = k0_pay5 x2 x5 x3 x4 := by
  rw [whole_load h2 zero2, whole_load h5 zero2, whole_load h3 zero3, whole_load h4 zero3]

/-- The gate, from what the loads read. -/
theorem gate_eq {a2 : Memref sig .tc .vmem S128x2048 .f32} (h2 : a2.IsWhole) {a5 : Memref sig .tc .vmem S1x2048 .f32} (h5 : a5.IsWhole)
    {a3 : Memref sig .tc .vmem S1x128x2048 .f32} (h3 : a3.IsWhole) {a4 : Memref sig .tc .vmem S1x128x2048 .f32} (h4 : a4.IsWhole)
    {a7 : Memref sig .tc .vmem S16x2048 .bf16} (h7 : a7.IsWhole) {a8 : Memref sig .tc .vmem S8x1 .f32} (h8 : a8.IsWhole)
    (b2 b5 b3 b4 b7 b8) (x2 : Vec F S128x2048 .f32) (x5 : Vec F S1x2048 .f32) (x3 x4 : Vec F S1x128x2048 .f32)
    (x7 : Vec F S16x2048 .bf16) (x8 : Vec F S8x1 .f32) :
    k0_pay1 (k0_pay6 (View.readAt (Elt F) a2.view (Rect.unit (s := S128x2048) ![0, 0] S128x2048.size b2).toLoadRect (h2.unread x2))
        (View.readAt (Elt F) a5.view (Rect.unit (s := S1x2048) ![0, 0] S1x2048.size b5).toLoadRect (h5.unread x5))
        (View.readAt (Elt F) a3.view (Rect.unit (s := S1x128x2048) ![0, 0, 0] S1x128x2048.size b3).toLoadRect (h3.unread x3))
        (View.readAt (Elt F) a4.view (Rect.unit (s := S1x128x2048) ![0, 0, 0] S1x128x2048.size b4).toLoadRect (h4.unread x4))
        (View.readAt (Elt F) a7.view (Rect.unit (s := S16x2048) ![0, 0] S16x2048.size b7).toLoadRect (h7.unread x7))
        (View.readAt (Elt F) a8.view (Rect.unit (s := S8x1) ![0, 0] S8x1.size b8).toLoadRect (h8.unread x8))) k0_pay7
      = k0_pay1 (k0_pay6 x2 x5 x3 x4 x7 x8) k0_pay7 := by
  rw [whole_load h2 zero2, whole_load h5 zero2, whole_load h3 zero3, whole_load h4 zero3, whole_load h7 zero2, whole_load h8 zero2]

set_option maxHeartbeats 4000000 in
/-- The body at the first point of a row: the kept rows, the gate and the query columns are stored. -/
theorem run_A (c : Dev nD) (i : grid0.Coords) (arg2 : Memref sig .tc .vmem S128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S8x128 .f32) (harg13 : arg13.IsWhole) (arg14 : Memref sig .tc .vmem S128x2048 .bf16) (harg14 : arg14.IsWhole) (hc1 : k0_cond1 i = 1#1) (hc2 : k0_cond2 i = 1#1) (hc3 : ¬k0_cond3 i = 1#1) (hc4 : ¬k0_cond4 i = 1#1) (hc5 : ¬k0_cond5 i = 1#1)
    (x2 : Vec F S128x2048 .f32) (x3 : Vec F S1x128x2048 .f32) (x4 : Vec F S1x128x2048 .f32) (x5 : Vec F S1x2048 .f32) (x6 : Vec F S2048x1024 .bf16) (x7 : Vec F S16x2048 .bf16) (x8 : Vec F S8x1 .f32) (x10 : Vec F S128x1024 .f32) (x11 : Vec F S128x1024 .f32) (x12 : Vec F S128x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay3 (k0_pay5 x2 x5 x3 x4) x6) ∗ owns (c : Thread nD τ) arg10 fullShare x10 ∗ owns (c : Thread nD τ) arg11 fullShare x11 ∗ owns (c : Thread nD τ) arg12 fullShare x12 ∗ owns (c : Thread nD τ) arg13 fullShare (k0_pay1 (k0_pay6 x2 x5 x3 x4 x7 x8) k0_pay7) ∗ owns (c : Thread nD τ) arg14 fullShare (k0_pay5 x2 x5 x3 x4)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr
      swap; · iexact H9
      ipureintro; refine (whole_store _ _ zero2 _ _).trans ?_; exact congrArg₂ k0_pay3 ((View.readCov_full _ _ _ _ _).trans (rows_eq harg2 harg5 harg3 harg4 _ _ _ _ _ _ _ _)) (whole_load harg6 zero2 _ _)
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      swap; · iexact H13
      ipureintro; refine (whole_store _ _ zero2 _ _).trans ?_; exact gate_eq harg2 harg5 harg3 harg4 harg7 harg8 _ _ _ _ _ _ _ _ _ _ _ _
    · iexists _; isplitr
      swap; · iexact H14
      ipureintro; refine (whole_store _ _ zero2 _ _).trans ?_; exact rows_eq harg2 harg5 harg3 harg4 _ _ _ _ _ _ _ _

set_option maxHeartbeats 4000000 in
/-- The body at the second point: the key columns are stored. -/
theorem run_B (c : Dev nD) (i : grid0.Coords) (arg2 : Memref sig .tc .vmem S128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S8x128 .f32) (harg13 : arg13.IsWhole) (arg14 : Memref sig .tc .vmem S128x2048 .bf16) (harg14 : arg14.IsWhole) (hc1 : ¬k0_cond1 i = 1#1) (hc2 : ¬k0_cond2 i = 1#1) (hc3 : k0_cond3 i = 1#1) (hc4 : ¬k0_cond4 i = 1#1) (hc5 : ¬k0_cond5 i = 1#1)
    (x2 : Vec F S128x2048 .f32) (x3 : Vec F S1x128x2048 .f32) (x4 : Vec F S1x128x2048 .f32) (x5 : Vec F S1x2048 .f32) (x6 : Vec F S2048x1024 .bf16) (x7 : Vec F S16x2048 .bf16) (x8 : Vec F S8x1 .f32) (x9 : Vec F S128x1024 .bf16) (x11 : Vec F S128x1024 .f32) (x12 : Vec F S128x1024 .f32) (x13 : Vec F S8x128 .f32) (x14 : Vec F S128x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay2 x14 x6) ∗ owns (c : Thread nD τ) arg11 fullShare x11 ∗ owns (c : Thread nD τ) arg12 fullShare x12 ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr
      swap; · iexact H10
      ipureintro; refine (whole_store _ _ zero2 _ _).trans ?_; exact congrArg₂ k0_pay2 (whole_load harg14 zero2 _ _) (whole_load harg6 zero2 _ _)
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    · iexists _; isplitr; · ipureintro; exact harg14.read_unread _
      iexact H14

set_option maxHeartbeats 4000000 in
/-- The body at the third point: the value columns are stored. -/
theorem run_C (c : Dev nD) (i : grid0.Coords) (arg2 : Memref sig .tc .vmem S128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S8x128 .f32) (harg13 : arg13.IsWhole) (arg14 : Memref sig .tc .vmem S128x2048 .bf16) (harg14 : arg14.IsWhole) (hc1 : ¬k0_cond1 i = 1#1) (hc2 : ¬k0_cond2 i = 1#1) (hc3 : ¬k0_cond3 i = 1#1) (hc4 : k0_cond4 i = 1#1) (hc5 : ¬k0_cond5 i = 1#1)
    (x2 : Vec F S128x2048 .f32) (x3 : Vec F S1x128x2048 .f32) (x4 : Vec F S1x128x2048 .f32) (x5 : Vec F S1x2048 .f32) (x6 : Vec F S2048x1024 .bf16) (x7 : Vec F S16x2048 .bf16) (x8 : Vec F S8x1 .f32) (x9 : Vec F S128x1024 .bf16) (x10 : Vec F S128x1024 .f32) (x12 : Vec F S128x1024 .f32) (x13 : Vec F S8x128 .f32) (x14 : Vec F S128x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay2 x14 x6) ∗ owns (c : Thread nD τ) arg12 fullShare x12 ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr
      swap; · iexact H11
      ipureintro; refine (whole_store _ _ zero2 _ _).trans ?_; exact congrArg₂ k0_pay2 (whole_load harg14 zero2 _ _) (whole_load harg6 zero2 _ _)
    isplitl [H12]
    · iexists _; isplitr; · ipureintro; exact harg12.read_unread _
      iexact H12
    isplitl [H13]
    · iexists _; isplitr; · ipureintro; exact harg13.read_unread _
      iexact H13
    · iexists _; isplitr; · ipureintro; exact harg14.read_unread _
      iexact H14

set_option maxHeartbeats 4000000 in
/-- The body at the last point: the pooled columns are stored. -/
theorem run_D (c : Dev nD) (i : grid0.Coords) (arg2 : Memref sig .tc .vmem S128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S16x2048 .bf16) (harg7 : arg7.IsWhole) (arg8 : Memref sig .tc .vmem S8x1 .f32) (harg8 : arg8.IsWhole) (arg9 : Memref sig .tc .vmem S128x1024 .bf16) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S8x128 .f32) (harg13 : arg13.IsWhole) (arg14 : Memref sig .tc .vmem S128x2048 .bf16) (harg14 : arg14.IsWhole) (hc1 : ¬k0_cond1 i = 1#1) (hc2 : ¬k0_cond2 i = 1#1) (hc3 : ¬k0_cond3 i = 1#1) (hc4 : ¬k0_cond4 i = 1#1) (hc5 : k0_cond5 i = 1#1)
    (x2 : Vec F S128x2048 .f32) (x3 : Vec F S1x128x2048 .f32) (x4 : Vec F S1x128x2048 .f32) (x5 : Vec F S1x2048 .f32) (x6 : Vec F S2048x1024 .bf16) (x7 : Vec F S16x2048 .bf16) (x8 : Vec F S8x1 .f32) (x9 : Vec F S128x1024 .bf16) (x10 : Vec F S128x1024 .f32) (x11 : Vec F S128x1024 .f32) (x13 : Vec F S8x128 .f32) (x14 : Vec F S128x2048 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay2 x14 x6) ∗ owns (c : Thread nD τ) arg13 fullShare x13 ∗ owns (c : Thread nD τ) arg14 fullShare x14) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14) K := by
    simp only [cc0_inproj_eq_skeleton]; unfold cc0_inproj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr
      swap; · iexact H12
      ipureintro; refine (whole_store _ _ zero2 _ _).trans ?_; exact congrArg₂ k0_pay2 (whole_load harg14 zero2 _ _) (whole_load harg6 zero2 _ _)
    isplitl [H13]
    · iexists _; isplitr; · ipureintro; exact harg13.read_unread _
      iexact H13
    · iexists _; isplitr; · ipureintro; exact harg14.read_unread _
      iexact H14

end Cert.SamprojIdeal.Body

end
-- ==== Proof.SamBodyIdeal.lean ====
/- The run of the sample's input projection over its grid: what each buffer holds after every point, in closed form over the four
   points of a row; the body's triple at a generic point from the four runs; the launch; the frame.

   The grid is one row of four points, which shares one block of 128 rows.  The block is normed once, at the row's first point, and kept;
   each stored block is then a function of the row alone, so what a buffer holds between its store and its
   write-back is stated by the row, not by recursion over the points. -/
module

public import proofs.«01_k».proof.Proof.SamRunIdeal
public import Idealize.ShloMosaic.Lib.Pipeline.TableIdle
public import Idealize.ShloMosaic.Lib.Claim

@[expose] public section

set_option maxRecDepth 16384

noncomputable section

namespace Cert.SamprojIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SamprojIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four points of a row -/

/-- The `k`-th of the four points of `t`'s row. -/
def pt (t : Fin cfg0.N) (k : Fin 4) : Fin cfg0.N :=
  ⟨t.val / 4 * 4 + k.val, by have h : t.val < 4 := lt_of_lt_of_eq t.isLt N_0; have := k.isLt; exact lt_of_lt_of_eq (b := 4) (by omega) N_0.symm⟩

theorem pt_self (t : Fin cfg0.N) (k : Fin 4) (h : t.val % 4 = k.val) : pt t k = t :=
  Fin.ext (by show t.val / 4 * 4 + k.val = t.val; omega)

/-- The point before a point. -/
abbrev prev (t : Fin cfg0.N) : Fin cfg0.N := ⟨t.val - 1, Nat.lt_of_le_of_lt (Nat.sub_le _ _) t.isLt⟩

theorem pt_prev (t : Fin cfg0.N) (k : Fin 4) (h : t.val % 4 ≠ 0) : pt (prev t) k = pt t k :=
  Fin.ext (by show (t.val - 1) / 4 * 4 + k.val = t.val / 4 * 4 + k.val; omega)

/-- The normed and modulated rows `t`'s row of points works on. -/
def rows (c : Dev nD) (t : Fin cfg0.N) : Vec F S128x2048 .bf16 :=
  k0_pay5 (iblk m c 0 (pt t 0)) (iblk m c 3 (pt t 0)) (iblk m c 1 (pt t 0)) (iblk m c 2 (pt t 0))

/-- The forget gate of these rows. -/
def gate (c : Dev nD) (t : Fin cfg0.N) : Vec F S8x128 .f32 :=
  k0_pay1 (k0_pay6 (iblk m c 0 (pt t 0)) (iblk m c 3 (pt t 0)) (iblk m c 1 (pt t 0)) (iblk m c 2 (pt t 0)) (iblk m c 5 (pt t 0)) (iblk m c 6 (pt t 0))) k0_pay7

theorem rows_prev (c : Dev nD) (t : Fin cfg0.N) (h : t.val % 4 ≠ 0) : rows m c (prev t) = rows m c t := by
  unfold rows; rw [pt_prev t 0 h]

theorem gate_prev (c : Dev nD) (t : Fin cfg0.N) (h : t.val % 4 ≠ 0) : gate m c (prev t) = gate m c t := by
  unfold gate; rw [pt_prev t 0 h]

/-! ## Where the body stores -/

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 0 :=
  (by decide +kernel : ∀ t : Fin grid0.N, k0_cond2 (grid0.coords t) = 1#1 ↔ t.val % 4 = 0)
theorem hcond3 : ∀ t : Fin cfg0.N, k0_cond3 (grid0.coords t) = 1#1 ↔ t.val % 4 = 1 :=
  (by decide +kernel : ∀ t : Fin grid0.N, k0_cond3 (grid0.coords t) = 1#1 ↔ t.val % 4 = 1)
theorem hcond4 : ∀ t : Fin cfg0.N, k0_cond4 (grid0.coords t) = 1#1 ↔ t.val % 4 = 2 :=
  (by decide +kernel : ∀ t : Fin grid0.N, k0_cond4 (grid0.coords t) = 1#1 ↔ t.val % 4 = 2)
theorem hcond5 : ∀ t : Fin cfg0.N, k0_cond5 (grid0.coords t) = 1#1 ↔ t.val % 4 = 3 :=
  (by decide +kernel : ∀ t : Fin grid0.N, k0_cond5 (grid0.coords t) = 1#1 ↔ t.val % 4 = 3)
theorem live_7 : ∀ t : Fin cfg0.N, t.val % 4 = 0 → cfg0.idle 7 (grid0.coords t) = false :=
  (by decide +kernel : ∀ t : Fin grid0.N, t.val % 4 = 0 → cfg0.idle 7 (grid0.coords t) = false)
theorem idle_7 : ∀ t : Fin cfg0.N, t.val % 4 ≠ 0 → cfg0.idle 7 (grid0.coords t) = true :=
  (by decide +kernel : ∀ t : Fin grid0.N, t.val % 4 ≠ 0 → cfg0.idle 7 (grid0.coords t) = true)
theorem fresh_7 : ∀ t : Fin cfg0.N, t.val % 4 = 0 → cfg0.fresh 7 t.val = true :=
  (by decide +kernel : ∀ t : Fin grid0.N, t.val % 4 = 0 → cfg0.fresh 7 t.val = true)
theorem stale_7 : ∀ t : Fin cfg0.N, t.val % 4 = 3 → cfg0.fresh 7 t.val = false :=
  (by decide +kernel : ∀ t : Fin grid0.N, t.val % 4 = 3 → cfg0.fresh 7 t.val = false)
theorem back_7 (t : Fin cfg0.N) (h : t.val % 4 = 3) : (cfg0.win 7).flush t = true := (flush0_7 t).mpr h
theorem stay_7 (t : Fin cfg0.N) (h : t.val % 4 ≠ 3) : (cfg0.win 7).flush t = false := by
  cases hf : (cfg0.win 7).flush t
  · rfl
  · exact absurd ((flush0_7 t).mp hf) h
theorem live_8 : ∀ t : Fin cfg0.N, t.val % 4 = 1 → cfg0.idle 8 (grid0.coords t) = false :=
  (by decide +kernel : ∀ t : Fin grid0.N, t.val % 4 = 1 → cfg0.idle 8 (grid0.coords t) = false)
theorem idle_8 : ∀ t : Fin cfg0.N, t.val % 4 ≠ 1 → cfg0.idle 8 (grid0.coords t) = true :=
  (by decide +kernel : ∀ t : Fin grid0.N, t.val % 4 ≠ 1 → cfg0.idle 8 (grid0.coords t) = true)
theorem fresh_8 : ∀ t : Fin cfg0.N, t.val % 4 = 0 → cfg0.fresh 8 t.val = true :=
  (by decide +kernel : ∀ t : Fin grid0.N, t.val % 4 = 0 → cfg0.fresh 8 t.val = true)
theorem stale_8 : ∀ t : Fin cfg0.N, t.val % 4 = 3 → cfg0.fresh 8 t.val = false :=
  (by decide +kernel : ∀ t : Fin grid0.N, t.val % 4 = 3 → cfg0.fresh 8 t.val = false)
theorem back_8 (t : Fin cfg0.N) (h : t.val % 4 = 3) : (cfg0.win 8).flush t = true := (flush0_8 t).mpr h
theorem stay_8 (t : Fin cfg0.N) (h : t.val % 4 ≠ 3) : (cfg0.win 8).flush t = false := by
  cases hf : (cfg0.win 8).flush t
  · rfl
  · exact absurd ((flush0_8 t).mp hf) h
theorem live_9 : ∀ t : Fin cfg0.N, t.val % 4 = 2 → cfg0.idle 9 (grid0.coords t) = false :=
  (by decide +kernel : ∀ t : Fin grid0.N, t.val % 4 = 2 → cfg0.idle 9 (grid0.coords t) = false)
theorem idle_9 : ∀ t : Fin cfg0.N, t.val % 4 ≠ 2 → cfg0.idle 9 (grid0.coords t) = true :=
  (by decide +kernel : ∀ t : Fin grid0.N, t.val % 4 ≠ 2 → cfg0.idle 9 (grid0.coords t) = true)
theorem fresh_9 : ∀ t : Fin cfg0.N, t.val % 4 = 0 → cfg0.fresh 9 t.val = true :=
  (by decide +kernel : ∀ t : Fin grid0.N, t.val % 4 = 0 → cfg0.fresh 9 t.val = true)
theorem stale_9 : ∀ t : Fin cfg0.N, t.val % 4 = 3 → cfg0.fresh 9 t.val = false :=
  (by decide +kernel : ∀ t : Fin grid0.N, t.val % 4 = 3 → cfg0.fresh 9 t.val = false)
theorem back_9 (t : Fin cfg0.N) (h : t.val % 4 = 3) : (cfg0.win 9).flush t = true := (flush0_9 t).mpr h
theorem stay_9 (t : Fin cfg0.N) (h : t.val % 4 ≠ 3) : (cfg0.win 9).flush t = false := by
  cases hf : (cfg0.win 9).flush t
  · rfl
  · exact absurd ((flush0_9 t).mp hf) h
theorem live_10 : ∀ t : Fin cfg0.N, t.val % 4 = 3 → cfg0.idle 10 (grid0.coords t) = false :=
  (by decide +kernel : ∀ t : Fin grid0.N, t.val % 4 = 3 → cfg0.idle 10 (grid0.coords t) = false)
theorem idle_10 : ∀ t : Fin cfg0.N, t.val % 4 ≠ 3 → cfg0.idle 10 (grid0.coords t) = true :=
  (by decide +kernel : ∀ t : Fin grid0.N, t.val % 4 ≠ 3 → cfg0.idle 10 (grid0.coords t) = true)
theorem fresh_10 : ∀ t : Fin cfg0.N, t.val % 4 = 0 → cfg0.fresh 10 t.val = true :=
  (by decide +kernel : ∀ t : Fin grid0.N, t.val % 4 = 0 → cfg0.fresh 10 t.val = true)
theorem back_10 (t : Fin cfg0.N) (h : t.val % 4 = 3) : (cfg0.win 10).flush t = true := (flush0_10 t).mpr h
theorem stay_10 (t : Fin cfg0.N) (h : t.val % 4 ≠ 3) : (cfg0.win 10).flush t = false := by
  cases hf : (cfg0.win 10).flush t
  · rfl
  · exact absurd ((flush0_10 t).mp hf) h
theorem live_11 : ∀ t : Fin cfg0.N, t.val % 4 = 0 → cfg0.idle 11 (grid0.coords t) = false :=
  (by decide +kernel : ∀ t : Fin grid0.N, t.val % 4 = 0 → cfg0.idle 11 (grid0.coords t) = false)
theorem idle_11 : ∀ t : Fin cfg0.N, t.val % 4 ≠ 0 → cfg0.idle 11 (grid0.coords t) = true :=
  (by decide +kernel : ∀ t : Fin grid0.N, t.val % 4 ≠ 0 → cfg0.idle 11 (grid0.coords t) = true)
theorem fresh_11 : ∀ t : Fin cfg0.N, t.val % 4 = 0 → cfg0.fresh 11 t.val = true :=
  (by decide +kernel : ∀ t : Fin grid0.N, t.val % 4 = 0 → cfg0.fresh 11 t.val = true)
theorem stale_11 : ∀ t : Fin cfg0.N, t.val % 4 = 3 → cfg0.fresh 11 t.val = false :=
  (by decide +kernel : ∀ t : Fin grid0.N, t.val % 4 = 3 → cfg0.fresh 11 t.val = false)
theorem back_11 (t : Fin cfg0.N) (h : t.val % 4 = 3) : (cfg0.win 11).flush t = true := (flush0_11 t).mpr h
theorem stay_11 (t : Fin cfg0.N) (h : t.val % 4 ≠ 3) : (cfg0.win 11).flush t = false := by
  cases hf : (cfg0.win 11).flush t
  · rfl
  · exact absurd ((flush0_11 t).mp hf) h

/-! ## The buffers, and what the body finds and leaves in them -/

/-- Window 0's buffer at point `t`. -/
abbrev ms0 (t : Fin cfg0.N) : Memref sig .tc .vmem S128x2048 .f32 := win0_0.stage (cfg0.slots t 0)
/-- Window 1's buffer at point `t`. -/
abbrev ms1 (t : Fin cfg0.N) : Memref sig .tc .vmem S1x128x2048 .f32 := win0_1.stage (cfg0.slots t 1)
/-- Window 2's buffer at point `t`. -/
abbrev ms2 (t : Fin cfg0.N) : Memref sig .tc .vmem S1x128x2048 .f32 := win0_2.stage (cfg0.slots t 2)
/-- Window 3's buffer at point `t`. -/
abbrev ms3 (t : Fin cfg0.N) : Memref sig .tc .vmem S1x2048 .f32 := win0_3.stage (cfg0.slots t 3)
/-- Window 4's buffer at point `t`. -/
abbrev ms4 (t : Fin cfg0.N) : Memref sig .tc .vmem S2048x1024 .bf16 := win0_4.stage (cfg0.slots t 4)
/-- Window 5's buffer at point `t`. -/
abbrev ms5 (t : Fin cfg0.N) : Memref sig .tc .vmem S16x2048 .bf16 := win0_5.stage (cfg0.slots t 5)
/-- Window 6's buffer at point `t`. -/
abbrev ms6 (t : Fin cfg0.N) : Memref sig .tc .vmem S8x1 .f32 := win0_6.stage (cfg0.slots t 6)
/-- Window 7's buffer at point `t`. -/
abbrev ms7 (t : Fin cfg0.N) : Memref sig .tc .vmem S128x1024 .bf16 := win0_7.stage (cfg0.slots t 7)
/-- Window 8's buffer at point `t`. -/
abbrev ms8 (t : Fin cfg0.N) : Memref sig .tc .vmem S128x1024 .f32 := win0_8.stage (cfg0.slots t 8)
/-- Window 9's buffer at point `t`. -/
abbrev ms9 (t : Fin cfg0.N) : Memref sig .tc .vmem S128x1024 .f32 := win0_9.stage (cfg0.slots t 9)
/-- Window 10's buffer at point `t`. -/
abbrev ms10 (t : Fin cfg0.N) : Memref sig .tc .vmem S128x1024 .f32 := win0_10.stage (cfg0.slots t 10)
/-- Window 11's buffer at point `t`. -/
abbrev ms11 (t : Fin cfg0.N) : Memref sig .tc .vmem S8x128 .f32 := win0_11.stage (cfg0.slots t 11)
/-- The kept rows' buffer. -/
abbrev scM : Memref sig .tc .vmem S128x2048 .bf16 := Memref.whole cc0_scratch0

/-- What the launch hands over beside the windows: the kept rows' buffer at anything, and the generator's register. -/
theorem rest_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the kept rows' buffer holds anything; after a point it holds that point's rows. -/
def PhiS (c : Dev nD) : (n : ℕ) → n ≤ cfg0.N → sProp 𝕄
  | 0, _ => Pipeline.ΦA spec0 c
  | n + 1, hn => iprop(owns (c : Thread nD τ) scM fullShare (rows m c ⟨n, hn⟩) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM fullShare (rows m c ⟨n, hn⟩) ∗ (∃ r, prngReg c r)) := rfl
theorem PhiS_pos (c : Dev nD) (n : ℕ) (h : n ≤ cfg0.N) (hz : n ≠ 0) :
    PhiS m c n h = iprop(owns (c : Thread nD τ) scM fullShare (rows m c ⟨n - 1, by omega⟩) ∗ (∃ r, prngReg c r)) := by
  cases n with
  | zero => exact absurd rfl hz
  | succ n => rfl

/-- The proof data of the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (rows m c t) (iblk m c 4 (pt t 0))
    | ⟨8, _⟩ => k0_pay2 (rows m c t) (iblk m c 4 (pt t 1))
    | ⟨9, _⟩ => k0_pay2 (rows m c t) (iblk m c 4 (pt t 2))
    | ⟨10, _⟩ => k0_pay2 (rows m c t) (iblk m c 4 (pt t 3))
    | ⟨11, _⟩ => gate m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay3 (rows m c t) (iblk m c 4 (pt t 0)) := by dsimp only [dats]
theorem after8 (c : Dev nD) (t : Fin cfg0.N) : (dats m 0 c).after 8 t = k0_pay2 (rows m c t) (iblk m c 4 (pt t 1)) := by dsimp only [dats]
theorem after9 (c : Dev nD) (t : Fin cfg0.N) : (dats m 0 c).after 9 t = k0_pay2 (rows m c t) (iblk m c 4 (pt t 2)) := by dsimp only [dats]
theorem after10 (c : Dev nD) (t : Fin cfg0.N) : (dats m 0 c).after 10 t = k0_pay2 (rows m c t) (iblk m c 4 (pt t 3)) := by dsimp only [dats]
theorem after11 (c : Dev nD) (t : Fin cfg0.N) : (dats m 0 c).after 11 t = gate m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem carry7 (c : Dev nD) (t : Fin cfg0.N) (h : t.val % 4 ≠ 0) : (dats m 0 c).after 7 (prev t) = (dats m 0 c).after 7 t := by
  rw [after7, after7, rows_prev m c t h, pt_prev t 0 h]
/-- At the last point of a row the body finds in window 7's buffer what it stored there earlier in the row. -/
theorem before7 (c : Dev nD) (t : Fin cfg0.N) (h : t.val % 4 = 3) (d) : (dats m 0 c).before 7 t d = (dats m 0 c).after 7 t := by
  rw [(dats m 0 c).before_out_traj 7 rfl (fun _ _ => rfl) (fun s hs _ hf => ?_) t.val t rfl d, stale_7 t h, if_neg Bool.false_ne_true]
  · exact carry7 m c t (by omega)
  · refine (carry7 m c s fun h0 => ?_).symm
    rw [fresh_7 s h0] at hf; exact absurd hf (by decide)
theorem carry8 (c : Dev nD) (t : Fin cfg0.N) (h : t.val % 4 ≠ 0) : (dats m 0 c).after 8 (prev t) = (dats m 0 c).after 8 t := by
  rw [after8, after8, rows_prev m c t h, pt_prev t 1 h]
/-- At the last point of a row the body finds in window 8's buffer what it stored there earlier in the row. -/
theorem before8 (c : Dev nD) (t : Fin cfg0.N) (h : t.val % 4 = 3) (d) : (dats m 0 c).before 8 t d = (dats m 0 c).after 8 t := by
  rw [(dats m 0 c).before_out_traj 8 rfl (fun _ _ => rfl) (fun s hs _ hf => ?_) t.val t rfl d, stale_8 t h, if_neg Bool.false_ne_true]
  · exact carry8 m c t (by omega)
  · refine (carry8 m c s fun h0 => ?_).symm
    rw [fresh_8 s h0] at hf; exact absurd hf (by decide)
theorem carry9 (c : Dev nD) (t : Fin cfg0.N) (h : t.val % 4 ≠ 0) : (dats m 0 c).after 9 (prev t) = (dats m 0 c).after 9 t := by
  rw [after9, after9, rows_prev m c t h, pt_prev t 2 h]
/-- At the last point of a row the body finds in window 9's buffer what it stored there earlier in the row. -/
theorem before9 (c : Dev nD) (t : Fin cfg0.N) (h : t.val % 4 = 3) (d) : (dats m 0 c).before 9 t d = (dats m 0 c).after 9 t := by
  rw [(dats m 0 c).before_out_traj 9 rfl (fun _ _ => rfl) (fun s hs _ hf => ?_) t.val t rfl d, stale_9 t h, if_neg Bool.false_ne_true]
  · exact carry9 m c t (by omega)
  · refine (carry9 m c s fun h0 => ?_).symm
    rw [fresh_9 s h0] at hf; exact absurd hf (by decide)
theorem carry11 (c : Dev nD) (t : Fin cfg0.N) (h : t.val % 4 ≠ 0) : (dats m 0 c).after 11 (prev t) = (dats m 0 c).after 11 t := by
  rw [after11, after11, gate_prev m c t h]
/-- At the last point of a row the body finds in window 11's buffer what it stored there earlier in the row. -/
theorem before11 (c : Dev nD) (t : Fin cfg0.N) (h : t.val % 4 = 3) (d) : (dats m 0 c).before 11 t d = (dats m 0 c).after 11 t := by
  rw [(dats m 0 c).before_out_traj 11 rfl (fun _ _ => rfl) (fun s hs _ hf => ?_) t.val t rfl d, stale_11 t h, if_neg Bool.false_ne_true]
  · exact carry11 m c t (by omega)
  · refine (carry11 m c s fun h0 => ?_).symm
    rw [fresh_11 s h0] at hf; exact absurd hf (by decide)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_back (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
/-- The body at the first point of a row. -/
theorem sound_A (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_live m c 7 t (live_7 t h), after7]
  rw [Dat.leavesExact_idle (dats m 0 c) 8 t (idle_8 t (by omega)) (stay_8 t (by omega))]
  rw [Dat.leavesExact_idle (dats m 0 c) 9 t (idle_9 t (by omega)) (stay_9 t (by omega))]
  rw [Dat.leavesExact_idle (dats m 0 c) 10 t (idle_10 t (by omega)) (stay_10 t (by omega))]
  rw [leaves_live m c 11 t (live_11 t h), after11]
  rw [show rows m c ⟨t.val, t.isLt⟩ = rows m c t from rfl]
  unfold gate rows
  rw [pt_self t 0 h]
  have hΦ : PhiS m c t.val (Nat.le_of_lt t.isLt) ⊢ (iprop((∃ d, owns (c : Thread nD τ) scM fullShare d) ∗ (∃ r, prngReg c r)) : sProp 𝕄) := by
    by_cases hz : t.val = 0
    · rw [PhiS_zero m c _ _ hz, rest_eq]
    · rw [PhiS_pos m c _ _ hz]
      iintro ⟨HS, Hg⟩
      isplitl [HS]
      · iexists _; iexact HS
      iexact Hg
  refine (sep_mono_left hΦ).trans ?_
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_A c (grid0.coords t) _ _ _ _ _ _ _ _ _ _ _ _ _ _ _ _ _ _ _ _ _ _ _ _ _ _ ((hcond1 t).mpr h) ((hcond2 t).mpr h) (fun e => absurd ((hcond3 t).mp e) (by omega)) (fun e => absurd ((hcond4 t).mp e) (by omega)) (fun e => absurd ((hcond5 t).mp e) (by omega)) (iblk m c 0 t) (iblk m c 1 t) (iblk m c 2 t) (iblk m c 3 t) (iblk m c 4 t) (iblk m c 5 t) (iblk m c 6 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [H11]; · iexists _; iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iexact H11

set_option maxHeartbeats 4000000 in
/-- The body at the second point of a row. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (idle_7 t (by omega)) (stay_7 t (by omega))]
  rw [leaves_live m c 8 t (live_8 t h), after8]
  rw [Dat.leavesExact_idle (dats m 0 c) 9 t (idle_9 t (by omega)) (stay_9 t (by omega))]
  rw [Dat.leavesExact_idle (dats m 0 c) 10 t (idle_10 t (by omega)) (stay_10 t (by omega))]
  rw [Dat.leavesExact_idle (dats m 0 c) 11 t (idle_11 t (by omega)) (stay_11 t (by omega))]
  rw [PhiS_pos m c _ _ (by omega : t.val ≠ 0), show rows m c ⟨t.val - 1, _⟩ = rows m c t from rows_prev m c t (by omega),
    show rows m c ⟨t.val, t.isLt⟩ = rows m c t from rfl, pt_self t 1 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_B c (grid0.coords t) _ _ _ _ _ _ _ _ _ _ _ _ _ _ _ _ _ _ _ _ _ _ _ _ _ _ (fun e => absurd ((hcond1 t).mp e) (by omega)) (fun e => absurd ((hcond2 t).mp e) (by omega)) ((hcond3 t).mpr h) (fun e => absurd ((hcond4 t).mp e) (by omega)) (fun e => absurd ((hcond5 t).mp e) (by omega)) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  iexists _; iexact H11

set_option maxHeartbeats 4000000 in
/-- The body at the third point of a row. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [Dat.leavesExact_idle (dats m 0 c) 7 t (idle_7 t (by omega)) (stay_7 t (by omega))]
  rw [Dat.leavesExact_idle (dats m 0 c) 8 t (idle_8 t (by omega)) (stay_8 t (by omega))]
  rw [leaves_live m c 9 t (live_9 t h), after9]
  rw [Dat.leavesExact_idle (dats m 0 c) 10 t (idle_10 t (by omega)) (stay_10 t (by omega))]
  rw [Dat.leavesExact_idle (dats m 0 c) 11 t (idle_11 t (by omega)) (stay_11 t (by omega))]
  rw [PhiS_pos m c _ _ (by omega : t.val ≠ 0), show rows m c ⟨t.val - 1, _⟩ = rows m c t from rows_prev m c t (by omega),
    show rows m c ⟨t.val, t.isLt⟩ = rows m c t from rfl, pt_self t 2 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_C c (grid0.coords t) _ _ _ _ _ _ _ _ _ _ _ _ _ _ _ _ _ _ _ _ _ _ _ _ _ _ (fun e => absurd ((hcond1 t).mp e) (by omega)) (fun e => absurd ((hcond2 t).mp e) (by omega)) (fun e => absurd ((hcond3 t).mp e) (by omega)) ((hcond4 t).mpr h) (fun e => absurd ((hcond5 t).mp e) (by omega)) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexists _; iexact H10
  iexists _; iexact H11

set_option maxHeartbeats 4000000 in
/-- The body at the last point of a row. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_live m c 0 t rfl, after0]
  rw [leaves_live m c 1 t rfl, after1]
  rw [leaves_live m c 2 t rfl, after2]
  rw [leaves_live m c 3 t rfl, after3]
  rw [leaves_live m c 4 t rfl, after4]
  rw [leaves_live m c 5 t rfl, after5]
  rw [leaves_live m c 6 t rfl, after6]
  rw [leaves_back m c 7 t (idle_7 t (by omega)) (back_7 t h)]
  rw [leaves_back m c 8 t (idle_8 t (by omega)) (back_8 t h)]
  rw [leaves_back m c 9 t (idle_9 t (by omega)) (back_9 t h)]
  rw [leaves_live m c 10 t (live_10 t h), after10]
  rw [leaves_back m c 11 t (idle_11 t (by omega)) (back_11 t h)]
  simp only [before7 m c t h, before8 m c t h, before9 m c t h, before11 m c t h]
  rw [PhiS_pos m c _ _ (by omega : t.val ≠ 0), show rows m c ⟨t.val - 1, _⟩ = rows m c t from rows_prev m c t (by omega),
    show rows m c ⟨t.val, t.isLt⟩ = rows m c t from rfl, pt_self t 3 h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_D c (grid0.coords t) _ _ _ _ _ _ _ _ _ _ _ _ _ _ _ _ _ _ _ _ _ _ _ _ _ _ (fun e => absurd ((hcond1 t).mp e) (by omega)) (fun e => absurd ((hcond2 t).mp e) (by omega)) (fun e => absurd ((hcond3 t).mp e) (by omega)) (fun e => absurd ((hcond4 t).mp e) (by omega)) ((hcond5 t).mpr h) (iblk m c 0 t) (iblk m c 1 t) (iblk m c 2 t) (iblk m c 3 t) (iblk m c 4 t) (iblk m c 5 t) (iblk m c 6 t) _ _ _ _ (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS]; · iexact HS
  iintro ⟨H0, H1, H2, H3, H4, H5, H6, H7, H8, H9, H10, H11, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  rcases (by omega : t.val % 4 = 0 ∨ t.val % 4 = 1 ∨ t.val % 4 = 2 ∨ t.val % 4 = 3) with h | h | h | h
  · exact sound_A m c t h
  · exact sound_B m c t h
  · exact sound_C m c t h
  · exact sound_D m c t h

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 4 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), rest_eq]
  iintro ⟨HS, Hg⟩
  isplitl [HS]
  · iexists _; iexact HS
  iexact Hg

/-! ## The run and the frame -/

/-- What holds after the run. -/
abbrev Post (r : PUnit × MemSt nD τ sig (Elt F)) : Prop :=
  Pipeline.FramePost cfgs (dats m) 0 (Pipeline.afterTail₀ cfgs (dats m) 0 (V0 m) [hostOps1]) r

set_option backward.isDefEq.respectTransparency.types false in
/-- The launch: the post, and every semaphore counter at zero. -/
theorem run_quiescent : θ_run defs (onTc (τ := τ) (main (F := F))) (s₀ m ρ) (fun r => Post m r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Post m) :=
  (θ_run defs _ _).mono (fun _ h => h.1) (run_quiescent m ρ)

/-- THE FRAME: every argument array ends as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.SamprojIdeal.Body

end
-- ==== Proof.SamRead.lean ====
/- The input blocks of the sample's input projection as entries of the arguments, and the blocks its points compute from them. -/
module

public import proofs.«01_k».proof.Proof.SamPay
public import proofs.«01_k».proof.Proof.SamBodyIdeal
public import Idealize.ShloMosaic.Lib.Pipeline.ValueKit
public import Idealize.ShloMosaic.Lib.Pipeline.ReadBack
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.SamprojIdeal.Value

open Cert.SamprojIdeal Cert.SamprojIdeal.Gen Cert.SamprojIdeal.Body

variable (m : (ℓ : Loc nD τ sig) → Buf (Elt Ideal) ℓ) (c : Dev nD)

/-- The seven arguments as arrays. -/
abbrev aX : FVec Ideal S32x4x2048 .f32 := m ((c : Thread nD τ).loc main_arg0)
abbrev aSc : FVec Ideal S1x128x2048 .f32 := m ((c : Thread nD τ).loc main_arg1)
abbrev aSh : FVec Ideal S1x128x2048 .f32 := m ((c : Thread nD τ).loc main_arg2)
abbrev aG : FVec Ideal S1x2048 .f32 := m ((c : Thread nD τ).loc main_arg3)
abbrev aW : FVec Ideal S1x2048x4104 .f32 := m ((c : Thread nD τ).loc main_arg4)
abbrev aB : FVec Ideal S1x8 .f32 := m ((c : Thread nD τ).loc main_arg5)
abbrev aSt : FVec Ideal S1x32x15x1024 .f32 := m ((c : Thread nD τ).loc main_arg6)

theorem idx : ∀ t : Fin cfg0.N, win0_0.index t = ![0, 0] ∧ win0_1.index t = ![0, 0, 0]
    ∧ win0_2.index t = ![0, 0, 0] ∧ win0_3.index t = ![0, 0] ∧ win0_4.index t = ![0, t.val % 4]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] :=
  (by decide +kernel : ∀ t : Fin grid0.N, _)

/-- The sequence a row belongs to, and the token of it that the row is. -/
def seqOf (r : Fin 128) : Fin 32 := ⟨r.val / 4, by omega⟩
def tokOf (r : Fin 128) : Fin 4 := ⟨r.val % 4, by omega⟩

theorem row_of (r : Fin 128) : row (seqOf r) (tokOf r) = r :=
  Fin.ext (by show r.val / 4 * 4 + r.val % 4 = r.val; omega)

variable (t : Fin cfg0.N)

/-- What the host prepares for the call's windows, as arrays over the arguments. -/
theorem V_x : (V m c main_v13 : FVec Ideal S128x2048 .f32) = shapeCast S128x2048 (aX m c) shapeCasts_S32x4x2048_S128x2048 := by
  show StableHlo.after (List.flatten [hostOps0]) (fun b => m (c, b)) _ = _
  simp only [hostOps0, List.flatten_cons, List.flatten_nil, List.append_nil, List.cons_append, List.nil_append]
  after_results
  try rfl

theorem V_w : (V m c main_v5 : FVec Ideal S2048x4096 .bf16) = truncf .bf16 (concatenate S2048x4096 1
      [⟨S2048x3072, shapeCast S2048x3072 (extractStridedSlice S1x2048x3072 ![0, 0, 0] (aW m c) slices_S1x2048x4104_S1x2048x3072_0_0_0) shapeCasts_S1x2048x3072_S2048x3072⟩,
       ⟨S2048x1024, shapeCast S2048x1024 (extractStridedSlice S1x2048x1024 ![0, 0, 3080] (aW m c) slices_S1x2048x4104_S1x2048x1024_0_0_3080) shapeCasts_S1x2048x1024_S2048x1024⟩] concatenates_S2048x3072_S2048x1024_S2048x4096_d1) bitsLt_bf16_f32 := by
  show StableHlo.after (List.flatten [hostOps0]) (fun b => m (c, b)) _ = _
  simp only [hostOps0, List.flatten_cons, List.flatten_nil, List.append_nil, List.cons_append, List.nil_append]
  after_results
  try rfl

theorem V_g : (V m c main_v16 : FVec Ideal S1x2048 .f32) = shapeCast S1x2048 (shapeCast S2048 (aG m c) shapeCasts_S1x2048_S2048) shapeCasts_S2048_S1x2048 := by
  show StableHlo.after (List.flatten [hostOps0]) (fun b => m (c, b)) _ = _
  simp only [hostOps0, List.flatten_cons, List.flatten_nil, List.append_nil, List.cons_append, List.nil_append]
  after_results
  try rfl

theorem V_wf : (V m c main_v12 : FVec Ideal S16x2048 .bf16) = Host.scatter scatter_S16x2048_S1_S8x2048_01_n_0_0 (fun _ b => b)
     (broadcastInDim S16x2048 ![] bcast_S_S16x2048 (constant S_ .bf16 0x0000#16))
     (broadcastInDim S1 ![] bcast_S_S1 (constantI S_ 32 0#32))
     (truncf .bf16 (transpose S8x2048 [1, 0] (shapeCast S2048x8 (extractStridedSlice S1x2048x8 ![0, 0, 3072] (aW m c) slices_S1x2048x4104_S1x2048x8_0_0_3072) shapeCasts_S1x2048x8_S2048x8) transposes_S2048x8_S8x2048_1_0) bitsLt_bf16_f32) := by
  show StableHlo.after (List.flatten [hostOps0]) (fun b => m (c, b)) _ = _
  simp only [hostOps0, List.flatten_cons, List.flatten_nil, List.append_nil, List.cons_append, List.nil_append]
  after_results
  try rfl

theorem V_b : (V m c main_v17 : FVec Ideal S8x1 .f32) = shapeCast S8x1 (shapeCast S8 (aB m c) shapeCasts_S1x8_S8) shapeCasts_S8_S8x1 := by
  show StableHlo.after (List.flatten [hostOps0]) (fun b => m (c, b)) _ = _
  simp only [hostOps0, List.flatten_cons, List.flatten_nil, List.append_nil, List.cons_append, List.nil_append]
  after_results
  try rfl

/-! ## Where a block's element lies in its array -/

variable (t : Fin cfg0.N)

theorem emb_x (r : Fin 128) (e : Fin 2048) :
    (win0_0.blk t).view.emb (ix2 r e) = ix2 r e :=
  funext fun a => Fin.ext (match a with
    | 0 => by show win0_0.index t 0 * 128 + 1 * r.val = r.val; simp [idx t]
    | 1 => by show win0_0.index t 1 * 2048 + 1 * e.val = e.val; simp [idx t])

theorem emb_g (e : Fin 2048) : (win0_3.blk t).view.emb (ix2 0 e) = ix2 0 e :=
  funext fun a => Fin.ext (match a with
    | 0 => by show win0_3.index t 0 * 1 + 1 * 0 = 0; simp [idx t]
    | 1 => by show win0_3.index t 1 * 2048 + 1 * e.val = e.val; simp [idx t])

theorem emb_w (d : Fin 2048) (e : Fin 1024) : (win0_4.blk t).view.emb (ix2 d e) = ix2 d ⟨t.val % 4 * 1024 + e.val, by omega⟩ :=
  funext fun a => Fin.ext (match a with
    | 0 => by show win0_4.index t 0 * 2048 + 1 * d.val = d.val; simp [idx t]
    | 1 => by show win0_4.index t 1 * 1024 + 1 * e.val = t.val % 4 * 1024 + e.val; simp [idx t])

theorem emb_wf (i : Fin 16) (d : Fin 2048) : (win0_5.blk t).view.emb (ix2 i d) = ix2 i d :=
  funext fun a => Fin.ext (match a with
    | 0 => by show win0_5.index t 0 * 16 + 1 * i.val = i.val; simp [idx t]
    | 1 => by show win0_5.index t 1 * 2048 + 1 * d.val = d.val; simp [idx t])

theorem emb_b (i : Fin 8) : (win0_6.blk t).view.emb (ix2 i 0) = ix2 i 0 :=
  funext fun a => Fin.ext (match a with
    | 0 => by show win0_6.index t 0 * 8 + 1 * i.val = i.val; simp [idx t]
    | 1 => by show win0_6.index t 1 * 1 + 1 * 0 = 0; simp [idx t])

/-! ## The blocks' elements as the arguments' -/

theorem read_x (r : Fin 128) (e : Fin 2048) : (iblk m c 0 t : Vec Ideal S128x2048 .f32) (ix2 r e)
    = aX m c (ix3 (seqOf r) (tokOf r) e) := by
  refine (congrFun (V_x m c) _).trans ((congrArg _ (emb_x t r e)).trans ?_)
  unfold seqOf tokOf
  pointwise []

theorem read_sc (r : Fin 128) (e : Fin 2048) : (iblk m c 1 t : Vec Ideal S1x128x2048 .f32) (ix3 0 r e)
    = aSc m c (ix3 0 (row (seqOf r) (tokOf r)) e) := by
  rw [row_of]
  blk_ext [iblk, V, idx t]

theorem read_sh (r : Fin 128) (e : Fin 2048) : (iblk m c 2 t : Vec Ideal S1x128x2048 .f32) (ix3 0 r e)
    = aSh m c (ix3 0 (row (seqOf r) (tokOf r)) e) := by
  rw [row_of]
  blk_ext [iblk, V, idx t]

theorem read_g (e : Fin 2048) : (iblk m c 3 t : Vec Ideal S1x2048 .f32) (ix2 0 e) = aG m c (ix2 0 e) := by
  refine (congrFun (V_g m c) _).trans ((congrArg _ (emb_g t e)).trans ?_)
  pointwise []

theorem read_b (i : Fin 8) : (iblk m c 6 t : Vec Ideal S8x1 .f32) (ix2 i 0) = aB m c (ix2 0 i) := by
  refine (congrFun (V_b m c) _).trans ((congrArg _ (emb_b t i)).trans ?_)
  pointwise []

/-- A block of the joined weights: before the gates' columns they are the argument's, after them the argument's eight
    columns further on. -/
theorem read_w_low (h : t.val % 4 < 3) (d : Fin 2048) (e : Fin 1024) : (iblk m c 4 t : Vec Ideal S2048x1024 .bf16) (ix2 d e)
    = aW m c (ix3 0 d ⟨t.val % 4 * 1024 + e.val, by omega⟩) := by
  refine (congrFun (V_w m c) _).trans ((congrArg _ (emb_w t d e)).trans ?_)
  pointwise []
  exact dif_pos (by omega)

theorem read_w_high (h : t.val % 4 = 3) (d : Fin 2048) (e : Fin 1024) : (iblk m c 4 t : Vec Ideal S2048x1024 .bf16) (ix2 d e)
    = aW m c (ix3 0 d ⟨3080 + e.val, by omega⟩) := by
  refine (congrFun (V_w m c) _).trans ((congrArg _ (emb_w t d e)).trans ?_)
  pointwise []
  exact (dif_neg (by omega)).trans (congrArg (fun n => aW m c (ix3 0 d n)) (Fin.ext (by
    show 3080 + (t.val % 4 * 1024 + e.val - 3072) = 3080 + e.val; omega)))

/-! ## The gates' weights: eight rows written into a zero array -/

/-- Every update keeps its place. -/
theorem lands (k : S8x2048.Idx) (a : Fin S16x2048.rank) :
    scatter_S16x2048_S1_S8x2048_01_n_0_0.start k (broadcastInDim S1 ![] bcast_S_S1 (constantI S_ 32 0#32)) a
      + (scatter_S16x2048_S1_S8x2048_01_n_0_0.window k a : Int) = ((k ⟨a.val, a.isLt⟩).val : Int) := by
  match a with
  | 0 => show (0 : Int) + ((k 0).val : Int) = _; exact zero_add _
  | 1 => show (0 : Int) + ((k 1).val : Int) = _; exact zero_add _

theorem read_wf (i : Fin 8) (d : Fin 2048) : (iblk m c 5 t : Vec Ideal S16x2048 .bf16) (ix2 ⟨i.val, by omega⟩ d)
    = aW m c (ix3 0 d ⟨3072 + i.val, by omega⟩) := by
  refine (congrFun (V_wf m c) _).trans ((congrArg _ (emb_wf t _ d)).trans ?_)
  refine Routing.scatter_set_hit _ _ _ _ _ _ (fun k hk => ?_) (ix2 i d) ((Routing.resultIdx?_eq_some _ _ _ _).2 fun a => ?_)
  · have hk' := (Routing.resultIdx?_eq_some _ _ _ _).1 hk
    have e : k = ix2 i d := funext fun a => Fin.ext (match a with
      | 0 => by have := (lands k 0).symm.trans (hk' 0); exact Int.ofNat.inj this
      | 1 => by have := (lands k 1).symm.trans (hk' 1); exact Int.ofNat.inj this)
    rw [e]
    pointwise []
  · refine (lands _ a).trans ?_
    match a with
    | 0 => rfl
    | 1 => rfl

end Cert.SamprojIdeal.Value

end
-- ==== Proof.SamFinal.lean ====
/- The blocks of the sample's input projection as parts of the tokens' projections, and what the call leaves in its five arrays. -/
module

public import proofs.«01_k».proof.Proof.SamRead

@[expose] public section

set_option maxRecDepth 16384

noncomputable section

open Idealize.ShloMosaic Idealize.ShloMosaic.TcCoe Idealize.SL.Sem

namespace Cert.SamprojIdeal.Value

open Cert.SamprojIdeal Cert.SamprojIdeal.Gen Cert.SamprojIdeal.Body

variable (m : (ℓ : Loc nD τ sig) → Buf (Elt Ideal) ℓ) (c : Dev nD)

/-- The tokens' rows, parts of their projections and gates, over the six arguments. -/
abbrev hidden : Fin 32 → Fin 4 → Fin 2048 → EReal := hid (aX m c) (aSc m c) (aSh m c) (aG m c)
abbrev partOf (o : Nat) (ho : o ≤ 3080) : Fin 32 → Fin 4 → Fin 1024 → EReal :=
  part (aX m c) (aSc m c) (aSh m c) (aG m c) (aW m c) o ho
abbrev gates : Fin 32 → Fin 4 → Fin 8 → EReal := forget (aX m c) (aSc m c) (aSh m c) (aG m c) (aW m c) (aB m c)

variable (t : Fin cfg0.N)

/-- A row of the normed block is a token's row. -/
theorem pay4_eq (r : Fin 128) (e : Fin 2048) :
    k0_pay4 (iblk m c 0 t) (iblk m c 3 t) (iblk m c 1 t) (iblk m c 2 t) (ix2 r e) = hidden m c (seqOf r) (tokOf r) e := by
  refine (pay4_at _ _ _ _ r e).trans ?_
  have hx : (fun d => (iblk m c 0 t : Vec Ideal S128x2048 .f32) (ix2 r d)) = fun d => aX m c (ix3 (seqOf r) (tokOf r) d) :=
    funext fun d => read_x m c t r d
  rw [hx]
  exact congrArg₂ (· + ·) (congrArg₂ (· * ·) (congrArg₂ (· * ·) (congrArg (· * _) (read_x m c t r e)) (read_g m c t e))
    (congrArg (1 + ·) (read_sc m c t r e))) (read_sh m c t r e)

theorem rows_at (r : Fin 128) (e : Fin 2048) : (rows m c t : Vec Ideal S128x2048 .bf16) (ix2 r e)
    = hidden m c (seqOf r) (tokOf r) e := by
  unfold rows
  exact (pay5_at _ _ _ _ r e).trans (pay4_eq m c (pt t 0) r e)

theorem block_q (r : Fin 128) (e : Fin 1024) : k0_pay3 (rows m c t) (iblk m c 4 (pt t 0)) (ix2 r e)
    = partOf m c 0 (by omega) (seqOf r) (tokOf r) e := by
  unfold partOf part proj
  refine (pay3_at _ _ r e).trans (Finset.sum_congr rfl fun d _ => ?_)
  refine congrArg₂ (fun x y : EReal => x * y) (rows_at m c t r d) ?_
  refine (read_w_low m c (pt t 0) (by show (t.val / 4 * 4 + 0) % 4 < 3; omega) d e).trans
    (congrArg (fun n => aW m c (ix3 0 d n)) (Fin.ext ?_))
  show (t.val / 4 * 4 + 0) % 4 * 1024 + e.val = 0 + e.val
  omega

theorem block_k (r : Fin 128) (e : Fin 1024) : k0_pay2 (rows m c t) (iblk m c 4 (pt t 1)) (ix2 r e)
    = partOf m c 1024 (by omega) (seqOf r) (tokOf r) e := by
  unfold partOf part proj
  refine (pay2_at _ _ r e).trans (Finset.sum_congr rfl fun d _ => ?_)
  refine congrArg₂ (fun x y : EReal => x * y) (rows_at m c t r d) ?_
  refine (read_w_low m c (pt t 1) (by show (t.val / 4 * 4 + 1) % 4 < 3; omega) d e).trans
    (congrArg (fun n => aW m c (ix3 0 d n)) (Fin.ext ?_))
  show (t.val / 4 * 4 + 1) % 4 * 1024 + e.val = 1024 + e.val
  omega

theorem block_v (r : Fin 128) (e : Fin 1024) : k0_pay2 (rows m c t) (iblk m c 4 (pt t 2)) (ix2 r e)
    = partOf m c 2048 (by omega) (seqOf r) (tokOf r) e := by
  unfold partOf part proj
  refine (pay2_at _ _ r e).trans (Finset.sum_congr rfl fun d _ => ?_)
  refine congrArg₂ (fun x y : EReal => x * y) (rows_at m c t r d) ?_
  refine (read_w_low m c (pt t 2) (by show (t.val / 4 * 4 + 2) % 4 < 3; omega) d e).trans
    (congrArg (fun n => aW m c (ix3 0 d n)) (Fin.ext ?_))
  show (t.val / 4 * 4 + 2) % 4 * 1024 + e.val = 2048 + e.val
  omega

theorem block_p (r : Fin 128) (e : Fin 1024) : k0_pay2 (rows m c t) (iblk m c 4 (pt t 3)) (ix2 r e)
    = partOf m c 3080 (by omega) (seqOf r) (tokOf r) e := by
  unfold partOf part proj
  refine (pay2_at _ _ r e).trans (Finset.sum_congr rfl fun d _ => ?_)
  refine congrArg₂ (fun x y : EReal => x * y) (rows_at m c t r d) ?_
  exact read_w_high m c (pt t 3) (by show (t.val / 4 * 4 + 3) % 4 = 3; omega) d e

theorem gate_at (i : Fin 8) (r : Fin 128) : (gate m c t : Vec Ideal S8x128 .f32) (ix2 i r)
    = gates m c (seqOf r) (tokOf r) i := by
  unfold gate
  refine (pay1_at _ i r).trans (congrArg Cert.InprojIdeal.Value.gateOf ((pay6_at _ _ _ _ _ _ i r).trans (congrArg₂ (· + ·) ?_ (read_b m c (pt t 0) i))))
  refine Finset.sum_congr rfl fun d _ => ?_
  exact (congrArg₂ (fun x y : EReal => x * y) (read_wf m c (pt t 0) i d) (pay4_eq m c (pt t 0) r d)).trans (mul_comm _ _)

/-- A block's element, at the place of the array it is written to. -/
theorem whole_at {n : Nat} (f : Fin 32 → Fin 4 → Fin n → EReal) (r : Fin 128) (e e' : Fin n) (k : Fin 128)
    (h : k.val = r.val) (he : e'.val = e.val) :
    f (seqOf r) (tokOf r) e = f ⟨k.val / 4, by omega⟩ ⟨k.val % 4, by omega⟩ e' := by
  have hk : r = k := Fin.ext h.symm
  subst hk
  rw [Fin.ext he]
  rfl

/-! ## The five arrays after the run -/

theorem final_q : (dats m 0 c).arrAt 7 cfg0.N = flat (φ := .bf16) (partOf m c 0 (by omega)) := by
  refine (dats m 0 c).arrAt_eq_of_covers 7 _ (by decide +kernel) fun t hf y => ?_
  blk_simp
  rw [after7]
  refine Eq.trans ?_ ((block_q m c t (y 0) (y 1)).trans ?_)
  · exact congrArg _ (eq_ix2 y)
  · refine whole_at (partOf m c 0 (by omega)) (y 0) (y 1) _ _ ?_ ?_
    · show win0_7.index t 0 * 128 + 1 * (y 0).val = _
      simp [idx t]
    · show win0_7.index t 1 * 1024 + 1 * (y 1).val = _
      simp [idx t]

theorem final_k : (dats m 0 c).arrAt 8 cfg0.N = flat (φ := .f32) (partOf m c 1024 (by omega)) := by
  refine (dats m 0 c).arrAt_eq_of_covers 8 _ (by decide +kernel) fun t hf y => ?_
  blk_simp
  rw [after8]
  refine Eq.trans ?_ ((block_k m c t (y 0) (y 1)).trans ?_)
  · exact congrArg _ (eq_ix2 y)
  · refine whole_at (partOf m c 1024 (by omega)) (y 0) (y 1) _ _ ?_ ?_
    · show win0_8.index t 0 * 128 + 1 * (y 0).val = _
      simp [idx t]
    · show win0_8.index t 1 * 1024 + 1 * (y 1).val = _
      simp [idx t]

theorem final_v : (dats m 0 c).arrAt 9 cfg0.N = flat (φ := .f32) (partOf m c 2048 (by omega)) := by
  refine (dats m 0 c).arrAt_eq_of_covers 9 _ (by decide +kernel) fun t hf y => ?_
  blk_simp
  rw [after9]
  refine Eq.trans ?_ ((block_v m c t (y 0) (y 1)).trans ?_)
  · exact congrArg _ (eq_ix2 y)
  · refine whole_at (partOf m c 2048 (by omega)) (y 0) (y 1) _ _ ?_ ?_
    · show win0_9.index t 0 * 128 + 1 * (y 0).val = _
      simp [idx t]
    · show win0_9.index t 1 * 1024 + 1 * (y 1).val = _
      simp [idx t]

theorem final_p : (dats m 0 c).arrAt 10 cfg0.N = flat (φ := .f32) (partOf m c 3080 (by omega)) := by
  refine (dats m 0 c).arrAt_eq_of_covers 10 _ (by decide +kernel) fun t hf y => ?_
  blk_simp
  rw [after10]
  refine Eq.trans ?_ ((block_p m c t (y 0) (y 1)).trans ?_)
  · exact congrArg _ (eq_ix2 y)
  · refine whole_at (partOf m c 3080 (by omega)) (y 0) (y 1) _ _ ?_ ?_
    · show win0_10.index t 0 * 128 + 1 * (y 0).val = _
      simp [idx t]
    · show win0_10.index t 1 * 1024 + 1 * (y 1).val = _
      simp [idx t]

theorem final_gate : (dats m 0 c).arrAt 11 cfg0.N = flatGates (gates m c) := by
  refine (dats m 0 c).arrAt_eq_of_covers 11 _ (by decide +kernel) fun t hf y => ?_
  blk_simp
  rw [after11]
  refine Eq.trans ?_ ((gate_at m c t (y 0) (y 1)).trans ?_)
  · exact congrArg _ (eq_ix2 y)
  · refine whole_at (gates m c) (y 1) (y 0) _ _ ?_ ?_
    · show win0_11.index t 1 * 128 + 1 * (y 1).val = _
      simp [idx t]
    · show win0_11.index t 0 * 8 + 1 * (y 0).val = _
      simp [idx t]

end Cert.SamprojIdeal.Value

end
-- ==== Proof.SamTail.lean ====
/- The whole program of the sample's input projection: its five arrays, and the four of them the host lays out anew. -/
module

public import proofs.«01_k».proof.Proof.SamFinal

@[expose] public section

set_option maxRecDepth 16384

noncomputable section

open Idealize.ShloMosaic Idealize.ShloMosaic.TcCoe Idealize.SL.Sem

namespace Cert.SamprojIdeal.Value

open Cert.SamprojIdeal Cert.SamprojIdeal.Gen Cert.SamprojIdeal.Body

/-! ## The new layouts, over any parts -/

/-- A token counted through all sequences is the token of its own sequence. -/
theorem token {α : Type} (f : Fin 32 → Fin 4 → α) (b : Fin 32) (s : Fin 4) (k : Nat) (h : k = s.val)
    (h0 : (b.val * 4 + k) / 4 < 32) (h1 : (b.val * 4 + k) % 4 < 4) :
    f ⟨(b.val * 4 + k) / 4, h0⟩ ⟨(b.val * 4 + k) % 4, h1⟩ = f b s :=
  congrArg₂ f (Fin.ext (by show (b.val * 4 + k) / 4 = b.val; omega)) (Fin.ext (by show (b.val * 4 + k) % 4 = s.val; omega))

theorem heads_eq (f : Fin 32 → Fin 4 → Fin 1024 → EReal) :
    shapeCast S1x32x4x8x128 (flat (φ := .f32) f) shapeCasts_S128x1024_S1x32x4x8x128 = heads f := by
  funext y
  rw [eq_ix5 y]
  unfold flat heads
  pointwise []
  exact congrFun (token f (y 1) (y 2) _ rfl _ _) _

theorem tokenGates_eq (f : Fin 32 → Fin 4 → Fin 8 → EReal) :
    shapeCast S1x32x4x8 (transpose S128x8 [1, 0] (flatGates f) transposes_S8x128_S128x8_1_0) shapeCasts_S128x8_S1x32x4x8
      = tokenGates f := by
  funext y
  rw [eq_ix4 y]
  unfold flatGates tokenGates
  pointwise []
  exact congrFun (token f (y 1) (y 2) _ rfl _ _) _

theorem lastTokens_eq (ST : FVec Ideal S1x32x15x1024 .f32) (f : Fin 32 → Fin 4 → Fin 1024 → EReal) :
    broadcastInDim S1x32x15x1024 ![1, 2, 3] bcast_S32x15x1024_S1x32x15x1024_1_2_3 (extractStridedSlice S32x15x1024 ![0, 4, 0]
        (concatenate S32x19x1024 1 [⟨S32x15x1024, shapeCast S32x15x1024 ST shapeCasts_S1x32x15x1024_S32x15x1024⟩,
          ⟨S32x4x1024, shapeCast S32x4x1024 (flat (φ := .f32) f) shapeCasts_S128x1024_S32x4x1024⟩]
          concatenates_S32x15x1024_S32x4x1024_S32x19x1024_d1) slices_S32x19x1024_S32x15x1024_0_4_0)
      = lastTokens ST f := by
  funext y
  rw [eq_ix4 y]
  have y2 : (y 2).val < 15 := (y 2).isLt
  by_cases h : (y 2).val < 11
  · refine Eq.trans ?_ (lastTokens_kept _ _ _ _ _ _ h).symm
    pointwise []
    exact dif_pos (by omega)
  · refine Eq.trans ?_ (lastTokens_fresh _ _ _ _ _ _ h).symm
    unfold flat
    pointwise []
    refine (dif_neg (by omega)).trans ?_
    exact congrFun (token f (y 1) ⟨(y 2).val - 11, _⟩ _ (by show 4 + (y 2).val - 15 = (y 2).val - 11; omega) _ _) _

/-! ## The results -/

variable (m : (ℓ : Loc nD τ sig) → Buf (Elt Ideal) ℓ) (ρ : Dev nD → PrngReg) (c : Dev nD)

/-- What the buffers hold once the host has laid the call's arrays out anew. -/
abbrev tail (b : Ref sig .tc) : Buf (Elt Ideal) ((c.tc : Thread nD τ).loc b) :=
  Pipeline.afterTail₀ cfgs (dats m) 0 (V0 m) [hostOps1] c b

theorem array (w : Fin cfg0.W) (A) (h : (dats m 0 c).arrAt w cfg0.N = A) :
    Pipeline.withArrays (cfgs 0).spec c (V0 m c) (fun w => (dats m 0 c).arrAt w (cfgs 0).N) (Proc.devRef .tc (Pipeline.arrRef spec0 w)) = A :=
  (Pipeline.withArrays_arr spec0 launch0.win.arr_inj c (V0 m c) _ w).trans h

theorem tail_k : (tail m c main_v22 : FVec Ideal S1x32x4x8x128 .f32) = heads (partOf m c 1024 (by omega)) := by
  refine Eq.trans ?_ (heads_eq _)
  unfold tail Pipeline.afterTail₀
  simp only [hostOps1, List.flatten_cons, List.flatten_nil, List.append_nil, List.cons_append, List.nil_append]
  after_results
  exact congrArg (fun A : FVec Ideal S128x1024 .f32 => shapeCast S1x32x4x8x128 A shapeCasts_S128x1024_S1x32x4x8x128)
    (array m c 8 _ (final_k m c))

theorem tail_v : (tail m c main_v23 : FVec Ideal S1x32x4x8x128 .f32) = heads (partOf m c 2048 (by omega)) := by
  refine Eq.trans ?_ (heads_eq _)
  unfold tail Pipeline.afterTail₀
  simp only [hostOps1, List.flatten_cons, List.flatten_nil, List.append_nil, List.cons_append, List.nil_append]
  after_results
  exact congrArg (fun A : FVec Ideal S128x1024 .f32 => shapeCast S1x32x4x8x128 A shapeCasts_S128x1024_S1x32x4x8x128)
    (array m c 9 _ (final_v m c))

theorem tail_gate : (tail m c main_v25 : FVec Ideal S1x32x4x8 .f32) = tokenGates (gates m c) := by
  refine Eq.trans ?_ (tokenGates_eq _)
  unfold tail Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v18_4) = flatGates (gates m c) :=
    array m c 11 _ (final_gate m c)
  rw [h]
  rfl

theorem tail_pool : (tail m c main_v27 : FVec Ideal S1x32x15x1024 .f32) = lastTokens (aSt m c) (partOf m c 3080 (by omega)) := by
  refine Eq.trans ?_ (lastTokens_eq _ _)
  unfold tail Pipeline.afterTail₀
  simp only [hostOps1, List.flatten_cons, List.flatten_nil, List.append_nil, List.cons_append, List.nil_append]
  after_results
  have h : Pipeline.withArrays (cfgs 0).spec c (V0 m c) (fun w => (dats m 0 c).arrAt w (cfgs 0).N) (Proc.tc.devRef main_v18_3)
      = (flat (φ := .f32) (partOf m c 3080 (by omega)) : FVec Ideal S128x1024 .f32) := array m c 10 _ (final_p m c)
  have h' : Pipeline.withArrays (cfgs 0).spec c (V0 m c) (fun w => (dats m 0 c).arrAt w (cfgs 0).N) (Proc.tc.devRef main_arg6)
      = aSt m c := (Pipeline.withArrays_of_ne _ c (V0 m c) _ main_arg6 (by exact (by decide : ∀ w, Pipeline.arrRef spec0 w ≠ main_arg6))).trans
    (V_main_arg6 m c)
  rw [h, h']
  rfl

/-- The whole run: the six results, and every argument kept. -/
theorem run : θ_run defs (onTc (τ := τ) (main (F := Ideal))) ⟨m, fun _ => 0, ρ⟩ (fun r => ∀ c : Dev nD,
      r.2.mem ((c.tc : Thread nD τ).loc main_v18_0) = (flat (φ := .bf16) (partOf m c 0 (by omega)) : FVec Ideal S128x1024 .bf16)
      ∧ r.2.mem ((c.tc : Thread nD τ).loc main_v22) = heads (partOf m c 1024 (by omega))
      ∧ r.2.mem ((c.tc : Thread nD τ).loc main_v23) = heads (partOf m c 2048 (by omega))
      ∧ r.2.mem ((c.tc : Thread nD τ).loc main_v25) = tokenGates (gates m c)
      ∧ r.2.mem ((c.tc : Thread nD τ).loc main_v18_3) = (flat (φ := .f32) (partOf m c 3080 (by omega)) : FVec Ideal S128x1024 .f32)
      ∧ r.2.mem ((c.tc : Thread nD τ).loc main_v27) = lastTokens (aSt m c) (partOf m c 3080 (by omega))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final_q m c),
      ((h.1 c).2 main_v22 (Pipeline.mem_restRefs_of main_v22 (by decide) (by decide))).trans (tail_k m c),
      ((h.1 c).2 main_v23 (Pipeline.mem_restRefs_of main_v23 (by decide) (by decide))).trans (tail_v m c),
      ((h.1 c).2 main_v25 (Pipeline.mem_restRefs_of main_v25 (by decide) (by decide))).trans (tail_gate m c),
      ((h.1 c).1 10).trans (final_p m c),
      ((h.1 c).2 main_v27 (Pipeline.mem_restRefs_of main_v27 (by decide) (by decide))).trans (tail_pool m c),
      h.2 c⟩)
    (θ_run_and (run_main m ρ) (frame_of m ρ (dats m) (A_eq m) (run_main m ρ)))

end Cert.SamprojIdeal.Value

end
-- ==== Proof.SamRef.lean ====
/- The reference of the sample's input projection, read at an index: the same parts of the tokens' projections as the call's. -/
module

public import proofs.«01_k».proof.Proof.SamPay
public import proofs.«01_k».proof.Proof.InRef
public import proofs.«01_k».proof.Proof.Gen.SamprojRefIdeal.Run

@[expose] public section

set_option maxRecDepth 16384

noncomputable section

open Idealize.ShloMosaic Idealize.ShloMosaic.TcCoe Idealize.SL.Sem

namespace Cert.SamprojRefIdeal.Value

open Cert.SamprojRefIdeal Cert.SamprojRefIdeal.Gen
open Cert.SamprojIdeal.Value (hid proj part forget flat heads tokenGates lastTokens lastTokens_kept lastTokens_fresh row)
open Cert.InprojIdeal.Value (gateOf)

variable (X : FVec Ideal S32x4x2048 .f32) (SC SH : FVec Ideal S1x128x2048 .f32) (G : FVec Ideal S1x2048 .f32)
  (W : FVec Ideal S1x2048x4104 .f32) (B : FVec Ideal S1x8 .f32) (ST : FVec Ideal S1x32x15x1024 .f32)

/-- The reference's norm factor of every row. -/
def factor (f : FVec Ideal S32x4x2048 .f32) : FVec Ideal S32x4x1 .f32 :=
  Host.rsqrt (addf (Host.divf (broadcastInDim S32x4x1 ![0, 1] bcast_S32x4_S32x4x1_0_1 (Host.reduceAdd (mulf f f) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))

/-- The reference's norm: the factor and the weights on every row. -/
def normed (f : FVec Ideal S32x4x2048 .f32) (g : FVec Ideal S1x2048 .f32) : FVec Ideal S32x4x2048 .f32 :=
  mulf (mulf f (broadcastInDim S32x4x2048 ![0, 1, 2] bcast_S32x4x1_S32x4x2048_0_1_2 (factor f))) (broadcastInDim S32x4x2048 ![0, 1, 2] bcast_S1x1x2048_S32x4x2048_0_1_2 (broadcastInDim S1x1x2048 ![2] bcast_S2048_S1x1x2048_2 (shapeCast S2048 g shapeCasts_S1x2048_S2048)))

/-- The modulated rows. -/
def modulated : FVec Ideal S32x4x2048 .f32 :=
  addf (mulf (normed X G) (addf (broadcastInDim S32x4x2048 ![] bcast_S_S32x4x2048 (constant S_ .f32 0x3F800000#32)) (shapeCast S32x4x2048 SC shapeCasts_S1x128x2048_S32x4x2048))) (shapeCast S32x4x2048 SH shapeCasts_S1x128x2048_S32x4x2048)

/-- The product with the weights. -/
def prod : FVec Ideal S32x4x4104 .f32 :=
  Host.dotGeneral (F := Ideal) (φ₁ := .f32) (φ₂ := .f32) dot_S32x4x2048_S2048x4104_S32x4x4104_2_0_01_1_n_n none (modulated X SC SH G) (shapeCast S2048x4104 W shapeCasts_S1x2048x4104_S2048x4104)

/-- The forget logits of every token. -/
def logits : FVec Ideal S32x4x8 .f32 :=
  addf (extractStridedSlice S32x4x8 ![0, 0, 3072] (prod X SC SH G W) slices_S32x4x4104_S32x4x8_0_0_3072) (broadcastInDim S32x4x8 ![0, 1, 2] bcast_S1x1x8_S32x4x8_0_1_2 (broadcastInDim S1x1x8 ![2] bcast_S8_S1x1x8_2 (shapeCast S8 B shapeCasts_S1x8_S8)))

/-- The zeros the logits are compared with. -/
def zeros : FVec Ideal S32x4x8 .f32 := broadcastInDim S32x4x8 ![] bcast_S_S32x4x8 (constant S_ .f32 0x00000000#32)

/-- The logistic function's logarithm, entry by entry. -/
def logSigmoid (z : FVec Ideal S32x4x8 .f32) : FVec Ideal S32x4x8 .f32 :=
  Host.negf (select (cmpf .une (subf (Host.negf z) zeros) (subf (Host.negf z) zeros)) (addf (Host.negf z) zeros) (addf (maximumf (Host.negf z) zeros) (Host.log1p (Host.exp (Host.negf (Host.absf (subf (Host.negf z) zeros)))))))

/-- The six results. -/
def resQ : FVec Ideal S128x1024 .bf16 := shapeCast S128x1024 (truncf .bf16 (extractStridedSlice S32x4x1024 ![0, 0, 0] (prod X SC SH G W) slices_S32x4x4104_S32x4x1024_0_0_0) bitsLt_bf16_f32) shapeCasts_S32x4x1024_S128x1024
def resK : FVec Ideal S1x32x4x8x128 .f32 := broadcastInDim S1x32x4x8x128 ![1, 2, 3, 4] bcast_S32x4x8x128_S1x32x4x8x128_1_2_3_4 (shapeCast S32x4x8x128 (extractStridedSlice S32x4x1024 ![0, 0, 1024] (prod X SC SH G W) slices_S32x4x4104_S32x4x1024_0_0_1024) shapeCasts_S32x4x1024_S32x4x8x128)
def resV : FVec Ideal S1x32x4x8x128 .f32 := broadcastInDim S1x32x4x8x128 ![1, 2, 3, 4] bcast_S32x4x8x128_S1x32x4x8x128_1_2_3_4 (shapeCast S32x4x8x128 (extractStridedSlice S32x4x1024 ![0, 0, 2048] (prod X SC SH G W) slices_S32x4x4104_S32x4x1024_0_0_2048) shapeCasts_S32x4x1024_S32x4x8x128)
def resGate : FVec Ideal S1x32x4x8 .f32 := broadcastInDim S1x32x4x8 ![1, 2, 3] bcast_S32x4x8_S1x32x4x8_1_2_3 (logSigmoid (logits X SC SH G W B))
def resP : FVec Ideal S128x1024 .f32 := shapeCast S128x1024 (extractStridedSlice S32x4x1024 ![0, 0, 3080] (prod X SC SH G W) slices_S32x4x4104_S32x4x1024_0_0_3080) shapeCasts_S32x4x1024_S128x1024
def resPool : FVec Ideal S1x32x15x1024 .f32 := broadcastInDim S1x32x15x1024 ![1, 2, 3] bcast_S32x15x1024_S1x32x15x1024_1_2_3 (extractStridedSlice S32x15x1024 ![0, 4, 0] (concatenate S32x19x1024 1 [⟨S32x15x1024, (shapeCast S32x15x1024 ST shapeCasts_S1x32x15x1024_S32x15x1024)⟩, ⟨S32x4x1024, (extractStridedSlice S32x4x1024 ![0, 0, 3080] (prod X SC SH G W) slices_S32x4x4104_S32x4x1024_0_0_3080)⟩] concatenates_S32x15x1024_S32x4x1024_S32x19x1024_d1) slices_S32x19x1024_S32x15x1024_0_4_0)

/-- The factor of a row is the row's scale. -/
theorem factor_at (f : FVec Ideal S32x4x2048 .f32) (b : Fin 32) (s : Fin 4) :
    factor f (ix3 b s 0) = Cert.Rms.scale fun d => f (ix3 b s d) := by
  pointwise [factor]
  rfl

/-- The norm at an index. -/
theorem normed_at (f : FVec Ideal S32x4x2048 .f32) (g : FVec Ideal S1x2048 .f32) (b : Fin 32) (s : Fin 4) (e : Fin 2048) :
    normed f g (ix3 b s e) = f (ix3 b s e) * (Cert.Rms.scale fun d => f (ix3 b s d)) * g (ix2 0 e) := by
  rw [← factor_at]
  pointwise [normed]

theorem modulated_at (b : Fin 32) (s : Fin 4) (e : Fin 2048) : modulated X SC SH G (ix3 b s e) = hid X SC SH G b s e := by
  refine Eq.trans ?_ (congrArg (· * (1 + SC (ix3 0 (row b s) e)) + SH (ix3 0 (row b s) e)) (normed_at X G b s e))
  pointwise [modulated]
  rfl

theorem prod_at (b : Fin 32) (s : Fin 4) (n : Fin 4104) : prod X SC SH G W (ix3 b s n) = proj X SC SH G W b s n := by
  unfold proj
  have h : (fun d => modulated X SC SH G (ix3 b s d)) = fun d => hid X SC SH G b s d :=
    funext fun d => modulated_at X SC SH G b s d
  refine Eq.trans (b := ∑ d : Fin 2048, modulated X SC SH G (ix3 b s d) * W (ix3 0 d n)) ?_
    (Finset.sum_congr rfl fun d _ => congrArg (· * W (ix3 0 d n)) (congrFun h d))
  pointwise [prod]

theorem logits_at (b : Fin 32) (s : Fin 4) (i : Fin 8) : logits X SC SH G W B (ix3 b s i)
    = proj X SC SH G W b s ⟨3072 + i.val, by omega⟩ + B (ix2 0 i) := by
  rw [← prod_at]
  pointwise [logits]

theorem logSigmoid_at (z : FVec Ideal S32x4x8 .f32) (b : Fin 32) (s : Fin 4) (i : Fin 8) :
    logSigmoid z (ix3 b s i) = gateOf (z (ix3 b s i)) := by
  refine Eq.trans ?_ (Cert.InprojIdeal.Value.gateOf_eq (z (ix3 b s i)))
  pointwise [logSigmoid, zeros]
  exact congrArg Neg.neg (if_neg (not_not.2 rfl))

theorem resQ_eq : resQ X SC SH G W = flat (φ := .bf16) (part X SC SH G W 0 (by omega)) := by
  funext y
  rw [eq_ix2 y]
  unfold flat part
  refine Eq.trans ?_ (prod_at X SC SH G W _ _ _)
  pointwise [resQ]

theorem resP_eq : resP X SC SH G W = flat (φ := .f32) (part X SC SH G W 3080 (by omega)) := by
  funext y
  rw [eq_ix2 y]
  unfold flat part
  refine Eq.trans ?_ (prod_at X SC SH G W _ _ _)
  pointwise [resP]

theorem resK_eq : resK X SC SH G W = heads (part X SC SH G W 1024 (by omega)) := by
  funext y
  rw [eq_ix5 y]
  unfold heads part
  refine Eq.trans ?_ (prod_at X SC SH G W _ _ _)
  pointwise [resK]

theorem resV_eq : resV X SC SH G W = heads (part X SC SH G W 2048 (by omega)) := by
  funext y
  rw [eq_ix5 y]
  unfold heads part
  refine Eq.trans ?_ (prod_at X SC SH G W _ _ _)
  pointwise [resV]

theorem resGate_eq : resGate X SC SH G W B = tokenGates (forget X SC SH G W B) := by
  funext y
  rw [eq_ix4 y]
  unfold tokenGates forget
  refine Eq.trans ?_ ((logSigmoid_at _ _ _ _).trans (congrArg gateOf (logits_at X SC SH G W B _ _ _)))
  pointwise [resGate]

theorem resPool_eq : resPool X SC SH G W ST = lastTokens ST (part X SC SH G W 3080 (by omega)) := by
  funext y
  rw [eq_ix4 y]
  have y2 : (y 2).val < 15 := (y 2).isLt
  by_cases h : (y 2).val < 11
  · refine Eq.trans ?_ (lastTokens_kept _ _ _ _ _ _ h).symm
    pointwise [resPool]
    exact dif_pos (by omega)
  · refine Eq.trans ?_ (lastTokens_fresh _ _ _ _ _ _ h).symm
    unfold part
    refine Eq.trans ?_ (prod_at X SC SH G W _ _ _)
    pointwise [resPool]
    exact (dif_neg (by omega)).trans (congrArg (fun n => prod X SC SH G W (ix3 (y 1) n _)) (Fin.ext (by
      show 4 + (y 2).val - 15 = (y 2).val - 11; omega)))

end Cert.SamprojRefIdeal.Value

end
-- ==== Proof.SamOutPay.lean ====
/- What the one grid point of the sample's output projection stores at one element of its two blocks, over whatever its input
   blocks hold: the mixed row through the norm and the gate onto the residual, and that row through the second, modulated norm. -/
module

public import proofs.«01_k».proof.Proof.OutPay
public import proofs.«01_k».proof.Proof.Gen.SamoutIdeal.Skeleton
public import Idealize.ShloMosaic.Lib.Pointwise

@[expose] public section

set_option maxRecDepth 16384

noncomputable section

open Idealize.ShloMosaic Idealize.ShloMosaic.TcCoe Idealize.SL.Sem

namespace Cert.SamoutIdeal.Value

open Cert.SamoutIdeal Cert.SamoutIdeal.Gen

section Block

variable (a p : Vec Ideal S128x1024 .bf16) (wa wp : Vec Ideal S1024x2048 .bf16) (x : Vec Ideal S128x2048 .f32)
  (gt sc sh : Vec Ideal S1x128x2048 .f32) (gpost gpre : Vec Ideal S1x2048 .f32)

/-- A row of the two mixers' outputs through the two halves of the weights. -/
def mix (r : Fin 128) (e : Fin 2048) : EReal :=
  (∑ d : Fin 1024, a (ix2 r d) * wa (ix2 d e)) + ∑ d : Fin 1024, p (ix2 r d) * wp (ix2 d e)

/-- The residual stream's block: the mixed row normed, weighted and gated onto the input row. -/
theorem pay2_at (r : Fin 128) (e : Fin 2048) : k0_pay2 a wa p wp x gt gpost (ix2 r e)
    = x (ix2 r e) + gt (ix3 0 r e) * (mix a p wa wp r e * Cert.Rms.scale (mix a p wa wp r) * gpost (ix2 0 e)) := by
  pointwise [k0_pay2]
  rfl

/-- The sum of squares of a row of it. -/
theorem pay3_at (r : Fin 128) : k0_pay3 a wa p wp x gt gpost (ix2 r 0)
    = ∑ d : Fin 2048, k0_pay2 a wa p wp x gt gpost (ix2 r d) * k0_pay2 a wa p wp x gt gpost (ix2 r d) := by
  pointwise [k0_pay3]

/-- The second block: a row through the second norm and its modulation. -/
theorem pay1_at (y : FVec Ideal S128x2048 .f32) (q : FVec Ideal S128x1 .f32) (r : Fin 128) (e : Fin 2048) :
    k0_pay1 y q gpre sc sh (ix2 r e)
      = y (ix2 r e) * Ideal.rsqrt (Ideal.div (q (ix2 r 0)) (Ideal.ofBits .f32 0x45000000#32) + Ideal.ofBits .f32 0x358637BD#32)
          * gpre (ix2 0 e) * (1 + sc (ix3 0 r e)) + sh (ix3 0 r e) := by
  pointwise [k0_pay1]

end Block

section Spec

variable (A : FVec Ideal S32x32x128 .f32) (P : FVec Ideal S4x32x1024 .bf16) (X : FVec Ideal S32x4x2048 .f32)
  (G SC SH : FVec Ideal S1x128x2048 .f32) (GP GF : FVec Ideal S1x2048 .f32) (W : FVec Ideal S1x2048x2048 .f32)

/-- A token's mixed row: its attention, head after head, and its pools, side by side, through the weights. -/
def mixed (n : Fin 128) (e : Fin 2048) : EReal :=
  (∑ d : Fin 1024, A (ix3 ⟨n.val / 4, by omega⟩ ⟨n.val % 4 * 8 + d.val / 128, by omega⟩ ⟨d.val % 128, by omega⟩)
      * W (ix3 0 ⟨d.val, by omega⟩ e))
    + ∑ d : Fin 1024, P (ix3 ⟨n.val % 4, by omega⟩ ⟨n.val / 4, by omega⟩ d) * W (ix3 0 ⟨1024 + d.val, by omega⟩ e)

/-- The residual stream after the mixers. -/
def stream (n : Fin 128) (e : Fin 2048) : EReal :=
  X (ix3 ⟨n.val / 4, by omega⟩ ⟨n.val % 4, by omega⟩ e)
    + G (ix3 0 n e) * (mixed A P W n e * Cert.Rms.scale (mixed A P W n) * GP (ix2 0 e))

/-- The experts' argument: the stream normed and modulated. -/
def expertArg (n : Fin 128) (e : Fin 2048) : EReal :=
  stream A P X G GP W n e * Cert.Rms.scale (stream A P X G GP W n) * GF (ix2 0 e) * (1 + SC (ix3 0 n e)) + SH (ix3 0 n e)

/-- The first array: the stream. -/
def whole1 : FVec Ideal S128x2048 .f32 := fun y => stream A P X G GP W (y 0) (y 1)

/-- The second array: the experts' argument. -/
def whole2 : FVec Ideal S128x2048 .bf16 := fun y => expertArg A P X G SC SH GP GF W (y 0) (y 1)

end Spec

end Cert.SamoutIdeal.Value

end
-- ==== Proof.SamOut.lean ====
/- The output projection of the sample: what the call leaves in its two arrays, as functions of the arguments. -/
module

public import proofs.«01_k».proof.Proof.SamOutPay
public import proofs.«01_k».proof.Proof.Gen.SamoutIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SamoutIdeal.Value

open Cert.SamoutIdeal Cert.SamoutIdeal.Gen

variable (m : (ℓ : Loc nD τ sig) → Buf (Elt Ideal) ℓ) (c : Dev nD)

/-- The nine arguments as arrays. -/
abbrev aAtt : FVec Ideal S32x32x128 .f32 := m ((c : Thread nD τ).loc main_arg0)
abbrev aPool : FVec Ideal S4x32x1024 .bf16 := m ((c : Thread nD τ).loc main_arg1)
abbrev aX : FVec Ideal S32x4x2048 .f32 := m ((c : Thread nD τ).loc main_arg2)
abbrev aGate : FVec Ideal S1x128x2048 .f32 := m ((c : Thread nD τ).loc main_arg3)
abbrev aPost : FVec Ideal S1x2048 .f32 := m ((c : Thread nD τ).loc main_arg4)
abbrev aPre : FVec Ideal S1x2048 .f32 := m ((c : Thread nD τ).loc main_arg5)
abbrev aSc : FVec Ideal S1x128x2048 .f32 := m ((c : Thread nD τ).loc main_arg6)
abbrev aSh : FVec Ideal S1x128x2048 .f32 := m ((c : Thread nD τ).loc main_arg7)
abbrev aW : FVec Ideal S1x2048x2048 .f32 := m ((c : Thread nD τ).loc main_arg8)

theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0]
    ∧ win0_6.index t = ![0, 0, 0] ∧ win0_7.index t = ![0, 0, 0] ∧ win0_8.index t = ![0, 0]
    ∧ win0_9.index t = ![0, 0] ∧ win0_10.index t = ![0, 0] :=
  (by decide +kernel : ∀ t : Fin grid0.N, _)

variable (t : Fin cfg0.N)

theorem read_att (r : Fin 128) (d : Fin 1024) : (iblk m c 0 t : Vec Ideal S128x1024 .bf16) (ix2 r d)
    = aAtt m c (ix3 ⟨r.val / 4, by omega⟩ ⟨r.val % 4 * 8 + d.val / 128, by omega⟩ ⟨d.val % 128, by omega⟩) := by
  blk_point [iblk, idx t]

theorem read_pool (r : Fin 128) (d : Fin 1024) : (iblk m c 1 t : Vec Ideal S128x1024 .bf16) (ix2 r d)
    = aPool m c (ix3 ⟨r.val % 4, by omega⟩ ⟨r.val / 4, by omega⟩ d) := by
  blk_point [iblk, idx t]

theorem read_x (r : Fin 128) (e : Fin 2048) : (iblk m c 2 t : Vec Ideal S128x2048 .f32) (ix2 r e)
    = aX m c (ix3 ⟨r.val / 4, by omega⟩ ⟨r.val % 4, by omega⟩ e) := by
  blk_point [iblk, idx t]

theorem read_gate (r : Fin 128) (e : Fin 2048) : (iblk m c 3 t : Vec Ideal S1x128x2048 .f32) (ix3 0 r e) = aGate m c (ix3 0 r e) := by
  blk_ext [iblk, V, idx t]

theorem read_post (e : Fin 2048) : (iblk m c 4 t : Vec Ideal S1x2048 .f32) (ix2 0 e) = aPost m c (ix2 0 e) := by
  blk_point [iblk, idx t]

theorem read_pre (e : Fin 2048) : (iblk m c 5 t : Vec Ideal S1x2048 .f32) (ix2 0 e) = aPre m c (ix2 0 e) := by
  blk_point [iblk, idx t]

theorem read_sc (r : Fin 128) (e : Fin 2048) : (iblk m c 6 t : Vec Ideal S1x128x2048 .f32) (ix3 0 r e) = aSc m c (ix3 0 r e) := by
  blk_ext [iblk, V, idx t]

theorem read_sh (r : Fin 128) (e : Fin 2048) : (iblk m c 7 t : Vec Ideal S1x128x2048 .f32) (ix3 0 r e) = aSh m c (ix3 0 r e) := by
  blk_ext [iblk, V, idx t]

theorem read_w (d e : Fin 2048) : (iblk m c 8 t : Vec Ideal S2048x2048 .bf16) (ix2 d e) = aW m c (ix3 0 d e) := by
  blk_point [iblk, idx t]

theorem ld_half (a : Vec Ideal S128x1024 .bf16) : View.ld a r0_0 = a :=
  View.ld_unit_zero (by funext a; fin_cases a <;> rfl) _ _

theorem ld_full (a : Vec Ideal S128x2048 .f32) : View.ld a r0_3 = a :=
  View.ld_unit_zero (by funext a; fin_cases a <;> rfl) _ _

theorem ld_mod (a : Vec Ideal S1x128x2048 .f32) : View.ld a r0_4 = a :=
  View.ld_unit_zero (by funext a; fin_cases a <;> rfl) _ _

theorem ld_vec (a : Vec Ideal S1x2048 .f32) : View.ld a r0_5 = a :=
  View.ld_unit_zero (by funext a; fin_cases a <;> rfl) _ _

theorem ld_top (w : Vec Ideal S2048x2048 .bf16) (d : Fin 1024) (e : Fin 2048) :
    (View.ld w r0_1 : Vec Ideal S1024x2048 .bf16) (ix2 d e) = w (ix2 ⟨d.val, by omega⟩ e) :=
  congrArg w (funext fun a => Fin.ext (match a with
    | 0 => by show 0 + 1 * d.val = d.val; omega
    | 1 => by show 0 + 1 * e.val = e.val; omega))

theorem ld_bottom (w : Vec Ideal S2048x2048 .bf16) (d : Fin 1024) (e : Fin 2048) :
    (View.ld w r0_2 : Vec Ideal S1024x2048 .bf16) (ix2 d e) = w (ix2 ⟨1024 + d.val, by omega⟩ e) :=
  congrArg w (funext fun a => Fin.ext (match a with
    | 0 => by show 1024 + 1 * d.val = 1024 + d.val; omega
    | 1 => by show 0 + 1 * e.val = e.val; omega))

/-- A row of the block's mix is the token's mixed row. -/
theorem mix_eq (r : Fin 128) : mix (iblk m c 0 t) (iblk m c 1 t) (View.ld (iblk m c 8 t) r0_1) (View.ld (iblk m c 8 t) r0_2) r
    = mixed (aAtt m c) (aPool m c) (aW m c) r := by
  funext e
  refine congrArg₂ (· + ·) (Finset.sum_congr rfl fun d _ => congrArg₂ (· * ·) (read_att m c t r d) ?_)
    (Finset.sum_congr rfl fun d _ => congrArg₂ (· * ·) (read_pool m c t r d) ?_)
  · exact (ld_top (iblk m c 8 t) d e).trans (read_w m c t _ _)
  · exact (ld_bottom (iblk m c 8 t) d e).trans (read_w m c t _ _)

/-- The stored block over the input blocks. -/
abbrev pay2 : FVec Ideal S128x2048 .f32 :=
  k0_pay2 (iblk m c 0 t) (View.ld (iblk m c 8 t) r0_1) (iblk m c 1 t) (View.ld (iblk m c 8 t) r0_2) (iblk m c 2 t)
    (iblk m c 3 t) (iblk m c 4 t)

theorem pay2_eq (r : Fin 128) (e : Fin 2048) : pay2 m c t (ix2 r e)
    = stream (aAtt m c) (aPool m c) (aX m c) (aGate m c) (aPost m c) (aW m c) r e := by
  refine (pay2_at _ _ _ _ _ _ _ r e).trans ?_
  rw [mix_eq]
  exact congrArg₂ (· + ·) (read_x m c t r e) (congrArg₂ (· * ·) (read_gate m c t r e)
    (congrArg (_ * ·) (read_post m c t e)))

theorem pay3_eq (r : Fin 128) :
    k0_pay3 (iblk m c 0 t) (View.ld (iblk m c 8 t) r0_1) (iblk m c 1 t) (View.ld (iblk m c 8 t) r0_2) (iblk m c 2 t)
        (iblk m c 3 t) (iblk m c 4 t) (ix2 r 0)
      = ∑ d : Fin 2048, stream (aAtt m c) (aPool m c) (aX m c) (aGate m c) (aPost m c) (aW m c) r d
          * stream (aAtt m c) (aPool m c) (aX m c) (aGate m c) (aPost m c) (aW m c) r d :=
  (pay3_at _ _ _ _ _ _ _ r).trans (Finset.sum_congr rfl fun d _ => congrArg₂ (· * ·) (pay2_eq m c t r d) (pay2_eq m c t r d))

theorem block1_at (r : Fin 128) (e : Fin 2048) :
    out0_9 (iblk m c 0 t) (iblk m c 1 t) (iblk m c 2 t) (iblk m c 3 t) (iblk m c 4 t) (iblk m c 5 t) (iblk m c 6 t)
        (iblk m c 7 t) (iblk m c 8 t) (ix2 r e)
      = stream (aAtt m c) (aPool m c) (aX m c) (aGate m c) (aPost m c) (aW m c) r e := by
  unfold out0_9
  rw [ld_half, ld_half, ld_full, ld_mod, ld_vec]
  refine (View.canon_apply_of_pieces (fun x : S128x2048.Idx => pay2 m c t x) _ ?_ (ix2 r e) (cover0_9 _ _)).trans
    (pay2_eq m c t r e)
  intro pc hpc
  obtain rfl := List.mem_singleton.1 hpc
  intro x
  refine congrArg (pay2 m c t) (funext fun a => Fin.ext ?_)
  match a with
  | 0 => show (x 0).val = 0 + 1 * (x 0).val; omega
  | 1 => show (x 1).val = 0 + 1 * (x 1).val; omega

theorem block2_at (r : Fin 128) (e : Fin 2048) :
    out0_10 (iblk m c 0 t) (iblk m c 1 t) (iblk m c 2 t) (iblk m c 3 t) (iblk m c 4 t) (iblk m c 5 t) (iblk m c 6 t)
        (iblk m c 7 t) (iblk m c 8 t) (ix2 r e)
      = expertArg (aAtt m c) (aPool m c) (aX m c) (aGate m c) (aSc m c) (aSh m c) (aPost m c) (aPre m c) (aW m c)
          r e := by
  unfold out0_10
  rw [ld_half, ld_half, ld_full, ld_mod, ld_vec, ld_mod, ld_mod, ld_vec]
  refine (View.canon_apply_of_pieces (fun x : S128x2048.Idx => k0_pay1 (pay2 m c t)
      (k0_pay3 (iblk m c 0 t) (View.ld (iblk m c 8 t) r0_1) (iblk m c 1 t) (View.ld (iblk m c 8 t) r0_2) (iblk m c 2 t)
        (iblk m c 3 t) (iblk m c 4 t)) (iblk m c 5 t) (iblk m c 6 t) (iblk m c 7 t) x) _ ?_ (ix2 r e) (cover0_10 _ _)).trans ?_
  · intro pc hpc
    obtain rfl := List.mem_singleton.1 hpc
    intro x
    refine congrArg (k0_pay1 (F := Ideal) _ _ _ _ _) (funext fun a => Fin.ext ?_)
    match a with
    | 0 => show (x 0).val = 0 + 1 * (x 0).val; omega
    | 1 => show (x 1).val = 0 + 1 * (x 1).val; omega
  · refine (pay1_at _ _ _ _ _ r e).trans ?_
    rw [pay3_eq, pay2_eq]
    exact congrArg₂ (· + ·) (congrArg₂ (· * ·) (congrArg (_ * ·) (read_pre m c t e)) (congrArg (1 + ·) (read_sc m c t r e)))
      (read_sh m c t r e)

/-- The first array after the run. -/
theorem final1 : (dats m 0 c).arrAt 9 cfg0.N = whole1 (aAtt m c) (aPool m c) (aX m c) (aGate m c) (aPost m c) (aW m c) := by
  refine (dats m 0 c).arrAt_eq_of_covers 9 _ (by decide +kernel) fun t hf y => ?_
  blk_simp
  rw [after0_9]
  refine Eq.trans ?_ ((block1_at m c t (y 0) (y 1)).trans ?_)
  · exact congrArg _ (eq_ix2 y)
  · show whole1 (aAtt m c) (aPool m c) (aX m c) (aGate m c) (aPost m c) (aW m c) (ix2 (y 0) (y 1)) = _
    blk_ext [idx t]

/-- The second array after the run. -/
theorem final2 : (dats m 0 c).arrAt 10 cfg0.N = whole2 (aAtt m c) (aPool m c) (aX m c) (aGate m c) (aSc m c) (aSh m c)
    (aPost m c) (aPre m c) (aW m c) := by
  refine (dats m 0 c).arrAt_eq_of_covers 10 _ (by decide +kernel) fun t hf y => ?_
  blk_simp
  rw [after0_10]
  refine Eq.trans ?_ ((block2_at m c t (y 0) (y 1)).trans ?_)
  · exact congrArg _ (eq_ix2 y)
  · show whole2 (aAtt m c) (aPool m c) (aX m c) (aGate m c) (aSc m c) (aSh m c) (aPost m c) (aPre m c) (aW m c)
      (ix2 (y 0) (y 1)) = _
    blk_ext [idx t]

end Cert.SamoutIdeal.Value

end
-- ==== Proof.SamOutRef.lean ====
/- The reference of the sample's output projection, read at an index: the same functions of the arguments as the call's two arrays. -/
module

public import proofs.«01_k».proof.Proof.SamOutPay
public import proofs.«01_k».proof.Proof.Gen.SamoutRefIdeal.Run

@[expose] public section

set_option maxRecDepth 16384

noncomputable section

open Idealize.ShloMosaic Idealize.ShloMosaic.TcCoe Idealize.SL.Sem

namespace Cert.SamoutRefIdeal.Value

open Cert.SamoutRefIdeal Cert.SamoutRefIdeal.Gen

variable (A : FVec Ideal S32x32x128 .f32) (P : FVec Ideal S4x32x1024 .bf16) (X : FVec Ideal S32x4x2048 .f32)
  (G SC SH : FVec Ideal S1x128x2048 .f32)
  (GP GF : FVec Ideal S1x2048 .f32) (W : FVec Ideal S1x2048x2048 .f32)

/-- The reference's product of the joined mixers with the weights. -/
def prod : FVec Ideal S32x4x2048 .f32 :=
  Host.dotGeneral (F := Ideal) (φ₁ := .f32) (φ₂ := .f32) dot_S32x4x2048_S2048x2048_S32x4x2048_2_0_01_1_n_n none (concatenate S32x4x2048 2 [⟨S32x4x1024, (shapeCast S32x4x1024 A shapeCasts_S32x32x128_S32x4x1024)⟩, ⟨S32x4x1024, (extf .f32 (transpose S32x4x1024 [1, 0, 2] P transposes_S4x32x1024_S32x4x1024_1_0_2) bitsLt_bf16_f32)⟩] concatenates_S32x4x1024_S32x4x1024_S32x4x2048_d2) (shapeCast S2048x2048 W shapeCasts_S1x2048x2048_S2048x2048)

/-- The reference's norm factor of every row. -/
def factor (f : FVec Ideal S32x4x2048 .f32) : FVec Ideal S32x4x1 .f32 :=
  Host.rsqrt (addf (Host.divf (broadcastInDim S32x4x1 ![0, 1] bcast_S32x4_S32x4x1_0_1 (Host.reduceAdd (mulf f f) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))

/-- The reference's norm: the factor and the weights on every row. -/
def normed (f : FVec Ideal S32x4x2048 .f32) (g : FVec Ideal S1x2048 .f32) : FVec Ideal S32x4x2048 .f32 :=
  mulf (mulf f (broadcastInDim S32x4x2048 ![0, 1, 2] bcast_S32x4x1_S32x4x2048_0_1_2 (factor f))) (broadcastInDim S32x4x2048 ![0, 1, 2] bcast_S1x1x2048_S32x4x2048_0_1_2 (broadcastInDim S1x1x2048 ![2] bcast_S2048_S1x1x2048_2 (shapeCast S2048 g shapeCasts_S1x2048_S2048)))

/-- The reference's residual stream. -/
def resid : FVec Ideal S32x4x2048 .f32 :=
  addf X (mulf (shapeCast S32x4x2048 G shapeCasts_S1x128x2048_S32x4x2048) (normed (prod A P W) GP))

/-- The reference's experts' argument. -/
def arg : FVec Ideal S32x4x2048 .bf16 :=
  truncf .bf16 (addf (mulf (normed (resid A P X G GP W) GF) (addf (broadcastInDim S32x4x2048 ![] bcast_S_S32x4x2048 (constant S_ .f32 0x3F800000#32)) (shapeCast S32x4x2048 SC shapeCasts_S1x128x2048_S32x4x2048))) (shapeCast S32x4x2048 SH shapeCasts_S1x128x2048_S32x4x2048)) bitsLt_bf16_f32

/-- The two results. -/
def first : FVec Ideal S128x2048 .f32 := shapeCast S128x2048 (resid A P X G GP W) shapeCasts_S32x4x2048_S128x2048
def second : FVec Ideal S128x2048 .bf16 := shapeCast S128x2048 (arg A P X G SC SH GP GF W) shapeCasts_S32x4x2048_S128x2048

/-- The joined row's sum of products is the two halves' sums. -/
theorem prod_at (n : Fin 128) (e : Fin 2048) : prod A P W (ix3 ⟨n.val / 4, by omega⟩ ⟨n.val % 4, by omega⟩ e) = Cert.SamoutIdeal.Value.mixed A P W n e := by
  pointwise [prod]
  rfl

/-- The factor of a row is the row's scale. -/
theorem factor_at (f : FVec Ideal S32x4x2048 .f32) (b : Fin 32) (s : Fin 4) :
    factor f (ix3 b s 0) = Cert.Rms.scale fun d => f (ix3 b s d) := by
  pointwise [factor]
  rfl

/-- The norm at an index. -/
theorem normed_at (f : FVec Ideal S32x4x2048 .f32) (g : FVec Ideal S1x2048 .f32) (b : Fin 32) (s : Fin 4) (e : Fin 2048) :
    normed f g (ix3 b s e) = f (ix3 b s e) * (Cert.Rms.scale fun d => f (ix3 b s d)) * g (ix2 0 e) := by
  rw [← factor_at]
  pointwise [normed]

theorem resid_at (n : Fin 128) (e : Fin 2048) :
    resid A P X G GP W (ix3 ⟨n.val / 4, by omega⟩ ⟨n.val % 4, by omega⟩ e) = Cert.SamoutIdeal.Value.stream A P X G GP W n e := by
  have h : (fun d => prod A P W (ix3 ⟨n.val / 4, by omega⟩ ⟨n.val % 4, by omega⟩ d)) = Cert.SamoutIdeal.Value.mixed A P W n := funext fun d => prod_at A P W n d
  unfold Cert.SamoutIdeal.Value.stream
  rw [← h]
  refine Eq.trans ?_ (congrArg (X (ix3 ⟨n.val / 4, by omega⟩ ⟨n.val % 4, by omega⟩ e) + G (ix3 0 n e) * ·) (normed_at (prod A P W) GP ⟨n.val / 4, by omega⟩ ⟨n.val % 4, by omega⟩ e))
  pointwise [resid]

theorem arg_at (n : Fin 128) (e : Fin 2048) :
    arg A P X G SC SH GP GF W (ix3 ⟨n.val / 4, by omega⟩ ⟨n.val % 4, by omega⟩ e) = Cert.SamoutIdeal.Value.expertArg A P X G SC SH GP GF W n e := by
  have h : (fun d => resid A P X G GP W (ix3 ⟨n.val / 4, by omega⟩ ⟨n.val % 4, by omega⟩ d)) = Cert.SamoutIdeal.Value.stream A P X G GP W n :=
    funext fun d => resid_at A P X G GP W n d
  unfold Cert.SamoutIdeal.Value.expertArg
  rw [← h]
  refine Eq.trans ?_ (congrArg (· * (1 + SC (ix3 0 n e)) + SH (ix3 0 n e)) (normed_at (resid A P X G GP W) GF ⟨n.val / 4, by omega⟩ ⟨n.val % 4, by omega⟩ e))
  pointwise [arg]

theorem first_eq : first A P X G GP W = Cert.SamoutIdeal.Value.whole1 A P X G GP W := by
  funext y
  rw [eq_ix2 y]
  unfold Cert.SamoutIdeal.Value.whole1
  refine Eq.trans ?_ (resid_at A P X G GP W (y 0) (y 1))
  pointwise [first]

theorem second_eq : second A P X G SC SH GP GF W = Cert.SamoutIdeal.Value.whole2 A P X G SC SH GP GF W := by
  funext y
  rw [eq_ix2 y]
  unfold Cert.SamoutIdeal.Value.whole2
  refine Eq.trans ?_ (arg_at A P X G SC SH GP GF W (y 0) (y 1))
  pointwise [second]

end Cert.SamoutRefIdeal.Value

end
-- ==== Proof.SamScore.lean ====
/- The scores of the experts' sub-keys for the sample: what the one grid point of the score call leaves in its block, and the whole array after
   the run, as one sum of products over the arguments. -/
module

public import proofs.«01_k».proof.Proof.Gen.SamscoreIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SamscoreIdeal.Value

open Cert.SamscoreIdeal Cert.SamscoreIdeal.Gen

/-- The queries of a block of rows: the rows through the query weights. -/
theorem query_at (h : Vec Ideal S128x2048 .bf16) (w : Vec Ideal S2048x2048 .bf16) (r : Fin 128) (e : Fin 2048) :
    k0_pay2 h w (ix2 r e) = ∑ d : Fin 2048, h (ix2 r d) * w (ix2 d e) := by
  pointwise [k0_pay2]

/-- Pair `g`'s scores of a block: its sub-keys against its part of the queries. -/
def blockScore (h : Vec Ideal S128x2048 .bf16) (w : Vec Ideal S2048x2048 .bf16) (k : Vec Ideal S16x128x128 .bf16) :
    Vec Ideal S16x128x128 .f32 := fun y =>
  ∑ x : Fin 128, k (ix3 (y 0) (y 1) x) * k0_pay2 h w (ix2 (y 2) ⟨(y 0).val * 128 + x.val, by have := (y 0).isLt; have e : S16x128x128.size 0 = 16 := rfl; omega⟩)

/-- Pair 0's store. -/
theorem piece0 (h : Vec Ideal S128x2048 .bf16) (w : Vec Ideal S2048x2048 .bf16) (k : Vec Ideal S1x128x128 .bf16) (a : Fin 1) (j : Fin 128) (r : Fin 128) :
    k0_pay3 h w k (ix3 a j r) = ∑ x : Fin 128, k (ix3 0 j x) * k0_pay2 h w (ix2 r ⟨x.val, by omega⟩) := by
  pointwise [k0_pay3]

/-- Pair 1's store. -/
theorem piece1 (h : Vec Ideal S128x2048 .bf16) (w : Vec Ideal S2048x2048 .bf16) (k : Vec Ideal S1x128x128 .bf16) (a : Fin 1) (j : Fin 128) (r : Fin 128) :
    k0_pay4 h w k (ix3 a j r) = ∑ x : Fin 128, k (ix3 0 j x) * k0_pay2 h w (ix2 r ⟨128 + x.val, by omega⟩) := by
  pointwise [k0_pay4]

/-- Pair 2's store. -/
theorem piece2 (h : Vec Ideal S128x2048 .bf16) (w : Vec Ideal S2048x2048 .bf16) (k : Vec Ideal S1x128x128 .bf16) (a : Fin 1) (j : Fin 128) (r : Fin 128) :
    k0_pay5 h w k (ix3 a j r) = ∑ x : Fin 128, k (ix3 0 j x) * k0_pay2 h w (ix2 r ⟨256 + x.val, by omega⟩) := by
  pointwise [k0_pay5]

/-- Pair 3's store. -/
theorem piece3 (q : FVec Ideal S128x2048 .bf16) (k : Vec Ideal S1x128x128 .bf16) (a : Fin 1) (j : Fin 128) (r : Fin 128) :
    k0_pay6 q k (ix3 a j r) = ∑ x : Fin 128, k (ix3 0 j x) * q (ix2 r ⟨384 + x.val, by omega⟩) := by
  pointwise [k0_pay6]

/-- Pair 4's store. -/
theorem piece4 (q : FVec Ideal S128x2048 .bf16) (k : Vec Ideal S1x128x128 .bf16) (a : Fin 1) (j : Fin 128) (r : Fin 128) :
    k0_pay7 q k (ix3 a j r) = ∑ x : Fin 128, k (ix3 0 j x) * q (ix2 r ⟨512 + x.val, by omega⟩) := by
  pointwise [k0_pay7]

/-- Pair 5's store. -/
theorem piece5 (q : FVec Ideal S128x2048 .bf16) (k : Vec Ideal S1x128x128 .bf16) (a : Fin 1) (j : Fin 128) (r : Fin 128) :
    k0_pay8 q k (ix3 a j r) = ∑ x : Fin 128, k (ix3 0 j x) * q (ix2 r ⟨640 + x.val, by omega⟩) := by
  pointwise [k0_pay8]

/-- Pair 6's store. -/
theorem piece6 (q : FVec Ideal S128x2048 .bf16) (k : Vec Ideal S1x128x128 .bf16) (a : Fin 1) (j : Fin 128) (r : Fin 128) :
    k0_pay9 q k (ix3 a j r) = ∑ x : Fin 128, k (ix3 0 j x) * q (ix2 r ⟨768 + x.val, by omega⟩) := by
  pointwise [k0_pay9]

/-- Pair 7's store. -/
theorem piece7 (q : FVec Ideal S128x2048 .bf16) (k : Vec Ideal S1x128x128 .bf16) (a : Fin 1) (j : Fin 128) (r : Fin 128) :
    k0_pay10 q k (ix3 a j r) = ∑ x : Fin 128, k (ix3 0 j x) * q (ix2 r ⟨896 + x.val, by omega⟩) := by
  pointwise [k0_pay10]

/-- Pair 8's store. -/
theorem piece8 (q : FVec Ideal S128x2048 .bf16) (k : Vec Ideal S1x128x128 .bf16) (a : Fin 1) (j : Fin 128) (r : Fin 128) :
    k0_pay11 q k (ix3 a j r) = ∑ x : Fin 128, k (ix3 0 j x) * q (ix2 r ⟨1024 + x.val, by omega⟩) := by
  pointwise [k0_pay11]

/-- Pair 9's store. -/
theorem piece9 (q : FVec Ideal S128x2048 .bf16) (k : Vec Ideal S1x128x128 .bf16) (a : Fin 1) (j : Fin 128) (r : Fin 128) :
    k0_pay12 q k (ix3 a j r) = ∑ x : Fin 128, k (ix3 0 j x) * q (ix2 r ⟨1152 + x.val, by omega⟩) := by
  pointwise [k0_pay12]

/-- Pair 10's store. -/
theorem piece10 (q : FVec Ideal S128x2048 .bf16) (k : Vec Ideal S1x128x128 .bf16) (a : Fin 1) (j : Fin 128) (r : Fin 128) :
    k0_pay13 q k (ix3 a j r) = ∑ x : Fin 128, k (ix3 0 j x) * q (ix2 r ⟨1280 + x.val, by omega⟩) := by
  pointwise [k0_pay13]

/-- Pair 11's store. -/
theorem piece11 (q : FVec Ideal S128x2048 .bf16) (k : Vec Ideal S1x128x128 .bf16) (a : Fin 1) (j : Fin 128) (r : Fin 128) :
    k0_pay14 q k (ix3 a j r) = ∑ x : Fin 128, k (ix3 0 j x) * q (ix2 r ⟨1408 + x.val, by omega⟩) := by
  pointwise [k0_pay14]

/-- Pair 12's store. -/
theorem piece12 (q : FVec Ideal S128x2048 .bf16) (k : Vec Ideal S1x128x128 .bf16) (a : Fin 1) (j : Fin 128) (r : Fin 128) :
    k0_pay15 q k (ix3 a j r) = ∑ x : Fin 128, k (ix3 0 j x) * q (ix2 r ⟨1536 + x.val, by omega⟩) := by
  pointwise [k0_pay15]

/-- Pair 13's store. -/
theorem piece13 (q : FVec Ideal S128x2048 .bf16) (k : Vec Ideal S1x128x128 .bf16) (a : Fin 1) (j : Fin 128) (r : Fin 128) :
    k0_pay16 q k (ix3 a j r) = ∑ x : Fin 128, k (ix3 0 j x) * q (ix2 r ⟨1664 + x.val, by omega⟩) := by
  pointwise [k0_pay16]

/-- Pair 14's store. -/
theorem piece14 (q : FVec Ideal S128x2048 .bf16) (k : Vec Ideal S1x128x128 .bf16) (a : Fin 1) (j : Fin 128) (r : Fin 128) :
    k0_pay17 q k (ix3 a j r) = ∑ x : Fin 128, k (ix3 0 j x) * q (ix2 r ⟨1792 + x.val, by omega⟩) := by
  pointwise [k0_pay17]

/-- Pair 15's store. -/
theorem piece15 (q : FVec Ideal S128x2048 .bf16) (k : Vec Ideal S1x128x128 .bf16) (a : Fin 1) (j : Fin 128) (r : Fin 128) :
    k0_pay1 q k (ix3 a j r) = ∑ x : Fin 128, k (ix3 0 j x) * q (ix2 r ⟨1920 + x.val, by omega⟩) := by
  pointwise [k0_pay1]

theorem ld_rows (h : Vec Ideal S128x2048 .bf16) : View.ld h r0_0 = h :=
  View.ld_unit_zero (by funext a; fin_cases a <;> rfl) _ _

theorem ld_weights (w : Vec Ideal S2048x2048 .bf16) : View.ld w r0_1 = w :=
  View.ld_unit_zero (by funext a; fin_cases a <;> rfl) _ _

/-- The sixteen stores leave the scores of the block. -/
theorem block_eq (h : Vec Ideal S128x2048 .bf16) (w : Vec Ideal S2048x2048 .bf16) (k : Vec Ideal S16x128x128 .bf16) (y : S16x128x128.Idx) :
    out0_3 h w k y = blockScore h w k y := by
  unfold out0_3 k0_pay18
  refine View.canon_apply_of_pieces (blockScore h w k) _ ?_ y (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · intro x
    have h0 : (x 0).val = 0 := Nat.lt_one_iff.1 (x 0).isLt
    rw [eq_ix3 x]
    refine (piece15 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 15 + 1 * 0 = 15 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1920 + z.val = (15 + 1 * (x 0).val) * 128 + z.val; omega
  · intro x
    have h0 : (x 0).val = 0 := Nat.lt_one_iff.1 (x 0).isLt
    rw [eq_ix3 x]
    refine (piece14 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 14 + 1 * 0 = 14 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1792 + z.val = (14 + 1 * (x 0).val) * 128 + z.val; omega
  · intro x
    have h0 : (x 0).val = 0 := Nat.lt_one_iff.1 (x 0).isLt
    rw [eq_ix3 x]
    refine (piece13 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 13 + 1 * 0 = 13 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1664 + z.val = (13 + 1 * (x 0).val) * 128 + z.val; omega
  · intro x
    have h0 : (x 0).val = 0 := Nat.lt_one_iff.1 (x 0).isLt
    rw [eq_ix3 x]
    refine (piece12 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 12 + 1 * 0 = 12 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1536 + z.val = (12 + 1 * (x 0).val) * 128 + z.val; omega
  · intro x
    have h0 : (x 0).val = 0 := Nat.lt_one_iff.1 (x 0).isLt
    rw [eq_ix3 x]
    refine (piece11 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 11 + 1 * 0 = 11 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1408 + z.val = (11 + 1 * (x 0).val) * 128 + z.val; omega
  · intro x
    have h0 : (x 0).val = 0 := Nat.lt_one_iff.1 (x 0).isLt
    rw [eq_ix3 x]
    refine (piece10 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 10 + 1 * 0 = 10 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1280 + z.val = (10 + 1 * (x 0).val) * 128 + z.val; omega
  · intro x
    have h0 : (x 0).val = 0 := Nat.lt_one_iff.1 (x 0).isLt
    rw [eq_ix3 x]
    refine (piece9 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 9 + 1 * 0 = 9 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1152 + z.val = (9 + 1 * (x 0).val) * 128 + z.val; omega
  · intro x
    have h0 : (x 0).val = 0 := Nat.lt_one_iff.1 (x 0).isLt
    rw [eq_ix3 x]
    refine (piece8 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 8 + 1 * 0 = 8 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 1024 + z.val = (8 + 1 * (x 0).val) * 128 + z.val; omega
  · intro x
    have h0 : (x 0).val = 0 := Nat.lt_one_iff.1 (x 0).isLt
    rw [eq_ix3 x]
    refine (piece7 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 7 + 1 * 0 = 7 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 896 + z.val = (7 + 1 * (x 0).val) * 128 + z.val; omega
  · intro x
    have h0 : (x 0).val = 0 := Nat.lt_one_iff.1 (x 0).isLt
    rw [eq_ix3 x]
    refine (piece6 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 6 + 1 * 0 = 6 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 768 + z.val = (6 + 1 * (x 0).val) * 128 + z.val; omega
  · intro x
    have h0 : (x 0).val = 0 := Nat.lt_one_iff.1 (x 0).isLt
    rw [eq_ix3 x]
    refine (piece5 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 5 + 1 * 0 = 5 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 640 + z.val = (5 + 1 * (x 0).val) * 128 + z.val; omega
  · intro x
    have h0 : (x 0).val = 0 := Nat.lt_one_iff.1 (x 0).isLt
    rw [eq_ix3 x]
    refine (piece4 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 4 + 1 * 0 = 4 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 512 + z.val = (4 + 1 * (x 0).val) * 128 + z.val; omega
  · intro x
    have h0 : (x 0).val = 0 := Nat.lt_one_iff.1 (x 0).isLt
    rw [eq_ix3 x]
    refine (piece3 _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 3 + 1 * 0 = 3 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 384 + z.val = (3 + 1 * (x 0).val) * 128 + z.val; omega
  · intro x
    have h0 : (x 0).val = 0 := Nat.lt_one_iff.1 (x 0).isLt
    rw [eq_ix3 x]
    refine (piece2 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 2 + 1 * 0 = 2 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 256 + z.val = (2 + 1 * (x 0).val) * 128 + z.val; omega
  · intro x
    have h0 : (x 0).val = 0 := Nat.lt_one_iff.1 (x 0).isLt
    rw [eq_ix3 x]
    refine (piece1 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 1 + 1 * 0 = 1 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show 128 + z.val = (1 + 1 * (x 0).val) * 128 + z.val; omega
  · intro x
    have h0 : (x 0).val = 0 := Nat.lt_one_iff.1 (x 0).isLt
    rw [eq_ix3 x]
    refine (piece0 _ _ _ _ _ _).trans ?_
    unfold blockScore
    rw [ld_rows, ld_weights]
    refine Finset.sum_congr rfl fun z _ => congrArg₂ (· * ·) (congrArg k (funext fun a => Fin.ext ?_)) (congrArg (k0_pay2 h w) (funext fun a => Fin.ext ?_))
    · match a with
      | 0 => show 0 + 1 * 0 = 0 + 1 * (x 0).val; omega
      | 1 => show 0 + 1 * (x 1).val = 0 + 1 * (x 1).val; rfl
      | 2 => show 0 + 1 * z.val = z.val; omega
    · match a with
      | 0 => show (x 2).val = 0 + 1 * (x 2).val; omega
      | 1 => show z.val = (0 + 1 * (x 0).val) * 128 + z.val; omega

variable (m : (ℓ : Loc nD τ sig) → Buf (Elt Ideal) ℓ)

/-- The three arguments as arrays. -/
abbrev AH (c : Dev nD) : FVec Ideal S128x2048 .bf16 := m ((c : Thread nD τ).loc main_arg0)
abbrev AW (c : Dev nD) : FVec Ideal S1x2048x2048 .f32 := m ((c : Thread nD τ).loc main_arg1)
abbrev AK (c : Dev nD) : FVec Ideal S1x8x2x128x128 .f32 := m ((c : Thread nD τ).loc main_arg2)

/-- The score of every pair, sub-key and token: the sub-key against the token's query, itself the token through the weights. -/
def whole (H : FVec Ideal S128x2048 .bf16) (W : FVec Ideal S1x2048x2048 .f32) (K : FVec Ideal S1x8x2x128x128 .f32) :
    FVec Ideal S16x128x128 .f32 := fun y =>
  have y0 : (y 0).val < 16 := (y 0).isLt
  ∑ x : Fin 128, K (ix5 0 ⟨(y 0).val / 2, by omega⟩ ⟨(y 0).val % 2, by omega⟩ (y 1) x)
    * ∑ d : Fin 2048, H (ix2 (y 2) d) * W (ix3 0 d ⟨(y 0).val * 128 + x.val, by omega⟩)

theorem idx : ∀ t : Fin cfg0.N, win0_0.index t = ![0, 0] ∧ win0_1.index t = ![0, 0] ∧ win0_2.index t = ![0, 0, 0]
    ∧ win0_3.index t = ![0, 0, 0] :=
  (by decide +kernel : ∀ t : Fin grid0.N, _)

theorem read_h (c : Dev nD) (t : Fin cfg0.N) (r : Fin 128) (d : Fin 2048) : (iblk m c 0 t : Vec Ideal S128x2048 .bf16) (ix2 r d)
    = AH m c (ix2 ⟨r.val, by omega⟩ d) := by
  blk_ext [iblk, V, idx t]

theorem read_w (c : Dev nD) (t : Fin cfg0.N) (d e : Fin 2048) : (iblk m c 1 t : Vec Ideal S2048x2048 .bf16) (ix2 d e)
    = AW m c (ix3 0 d e) := by
  blk_point [iblk, idx t]

theorem read_k (c : Dev nD) (t : Fin cfg0.N) (g : Fin 16) (j x : Fin 128) : (iblk m c 2 t : Vec Ideal S16x128x128 .bf16) (ix3 g j x)
    = AK m c (ix5 0 ⟨g.val / 2, by omega⟩ ⟨g.val % 2, by omega⟩ j x) := by
  blk_point [iblk, idx t]

/-- What a point leaves in its block is the whole score array's part there. -/
theorem block_at (c : Dev nD) (t : Fin cfg0.N) (g : Fin 16) (j : Fin 128) (r : Fin 128) :
    out0_3 (iblk m c 0 t) (iblk m c 1 t) (iblk m c 2 t) (ix3 g j r)
      = whole (AH m c) (AW m c) (AK m c) (ix3 g j ⟨r.val, by omega⟩) := by
  refine (block_eq _ _ _ _).trans (Finset.sum_congr rfl fun x _ => congrArg₂ (· * ·) (read_k m c t g j x) ?_)
  refine (query_at _ _ _ _).trans (Finset.sum_congr rfl fun d _ => ?_)
  exact congrArg₂ (· * ·) (read_h m c t r d) (read_w m c t d _)

/-- The array after the run. -/
theorem final (c : Dev nD) : (dats m 0 c).arrAt 3 cfg0.N = whole (AH m c) (AW m c) (AK m c) := by
  refine (dats m 0 c).arrAt_eq_of_covers 3 _ (by decide +kernel) fun t hf y => ?_
  blk_simp
  rw [after0_3]
  refine Eq.trans ?_ ((block_at m c t (y 0) (y 1) (y 2)).trans ?_)
  · blk_ext []
  · blk_ext [idx t]

end Cert.SamscoreIdeal.Value

end
-- ==== Proof.SamScoreRef.lean ====
/- The reference's scores for the sample, read at an index: the same sum of products as the call's array. -/
module

public import proofs.«01_k».proof.Proof.SamScore
public import proofs.«01_k».proof.Proof.Gen.SamscoreRefIdeal.Run

@[expose] public section

set_option maxRecDepth 16384

noncomputable section

open Idealize.ShloMosaic Idealize.ShloMosaic.TcCoe Idealize.SL.Sem

namespace Cert.SamscoreRefIdeal.Value

open Cert.SamscoreRefIdeal Cert.SamscoreRefIdeal.Gen

/-- The reference's term over its three arguments. -/
def scores (H : FVec Ideal S128x2048 .bf16) (W : FVec Ideal S1x2048x2048 .f32) (K : FVec Ideal S1x8x2x128x128 .f32) :
    FVec Ideal S16x128x128 .f32 :=
  transpose S16x128x128 [1, 2, 0] (shapeCast S128x16x128 (transpose S128x8x2x128 [3, 0, 1, 2] (Host.dotGeneral (F := Ideal) dot_S8x2x128x128_S128x8x2x128_S8x2x128x128_3_3_2_0_01_12 none (shapeCast S8x2x128x128 K shapeCasts_S1x8x2x128x128_S8x2x128x128) (shapeCast S128x8x2x128 (Host.dotGeneral (F := Ideal) dot_S128x2048_S2048x2048_S128x2048_1_0_0_1_n_n none (extf .f32 H bitsLt_bf16_f32) (shapeCast S2048x2048 W shapeCasts_S1x2048x2048_S2048x2048)) shapeCasts_S128x2048_S128x8x2x128)) transposes_S8x2x128x128_S128x8x2x128_3_0_1_2) shapeCasts_S128x8x2x128_S128x16x128) transposes_S128x16x128_S16x128x128_1_2_0

theorem scores_eq (H : FVec Ideal S128x2048 .bf16) (W : FVec Ideal S1x2048x2048 .f32) (K : FVec Ideal S1x8x2x128x128 .f32) :
    scores H W K = Cert.SamscoreIdeal.Value.whole H W K := by
  funext y
  rw [eq_ix3 y]
  unfold Cert.SamscoreIdeal.Value.whole
  pointwise [scores]
  blk_point []

end Cert.SamscoreRefIdeal.Value

end
-- ==== Proof.Last.lean ====
/- The last call of the prompt: what it leaves in its array, the residual stream with the experts' normed and gated output on
   it, as a function of the arguments. -/
module

public import proofs.«01_k».proof.Proof.OutPay
public import proofs.«01_k».proof.Proof.Gen.LastIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.LastIdeal.Value

open Cert.LastIdeal Cert.LastIdeal.Gen

/-- What a point stores: a row of the experts' output normed, weighted and gated onto the stream's row. -/
theorem pay_at (x : Vec Ideal S256x2048 .f32) (gt : Vec Ideal S1x1x2048 .f32) (f : Vec Ideal S256x2048 .f32)
    (g : Vec Ideal S1x2048 .f32) (r : Fin 256) (e : Fin 2048) : k0_pay1 x gt f g (ix2 r e)
      = x (ix2 r e) + gt (ix3 0 0 e) * (f (ix2 r e) * (Cert.Rms.scale fun d => f (ix2 r d)) * g (ix2 0 e)) := by
  pointwise [k0_pay1]
  rfl

/-- The whole array: token by token, each with its sequence's gate. -/
def whole (X F : FVec Ideal S8192x2048 .f32) (G : FVec Ideal S4x1x2048 .f32) (GP : FVec Ideal S1x2048 .f32) :
    FVec Ideal S8192x2048 .f32 := fun y =>
  have y0 : (y 0).val < 8192 := (y 0).isLt
  X (ix2 (y 0) (y 1)) + G (ix3 ⟨(y 0).val / 2048, by omega⟩ 0 (y 1))
    * (F (ix2 (y 0) (y 1)) * (Cert.Rms.scale fun d => F (ix2 (y 0) d)) * GP (ix2 0 (y 1)))

variable (m : (ℓ : Loc nD τ sig) → Buf (Elt Ideal) ℓ) (c : Dev nD)

/-- The four arguments as arrays. -/
abbrev aX : FVec Ideal S8192x2048 .f32 := m ((c : Thread nD τ).loc main_arg0)
abbrev aF : FVec Ideal S8192x2048 .f32 := m ((c : Thread nD τ).loc main_arg1)
abbrev aGate : FVec Ideal S4x1x2048 .f32 := m ((c : Thread nD τ).loc main_arg2)
abbrev aPost : FVec Ideal S1x2048 .f32 := m ((c : Thread nD τ).loc main_arg3)

theorem idx : ∀ t : Fin cfg0.N, win0_0.index t = ![t.val, 0] ∧ win0_1.index t = ![t.val, 0]
    ∧ win0_2.index t = ![t.val / 8, 0, 0] ∧ win0_3.index t = ![0, 0] ∧ win0_4.index t = ![t.val, 0] :=
  (by decide +kernel : ∀ t : Fin grid0.N, _)

variable (t : Fin cfg0.N)

theorem read_x (r : Fin 256) (e : Fin 2048) : (iblk m c 0 t : Vec Ideal S256x2048 .f32) (ix2 r e)
    = aX m c (ix2 ⟨t.val * 256 + r.val, by have := lt_of_lt_of_eq t.isLt N_0; omega⟩ e) := by
  blk_ext [iblk, V, idx t]

theorem read_f (r : Fin 256) (e : Fin 2048) : (iblk m c 1 t : Vec Ideal S256x2048 .f32) (ix2 r e)
    = aF m c (ix2 ⟨t.val * 256 + r.val, by have := lt_of_lt_of_eq t.isLt N_0; omega⟩ e) := by
  blk_ext [iblk, V, idx t]

theorem read_gate (e : Fin 2048) : (iblk m c 2 t : Vec Ideal S1x1x2048 .f32) (ix3 0 0 e)
    = aGate m c (ix3 ⟨t.val / 8, by have := lt_of_lt_of_eq t.isLt N_0; omega⟩ 0 e) := by
  have ht : t.val < 32 := lt_of_lt_of_eq t.isLt N_0
  blk_ext [iblk, V, idx t]

theorem read_post (e : Fin 2048) : (iblk m c 3 t : Vec Ideal S1x2048 .f32) (ix2 0 e) = aPost m c (ix2 0 e) := by
  blk_point [iblk, idx t]

theorem ld_full (a : Vec Ideal S256x2048 .f32) : View.ld a r0_0 = a :=
  View.ld_unit_zero (by funext a; fin_cases a <;> rfl) _ _

theorem ld_mod (a : Vec Ideal S1x1x2048 .f32) : View.ld a r0_1 = a :=
  View.ld_unit_zero (by funext a; fin_cases a <;> rfl) _ _

theorem ld_vec (a : Vec Ideal S1x2048 .f32) : View.ld a r0_2 = a :=
  View.ld_unit_zero (by funext a; fin_cases a <;> rfl) _ _

/-- What a point leaves in its block is the whole array's part there. -/
theorem block_at (r : Fin 256) (e : Fin 2048) :
    out0_4 (iblk m c 0 t) (iblk m c 1 t) (iblk m c 2 t) (iblk m c 3 t) (ix2 r e)
      = whole (aX m c) (aF m c) (aGate m c) (aPost m c)
          (ix2 ⟨t.val * 256 + r.val, by have := lt_of_lt_of_eq t.isLt N_0; omega⟩ e) := by
  have ht : t.val < 32 := lt_of_lt_of_eq t.isLt N_0
  unfold out0_4
  rw [ld_full, ld_full, ld_mod, ld_vec]
  refine (View.canon_apply_of_pieces (fun x : S256x2048.Idx => k0_pay1 (iblk m c 0 t) (iblk m c 2 t) (iblk m c 1 t)
    (iblk m c 3 t) x) _ ?_ (ix2 r e) (cover0_4 _ _)).trans ?_
  · intro pc hpc
    obtain rfl := List.mem_singleton.1 hpc
    intro x
    refine congrArg (k0_pay1 (F := Ideal) _ _ _ _) (funext fun a => Fin.ext ?_)
    match a with
    | 0 => show (x 0).val = 0 + 1 * (x 0).val; omega
    | 1 => show (x 1).val = 0 + 1 * (x 1).val; omega
  · refine (pay_at _ _ _ _ r e).trans ?_
    have hrow : (fun d => (iblk m c 1 t : Vec Ideal S256x2048 .f32) (ix2 r d))
        = fun d => aF m c (ix2 ⟨t.val * 256 + r.val, by omega⟩ d) := funext fun d => read_f m c t r d
    rw [hrow, read_x, read_f, read_gate, read_post]
    have hs : (⟨t.val / 8, by omega⟩ : Fin 4) = ⟨(t.val * 256 + r.val) / 2048, by omega⟩ :=
      Fin.ext (by show t.val / 8 = (t.val * 256 + r.val) / 2048; omega)
    rw [hs]
    rfl

/-- The array after the run. -/
theorem final : (dats m 0 c).arrAt 4 cfg0.N = whole (aX m c) (aF m c) (aGate m c) (aPost m c) := by
  refine (dats m 0 c).arrAt_eq_of_covers 4 _ (by decide +kernel) fun t hf y => ?_
  have ht : t.val < 32 := lt_of_lt_of_eq t.isLt N_0
  blk_simp
  rw [after0_4]
  refine Eq.trans ?_ ((block_at m c t (y 0) (y 1)).trans ?_)
  · exact congrArg _ (eq_ix2 y)
  · blk_ext [idx t]

end Cert.LastIdeal.Value

end
-- ==== Proof.LastRef.lean ====
/- The reference of the prompt's last call, read at an index: the same function of the arguments as the call's array. -/
module

public import proofs.«01_k».proof.Proof.Last
public import proofs.«01_k».proof.Proof.Gen.LastRefIdeal.Run

@[expose] public section

set_option maxRecDepth 16384

noncomputable section

open Idealize.ShloMosaic Idealize.ShloMosaic.TcCoe Idealize.SL.Sem

namespace Cert.LastRefIdeal.Value

open Cert.LastRefIdeal Cert.LastRefIdeal.Gen

variable (X F : FVec Ideal S8192x2048 .f32) (G : FVec Ideal S4x1x2048 .f32) (GP : FVec Ideal S1x2048 .f32)

/-- The reference's norm factor of every row. -/
def factor : FVec Ideal S4x2048x1 .f32 :=
  Host.rsqrt (addf (Host.divf (broadcastInDim S4x2048x1 ![0, 1] bcast_S4x2048_S4x2048x1_0_1 (Host.reduceAdd (mulf (shapeCast S4x2048x2048 F shapeCasts_S8192x2048_S4x2048x2048) (shapeCast S4x2048x2048 F shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))

/-- The reference's result. -/
def res : FVec Ideal S8192x2048 .f32 :=
  shapeCast S8192x2048 (addf (shapeCast S4x2048x2048 X shapeCasts_S8192x2048_S4x2048x2048) (mulf (broadcastInDim S4x2048x2048 ![0, 1, 2] bcast_S4x1x2048_S4x2048x2048_0_1_2 G) (mulf (mulf (shapeCast S4x2048x2048 F shapeCasts_S8192x2048_S4x2048x2048) (broadcastInDim S4x2048x2048 ![0, 1, 2] bcast_S4x2048x1_S4x2048x2048_0_1_2 (factor F))) (broadcastInDim S4x2048x2048 ![0, 1, 2] bcast_S1x1x2048_S4x2048x2048_0_1_2 (broadcastInDim S1x1x2048 ![2] bcast_S2048_S1x1x2048_2 (shapeCast S2048 GP shapeCasts_S1x2048_S2048)))))) shapeCasts_S4x2048x2048_S8192x2048

/-- The factor of a row is the row's scale. -/
theorem factor_at (n : Fin 8192) (b : Fin 4) (s : Fin 2048) (h : n.val = b.val * 2048 + s.val) :
    factor F (ix3 b s 0) = Cert.Rms.scale fun d => F (ix2 n d) := by
  obtain ⟨k, hk⟩ := n
  obtain rfl : k = b.val * 2048 + s.val := h
  pointwise [factor]
  rfl

theorem res_eq : res X F G GP = Cert.LastIdeal.Value.whole X F G GP := by
  funext y
  have y0 : (y 0).val < 8192 := (y 0).isLt
  rw [eq_ix2 y]
  unfold Cert.LastIdeal.Value.whole
  show _ = X (ix2 (y 0) (y 1)) + G (ix3 ⟨(y 0).val / 2048, by omega⟩ 0 (y 1))
    * (F (ix2 (y 0) (y 1)) * (Cert.Rms.scale fun d => F (ix2 (y 0) d)) * GP (ix2 0 (y 1)))
  rw [← factor_at F (y 0) ⟨(y 0).val / 2048, by omega⟩ ⟨(y 0).val % 2048, by omega⟩
    (by show (y 0).val = (y 0).val / 2048 * 2048 + (y 0).val % 2048; omega)]
  pointwise [res]

end Cert.LastRefIdeal.Value

end
-- ==== Proof.SamLast.lean ====
/- The last call of the sample: what it leaves in its array, the residual stream with the experts' normed and gated output on
   it, each token with a gate of its own; and its reference, the same function of the arguments. -/
module

public import proofs.«01_k».proof.Proof.OutPay
public import proofs.«01_k».proof.Proof.Gen.SamlastIdeal.Value
public import proofs.«01_k».proof.Proof.Gen.SamlastRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SamlastIdeal.Value

open Cert.SamlastIdeal Cert.SamlastIdeal.Gen

/-- What the one point stores: a row of the experts' output normed, weighted and gated onto the stream's row. -/
theorem pay_at (x : Vec Ideal S128x2048 .f32) (gt : Vec Ideal S1x128x2048 .f32) (f : Vec Ideal S128x2048 .f32)
    (g : Vec Ideal S1x2048 .f32) (r : Fin 128) (e : Fin 2048) : k0_pay1 x gt f g (ix2 r e)
      = x (ix2 r e) + gt (ix3 0 r e) * (f (ix2 r e) * (Cert.Rms.scale fun d => f (ix2 r d)) * g (ix2 0 e)) := by
  pointwise [k0_pay1]
  rfl

/-- The whole array, token by token. -/
def whole (X F : FVec Ideal S128x2048 .f32) (G : FVec Ideal S1x128x2048 .f32) (GP : FVec Ideal S1x2048 .f32) :
    FVec Ideal S128x2048 .f32 := fun y =>
  X (ix2 (y 0) (y 1)) + G (ix3 0 (y 0) (y 1))
    * (F (ix2 (y 0) (y 1)) * (Cert.Rms.scale fun d => F (ix2 (y 0) d)) * GP (ix2 0 (y 1)))

variable (m : (ℓ : Loc nD τ sig) → Buf (Elt Ideal) ℓ) (c : Dev nD)

/-- The four arguments as arrays. -/
abbrev aX : FVec Ideal S128x2048 .f32 := m ((c : Thread nD τ).loc main_arg0)
abbrev aF : FVec Ideal S128x2048 .f32 := m ((c : Thread nD τ).loc main_arg1)
abbrev aGate : FVec Ideal S1x128x2048 .f32 := m ((c : Thread nD τ).loc main_arg2)
abbrev aPost : FVec Ideal S1x2048 .f32 := m ((c : Thread nD τ).loc main_arg3)

theorem idx : ∀ t : Fin cfg0.N, win0_0.index t = ![0, 0] ∧ win0_1.index t = ![0, 0]
    ∧ win0_2.index t = ![0, 0, 0] ∧ win0_3.index t = ![0, 0] ∧ win0_4.index t = ![0, 0] :=
  (by decide +kernel : ∀ t : Fin grid0.N, _)

variable (t : Fin cfg0.N)

theorem read_x (r : Fin 128) (e : Fin 2048) : (iblk m c 0 t : Vec Ideal S128x2048 .f32) (ix2 r e) = aX m c (ix2 r e) := by
  blk_ext [iblk, V, idx t]

theorem read_f (r : Fin 128) (e : Fin 2048) : (iblk m c 1 t : Vec Ideal S128x2048 .f32) (ix2 r e) = aF m c (ix2 r e) := by
  blk_ext [iblk, V, idx t]

theorem read_gate (r : Fin 128) (e : Fin 2048) : (iblk m c 2 t : Vec Ideal S1x128x2048 .f32) (ix3 0 r e)
    = aGate m c (ix3 0 r e) := by
  blk_ext [iblk, V, idx t]

theorem read_post (e : Fin 2048) : (iblk m c 3 t : Vec Ideal S1x2048 .f32) (ix2 0 e) = aPost m c (ix2 0 e) := by
  blk_point [iblk, idx t]

theorem ld_full (a : Vec Ideal S128x2048 .f32) : View.ld a r0_0 = a :=
  View.ld_unit_zero (by funext a; fin_cases a <;> rfl) _ _

theorem ld_mod (a : Vec Ideal S1x128x2048 .f32) : View.ld a r0_1 = a :=
  View.ld_unit_zero (by funext a; fin_cases a <;> rfl) _ _

theorem ld_vec (a : Vec Ideal S1x2048 .f32) : View.ld a r0_2 = a :=
  View.ld_unit_zero (by funext a; fin_cases a <;> rfl) _ _

/-- What the point leaves in its block is the whole array. -/
theorem block_at (r : Fin 128) (e : Fin 2048) :
    out0_4 (iblk m c 0 t) (iblk m c 1 t) (iblk m c 2 t) (iblk m c 3 t) (ix2 r e)
      = whole (aX m c) (aF m c) (aGate m c) (aPost m c) (ix2 r e) := by
  unfold out0_4
  rw [ld_full, ld_full, ld_mod, ld_vec]
  refine (View.canon_apply_of_pieces (fun x : S128x2048.Idx => k0_pay1 (iblk m c 0 t) (iblk m c 2 t) (iblk m c 1 t)
    (iblk m c 3 t) x) _ ?_ (ix2 r e) (cover0_4 _ _)).trans ?_
  · intro pc hpc
    obtain rfl := List.mem_singleton.1 hpc
    intro x
    refine congrArg (k0_pay1 (F := Ideal) _ _ _ _) (funext fun a => Fin.ext ?_)
    match a with
    | 0 => show (x 0).val = 0 + 1 * (x 0).val; omega
    | 1 => show (x 1).val = 0 + 1 * (x 1).val; omega
  · refine (pay_at _ _ _ _ r e).trans ?_
    have hrow : (fun d => (iblk m c 1 t : Vec Ideal S128x2048 .f32) (ix2 r d))
        = fun d => aF m c (ix2 r d) := funext fun d => read_f m c t r d
    rw [hrow, read_x, read_f, read_gate, read_post]
    rfl

/-- The array after the run. -/
theorem final : (dats m 0 c).arrAt 4 cfg0.N = whole (aX m c) (aF m c) (aGate m c) (aPost m c) := by
  refine (dats m 0 c).arrAt_eq_of_covers 4 _ (by decide +kernel) fun t hf y => ?_
  blk_simp
  rw [after0_4]
  refine Eq.trans ?_ ((block_at m c t (y 0) (y 1)).trans ?_)
  · exact congrArg _ (eq_ix2 y)
  · blk_ext [idx t]

end Cert.SamlastIdeal.Value

namespace Cert.SamlastRefIdeal.Value

open Cert.SamlastRefIdeal Cert.SamlastRefIdeal.Gen

variable (X F : FVec Ideal S128x2048 .f32) (G : FVec Ideal S1x128x2048 .f32) (GP : FVec Ideal S1x2048 .f32)

/-- The reference's norm factor of every row. -/
def factor : FVec Ideal S128x1 .f32 :=
  Host.rsqrt (addf (Host.divf (broadcastInDim S128x1 ![0] bcast_S128_S128x1_0 (Host.reduceAdd (mulf F F) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))

/-- The reference's result. -/
def res : FVec Ideal S128x2048 .f32 :=
  addf X (mulf (shapeCast S128x2048 G shapeCasts_S1x128x2048_S128x2048) (mulf (mulf F (broadcastInDim S128x2048 ![0, 1] bcast_S128x1_S128x2048_0_1 (factor F))) (broadcastInDim S128x2048 ![0, 1] bcast_S1x2048_S128x2048_0_1 (broadcastInDim S1x2048 ![1] bcast_S2048_S1x2048_1 (shapeCast S2048 GP shapeCasts_S1x2048_S2048)))))

/-- The factor of a row is the row's scale. -/
theorem factor_at (r : Fin 128) : factor F (ix2 r 0) = Cert.Rms.scale fun d => F (ix2 r d) := by
  pointwise [factor]
  rfl

theorem res_eq : res X F G GP = Cert.SamlastIdeal.Value.whole X F G GP := by
  funext y
  rw [eq_ix2 y]
  unfold Cert.SamlastIdeal.Value.whole
  show _ = X (ix2 (y 0) (y 1)) + G (ix3 0 (y 0) (y 1))
    * (F (ix2 (y 0) (y 1)) * (Cert.Rms.scale fun d => F (ix2 (y 0) d)) * GP (ix2 0 (y 1)))
  rw [← factor_at F (y 0)]
  pointwise [res]

end Cert.SamlastRefIdeal.Value

end
-- ==== Proof.GatesScan.lean ====
/- The running sum of a chunk of 128 gates: seven steps, each adding to a place the value a power of two further left, are the
   sum of everything up to the place; with the sum before the chunk it is the running sum of the whole row. -/
module

public import proofs.«01_k».proof.Proof.Gen.GatesIdeal
public import Idealize.ShloMosaic.Lib.Pointwise

@[expose] public section

set_option maxRecDepth 16384

noncomputable section

open Idealize.ShloMosaic Idealize.ShloMosaic.TcCoe

namespace Cert.Prefix

/-- The sum of the last `s` values up to place `l`, or of all of them if there are fewer. -/
def window (u : ℕ → EReal) (s l : ℕ) : EReal := ∑ i ∈ Finset.range (min s (l + 1)), u (l - i)

theorem window_one (u : ℕ → EReal) (l : ℕ) : window u 1 l = u l := by
  unfold window
  rw [min_eq_left (Nat.le_add_left 1 l), Finset.sum_range_one, Nat.sub_zero]

/-- Adding the window that ends `s` places further left doubles the window. -/
theorem window_double (u : ℕ → EReal) (s l : ℕ) :
    window u s l + (if s ≤ l then window u s (l - s) else 0) = window u (2 * s) l := by
  unfold window
  by_cases h : s ≤ l
  · rw [if_pos h, min_eq_left (by omega : s ≤ l + 1)]
    have e : min (2 * s) (l + 1) = s + min s (l - s + 1) := by omega
    rw [e, Finset.sum_range_add]
    exact congrArg (_ + ·) (Finset.sum_congr rfl fun i _ => congrArg u (by omega))
  · rw [if_neg h, add_zero, min_eq_right (by omega : l + 1 ≤ s), min_eq_right (by omega : l + 1 ≤ 2 * s)]

/-- A window longer than the row so far is the running sum. -/
theorem window_all (u : ℕ → EReal) (s l : ℕ) (h : l < s) : window u s l = ∑ i ∈ Finset.range (l + 1), u i := by
  unfold window
  rw [min_eq_right (by omega : l + 1 ≤ s), ← Finset.sum_range_reflect u (l + 1)]
  exact Finset.sum_congr rfl fun i _ => congrArg u (by omega)

end Cert.Prefix

namespace Cert.GatesIdeal.Value

open Cert.GatesIdeal Cert.GatesIdeal.Gen Cert.Prefix

/-- One step: every place gets the value `s` places further left added, if there is one. -/
def step (s : BitVec 32) (x : FVec Ideal S8x128 .f32) : FVec Ideal S8x128 .f32 :=
  addf x (select (cmpi .sge (iota .tc S8x128 32 [1] iota_S8x128_d1_w32) (broadcast S8x128 s))
    (dynamicRotate 1 s none x rotates_S8x128_d1) (broadcast S8x128 (Scalar.ofBits (F := Ideal) .f32 0x00000000#32)))

/-- The seven steps. -/
def scan (x : FVec Ideal S8x128 .f32) : FVec Ideal S8x128 .f32 :=
  step 64#32 (step 32#32 (step 16#32 (step 8#32 (step 4#32 (step 2#32 (step 1#32 x))))))

/-- A chunk's running sums, with the sum before the chunk. -/
def chunk (x : FVec Ideal S8x128 .f32) (k : FVec Ideal S8x1 .f32) : FVec Ideal S8x128 .f32 :=
  addf (scan x) (broadcastTo S8x128 k broadcasts_S8x1_S8x128)

/-- The sum before the next chunk. -/
def last (x : FVec Ideal S8x128 .f32) : FVec Ideal S8x1 .f32 := extractStridedSlice S8x1 ![0, 127] x slices_S8x128_o0_127_S8x1

theorem ge1 : ∀ l : Fin 128, IntOp.cmpi .sge (BitVec.ofNat 32 l.val) 1#32 = if 1 ≤ l.val then 1#1 else 0#1 := by decide +kernel

theorem ge2 : ∀ l : Fin 128, IntOp.cmpi .sge (BitVec.ofNat 32 l.val) 2#32 = if 2 ≤ l.val then 1#1 else 0#1 := by decide +kernel

theorem ge4 : ∀ l : Fin 128, IntOp.cmpi .sge (BitVec.ofNat 32 l.val) 4#32 = if 4 ≤ l.val then 1#1 else 0#1 := by decide +kernel

theorem ge8 : ∀ l : Fin 128, IntOp.cmpi .sge (BitVec.ofNat 32 l.val) 8#32 = if 8 ≤ l.val then 1#1 else 0#1 := by decide +kernel

theorem ge16 : ∀ l : Fin 128, IntOp.cmpi .sge (BitVec.ofNat 32 l.val) 16#32 = if 16 ≤ l.val then 1#1 else 0#1 := by decide +kernel

theorem ge32 : ∀ l : Fin 128, IntOp.cmpi .sge (BitVec.ofNat 32 l.val) 32#32 = if 32 ≤ l.val then 1#1 else 0#1 := by decide +kernel

theorem ge64 : ∀ l : Fin 128, IntOp.cmpi .sge (BitVec.ofNat 32 l.val) 64#32 = if 64 ≤ l.val then 1#1 else 0#1 := by decide +kernel

theorem step1_at (x : FVec Ideal S8x128 .f32) (h : Fin 8) (l : Fin 128) (u : ℕ → EReal)
    (hx : ∀ l : Fin 128, x (ix2 h l) = window u 1 l.val) : step 1#32 x (ix2 h l) = window u 2 l.val := by
  rw [← window_double u 1 l.val, ← hx l]
  pointwise [step]
  rw [hx ⟨(l.val + 128 - 1) % 128, Nat.mod_lt _ (by omega)⟩, ge1 l]
  by_cases hl : 1 ≤ l.val
  · rw [if_pos hl, if_pos hl]
    have e : (l.val + 128 - 1) % 128 = l.val - 1 := by omega
    show _ + window u 1 ((l.val + 128 - 1) % 128) = _
    rw [e]
  · rw [if_neg hl, if_neg hl]
    rfl

theorem step2_at (x : FVec Ideal S8x128 .f32) (h : Fin 8) (l : Fin 128) (u : ℕ → EReal)
    (hx : ∀ l : Fin 128, x (ix2 h l) = window u 2 l.val) : step 2#32 x (ix2 h l) = window u 4 l.val := by
  rw [← window_double u 2 l.val, ← hx l]
  pointwise [step]
  rw [hx ⟨(l.val + 128 - 2) % 128, Nat.mod_lt _ (by omega)⟩, ge2 l]
  by_cases hl : 2 ≤ l.val
  · rw [if_pos hl, if_pos hl]
    have e : (l.val + 128 - 2) % 128 = l.val - 2 := by omega
    show _ + window u 2 ((l.val + 128 - 2) % 128) = _
    rw [e]
  · rw [if_neg hl, if_neg hl]
    rfl

theorem step4_at (x : FVec Ideal S8x128 .f32) (h : Fin 8) (l : Fin 128) (u : ℕ → EReal)
    (hx : ∀ l : Fin 128, x (ix2 h l) = window u 4 l.val) : step 4#32 x (ix2 h l) = window u 8 l.val := by
  rw [← window_double u 4 l.val, ← hx l]
  pointwise [step]
  rw [hx ⟨(l.val + 128 - 4) % 128, Nat.mod_lt _ (by omega)⟩, ge4 l]
  by_cases hl : 4 ≤ l.val
  · rw [if_pos hl, if_pos hl]
    have e : (l.val + 128 - 4) % 128 = l.val - 4 := by omega
    show _ + window u 4 ((l.val + 128 - 4) % 128) = _
    rw [e]
  · rw [if_neg hl, if_neg hl]
    rfl

theorem step8_at (x : FVec Ideal S8x128 .f32) (h : Fin 8) (l : Fin 128) (u : ℕ → EReal)
    (hx : ∀ l : Fin 128, x (ix2 h l) = window u 8 l.val) : step 8#32 x (ix2 h l) = window u 16 l.val := by
  rw [← window_double u 8 l.val, ← hx l]
  pointwise [step]
  rw [hx ⟨(l.val + 128 - 8) % 128, Nat.mod_lt _ (by omega)⟩, ge8 l]
  by_cases hl : 8 ≤ l.val
  · rw [if_pos hl, if_pos hl]
    have e : (l.val + 128 - 8) % 128 = l.val - 8 := by omega
    show _ + window u 8 ((l.val + 128 - 8) % 128) = _
    rw [e]
  · rw [if_neg hl, if_neg hl]
    rfl

theorem step16_at (x : FVec Ideal S8x128 .f32) (h : Fin 8) (l : Fin 128) (u : ℕ → EReal)
    (hx : ∀ l : Fin 128, x (ix2 h l) = window u 16 l.val) : step 16#32 x (ix2 h l) = window u 32 l.val := by
  rw [← window_double u 16 l.val, ← hx l]
  pointwise [step]
  rw [hx ⟨(l.val + 128 - 16) % 128, Nat.mod_lt _ (by omega)⟩, ge16 l]
  by_cases hl : 16 ≤ l.val
  · rw [if_pos hl, if_pos hl]
    have e : (l.val + 128 - 16) % 128 = l.val - 16 := by omega
    show _ + window u 16 ((l.val + 128 - 16) % 128) = _
    rw [e]
  · rw [if_neg hl, if_neg hl]
    rfl

theorem step32_at (x : FVec Ideal S8x128 .f32) (h : Fin 8) (l : Fin 128) (u : ℕ → EReal)
    (hx : ∀ l : Fin 128, x (ix2 h l) = window u 32 l.val) : step 32#32 x (ix2 h l) = window u 64 l.val := by
  rw [← window_double u 32 l.val, ← hx l]
  pointwise [step]
  rw [hx ⟨(l.val + 128 - 32) % 128, Nat.mod_lt _ (by omega)⟩, ge32 l]
  by_cases hl : 32 ≤ l.val
  · rw [if_pos hl, if_pos hl]
    have e : (l.val + 128 - 32) % 128 = l.val - 32 := by omega
    show _ + window u 32 ((l.val + 128 - 32) % 128) = _
    rw [e]
  · rw [if_neg hl, if_neg hl]
    rfl

theorem step64_at (x : FVec Ideal S8x128 .f32) (h : Fin 8) (l : Fin 128) (u : ℕ → EReal)
    (hx : ∀ l : Fin 128, x (ix2 h l) = window u 64 l.val) : step 64#32 x (ix2 h l) = window u 128 l.val := by
  rw [← window_double u 64 l.val, ← hx l]
  pointwise [step]
  rw [hx ⟨(l.val + 128 - 64) % 128, Nat.mod_lt _ (by omega)⟩, ge64 l]
  by_cases hl : 64 ≤ l.val
  · rw [if_pos hl, if_pos hl]
    have e : (l.val + 128 - 64) % 128 = l.val - 64 := by omega
    show _ + window u 64 ((l.val + 128 - 64) % 128) = _
    rw [e]
  · rw [if_neg hl, if_neg hl]
    rfl

/-- The seven steps sum the chunk up to the place. -/
theorem scan_at (x : FVec Ideal S8x128 .f32) (h : Fin 8) (l : Fin 128) (u : ℕ → EReal)
    (hx : ∀ l : Fin 128, x (ix2 h l) = u l.val) : scan x (ix2 h l) = ∑ i ∈ Finset.range (l.val + 1), u i := by
  refine Eq.trans ?_ (window_all u 128 l.val l.isLt)
  exact step64_at _ h l u fun l => step32_at _ h l u fun l => step16_at _ h l u fun l => step8_at _ h l u fun l =>
    step4_at _ h l u fun l => step2_at _ h l u fun l => step1_at _ h l u fun l => (hx l).trans (window_one u l.val).symm

/-- Chunk `c` holds the running sums of the row, if the sum before it is right. -/
theorem chunk_at (u : ℕ → EReal) (c : ℕ) (x : FVec Ideal S8x128 .f32) (k : FVec Ideal S8x1 .f32) (h : Fin 8)
    (hx : ∀ l : Fin 128, x (ix2 h l) = u (c * 128 + l.val)) (hk : k (ix2 h 0) = ∑ i ∈ Finset.range (c * 128), u i)
    (l : Fin 128) : chunk x k (ix2 h l) = ∑ i ∈ Finset.range (c * 128 + l.val + 1), u i := by
  have e : chunk x k (ix2 h l) = scan x (ix2 h l) + k (ix2 h 0) := by
    pointwise [chunk]
  rw [e, scan_at x h l (fun i => u (c * 128 + i)) hx, hk, add_comm, Nat.add_assoc]
  exact (Finset.sum_range_add u _ _).symm

theorem last_at (x : FVec Ideal S8x128 .f32) (h : Fin 8) : last x (ix2 h 0) = x (ix2 h 127) := by
  pointwise [last]

end Cert.GatesIdeal.Value

end
-- ==== Proof.Gates.lean ====
/- The running sum of the prompt's gates: what a grid point leaves in its block, sixteen chunks one after another, and the
   whole array after the run. -/
module

public import proofs.«01_k».proof.Proof.GatesScan
public import proofs.«01_k».proof.Proof.Gen.GatesIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GatesIdeal.Value

open Cert.GatesIdeal Cert.GatesIdeal.Gen

/-- A row of a block as a sequence, zero past its end. -/
def row (x : Vec Ideal S8x2048 .f32) (h : Fin 8) (i : ℕ) : EReal := if hi : i < 2048 then x (ix2 h ⟨i, hi⟩) else 0

theorem row_of (x : Vec Ideal S8x2048 .f32) (h : Fin 8) (i : ℕ) (hi : i < 2048) : row x h i = x (ix2 h ⟨i, hi⟩) := dif_pos hi

/-- The running sums of a block's rows. -/
def blockSum (x : Vec Ideal S8x2048 .f32) : Vec Ideal S8x2048 .f32 := fun y =>
  ∑ i ∈ Finset.range ((y 1).val + 1), row x (y 0) i

/-! ### Chunk 0 -/

theorem ld0 (x : Vec Ideal S8x2048 .f32) (h : Fin 8) (l : Fin 128) : View.ld x r0_0 (ix2 h l) = row x h (0 * 128 + l.val) := by
  rw [row_of x h _ (by omega)]
  refine congrArg x (funext fun a => Fin.ext ?_)
  match a with
  | 0 => show 0 + 1 * h.val = h.val; omega
  | 1 => show 0 + 1 * l.val = 0 * 128 + l.val; omega

theorem piece0 (x : Vec Ideal S8x2048 .f32) : k0_pay5 (k0_pay76 x) (k0_pay75 x) (k0_pay77 x) (k0_pay78 x) = chunk (View.ld x r0_0) (k0_pay76 x) := rfl

theorem carry0 (x : Vec Ideal S8x2048 .f32) (h : Fin 8) : k0_pay76 x (ix2 h 0) = ∑ i ∈ Finset.range (0 * 128), row x h i := by
  rw [Nat.zero_mul, Finset.sum_range_zero]
  pointwise [k0_pay76, k0_pay2]

theorem sum0 (x : Vec Ideal S8x2048 .f32) (h : Fin 8) (l : Fin 128) :
    k0_pay5 (k0_pay76 x) (k0_pay75 x) (k0_pay77 x) (k0_pay78 x) (ix2 h l) = ∑ i ∈ Finset.range (0 * 128 + l.val + 1), row x h i := by
  rw [piece0]
  exact chunk_at (row x h) 0 _ _ h (ld0 x h) (carry0 x h) l

/-! ### Chunk 1 -/

theorem ld1 (x : Vec Ideal S8x2048 .f32) (h : Fin 8) (l : Fin 128) : View.ld x r0_1 (ix2 h l) = row x h (1 * 128 + l.val) := by
  rw [row_of x h _ (by omega)]
  refine congrArg x (funext fun a => Fin.ext ?_)
  match a with
  | 0 => show 0 + 1 * h.val = h.val; omega
  | 1 => show 128 + 1 * l.val = 1 * 128 + l.val; omega

theorem piece1 (x : Vec Ideal S8x2048 .f32) : k0_pay9 (k0_pay80 x) (k0_pay79 x) (k0_pay81 x) (k0_pay82 x) = chunk (View.ld x r0_1) (k0_pay80 x) := rfl

theorem carry1 (x : Vec Ideal S8x2048 .f32) (h : Fin 8) : (k0_pay80 x) (ix2 h 0) = ∑ i ∈ Finset.range (1 * 128), row x h i := by
  have e : (k0_pay80 x) = last (k0_pay5 (k0_pay76 x) (k0_pay75 x) (k0_pay77 x) (k0_pay78 x)) := rfl
  rw [e, last_at]
  exact sum0 x h 127

theorem sum1 (x : Vec Ideal S8x2048 .f32) (h : Fin 8) (l : Fin 128) :
    k0_pay9 (k0_pay80 x) (k0_pay79 x) (k0_pay81 x) (k0_pay82 x) (ix2 h l) = ∑ i ∈ Finset.range (1 * 128 + l.val + 1), row x h i := by
  rw [piece1]
  exact chunk_at (row x h) 1 _ _ h (ld1 x h) (carry1 x h) l

/-! ### Chunk 2 -/

theorem ld2 (x : Vec Ideal S8x2048 .f32) (h : Fin 8) (l : Fin 128) : View.ld x r0_2 (ix2 h l) = row x h (2 * 128 + l.val) := by
  rw [row_of x h _ (by omega)]
  refine congrArg x (funext fun a => Fin.ext ?_)
  match a with
  | 0 => show 0 + 1 * h.val = h.val; omega
  | 1 => show 256 + 1 * l.val = 2 * 128 + l.val; omega

theorem piece2 (x : Vec Ideal S8x2048 .f32) : k0_pay15 (k0_pay84 x) (k0_pay83 x) (k0_pay85 x) (k0_pay86 x) (k0_pay87 x) (k0_pay88 x) = chunk (View.ld x r0_2) (k0_pay84 x) := rfl

theorem carry2 (x : Vec Ideal S8x2048 .f32) (h : Fin 8) : (k0_pay84 x) (ix2 h 0) = ∑ i ∈ Finset.range (2 * 128), row x h i := by
  have e : (k0_pay84 x) = last (k0_pay9 (k0_pay80 x) (k0_pay79 x) (k0_pay81 x) (k0_pay82 x)) := rfl
  rw [e, last_at]
  exact sum1 x h 127

theorem sum2 (x : Vec Ideal S8x2048 .f32) (h : Fin 8) (l : Fin 128) :
    k0_pay15 (k0_pay84 x) (k0_pay83 x) (k0_pay85 x) (k0_pay86 x) (k0_pay87 x) (k0_pay88 x) (ix2 h l) = ∑ i ∈ Finset.range (2 * 128 + l.val + 1), row x h i := by
  rw [piece2]
  exact chunk_at (row x h) 2 _ _ h (ld2 x h) (carry2 x h) l

/-! ### Chunk 3 -/

theorem ld3 (x : Vec Ideal S8x2048 .f32) (h : Fin 8) (l : Fin 128) : View.ld x r0_3 (ix2 h l) = row x h (3 * 128 + l.val) := by
  rw [row_of x h _ (by omega)]
  refine congrArg x (funext fun a => Fin.ext ?_)
  match a with
  | 0 => show 0 + 1 * h.val = h.val; omega
  | 1 => show 384 + 1 * l.val = 3 * 128 + l.val; omega

theorem piece3 (x : Vec Ideal S8x2048 .f32) : k0_pay19 (k0_pay90 x) (k0_pay89 x) (k0_pay91 x) (k0_pay92 x) = chunk (View.ld x r0_3) (k0_pay90 x) := rfl

theorem carry3 (x : Vec Ideal S8x2048 .f32) (h : Fin 8) : (k0_pay90 x) (ix2 h 0) = ∑ i ∈ Finset.range (3 * 128), row x h i := by
  have e : (k0_pay90 x) = last (k0_pay15 (k0_pay84 x) (k0_pay83 x) (k0_pay85 x) (k0_pay86 x) (k0_pay87 x) (k0_pay88 x)) := rfl
  rw [e, last_at]
  exact sum2 x h 127

theorem sum3 (x : Vec Ideal S8x2048 .f32) (h : Fin 8) (l : Fin 128) :
    k0_pay19 (k0_pay90 x) (k0_pay89 x) (k0_pay91 x) (k0_pay92 x) (ix2 h l) = ∑ i ∈ Finset.range (3 * 128 + l.val + 1), row x h i := by
  rw [piece3]
  exact chunk_at (row x h) 3 _ _ h (ld3 x h) (carry3 x h) l

/-! ### Chunk 4 -/

theorem ld4 (x : Vec Ideal S8x2048 .f32) (h : Fin 8) (l : Fin 128) : View.ld x r0_4 (ix2 h l) = row x h (4 * 128 + l.val) := by
  rw [row_of x h _ (by omega)]
  refine congrArg x (funext fun a => Fin.ext ?_)
  match a with
  | 0 => show 0 + 1 * h.val = h.val; omega
  | 1 => show 512 + 1 * l.val = 4 * 128 + l.val; omega

theorem piece4 (x : Vec Ideal S8x2048 .f32) : k0_pay23 (k0_pay93 x) (k0_pay94 x) (k0_pay95 x) = chunk (View.ld x r0_4) (k0_pay93 x) := rfl

theorem carry4 (x : Vec Ideal S8x2048 .f32) (h : Fin 8) : (k0_pay93 x) (ix2 h 0) = ∑ i ∈ Finset.range (4 * 128), row x h i := by
  have e : (k0_pay93 x) = last (k0_pay19 (k0_pay90 x) (k0_pay89 x) (k0_pay91 x) (k0_pay92 x)) := rfl
  rw [e, last_at]
  exact sum3 x h 127

theorem sum4 (x : Vec Ideal S8x2048 .f32) (h : Fin 8) (l : Fin 128) :
    k0_pay23 (k0_pay93 x) (k0_pay94 x) (k0_pay95 x) (ix2 h l) = ∑ i ∈ Finset.range (4 * 128 + l.val + 1), row x h i := by
  rw [piece4]
  exact chunk_at (row x h) 4 _ _ h (ld4 x h) (carry4 x h) l

/-! ### Chunk 5 -/

theorem ld5 (x : Vec Ideal S8x2048 .f32) (h : Fin 8) (l : Fin 128) : View.ld x r0_5 (ix2 h l) = row x h (5 * 128 + l.val) := by
  rw [row_of x h _ (by omega)]
  refine congrArg x (funext fun a => Fin.ext ?_)
  match a with
  | 0 => show 0 + 1 * h.val = h.val; omega
  | 1 => show 640 + 1 * l.val = 5 * 128 + l.val; omega

theorem piece5 (x : Vec Ideal S8x2048 .f32) : k0_pay29 (k0_pay97 x) (k0_pay96 x) (k0_pay98 x) (k0_pay99 x) (k0_pay100 x) (k0_pay101 x) = chunk (View.ld x r0_5) (k0_pay97 x) := rfl

theorem carry5 (x : Vec Ideal S8x2048 .f32) (h : Fin 8) : (k0_pay97 x) (ix2 h 0) = ∑ i ∈ Finset.range (5 * 128), row x h i := by
  have e : (k0_pay97 x) = last (k0_pay23 (k0_pay93 x) (k0_pay94 x) (k0_pay95 x)) := rfl
  rw [e, last_at]
  exact sum4 x h 127

theorem sum5 (x : Vec Ideal S8x2048 .f32) (h : Fin 8) (l : Fin 128) :
    k0_pay29 (k0_pay97 x) (k0_pay96 x) (k0_pay98 x) (k0_pay99 x) (k0_pay100 x) (k0_pay101 x) (ix2 h l) = ∑ i ∈ Finset.range (5 * 128 + l.val + 1), row x h i := by
  rw [piece5]
  exact chunk_at (row x h) 5 _ _ h (ld5 x h) (carry5 x h) l

/-! ### Chunk 6 -/

theorem ld6 (x : Vec Ideal S8x2048 .f32) (h : Fin 8) (l : Fin 128) : View.ld x r0_6 (ix2 h l) = row x h (6 * 128 + l.val) := by
  rw [row_of x h _ (by omega)]
  refine congrArg x (funext fun a => Fin.ext ?_)
  match a with
  | 0 => show 0 + 1 * h.val = h.val; omega
  | 1 => show 768 + 1 * l.val = 6 * 128 + l.val; omega

theorem piece6 (x : Vec Ideal S8x2048 .f32) : k0_pay33 (k0_pay103 x) (k0_pay102 x) (k0_pay104 x) (k0_pay105 x) = chunk (View.ld x r0_6) (k0_pay103 x) := rfl

theorem carry6 (x : Vec Ideal S8x2048 .f32) (h : Fin 8) : (k0_pay103 x) (ix2 h 0) = ∑ i ∈ Finset.range (6 * 128), row x h i := by
  have e : (k0_pay103 x) = last (k0_pay29 (k0_pay97 x) (k0_pay96 x) (k0_pay98 x) (k0_pay99 x) (k0_pay100 x) (k0_pay101 x)) := rfl
  rw [e, last_at]
  exact sum5 x h 127

theorem sum6 (x : Vec Ideal S8x2048 .f32) (h : Fin 8) (l : Fin 128) :
    k0_pay33 (k0_pay103 x) (k0_pay102 x) (k0_pay104 x) (k0_pay105 x) (ix2 h l) = ∑ i ∈ Finset.range (6 * 128 + l.val + 1), row x h i := by
  rw [piece6]
  exact chunk_at (row x h) 6 _ _ h (ld6 x h) (carry6 x h) l

/-! ### Chunk 7 -/

theorem ld7 (x : Vec Ideal S8x2048 .f32) (h : Fin 8) (l : Fin 128) : View.ld x r0_7 (ix2 h l) = row x h (7 * 128 + l.val) := by
  rw [row_of x h _ (by omega)]
  refine congrArg x (funext fun a => Fin.ext ?_)
  match a with
  | 0 => show 0 + 1 * h.val = h.val; omega
  | 1 => show 896 + 1 * l.val = 7 * 128 + l.val; omega

theorem piece7 (x : Vec Ideal S8x2048 .f32) : k0_pay38 (k0_pay107 x) (k0_pay106 x) (k0_pay108 x) (k0_pay109 x) (k0_pay110 x) (Scalar.ofBits .f32 0x0000000#32) = chunk (View.ld x r0_7) (k0_pay107 x) := rfl

theorem carry7 (x : Vec Ideal S8x2048 .f32) (h : Fin 8) : (k0_pay107 x) (ix2 h 0) = ∑ i ∈ Finset.range (7 * 128), row x h i := by
  have e : (k0_pay107 x) = last (k0_pay33 (k0_pay103 x) (k0_pay102 x) (k0_pay104 x) (k0_pay105 x)) := rfl
  rw [e, last_at]
  exact sum6 x h 127

theorem sum7 (x : Vec Ideal S8x2048 .f32) (h : Fin 8) (l : Fin 128) :
    k0_pay38 (k0_pay107 x) (k0_pay106 x) (k0_pay108 x) (k0_pay109 x) (k0_pay110 x) (Scalar.ofBits .f32 0x0000000#32) (ix2 h l) = ∑ i ∈ Finset.range (7 * 128 + l.val + 1), row x h i := by
  rw [piece7]
  exact chunk_at (row x h) 7 _ _ h (ld7 x h) (carry7 x h) l

/-! ### Chunk 8 -/

theorem ld8 (x : Vec Ideal S8x2048 .f32) (h : Fin 8) (l : Fin 128) : View.ld x r0_8 (ix2 h l) = row x h (8 * 128 + l.val) := by
  rw [row_of x h _ (by omega)]
  refine congrArg x (funext fun a => Fin.ext ?_)
  match a with
  | 0 => show 0 + 1 * h.val = h.val; omega
  | 1 => show 1024 + 1 * l.val = 8 * 128 + l.val; omega

theorem piece8 (x : Vec Ideal S8x2048 .f32) : k0_pay44 (k0_pay112 x) (k0_pay113 x) (k0_pay114 x) (k0_pay115 x) (k0_pay116 x) = chunk (View.ld x r0_8) (k0_pay112 x) := rfl

theorem carry8 (x : Vec Ideal S8x2048 .f32) (h : Fin 8) : (k0_pay112 x) (ix2 h 0) = ∑ i ∈ Finset.range (8 * 128), row x h i := by
  have e : (k0_pay112 x) = last (k0_pay38 (k0_pay107 x) (k0_pay106 x) (k0_pay108 x) (k0_pay109 x) (k0_pay110 x) (Scalar.ofBits .f32 0x0000000#32)) := rfl
  rw [e, last_at]
  exact sum7 x h 127

theorem sum8 (x : Vec Ideal S8x2048 .f32) (h : Fin 8) (l : Fin 128) :
    k0_pay44 (k0_pay112 x) (k0_pay113 x) (k0_pay114 x) (k0_pay115 x) (k0_pay116 x) (ix2 h l) = ∑ i ∈ Finset.range (8 * 128 + l.val + 1), row x h i := by
  rw [piece8]
  exact chunk_at (row x h) 8 _ _ h (ld8 x h) (carry8 x h) l

/-! ### Chunk 9 -/

theorem ld9 (x : Vec Ideal S8x2048 .f32) (h : Fin 8) (l : Fin 128) : View.ld x r0_9 (ix2 h l) = row x h (9 * 128 + l.val) := by
  rw [row_of x h _ (by omega)]
  refine congrArg x (funext fun a => Fin.ext ?_)
  match a with
  | 0 => show 0 + 1 * h.val = h.val; omega
  | 1 => show 1152 + 1 * l.val = 9 * 128 + l.val; omega

theorem piece9 (x : Vec Ideal S8x2048 .f32) : k0_pay48 (k0_pay118 x) (k0_pay117 x) (k0_pay119 x) (k0_pay120 x) = chunk (View.ld x r0_9) (k0_pay118 x) := rfl

theorem carry9 (x : Vec Ideal S8x2048 .f32) (h : Fin 8) : (k0_pay118 x) (ix2 h 0) = ∑ i ∈ Finset.range (9 * 128), row x h i := by
  have e : (k0_pay118 x) = last (k0_pay44 (k0_pay112 x) (k0_pay113 x) (k0_pay114 x) (k0_pay115 x) (k0_pay116 x)) := rfl
  rw [e, last_at]
  exact sum8 x h 127

theorem sum9 (x : Vec Ideal S8x2048 .f32) (h : Fin 8) (l : Fin 128) :
    k0_pay48 (k0_pay118 x) (k0_pay117 x) (k0_pay119 x) (k0_pay120 x) (ix2 h l) = ∑ i ∈ Finset.range (9 * 128 + l.val + 1), row x h i := by
  rw [piece9]
  exact chunk_at (row x h) 9 _ _ h (ld9 x h) (carry9 x h) l

/-! ### Chunk 10 -/

theorem ld10 (x : Vec Ideal S8x2048 .f32) (h : Fin 8) (l : Fin 128) : View.ld x r0_10 (ix2 h l) = row x h (10 * 128 + l.val) := by
  rw [row_of x h _ (by omega)]
  refine congrArg x (funext fun a => Fin.ext ?_)
  match a with
  | 0 => show 0 + 1 * h.val = h.val; omega
  | 1 => show 1280 + 1 * l.val = 10 * 128 + l.val; omega

theorem piece10 (x : Vec Ideal S8x2048 .f32) : k0_pay53 (k0_pay122 x) (k0_pay121 x) (k0_pay123 x) (k0_pay124 x) (k0_pay125 x) (Scalar.ofBits .f32 0x0000000#32) = chunk (View.ld x r0_10) (k0_pay122 x) := rfl

theorem carry10 (x : Vec Ideal S8x2048 .f32) (h : Fin 8) : (k0_pay122 x) (ix2 h 0) = ∑ i ∈ Finset.range (10 * 128), row x h i := by
  have e : (k0_pay122 x) = last (k0_pay48 (k0_pay118 x) (k0_pay117 x) (k0_pay119 x) (k0_pay120 x)) := rfl
  rw [e, last_at]
  exact sum9 x h 127

theorem sum10 (x : Vec Ideal S8x2048 .f32) (h : Fin 8) (l : Fin 128) :
    k0_pay53 (k0_pay122 x) (k0_pay121 x) (k0_pay123 x) (k0_pay124 x) (k0_pay125 x) (Scalar.ofBits .f32 0x0000000#32) (ix2 h l) = ∑ i ∈ Finset.range (10 * 128 + l.val + 1), row x h i := by
  rw [piece10]
  exact chunk_at (row x h) 10 _ _ h (ld10 x h) (carry10 x h) l

/-! ### Chunk 11 -/

theorem ld11 (x : Vec Ideal S8x2048 .f32) (h : Fin 8) (l : Fin 128) : View.ld x r0_11 (ix2 h l) = row x h (11 * 128 + l.val) := by
  rw [row_of x h _ (by omega)]
  refine congrArg x (funext fun a => Fin.ext ?_)
  match a with
  | 0 => show 0 + 1 * h.val = h.val; omega
  | 1 => show 1408 + 1 * l.val = 11 * 128 + l.val; omega

theorem piece11 (x : Vec Ideal S8x2048 .f32) : k0_pay56 (k0_pay127 x) (k0_pay126 x) (k0_pay128 x) 4#32 = chunk (View.ld x r0_11) (k0_pay127 x) := rfl

theorem carry11 (x : Vec Ideal S8x2048 .f32) (h : Fin 8) : (k0_pay127 x) (ix2 h 0) = ∑ i ∈ Finset.range (11 * 128), row x h i := by
  have e : (k0_pay127 x) = last (k0_pay53 (k0_pay122 x) (k0_pay121 x) (k0_pay123 x) (k0_pay124 x) (k0_pay125 x) (Scalar.ofBits .f32 0x0000000#32)) := rfl
  rw [e, last_at]
  exact sum10 x h 127

theorem sum11 (x : Vec Ideal S8x2048 .f32) (h : Fin 8) (l : Fin 128) :
    k0_pay56 (k0_pay127 x) (k0_pay126 x) (k0_pay128 x) 4#32 (ix2 h l) = ∑ i ∈ Finset.range (11 * 128 + l.val + 1), row x h i := by
  rw [piece11]
  exact chunk_at (row x h) 11 _ _ h (ld11 x h) (carry11 x h) l

/-! ### Chunk 12 -/

theorem ld12 (x : Vec Ideal S8x2048 .f32) (h : Fin 8) (l : Fin 128) : View.ld x r0_12 (ix2 h l) = row x h (12 * 128 + l.val) := by
  rw [row_of x h _ (by omega)]
  refine congrArg x (funext fun a => Fin.ext ?_)
  match a with
  | 0 => show 0 + 1 * h.val = h.val; omega
  | 1 => show 1536 + 1 * l.val = 12 * 128 + l.val; omega

theorem piece12 (x : Vec Ideal S8x2048 .f32) : k0_pay129 x = chunk (View.ld x r0_12) (k0_pay57 (k0_pay127 x) (k0_pay126 x) (k0_pay128 x) 4#32) := rfl

theorem carry12 (x : Vec Ideal S8x2048 .f32) (h : Fin 8) : (k0_pay57 (k0_pay127 x) (k0_pay126 x) (k0_pay128 x) 4#32) (ix2 h 0) = ∑ i ∈ Finset.range (12 * 128), row x h i := by
  have e : (k0_pay57 (k0_pay127 x) (k0_pay126 x) (k0_pay128 x) 4#32) = last (k0_pay56 (k0_pay127 x) (k0_pay126 x) (k0_pay128 x) 4#32) := rfl
  rw [e, last_at]
  exact sum11 x h 127

theorem sum12 (x : Vec Ideal S8x2048 .f32) (h : Fin 8) (l : Fin 128) :
    k0_pay129 x (ix2 h l) = ∑ i ∈ Finset.range (12 * 128 + l.val + 1), row x h i := by
  rw [piece12]
  exact chunk_at (row x h) 12 _ _ h (ld12 x h) (carry12 x h) l

/-! ### Chunk 13 -/

theorem ld13 (x : Vec Ideal S8x2048 .f32) (h : Fin 8) (l : Fin 128) : View.ld x r0_13 (ix2 h l) = row x h (13 * 128 + l.val) := by
  rw [row_of x h _ (by omega)]
  refine congrArg x (funext fun a => Fin.ext ?_)
  match a with
  | 0 => show 0 + 1 * h.val = h.val; omega
  | 1 => show 1664 + 1 * l.val = 13 * 128 + l.val; omega

theorem piece13 (x : Vec Ideal S8x2048 .f32) : k0_pay65 (k0_pay131 x) (k0_pay130 x) (k0_pay132 x) (k0_pay133 x) (k0_pay134 x) (Scalar.ofBits .f32 0x0000000#32) = chunk (View.ld x r0_13) (k0_pay131 x) := rfl

theorem carry13 (x : Vec Ideal S8x2048 .f32) (h : Fin 8) : (k0_pay131 x) (ix2 h 0) = ∑ i ∈ Finset.range (13 * 128), row x h i := by
  have e : (k0_pay131 x) = last (k0_pay129 x) := rfl
  rw [e, last_at]
  exact sum12 x h 127

theorem sum13 (x : Vec Ideal S8x2048 .f32) (h : Fin 8) (l : Fin 128) :
    k0_pay65 (k0_pay131 x) (k0_pay130 x) (k0_pay132 x) (k0_pay133 x) (k0_pay134 x) (Scalar.ofBits .f32 0x0000000#32) (ix2 h l) = ∑ i ∈ Finset.range (13 * 128 + l.val + 1), row x h i := by
  rw [piece13]
  exact chunk_at (row x h) 13 _ _ h (ld13 x h) (carry13 x h) l

/-! ### Chunk 14 -/

theorem ld14 (x : Vec Ideal S8x2048 .f32) (h : Fin 8) (l : Fin 128) : View.ld x r0_14 (ix2 h l) = row x h (14 * 128 + l.val) := by
  rw [row_of x h _ (by omega)]
  refine congrArg x (funext fun a => Fin.ext ?_)
  match a with
  | 0 => show 0 + 1 * h.val = h.val; omega
  | 1 => show 1792 + 1 * l.val = 14 * 128 + l.val; omega

theorem piece14 (x : Vec Ideal S8x2048 .f32) : k0_pay68 (k0_pay136 x) (k0_pay135 x) (k0_pay137 x) 16#32 = chunk (View.ld x r0_14) (k0_pay136 x) := rfl

theorem carry14 (x : Vec Ideal S8x2048 .f32) (h : Fin 8) : (k0_pay136 x) (ix2 h 0) = ∑ i ∈ Finset.range (14 * 128), row x h i := by
  have e : (k0_pay136 x) = last (k0_pay65 (k0_pay131 x) (k0_pay130 x) (k0_pay132 x) (k0_pay133 x) (k0_pay134 x) (Scalar.ofBits .f32 0x0000000#32)) := rfl
  rw [e, last_at]
  exact sum13 x h 127

theorem sum14 (x : Vec Ideal S8x2048 .f32) (h : Fin 8) (l : Fin 128) :
    k0_pay68 (k0_pay136 x) (k0_pay135 x) (k0_pay137 x) 16#32 (ix2 h l) = ∑ i ∈ Finset.range (14 * 128 + l.val + 1), row x h i := by
  rw [piece14]
  exact chunk_at (row x h) 14 _ _ h (ld14 x h) (carry14 x h) l

/-! ### Chunk 15 -/

theorem ld15 (x : Vec Ideal S8x2048 .f32) (h : Fin 8) (l : Fin 128) : View.ld x r0_15 (ix2 h l) = row x h (15 * 128 + l.val) := by
  rw [row_of x h _ (by omega)]
  refine congrArg x (funext fun a => Fin.ext ?_)
  match a with
  | 0 => show 0 + 1 * h.val = h.val; omega
  | 1 => show 1920 + 1 * l.val = 15 * 128 + l.val; omega

theorem piece15 (x : Vec Ideal S8x2048 .f32) : k0_pay1 (k0_pay73 (iota .tc S8x128 32 [1] iota_S8x128_d1_w32) (k0_pay70 (View.ld x r0_15)) k0_pay71 (k0_pay72 (View.ld x r0_15))) (k0_pay74 (k0_pay69 (k0_pay136 x) (k0_pay135 x) (k0_pay137 x) 16#32)) = chunk (View.ld x r0_15) (k0_pay69 (k0_pay136 x) (k0_pay135 x) (k0_pay137 x) 16#32) := rfl

theorem carry15 (x : Vec Ideal S8x2048 .f32) (h : Fin 8) : (k0_pay69 (k0_pay136 x) (k0_pay135 x) (k0_pay137 x) 16#32) (ix2 h 0) = ∑ i ∈ Finset.range (15 * 128), row x h i := by
  have e : (k0_pay69 (k0_pay136 x) (k0_pay135 x) (k0_pay137 x) 16#32) = last (k0_pay68 (k0_pay136 x) (k0_pay135 x) (k0_pay137 x) 16#32) := rfl
  rw [e, last_at]
  exact sum14 x h 127

theorem sum15 (x : Vec Ideal S8x2048 .f32) (h : Fin 8) (l : Fin 128) :
    k0_pay1 (k0_pay73 (iota .tc S8x128 32 [1] iota_S8x128_d1_w32) (k0_pay70 (View.ld x r0_15)) k0_pay71 (k0_pay72 (View.ld x r0_15))) (k0_pay74 (k0_pay69 (k0_pay136 x) (k0_pay135 x) (k0_pay137 x) 16#32)) (ix2 h l) = ∑ i ∈ Finset.range (15 * 128 + l.val + 1), row x h i := by
  rw [piece15]
  exact chunk_at (row x h) 15 _ _ h (ld15 x h) (carry15 x h) l

/-! ### The block and the array -/

theorem sum_eq (x : Vec Ideal S8x2048 .f32) (h h' : Fin 8) (n n' : ℕ) (eh : h.val = h'.val) (en : n = n') :
    ∑ i ∈ Finset.range (n + 1), row x h i = ∑ i ∈ Finset.range (n' + 1), row x h' i := by
  obtain rfl : h = h' := Fin.ext eh
  rw [en]

/-- The sixteen stores leave the running sums of the block's rows. -/
theorem block_eq (x : Vec Ideal S8x2048 .f32) (y : S8x2048.Idx) : out0_1 x y = blockSum x y := by
  unfold out0_1
  refine View.canon_apply_of_pieces (blockSum x) _ ?_ y (cover0_1 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · intro z
    rw [eq_ix2 z]
    refine (sum15 x (z 0) (z 1)).trans (sum_eq x _ _ _ _ ?_ ?_)
    · show (z 0).val = 0 + 1 * (z 0).val; omega
    · show 15 * 128 + (z 1).val = 1920 + 1 * (z 1).val; omega
  · intro z
    rw [eq_ix2 z]
    refine (sum14 x (z 0) (z 1)).trans (sum_eq x _ _ _ _ ?_ ?_)
    · show (z 0).val = 0 + 1 * (z 0).val; omega
    · show 14 * 128 + (z 1).val = 1792 + 1 * (z 1).val; omega
  · intro z
    rw [eq_ix2 z]
    refine (sum13 x (z 0) (z 1)).trans (sum_eq x _ _ _ _ ?_ ?_)
    · show (z 0).val = 0 + 1 * (z 0).val; omega
    · show 13 * 128 + (z 1).val = 1664 + 1 * (z 1).val; omega
  · intro z
    rw [eq_ix2 z]
    refine (sum12 x (z 0) (z 1)).trans (sum_eq x _ _ _ _ ?_ ?_)
    · show (z 0).val = 0 + 1 * (z 0).val; omega
    · show 12 * 128 + (z 1).val = 1536 + 1 * (z 1).val; omega
  · intro z
    rw [eq_ix2 z]
    refine (sum11 x (z 0) (z 1)).trans (sum_eq x _ _ _ _ ?_ ?_)
    · show (z 0).val = 0 + 1 * (z 0).val; omega
    · show 11 * 128 + (z 1).val = 1408 + 1 * (z 1).val; omega
  · intro z
    rw [eq_ix2 z]
    refine (sum10 x (z 0) (z 1)).trans (sum_eq x _ _ _ _ ?_ ?_)
    · show (z 0).val = 0 + 1 * (z 0).val; omega
    · show 10 * 128 + (z 1).val = 1280 + 1 * (z 1).val; omega
  · intro z
    rw [eq_ix2 z]
    refine (sum9 x (z 0) (z 1)).trans (sum_eq x _ _ _ _ ?_ ?_)
    · show (z 0).val = 0 + 1 * (z 0).val; omega
    · show 9 * 128 + (z 1).val = 1152 + 1 * (z 1).val; omega
  · intro z
    rw [eq_ix2 z]
    refine (sum8 x (z 0) (z 1)).trans (sum_eq x _ _ _ _ ?_ ?_)
    · show (z 0).val = 0 + 1 * (z 0).val; omega
    · show 8 * 128 + (z 1).val = 1024 + 1 * (z 1).val; omega
  · intro z
    rw [eq_ix2 z]
    refine (sum7 x (z 0) (z 1)).trans (sum_eq x _ _ _ _ ?_ ?_)
    · show (z 0).val = 0 + 1 * (z 0).val; omega
    · show 7 * 128 + (z 1).val = 896 + 1 * (z 1).val; omega
  · intro z
    rw [eq_ix2 z]
    refine (sum6 x (z 0) (z 1)).trans (sum_eq x _ _ _ _ ?_ ?_)
    · show (z 0).val = 0 + 1 * (z 0).val; omega
    · show 6 * 128 + (z 1).val = 768 + 1 * (z 1).val; omega
  · intro z
    rw [eq_ix2 z]
    refine (sum5 x (z 0) (z 1)).trans (sum_eq x _ _ _ _ ?_ ?_)
    · show (z 0).val = 0 + 1 * (z 0).val; omega
    · show 5 * 128 + (z 1).val = 640 + 1 * (z 1).val; omega
  · intro z
    rw [eq_ix2 z]
    refine (sum4 x (z 0) (z 1)).trans (sum_eq x _ _ _ _ ?_ ?_)
    · show (z 0).val = 0 + 1 * (z 0).val; omega
    · show 4 * 128 + (z 1).val = 512 + 1 * (z 1).val; omega
  · intro z
    rw [eq_ix2 z]
    refine (sum3 x (z 0) (z 1)).trans (sum_eq x _ _ _ _ ?_ ?_)
    · show (z 0).val = 0 + 1 * (z 0).val; omega
    · show 3 * 128 + (z 1).val = 384 + 1 * (z 1).val; omega
  · intro z
    rw [eq_ix2 z]
    refine (sum2 x (z 0) (z 1)).trans (sum_eq x _ _ _ _ ?_ ?_)
    · show (z 0).val = 0 + 1 * (z 0).val; omega
    · show 2 * 128 + (z 1).val = 256 + 1 * (z 1).val; omega
  · intro z
    rw [eq_ix2 z]
    refine (sum1 x (z 0) (z 1)).trans (sum_eq x _ _ _ _ ?_ ?_)
    · show (z 0).val = 0 + 1 * (z 0).val; omega
    · show 1 * 128 + (z 1).val = 128 + 1 * (z 1).val; omega
  · intro z
    rw [eq_ix2 z]
    refine (sum0 x (z 0) (z 1)).trans (sum_eq x _ _ _ _ ?_ ?_)
    · show (z 0).val = 0 + 1 * (z 0).val; omega
    · show 0 * 128 + (z 1).val = 0 + 1 * (z 1).val; omega

variable (m : (ℓ : Loc nD τ sig) → Buf (Elt Ideal) ℓ) (c : Dev nD)

/-- The argument as an array. -/
abbrev aLog : FVec Ideal S8x8192 .f32 := m ((c : Thread nD τ).loc main_arg0)

/-- Every gate with the gates of its head and its sequence before it. -/
def whole (L : FVec Ideal S8x8192 .f32) : FVec Ideal S8x8192 .f32 := fun y =>
  ∑ i : Fin 2048, if i.val ≤ (y 1).val % 2048 then L (ix2 (y 0) ⟨(y 1).val / 2048 * 2048 + i.val, by have : (y 1).val < 8192 := (y 1).isLt; omega⟩) else 0

theorem idx : ∀ t : Fin cfg0.N, win0_0.index t = ![0, t.val] ∧ win0_1.index t = ![0, t.val] :=
  (by decide +kernel : ∀ t : Fin grid0.N, _)

theorem read_log (t : Fin cfg0.N) (h : Fin 8) (i : Fin 2048) : (iblk m c 0 t : Vec Ideal S8x2048 .f32) (ix2 h i)
    = aLog m c (ix2 h ⟨t.val * 2048 + i.val, by have := lt_of_lt_of_eq t.isLt N_0; omega⟩) := by
  blk_ext [iblk, V, idx t]

/-- A running sum as a sum over the whole row. -/
theorem sum_row (x : Vec Ideal S8x2048 .f32) (h : Fin 8) (n : ℕ) (hn : n < 2048) :
    ∑ i ∈ Finset.range (n + 1), row x h i = ∑ i : Fin 2048, if i.val ≤ n then x (ix2 h i) else 0 := by
  have e : ∀ i : Fin 2048, (if i.val ≤ n then x (ix2 h i) else 0) = (fun i : ℕ => if i ≤ n then row x h i else 0) i.val := fun i => by
    show _ = if i.val ≤ n then row x h i.val else 0
    rw [row_of x h i.val i.isLt]
  rw [Finset.sum_congr rfl fun i _ => e i, Fin.sum_univ_eq_sum_range (fun i : ℕ => if i ≤ n then row x h i else 0) 2048,
    ← Finset.sum_filter]
  refine Finset.sum_congr (Finset.ext fun i => ?_) fun _ _ => rfl
  rw [Finset.mem_range, Finset.mem_filter, Finset.mem_range]
  omega

/-- What a point leaves in its block is the whole array's part there. -/
theorem block_at (t : Fin cfg0.N) (h : Fin 8) (s : Fin 2048) : out0_1 (iblk m c 0 t) (ix2 h s)
    = whole (aLog m c) (ix2 h ⟨t.val * 2048 + s.val, by have := lt_of_lt_of_eq t.isLt N_0; omega⟩) := by
  have ht : t.val < 4 := lt_of_lt_of_eq t.isLt N_0
  refine (block_eq _ _).trans ((sum_row _ h s.val s.isLt).trans ?_)
  refine Finset.sum_congr rfl fun i _ => ?_
  have e : (t.val * 2048 + s.val) % 2048 = s.val := by omega
  have e' : (t.val * 2048 + s.val) / 2048 = t.val := by omega
  refine Eq.trans ?_ (congrArg (fun n => if i.val ≤ n then _ else (0 : EReal)) e.symm)
  refine congrArg (fun z => if i.val ≤ s.val then z else (0 : EReal)) ?_
  refine (read_log m c t h i).trans (congrArg (aLog m c) (congrArg (ix2 h) (Fin.ext ?_)))
  show t.val * 2048 + i.val = (t.val * 2048 + s.val) / 2048 * 2048 + i.val
  rw [e']

/-- The array after the run. -/
theorem final : (dats m 0 c).arrAt 1 cfg0.N = whole (aLog m c) := by
  refine (dats m 0 c).arrAt_eq_of_covers 1 _ (by decide +kernel) fun t hf y => ?_
  have ht : t.val < 4 := lt_of_lt_of_eq t.isLt N_0
  blk_simp
  rw [after0_1]
  refine Eq.trans ?_ ((block_at m c t (y 0) (y 1)).trans ?_)
  · blk_ext []
  · blk_ext [idx t]

end Cert.GatesIdeal.Value

end
-- ==== Proof.GatesRef.lean ====
/- The reference of the running sum, read at an index: the same function of the argument as the call's array. -/
module

public import proofs.«01_k».proof.Proof.Gates
public import proofs.«01_k».proof.Proof.Gen.GatesRefIdeal.Run

@[expose] public section

set_option maxRecDepth 16384

noncomputable section

open Idealize.ShloMosaic Idealize.ShloMosaic.TcCoe Idealize.SL.Sem

namespace Cert.GatesRefIdeal.Value

open Cert.GatesRefIdeal Cert.GatesRefIdeal.Gen

theorem foldl_sum {α : Type} (g : α → EReal) (l : List α) (a : EReal) : l.foldl (fun r n => r + g n) a = a + (l.map g).sum := by
  induction l generalizing a with
  | nil => rw [List.foldl_nil, List.map_nil, List.sum_nil, add_zero]
  | cons b l ih => rw [List.foldl_cons, ih, List.map_cons, List.sum_cons, add_assoc]

/-- A host's window sum, as a sum over the window. -/
theorem window_sum {s t : Shape} (window strides lo hi : Fin s.rank → ℕ) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0 := by
  unfold Ideal.hostReduceWindowAdd Host.reduceWindow
  dsimp only
  rw [foldl_sum, zero_add, ← Fin.sum_univ_def]
  refine Eq.trans (Finset.sum_congr rfl fun i _ => ?_) (Equiv.sum_comp (⟨s.rank, window⟩ : Shape).rowMajor.symm (fun w => if hin : ∀ a, lo a ≤ (j (a.cast h.1.symm)).val * strides a + (w a).val
              ∧ (j (a.cast h.1.symm)).val * strides a + (w a).val - lo a < s.size a
            then x (fun a => ⟨(j (a.cast h.1.symm)).val * strides a + (w a).val - lo a, (hin a).2⟩) else 0))
  congr

/-- Places of a window that ends at `s`, counted from its own start, are the places up to `s`. -/
theorem sum_shift (f : Fin 2048 → EReal) (s : Fin 2048) (g : Fin 2048 → EReal)
    (h0 : ∀ k : Fin 2048, k.val + s.val < 2047 → g k = 0)
    (h1 : ∀ (k i : Fin 2048), k.val + s.val = i.val + 2047 → g k = f i) :
    ∑ k, g k = ∑ i : Fin 2048, if i.val ≤ s.val then f i else 0 := by
  have e : ∀ k : Fin 2048, g k = if 2047 ≤ k.val + s.val then g k else 0 := fun k => by
    by_cases hk : 2047 ≤ k.val + s.val
    · rw [if_pos hk]
    · rw [if_neg hk, h0 k (by omega)]
  rw [Finset.sum_congr rfl fun k _ => e k, ← Finset.sum_filter, ← Finset.sum_filter]
  refine Finset.sum_bij (fun k hk => ⟨k.val + s.val - 2047, by omega⟩) (fun k hk => ?_) (fun a ha b hb hab => ?_) (fun i hi => ?_) (fun k hk => ?_)
  · exact Finset.mem_filter.2 ⟨Finset.mem_univ _, by show k.val + s.val - 2047 ≤ s.val; omega⟩
  · have ha' := (Finset.mem_filter.1 ha).2
    have hb' := (Finset.mem_filter.1 hb).2
    have hv : a.val + s.val - 2047 = b.val + s.val - 2047 := congrArg Fin.val hab
    exact Fin.ext (by omega)
  · have hi' := (Finset.mem_filter.1 hi).2
    exact ⟨⟨i.val + 2047 - s.val, by omega⟩, Finset.mem_filter.2 ⟨Finset.mem_univ _, by show 2047 ≤ i.val + 2047 - s.val + s.val; omega⟩,
      Fin.ext (by show i.val + 2047 - s.val + s.val - 2047 = i.val; omega)⟩
  · have hk' := (Finset.mem_filter.1 hk).2
    exact h1 k _ (by show k.val + s.val = k.val + s.val - 2047 + 2047; omega)

/-- The host's window sum at an index: the values of its sequence and head up to it. -/
theorem cumsum_at (x : FVec Ideal S4x2048x8 .f32) (v : FVec Ideal S_ .f32) (hv : ∀ i, v i = 0) (b : Fin 4) (s : Fin 2048) (h : Fin 8) :
    Host.reduceWindowAdd ![1, 2048, 1] ![1, 1, 1] ![0, 2047, 0] ![0, 0, 0] x v
        reduceWindows_S4x2048x8_S4x2048x8_w1s1p0_0_w2048s1p2047_0_w1s1p0_0 h_S_ (ix3 b s h)
      = ∑ i : Fin 2048, if i.val ≤ s.val then x (ix3 b i h) else 0 := by
  unfold Host.reduceWindowAdd
  rw [hv, Ideal.hostReduceWindowAdd_def, window_sum]
  refine (sum_idx3 (n0 := 1) (n1 := 2048) (n2 := 1) _).trans ?_
  rw [Fin.sum_univ_one]
  refine (Finset.sum_congr rfl fun k _ => Fin.sum_univ_one _).trans ?_
  refine sum_shift (fun i => x (ix3 b i h)) s _ (fun k hk => dif_neg fun hin => ?_) (fun k i hk => ?_)
  · have h1 : 2047 ≤ s.val * 1 + k.val := (hin 1).1
    omega
  · have hi := i.isLt
    have hh := h.isLt
    have hb := b.isLt
    refine (dif_pos fun a => ?_).trans (congrArg x (funext fun a => Fin.ext ?_))
    · match a with
      | 0 => exact ⟨Nat.zero_le _, by show b.val * 1 + 0 - 0 < 4; omega⟩
      | 1 => exact ⟨by show 2047 ≤ s.val * 1 + k.val; omega, by show s.val * 1 + k.val - 2047 < 2048; omega⟩
      | 2 => exact ⟨Nat.zero_le _, by show h.val * 1 + 0 - 0 < 8; omega⟩
    · match a with
      | 0 => show b.val * 1 + 0 - 0 = b.val; omega
      | 1 => show s.val * 1 + k.val - 2047 = i.val; omega
      | 2 => show h.val * 1 + 0 - 0 = h.val; omega

/-- The reference's result. -/
def res (L : FVec Ideal S8x8192 .f32) : FVec Ideal S8x8192 .f32 :=
  transpose S8x8192 [1, 0] (shapeCast S8192x8 (Host.reduceWindowAdd ![1, 2048, 1] ![1, 1, 1] ![0, 2047, 0] ![0, 0, 0] (shapeCast S4x2048x8 (transpose S8192x8 [1, 0] L transposes_S8x8192_S8192x8_1_0) shapeCasts_S8192x8_S4x2048x8) (broadcastInDim S_ ![] bcast_S_S_ (constant S_ .f32 0x00000000#32)) reduceWindows_S4x2048x8_S4x2048x8_w1s1p0_0_w2048s1p2047_0_w1s1p0_0 h_S_) shapeCasts_S4x2048x8_S8192x8) transposes_S8192x8_S8x8192_1_0

/-- The reference before its reshapes. -/
def sums (L : FVec Ideal S8x8192 .f32) : FVec Ideal S4x2048x8 .f32 :=
  Host.reduceWindowAdd ![1, 2048, 1] ![1, 1, 1] ![0, 2047, 0] ![0, 0, 0] (shapeCast S4x2048x8 (transpose S8192x8 [1, 0] L transposes_S8x8192_S8192x8_1_0) shapeCasts_S8192x8_S4x2048x8) (broadcastInDim S_ ![] bcast_S_S_ (constant S_ .f32 0x00000000#32)) reduceWindows_S4x2048x8_S4x2048x8_w1s1p0_0_w2048s1p2047_0_w1s1p0_0 h_S_

theorem sums_at (L : FVec Ideal S8x8192 .f32) (b : Fin 4) (s : Fin 2048) (h : Fin 8) :
    sums L (ix3 b s h) = ∑ i : Fin 2048, if i.val ≤ s.val then L (ix2 h ⟨b.val * 2048 + i.val, by omega⟩) else 0 := by
  refine (cumsum_at _ _ (fun i => by pointwise) b s h).trans (Finset.sum_congr rfl fun i _ => ?_)
  refine congrArg (fun z => if i.val ≤ s.val then z else (0 : EReal)) ?_
  pointwise

theorem layout (z : FVec Ideal S4x2048x8 .f32) (h : Fin 8) (n : Fin 8192) :
    transpose S8x8192 [1, 0] (shapeCast S8192x8 z shapeCasts_S4x2048x8_S8192x8) transposes_S8192x8_S8x8192_1_0 (ix2 h n)
      = z (ix3 ⟨n.val / 2048, by omega⟩ ⟨n.val % 2048, by omega⟩ h) := by
  pointwise

theorem res_eq (L : FVec Ideal S8x8192 .f32) : res L = Cert.GatesIdeal.Value.whole L := by
  funext y
  rw [eq_ix2 y]
  refine (layout (sums L) (y 0) (y 1)).trans ((sums_at L _ _ _).trans ?_)
  rfl

end Cert.GatesRefIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Pscore
public import proofs.«01_k».proof.Proof.Gen.Pscore.Skeleton
public import proofs.«01_k».proof.Proof.Gen.Pscore.Launch
public import proofs.«01_k».proof.Proof.Gen.Pscore.Points
public import proofs.«01_k».proof.Proof.Gen.Pscore.Frame
public import proofs.«01_k».proof.Proof.Gen.PscoreIdeal
public import proofs.«01_k».proof.Proof.Gen.PscoreIdeal.Skeleton
public import proofs.«01_k».proof.Proof.Gen.PscoreIdeal.Launch
public import proofs.«01_k».proof.Proof.Gen.PscoreIdeal.Points
public import proofs.«01_k».proof.Proof.Gen.PscoreIdeal.Frame
public import proofs.«01_k».proof.Proof.Gen.PscoreRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.Samproj
public import proofs.«01_k».proof.Proof.Gen.Samproj.Skeleton
public import proofs.«01_k».proof.Proof.Gen.Samproj.Launch
public import proofs.«01_k».proof.Proof.Gen.Samproj.Points
public import proofs.«01_k».proof.Proof.Gen.Samproj.Frame
public import proofs.«01_k».proof.Proof.Gen.SamprojIdeal
public import proofs.«01_k».proof.Proof.Gen.SamprojIdeal.Skeleton
public import proofs.«01_k».proof.Proof.Gen.SamprojIdeal.Launch
public import proofs.«01_k».proof.Proof.Gen.SamprojIdeal.Points
public import proofs.«01_k».proof.Proof.Gen.SamprojIdeal.Frame
public import proofs.«01_k».proof.Proof.Gen.SamprojRefIdeal
public import proofs.«01_k».proof.Proof.Gen.SamprojRefIdeal.Run
public import proofs.«01_k».proof.Proof.Gen.Samout
public import proofs.«01_k».proof.Proof.Gen.Samout.Skeleton
public import proofs.«01_k».proof.Proof.Gen.Samout.Launch
public import proofs.«01_k».proof.Proof.Gen.Samout.Points
public import proofs.«01_k».proof.Proof.Gen.Samout.Frame
public import proofs.«01_k».proof.Proof.Gen.SamoutIdeal
public import proofs.«01_k».proof.Proof.Gen.SamoutIdeal.Skeleton
public import proofs.«01_k».proof.Proof.Gen.SamoutIdeal.Launch
public import proofs.«01_k».proof.Proof.Gen.SamoutIdeal.Points
public import proofs.«01_k».proof.Proof.Gen.SamoutIdeal.Frame
public import proofs.«01_k».proof.Proof.Gen.SamoutRefIdeal
public import proofs.«01_k».proof.Proof.Gen.SamoutRefIdeal.Run
public import proofs.«01_k».proof.Proof.Gen.SamoutIdeal.Value
public import proofs.«01_k».proof.Proof.Gen.Samscore
public import proofs.«01_k».proof.Proof.Gen.Samscore.Skeleton
public import proofs.«01_k».proof.Proof.Gen.Samscore.Launch
public import proofs.«01_k».proof.Proof.Gen.Samscore.Points
public import proofs.«01_k».proof.Proof.Gen.Samscore.Frame
public import proofs.«01_k».proof.Proof.Gen.SamscoreIdeal
public import proofs.«01_k».proof.Proof.Gen.SamscoreIdeal.Skeleton
public import proofs.«01_k».proof.Proof.Gen.SamscoreIdeal.Launch
public import proofs.«01_k».proof.Proof.Gen.SamscoreIdeal.Points
public import proofs.«01_k».proof.Proof.Gen.SamscoreIdeal.Frame
public import proofs.«01_k».proof.Proof.Gen.SamscoreRefIdeal
public import proofs.«01_k».proof.Proof.Gen.SamscoreRefIdeal.Run
public import proofs.«01_k».proof.Proof.Gen.SamscoreIdeal.Value
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Run
public import proofs.«01_k».proof.Proof.Gen.LastIdeal.Value
public import proofs.«01_k».proof.Proof.Gen.Samlast
public import proofs.«01_k».proof.Proof.Gen.Samlast.Skeleton
public import proofs.«01_k».proof.Proof.Gen.Samlast.Launch
public import proofs.«01_k».proof.Proof.Gen.Samlast.Points
public import proofs.«01_k».proof.Proof.Gen.Samlast.Frame
public import proofs.«01_k».proof.Proof.Gen.SamlastIdeal
public import proofs.«01_k».proof.Proof.Gen.SamlastIdeal.Skeleton
public import proofs.«01_k».proof.Proof.Gen.SamlastIdeal.Launch
public import proofs.«01_k».proof.Proof.Gen.SamlastIdeal.Points
public import proofs.«01_k».proof.Proof.Gen.SamlastIdeal.Frame
public import proofs.«01_k».proof.Proof.Gen.SamlastRefIdeal
public import proofs.«01_k».proof.Proof.Gen.SamlastRefIdeal.Run
public import proofs.«01_k».proof.Proof.Gen.SamlastIdeal.Value
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.GatesRefIdeal.Run
public import proofs.«01_k».proof.Proof.Gen.GatesIdeal.Value
public import proofs.«01_k».proof.Proof.Gen.Pre_finite
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.Out
public import proofs.«01_k».proof.Proof.OutRef
public import proofs.«01_k».proof.Proof.Score
public import proofs.«01_k».proof.Proof.ScoreRef
public import proofs.«01_k».proof.Proof.Gen.OutprojIdeal.Value
public import proofs.«01_k».proof.Proof.Gen.OutprojRefIdeal.Run
public import proofs.«01_k».proof.Proof.Gen.PscoreIdeal.Value
public import proofs.«01_k».proof.Proof.Gen.PscoreRefIdeal.Run
public import proofs.«01_k».proof.Proof.InBody
public import proofs.«01_k».proof.Proof.InTail
public import proofs.«01_k».proof.Proof.InRef
public import proofs.«01_k».proof.Proof.AdaTail
public import proofs.«01_k».proof.Proof.AdaRef
public import proofs.«01_k».proof.Proof.SamBody
public import proofs.«01_k».proof.Proof.SamTail
public import proofs.«01_k».proof.Proof.SamRef
public import proofs.«01_k».proof.Proof.SamOut
public import proofs.«01_k».proof.Proof.SamOutRef
public import proofs.«01_k».proof.Proof.SamScore
public import proofs.«01_k».proof.Proof.SamScoreRef
public import proofs.«01_k».proof.Proof.Last
public import proofs.«01_k».proof.Proof.LastRef
public import proofs.«01_k».proof.Proof.SamLast
public import proofs.«01_k».proof.Proof.Gates
public import proofs.«01_k».proof.Proof.GatesRef
public import Idealize.ShloMosaic.Adequacy
public import Idealize.ShloMosaic.Init

@[expose] public section

noncomputable section

namespace Cert.Proof

open Idealize.ShloMosaic Idealize.SL.Sem

/-- The reference runs, keeps its arguments and leaves every counter at zero: it has none. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two constants named in the attention. -/
theorem preserves : Cert.preserves_Kernel_KernelIdeal :=
  ⟨IdealRules.named_const.statement Cert.KernelIdeal.κ "mask" .f32 0xF149F2CA#32 ⊥ rfl,
    IdealRules.named_const.statement Cert.KernelIdeal.κ "scale" .f32 0x3DB504F3#32 (((Real.sqrt 128)⁻¹ : ℝ) : EReal) rfl⟩

/-- The attention call's result is the reference's masked softmax. -/
theorem attention : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  obtain ⟨hQ, hK, hG⟩ := Cert.Finite.of_pre hpre c
  refine (Cert.ReferenceIdeal.Value.res_eq m' c).trans ?_
  rw [e0, e1, e2, e3]
  exact (Cert.KernelIdeal.Value.final m c hQ hK hG).symm

/-- The output projection's reference runs and keeps its arguments. -/
theorem frame_out : Cert.quiescent_OutprojRefIdeal := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- The scores' reference runs and keeps its arguments. -/
theorem frame_score : Cert.quiescent_PscoreRefIdeal := fun m ρ _ =>
  (θ_run Cert.PscoreRefIdeal.defs _ _).mono (fun r h => ⟨fun c => (h c).2, sem_eq_zero_of_no_sems (by decide) r.2⟩)
    (Cert.PscoreRefIdeal.Value.run (F := Ideal) m ρ)

/-- The output projection's two results are the reference's. -/
theorem outproj : Cert.algebraic_OutprojIdeal_OutprojRefIdeal := by
  intro m ρ m' ρ' hpre hagree
  refine ⟨_, _, Cert.OutprojIdeal.Value.run_blocks (F := Ideal) m ρ, ?_⟩
  refine (θ_run Cert.OutprojRefIdeal.defs _ _).mono (fun _ h c => ⟨(h c).1.trans ?_, (h c).2.1.trans ?_, (h c).2.2⟩)
    (Cert.OutprojRefIdeal.Value.run (F := Ideal) m' ρ')
  · obtain ⟨e0, e1, e2, e3, e4, e5, e6, e7, e8⟩ := hagree c
    rw [e0, e1, e2, e3, e4, e8]
    exact (Cert.OutprojRefIdeal.Value.first_eq _ _ _ _ _ _).trans (Cert.OutprojIdeal.Value.final1 m c).symm
  · obtain ⟨e0, e1, e2, e3, e4, e5, e6, e7, e8⟩ := hagree c
    unfold Cert.OutprojRefIdeal.Value.res_main_v44
    rw [e0, e1, e2, e3, e4, e5, e6, e7, e8]
    exact (Cert.OutprojRefIdeal.Value.second_eq _ _ _ _ _ _ _ _ _).trans (Cert.OutprojIdeal.Value.final2 m c).symm

/-- The experts' scores are the reference's. -/
theorem pscore : Cert.algebraic_PscoreIdeal_PscoreRefIdeal := by
  intro m ρ m' ρ' hpre hagree
  refine ⟨_, Cert.PscoreIdeal.Value.run_blocks (F := Ideal) m ρ, ?_⟩
  refine (θ_run Cert.PscoreRefIdeal.defs _ _).mono (fun _ h c => ⟨(h c).1.trans ?_, (h c).2⟩)
    (Cert.PscoreRefIdeal.Value.run (F := Ideal) m' ρ')
  obtain ⟨e0, e1, e2⟩ := hagree c
  rw [e0, e1, e2]
  exact (Cert.PscoreRefIdeal.Value.scores_eq _ _ _).trans (Cert.PscoreIdeal.Value.final m c).symm

/-- The input projection's reference runs and keeps its arguments. -/
theorem frame_in : Cert.quiescent_InprojRefIdeal := fun m ρ _ =>
  (θ_run Cert.InprojRefIdeal.defs _ _).mono (fun r h => ⟨fun c => (h c).2.2.2.2.2.2, sem_eq_zero_of_no_sems (by decide) r.2⟩)
    (Cert.InprojRefIdeal.Value.run (F := Ideal) m ρ)

/-- The input projection's six results are the reference's. -/
theorem inproj : Cert.algebraic_InprojIdeal_InprojRefIdeal := by
  intro m ρ m' ρ' hpre hagree
  refine ⟨_, _, _, _, _, _, Cert.InprojIdeal.Value.run m ρ, ?_⟩
  refine (θ_run Cert.InprojRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.InprojRefIdeal.Value.run (F := Ideal) m' ρ')
  · obtain ⟨e0, e1, e2, e3, e4, e5⟩ := hagree c
    rw [e0, e1, e2, e3, e4]
    exact Cert.InprojRefIdeal.Value.resQ_eq _ _ _ _ _
  · obtain ⟨e0, e1, e2, e3, e4, e5⟩ := hagree c
    rw [e0, e1, e2, e3, e4]
    exact Cert.InprojRefIdeal.Value.resK_eq _ _ _ _ _
  · obtain ⟨e0, e1, e2, e3, e4, e5⟩ := hagree c
    rw [e0, e1, e2, e3, e4]
    exact Cert.InprojRefIdeal.Value.resV_eq _ _ _ _ _
  · obtain ⟨e0, e1, e2, e3, e4, e5⟩ := hagree c
    unfold Cert.InprojRefIdeal.Value.res_main_v40
    rw [e0, e1, e2, e3, e4, e5]
    exact Cert.InprojRefIdeal.Value.resGate_eq _ _ _ _ _ _
  · obtain ⟨e0, e1, e2, e3, e4, e5⟩ := hagree c
    rw [e0, e1, e2, e3, e4]
    exact Cert.InprojRefIdeal.Value.resP_eq _ _ _ _ _
  · obtain ⟨e0, e1, e2, e3, e4, e5⟩ := hagree c
    rw [e0, e1, e2, e3, e4]
    exact Cert.InprojRefIdeal.Value.resPool_eq _ _ _ _ _

/-- The modulation's reference runs and keeps its arguments. -/
theorem frame_ada : Cert.quiescent_AdaRefIdeal := fun m ρ _ =>
  (θ_run Cert.AdaRefIdeal.defs _ _).mono (fun r h => ⟨fun c => (h c).2.2.2.2.2.2.2.2.2.2.2.2, sem_eq_zero_of_no_sems (by decide) r.2⟩)
    (Cert.AdaRefIdeal.Value.run (F := Ideal) m ρ)

/-- The modulation's twelve results are the reference's. -/
theorem ada : Cert.algebraic_AdaIdeal_AdaRefIdeal := by
  intro m ρ m' ρ' hpre hagree
  refine ⟨_, _, _, _, _, _, _, _, _, _, _, _, Cert.AdaIdeal.Value.run m ρ, ?_⟩
  refine (θ_run Cert.AdaRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩)
    (Cert.AdaRefIdeal.Value.run (F := Ideal) m' ρ')
  · obtain ⟨e0, e1, e2, e3⟩ := hagree c
    rw [e0, e2, e3]
    exact Cert.AdaRefIdeal.Value.refP0 _ _ _
  · obtain ⟨e0, e1, e2, e3⟩ := hagree c
    rw [e0, e2, e3]
    exact Cert.AdaRefIdeal.Value.refP2048 _ _ _
  · obtain ⟨e0, e1, e2, e3⟩ := hagree c
    rw [e0, e2, e3]
    exact Cert.AdaRefIdeal.Value.refP4096 _ _ _
  · obtain ⟨e0, e1, e2, e3⟩ := hagree c
    rw [e0, e2, e3]
    exact Cert.AdaRefIdeal.Value.refP6144 _ _ _
  · obtain ⟨e0, e1, e2, e3⟩ := hagree c
    rw [e0, e2, e3]
    exact Cert.AdaRefIdeal.Value.refP8192 _ _ _
  · obtain ⟨e0, e1, e2, e3⟩ := hagree c
    rw [e0, e2, e3]
    exact Cert.AdaRefIdeal.Value.refP10240 _ _ _
  · obtain ⟨e0, e1, e2, e3⟩ := hagree c
    rw [e1, e2, e3]
    exact Cert.AdaRefIdeal.Value.refS0 _ _ _
  · obtain ⟨e0, e1, e2, e3⟩ := hagree c
    rw [e1, e2, e3]
    exact Cert.AdaRefIdeal.Value.refS2048 _ _ _
  · obtain ⟨e0, e1, e2, e3⟩ := hagree c
    rw [e1, e2, e3]
    exact Cert.AdaRefIdeal.Value.refS4096 _ _ _
  · obtain ⟨e0, e1, e2, e3⟩ := hagree c
    rw [e1, e2, e3]
    exact Cert.AdaRefIdeal.Value.refS6144 _ _ _
  · obtain ⟨e0, e1, e2, e3⟩ := hagree c
    rw [e1, e2, e3]
    exact Cert.AdaRefIdeal.Value.refS8192 _ _ _
  · obtain ⟨e0, e1, e2, e3⟩ := hagree c
    rw [e1, e2, e3]
    exact Cert.AdaRefIdeal.Value.refS10240 _ _ _

/-- The reference of the sample's input projection runs and keeps its arguments. -/
theorem frame_sam : Cert.quiescent_SamprojRefIdeal := fun m ρ _ =>
  (θ_run Cert.SamprojRefIdeal.defs _ _).mono (fun r h => ⟨fun c => (h c).2.2.2.2.2.2, sem_eq_zero_of_no_sems (by decide) r.2⟩)
    (Cert.SamprojRefIdeal.Value.run (F := Ideal) m ρ)

/-- The six results of the sample's input projection are the reference's. -/
theorem samproj : Cert.algebraic_SamprojIdeal_SamprojRefIdeal := by
  intro m ρ m' ρ' hpre hagree
  refine ⟨_, _, _, _, _, _, Cert.SamprojIdeal.Value.run m ρ, ?_⟩
  refine (θ_run Cert.SamprojRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.SamprojRefIdeal.Value.run (F := Ideal) m' ρ')
  · obtain ⟨e0, e1, e2, e3, e4, e5, e6⟩ := hagree c
    rw [e0, e1, e2, e3, e4]
    exact Cert.SamprojRefIdeal.Value.resQ_eq _ _ _ _ _
  · obtain ⟨e0, e1, e2, e3, e4, e5, e6⟩ := hagree c
    rw [e0, e1, e2, e3, e4]
    exact Cert.SamprojRefIdeal.Value.resK_eq _ _ _ _ _
  · obtain ⟨e0, e1, e2, e3, e4, e5, e6⟩ := hagree c
    rw [e0, e1, e2, e3, e4]
    exact Cert.SamprojRefIdeal.Value.resV_eq _ _ _ _ _
  · obtain ⟨e0, e1, e2, e3, e4, e5, e6⟩ := hagree c
    unfold Cert.SamprojRefIdeal.Value.res_main_v40
    rw [e0, e1, e2, e3, e4, e5]
    exact Cert.SamprojRefIdeal.Value.resGate_eq _ _ _ _ _ _
  · obtain ⟨e0, e1, e2, e3, e4, e5, e6⟩ := hagree c
    rw [e0, e1, e2, e3, e4]
    exact Cert.SamprojRefIdeal.Value.resP_eq _ _ _ _ _
  · obtain ⟨e0, e1, e2, e3, e4, e5, e6⟩ := hagree c
    rw [e0, e1, e2, e3, e4, e6]
    exact Cert.SamprojRefIdeal.Value.resPool_eq _ _ _ _ _ _

/-- The reference of the sample's output projection runs and keeps its arguments. -/
theorem frame_samout : Cert.quiescent_SamoutRefIdeal := fun m ρ _ =>
  (θ_run Cert.SamoutRefIdeal.defs _ _).mono (fun r h => ⟨fun c => (h c).2.2, sem_eq_zero_of_no_sems (by decide) r.2⟩)
    (Cert.SamoutRefIdeal.Value.run (F := Ideal) m ρ)

/-- The two results of the sample's output projection are the reference's. -/
theorem samout : Cert.algebraic_SamoutIdeal_SamoutRefIdeal := by
  intro m ρ m' ρ' hpre hagree
  refine ⟨_, _, Cert.SamoutIdeal.Value.run_blocks (F := Ideal) m ρ, ?_⟩
  refine (θ_run Cert.SamoutRefIdeal.defs _ _).mono (fun _ h c => ⟨(h c).1.trans ?_, (h c).2.1.trans ?_, (h c).2.2⟩)
    (Cert.SamoutRefIdeal.Value.run (F := Ideal) m' ρ')
  · obtain ⟨e0, e1, e2, e3, e4, e5, e6, e7, e8⟩ := hagree c
    rw [e0, e1, e2, e3, e4, e8]
    exact (Cert.SamoutRefIdeal.Value.first_eq _ _ _ _ _ _).trans (Cert.SamoutIdeal.Value.final1 m c).symm
  · obtain ⟨e0, e1, e2, e3, e4, e5, e6, e7, e8⟩ := hagree c
    unfold Cert.SamoutRefIdeal.Value.res_main_v45
    rw [e0, e1, e2, e3, e4, e5, e6, e7, e8]
    exact (Cert.SamoutRefIdeal.Value.second_eq _ _ _ _ _ _ _ _ _).trans (Cert.SamoutIdeal.Value.final2 m c).symm

/-- The reference of the sample's scores runs and keeps its arguments. -/
theorem frame_samscore : Cert.quiescent_SamscoreRefIdeal := fun m ρ _ =>
  (θ_run Cert.SamscoreRefIdeal.defs _ _).mono (fun r h => ⟨fun c => (h c).2, sem_eq_zero_of_no_sems (by decide) r.2⟩)
    (Cert.SamscoreRefIdeal.Value.run (F := Ideal) m ρ)

/-- The sample's scores are the reference's. -/
theorem samscore : Cert.algebraic_SamscoreIdeal_SamscoreRefIdeal := by
  intro m ρ m' ρ' hpre hagree
  refine ⟨_, Cert.SamscoreIdeal.Value.run_blocks (F := Ideal) m ρ, ?_⟩
  refine (θ_run Cert.SamscoreRefIdeal.defs _ _).mono (fun _ h c => ⟨(h c).1.trans ?_, (h c).2⟩)
    (Cert.SamscoreRefIdeal.Value.run (F := Ideal) m' ρ')
  obtain ⟨e0, e1, e2⟩ := hagree c
  rw [e0, e1, e2]
  exact (Cert.SamscoreRefIdeal.Value.scores_eq _ _ _).trans (Cert.SamscoreIdeal.Value.final m c).symm

/-- The reference of the prompt's last sum runs and keeps its arguments. -/
theorem frame_last : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

/-- The prompt's last sum is the reference's. -/
theorem last : Cert.algebraic_LastIdeal_LastRefIdeal := by
  intro m ρ m' ρ' hpre hagree
  refine ⟨_, Cert.LastIdeal.Value.run_blocks (F := Ideal) m ρ, ?_⟩
  refine (θ_run Cert.LastRefIdeal.defs _ _).mono (fun _ h c => ⟨(h c).1.trans ?_, (h c).2⟩)
    (Cert.LastRefIdeal.Value.run (F := Ideal) m' ρ')
  obtain ⟨e0, e1, e2, e3⟩ := hagree c
  rw [e0, e1, e2, e3]
  exact (Cert.LastRefIdeal.Value.res_eq _ _ _ _).trans (Cert.LastIdeal.Value.final m c).symm

/-- The reference of the sample's last sum runs and keeps its arguments. -/
theorem frame_samlast : Cert.quiescent_SamlastRefIdeal := fun m ρ _ =>
  (θ_run Cert.SamlastRefIdeal.defs _ _).mono (fun r h => ⟨fun c => (h c).2, sem_eq_zero_of_no_sems (by decide) r.2⟩)
    (Cert.SamlastRefIdeal.Value.run (F := Ideal) m ρ)

/-- The sample's last sum is the reference's. -/
theorem samlast : Cert.algebraic_SamlastIdeal_SamlastRefIdeal := by
  intro m ρ m' ρ' hpre hagree
  refine ⟨_, Cert.SamlastIdeal.Value.run_blocks (F := Ideal) m ρ, ?_⟩
  refine (θ_run Cert.SamlastRefIdeal.defs _ _).mono (fun _ h c => ⟨(h c).1.trans ?_, (h c).2⟩)
    (Cert.SamlastRefIdeal.Value.run (F := Ideal) m' ρ')
  obtain ⟨e0, e1, e2, e3⟩ := hagree c
  rw [e0, e1, e2, e3]
  exact (Cert.SamlastRefIdeal.Value.res_eq _ _ _ _).trans (Cert.SamlastIdeal.Value.final m c).symm

/-- The reference of the gates' running sum runs and keeps its argument. -/
theorem frame_gates : Cert.quiescent_GatesRefIdeal := fun m ρ _ =>
  (θ_run Cert.GatesRefIdeal.defs _ _).mono (fun r h => ⟨fun c => (h c).2, sem_eq_zero_of_no_sems (by decide) r.2⟩)
    (Cert.GatesRefIdeal.Value.run (F := Ideal) m ρ)

/-- The running sum of the prompt's gates is the reference's. -/
theorem gates : Cert.algebraic_GatesIdeal_GatesRefIdeal := by
  intro m ρ m' ρ' hpre hagree
  refine ⟨_, Cert.GatesIdeal.Value.run_blocks (F := Ideal) m ρ, ?_⟩
  refine (θ_run Cert.GatesRefIdeal.defs _ _).mono (fun _ h c => ⟨(h c).1.trans ?_, (h c).2⟩)
    (Cert.GatesRefIdeal.Value.run (F := Ideal) m' ρ')
  have e0 := hagree c
  rw [e0]
  exact (Cert.GatesRefIdeal.Value.res_eq _).trans (Cert.GatesIdeal.Value.final m c).symm

theorem claim : Cert.Claim := ⟨Cert.Kernel.Gen.facts, Cert.KernelIdeal.Gen.facts, Cert.ReferenceIdeal.Gen.facts,
  Cert.Outproj.Gen.facts, Cert.OutprojIdeal.Gen.facts, Cert.OutprojRefIdeal.Gen.facts,
  Cert.Pscore.Gen.facts, Cert.PscoreIdeal.Gen.facts, Cert.PscoreRefIdeal.Gen.facts,
  Cert.Inproj.Gen.facts, Cert.InprojIdeal.Gen.facts, Cert.InprojRefIdeal.Gen.facts,
  Cert.Ada.Gen.facts, Cert.AdaIdeal.Gen.facts, Cert.AdaRefIdeal.Gen.facts,
  Cert.Samproj.Gen.facts, Cert.SamprojIdeal.Gen.facts, Cert.SamprojRefIdeal.Gen.facts,
  Cert.Samout.Gen.facts, Cert.SamoutIdeal.Gen.facts, Cert.SamoutRefIdeal.Gen.facts,
  Cert.Samscore.Gen.facts, Cert.SamscoreIdeal.Gen.facts, Cert.SamscoreRefIdeal.Gen.facts,
  Cert.Last.Gen.facts, Cert.LastIdeal.Gen.facts, Cert.LastRefIdeal.Gen.facts,
  Cert.Samlast.Gen.facts, Cert.SamlastIdeal.Gen.facts, Cert.SamlastRefIdeal.Gen.facts,
  Cert.Gates.Gen.facts, Cert.GatesIdeal.Gen.facts, Cert.GatesRefIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Outproj.Gen.frame m ρ, fun m ρ _ => Cert.OutprojIdeal.Gen.frame m ρ, frame_out,
  fun m ρ _ => Cert.Pscore.Gen.frame m ρ, fun m ρ _ => Cert.PscoreIdeal.Gen.frame m ρ, frame_score,
  fun m ρ _ => Cert.Inproj.Body.frame m ρ, fun m ρ _ => Cert.InprojIdeal.Body.frame m ρ, frame_in,
  fun m ρ _ => Cert.Ada.Gen.frame m ρ, fun m ρ _ => Cert.AdaIdeal.Gen.frame m ρ, frame_ada,
  fun m ρ _ => Cert.Samproj.Body.frame m ρ, fun m ρ _ => Cert.SamprojIdeal.Body.frame m ρ, frame_sam,
  fun m ρ _ => Cert.Samout.Gen.frame m ρ, fun m ρ _ => Cert.SamoutIdeal.Gen.frame m ρ, frame_samout,
  fun m ρ _ => Cert.Samscore.Gen.frame m ρ, fun m ρ _ => Cert.SamscoreIdeal.Gen.frame m ρ, frame_samscore,
  fun m ρ _ => Cert.Last.Gen.frame m ρ, fun m ρ _ => Cert.LastIdeal.Gen.frame m ρ, frame_last,
  fun m ρ _ => Cert.Samlast.Gen.frame m ρ, fun m ρ _ => Cert.SamlastIdeal.Gen.frame m ρ, frame_samlast,
  fun m ρ _ => Cert.Gates.Gen.frame m ρ, fun m ρ _ => Cert.GatesIdeal.Gen.frame m ρ, frame_gates,
  preserves, attention, trivial, outproj, trivial, pscore, trivial, inproj, trivial, ada, trivial, samproj,
  trivial, samout, trivial, samscore, trivial, last, trivial, samlast, trivial, gates⟩

end Cert.Proof

end
